-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_v67_0) = v2 c
          ∧ r.2.mem ((c.tc : Thread Cert.ReferenceIdeal.nD Cert.ReferenceIdeal.τ).loc Cert.ReferenceIdeal.main_v142) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal (hKernelIdeal := hKernelIdeal) (hReferenceIdeal := hReferenceIdeal) (hPre_rows_in_range := hPre_rows_in_range)
-- ==== Pre_rows_in_range.lean ====
abbrev S256x1024 : Shape := ⟨2, ![256, 1024]⟩
abbrev S1024 : Shape := ⟨1, ![1024]⟩
abbrev S1024x40 : Shape := ⟨2, ![1024, 40]⟩
abbrev S40x25 : Shape := ⟨2, ![40, 25]⟩
abbrev S40x1024x768 : Shape := ⟨3, ![40, 1024, 768]⟩
abbrev S40x768 : Shape := ⟨2, ![40, 768]⟩
abbrev S40x768x1024 : Shape := ⟨3, ![40, 768, 1024]⟩
abbrev S40x1024 : Shape := ⟨2, ![40, 1024]⟩
abbrev S_ : Shape := ⟨0, ![]⟩

class Facts : Prop where
  bcast_S_S40x25 : S_.BroadcastsInDim S40x25 (![] : Fin 0 → Fin S40x25.rank)
  reducesTo_S40x25_S_d0_1 : S40x25.ReducesTo [0, 1] S_
  h_S_ : 0 < S_.numel

variable [Facts]

def fn {F : FTy → Type} [FloatOps F] (main_arg0 : FVec F S256x1024 .bf16) (main_arg1 : FVec F S1024 .f32) (main_arg2 : FVec F S1024x40 .f32) (main_arg3 : IVec S40x25 32) (main_arg4 : FVec F S40x1024x768 .fp8e4m3) (main_arg5 : FVec F S40x1024x768 .fp8e4m3) (main_arg6 : FVec F S40x768 .f32) (main_arg7 : FVec F S40x768 .f32) (main_arg8 : FVec F S40x768x1024 .fp8e4m3) (main_arg9 : FVec F S40x1024 .f32) : IVec S_ 1 :=
  let main_c : IVec S_ 32 := constantI S_ 32 0#32
  let main_v0 : IVec S40x25 32 := broadcastInDim S40x25 ![] bcast_S_S40x25 main_c
  let main_v1 : IVec S40x25 1 := cmpi .sge main_arg3 main_v0
  let main_c_0 : IVec S_ 32 := constantI S_ 32 256#32
  let main_v2 : IVec S40x25 32 := broadcastInDim S40x25 ![] bcast_S_S40x25 main_c_0
  let main_v3 : IVec S40x25 1 := cmpi .slt main_arg3 main_v2
  let main_v4 : IVec S40x25 1 := andi main_v1 main_v3
  let main_c_1 : IVec S_ 1 := constantI S_ 1 1#1
  let main_v5 : IVec S_ 1 := (fun x v => Host.reduce IntOp.andi x v reducesTo_S40x25_S_d0_1 h_S_) main_v4 main_c_1
  main_v5
-- ==== Kernel.lean ====
abbrev S256x1024 : Shape := ⟨2, ![256, 1024]⟩
abbrev S1024 : Shape := ⟨1, ![1024]⟩
abbrev S1024x40 : Shape := ⟨2, ![1024, 40]⟩
abbrev S40x25 : Shape := ⟨2, ![40, 25]⟩
abbrev S40x1024x768 : Shape := ⟨3, ![40, 1024, 768]⟩
abbrev S40x768 : Shape := ⟨2, ![40, 768]⟩
abbrev S40x768x1024 : Shape := ⟨3, ![40, 768, 1024]⟩
abbrev S40x1024 : Shape := ⟨2, ![40, 1024]⟩
abbrev S1x1024 : Shape := ⟨2, ![1, 1024]⟩
abbrev S25x40 : Shape := ⟨2, ![25, 40]⟩
abbrev S1x256 : Shape := ⟨2, ![1, 256]⟩
abbrev S8x1024x768 : Shape := ⟨3, ![8, 1024, 768]⟩
abbrev S8x768x1024 : Shape := ⟨3, ![8, 768, 1024]⟩
abbrev S2048x128 : Shape := ⟨2, ![2048, 128]⟩
abbrev S256x128 : Shape := ⟨2, ![256, 128]⟩
abbrev S32x128 : Shape := ⟨2, ![32, 128]⟩
abbrev S32x768 : Shape := ⟨2, ![32, 768]⟩
abbrev S32x1 : Shape := ⟨2, ![32, 1]⟩
abbrev S7 : Shape := ⟨1, ![7]⟩
abbrev S3x8 : Shape := ⟨2, ![3, 8]⟩
abbrev S4 : Shape := ⟨1, ![4]⟩
abbrev S1 : Shape := ⟨1, ![1]⟩
abbrev S_ : Shape := ⟨0, ![]⟩
abbrev S1x1 : Shape := ⟨2, ![1, 1]⟩
abbrev S1x1024x768 : Shape := ⟨3, ![1, 1024, 768]⟩
abbrev S1024x768 : Shape := ⟨2, ![1024, 768]⟩
abbrev S1x768x1024 : Shape := ⟨3, ![1, 768, 1024]⟩
abbrev S768x1024 : Shape := ⟨2, ![768, 1024]⟩
abbrev S32x1024 : Shape := ⟨2, ![32, 1024]⟩
abbrev S32 : Shape := ⟨1, ![32]⟩
abbrev S32x246 : Shape := ⟨2, ![32, 246]⟩
abbrev S128x128 : Shape := ⟨2, ![128, 128]⟩
abbrev S128 : Shape := ⟨1, ![128]⟩
abbrev S1x128 : Shape := ⟨2, ![1, 128]⟩
abbrev S256x40 : Shape := ⟨2, ![256, 40]⟩
abbrev S256 : Shape := ⟨1, ![256]⟩
abbrev S256x1 : Shape := ⟨2, ![256, 1]⟩
abbrev S8x128 : Shape := ⟨2, ![8, 128]⟩
abbrev S1x768 : Shape := ⟨2, ![1, 768]⟩

abbrev nBuf : Space → Nat
  | .hbm => 17
  | .vmem => 23
  | .smem => 1
  | _ => 0

abbrev bufTy : (tb : Table) → Fin (tcTables nBuf tb) → BufTy
  | .hbm, ⟨0, _⟩ => ⟨S256x1024, .bf16⟩
  | .hbm, ⟨1, _⟩ => ⟨S1024, .f32⟩
  | .hbm, ⟨2, _⟩ => ⟨S1024x40, .f32⟩
  | .hbm, ⟨3, _⟩ => ⟨S40x25, .i32⟩
  | .hbm, ⟨4, _⟩ => ⟨S40x1024x768, .fp8e4m3⟩
  | .hbm, ⟨5, _⟩ => ⟨S40x1024x768, .fp8e4m3⟩
  | .hbm, ⟨6, _⟩ => ⟨S40x768, .f32⟩
  | .hbm, ⟨7, _⟩ => ⟨S40x768, .f32⟩
  | .hbm, ⟨8, _⟩ => ⟨S40x768x1024, .fp8e4m3⟩
  | .hbm, ⟨9, _⟩ => ⟨S40x1024, .f32⟩
  | .hbm, ⟨10, _⟩ => ⟨S1x1024, .f32⟩
  | .hbm, ⟨11, _⟩ => ⟨S40x1024, .f32⟩
  | .hbm, ⟨12, _⟩ => ⟨S25x40, .i32⟩
  | .hbm, ⟨13, _⟩ => ⟨S256x1024, .bf16⟩
  | .hbm, ⟨14, _⟩ => ⟨S256x1024, .bf16⟩
  | .hbm, ⟨15, _⟩ => ⟨S256x1024, .fp8e4m3⟩
  | .hbm, ⟨16, _⟩ => ⟨S1x256, .f32⟩
  | .local _ .vmem, ⟨0, _⟩ => ⟨S256x1024, .bf16⟩
  | .local _ .vmem, ⟨1, _⟩ => ⟨S1x1024, .f32⟩
  | .local _ .vmem, ⟨2, _⟩ => ⟨S40x1024, .f32⟩
  | .local _ .vmem, ⟨3, _⟩ => ⟨S40x768, .f32⟩
  | .local _ .vmem, ⟨4, _⟩ => ⟨S40x768, .f32⟩
  | .local _ .vmem, ⟨5, _⟩ => ⟨S40x1024, .f32⟩
  | .local _ .vmem, ⟨6, _⟩ => ⟨S8x1024x768, .fp8e4m3⟩
  | .local _ .vmem, ⟨7, _⟩ => ⟨S8x1024x768, .fp8e4m3⟩
  | .local _ .vmem, ⟨8, _⟩ => ⟨S8x768x1024, .fp8e4m3⟩
  | .local _ .vmem, ⟨9, _⟩ => ⟨S256x1024, .f32⟩
  | .local _ .vmem, ⟨10, _⟩ => ⟨S256x1024, .fp8e4m3⟩
  | .local _ .vmem, ⟨11, _⟩ => ⟨S1x256, .f32⟩
  | .local _ .vmem, ⟨12, _⟩ => ⟨S2048x128, .f32⟩
  | .local _ .vmem, ⟨13, _⟩ => ⟨S256x128, .f32⟩
  | .local _ .vmem, ⟨14, _⟩ => ⟨S256x128, .f32⟩
  | .local _ .vmem, ⟨15, _⟩ => ⟨S32x128, .f32⟩
  | .local _ .vmem, ⟨16, _⟩ => ⟨S32x768, .fp8e4m3⟩
  | .local _ .vmem, ⟨17, _⟩ => ⟨S32x1, .f32⟩
  | .local _ .vmem, ⟨18, _⟩ => ⟨S32x1, .f32⟩
  | .local _ .vmem, ⟨19, _⟩ => ⟨S256x128, .f32⟩
  | .local _ .vmem, ⟨20, _⟩ => ⟨S2048x128, .f32⟩
  | .local _ .vmem, ⟨21, _⟩ => ⟨S256x1024, .bf16⟩
  | .local _ .vmem, ⟨22, _⟩ => ⟨S256x1024, .bf16⟩
  | .local _ .smem, ⟨0, _⟩ => ⟨S25x40, .i32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch4 : Ref sig .tc := ⟨.vmem, 3, rfl⟩
abbrev cc0_scratch5 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch10 : Ref sig .tc := ⟨.vmem, 9, rfl⟩
abbrev cc0_scratch11 : Ref sig .tc := ⟨.vmem, 10, rfl⟩
abbrev cc0_scratch12 : Ref sig .tc := ⟨.vmem, 11, rfl⟩
abbrev cc0_scratch13 : Ref sig .tc := ⟨.vmem, 12, rfl⟩
abbrev cc0_scratch14 : Ref sig .tc := ⟨.vmem, 13, rfl⟩
abbrev cc0_scratch15 : Ref sig .tc := ⟨.vmem, 14, rfl⟩
abbrev cc0_scratch16 : Ref sig .tc := ⟨.vmem, 15, rfl⟩
abbrev cc0_scratch17 : Ref sig .tc := ⟨.vmem, 16, rfl⟩
abbrev cc0_scratch18 : Ref sig .tc := ⟨.vmem, 17, rfl⟩
abbrev cc0_scratch19 : Ref sig .tc := ⟨.vmem, 18, rfl⟩
abbrev cc0_scratch20 : Ref sig .tc := ⟨.vmem, 19, rfl⟩
abbrev cc0_scratch21 : Ref sig .tc := ⟨.vmem, 20, rfl⟩
abbrev cc0_scratch22 : Ref sig .tc := ⟨.vmem, 21, rfl⟩
abbrev cc0_scratch23 : Ref sig .tc := ⟨.vmem, 22, rfl⟩
abbrev cc0_scratch3 : Ref sig .tc := ⟨.smem, 0, rfl⟩

abbrev nD : Nat := 1
abbrev τ : Topo := Topo.v7x

variable {F : FTy → Type} [FloatOps F]

abbrev grid0 : Pipeline.Grid := .none

def k0_mult1 (v1038 : BitVec 32) : BitVec 32 :=
  let c8_i32 : BitVec 32 := 8#32
  let v1039 : BitVec 32 := Scalar.muli v1038 c8_i32
  v1039

def k0_off1 (v1038 : BitVec 32) : Fin 2 → Nat :=
  let c8_i32 : BitVec 32 := 8#32
  let v1039 : BitVec 32 := Scalar.muli v1038 c8_i32
  let v1040 : BitVec 32 := v1039
  let v1041 : Index := Scalar.indexCast v1040
  let c0_525 : Index := 0#32
  ![v1041.toNat, 0]
def k0_off2 (v1038 : BitVec 32) : Fin 2 → Nat :=
  let v1046 : Index := Scalar.indexCast v1038
  let c0_528 : Index := 0#32
  ![v1046.toNat, 0]

def k0_chk1 (v1038 : BitVec 32) : Prop :=
  (8 ∣ (k0_mult1 v1038).toNat) ∧
  (∀ a, (k0_off1 v1038) a + S8x128.size a ≤ S2048x128.size a) ∧
  (∀ a, (k0_off2 v1038) a + S1x128.size a ≤ S256x128.size a)
theorem k0_mult1_dvd : ∀ (v1038 : BitVec 32) (k0_hw1 : k0_chk1 v1038), 8 ∣ (k0_mult1 v1038).toNat := fun v1038 k0_hw1 => k0_hw1.1
theorem k0_off1_inb : ∀ (v1038 : BitVec 32) (k0_hw1 : k0_chk1 v1038), ∀ a, (k0_off1 v1038) a + S8x128.size a ≤ S2048x128.size a := fun v1038 k0_hw1 => k0_hw1.2.1
theorem k0_off2_inb : ∀ (v1038 : BitVec 32) (k0_hw1 : k0_chk1 v1038), ∀ a, (k0_off2 v1038) a + S1x128.size a ≤ S256x128.size a := fun v1038 k0_hw1 => k0_hw1.2.2

def k0_mult2 (v1051 : BitVec 32) : BitVec 32 :=
  let c8_i32_533 : BitVec 32 := 8#32
  let v1052 : BitVec 32 := Scalar.muli v1051 c8_i32_533
  v1052

def k0_off3 (v1051 : BitVec 32) : Fin 2 → Nat :=
  let c8_i32_533 : BitVec 32 := 8#32
  let v1052 : BitVec 32 := Scalar.muli v1051 c8_i32_533
  let v1053 : BitVec 32 := v1052
  let v1054 : Index := Scalar.indexCast v1053
  let c0_534 : Index := 0#32
  ![v1054.toNat, 0]
def k0_off4 (v1051 : BitVec 32) : Fin 2 → Nat :=
  let v1059 : Index := Scalar.indexCast v1051
  let c0_536 : Index := 0#32
  ![v1059.toNat, 0]

def k0_chk2 (v1051 : BitVec 32) : Prop :=
  (8 ∣ (k0_mult2 v1051).toNat) ∧
  (∀ a, (k0_off3 v1051) a + S8x128.size a ≤ S2048x128.size a) ∧
  (∀ a, (k0_off4 v1051) a + S1x128.size a ≤ S256x128.size a)
theorem k0_mult2_dvd : ∀ (v1051 : BitVec 32) (k0_hw2 : k0_chk2 v1051), 8 ∣ (k0_mult2 v1051).toNat := fun v1051 k0_hw2 => k0_hw2.1
theorem k0_off3_inb : ∀ (v1051 : BitVec 32) (k0_hw2 : k0_chk2 v1051), ∀ a, (k0_off3 v1051) a + S8x128.size a ≤ S2048x128.size a := fun v1051 k0_hw2 => k0_hw2.2.1
theorem k0_off4_inb : ∀ (v1051 : BitVec 32) (k0_hw2 : k0_chk2 v1051), ∀ a, (k0_off4 v1051) a + S1x128.size a ≤ S256x128.size a := fun v1051 k0_hw2 => k0_hw2.2.2

def k0_mult3 (v1064 : BitVec 32) : BitVec 32 :=
  let c8_i32_541 : BitVec 32 := 8#32
  let v1065 : BitVec 32 := Scalar.muli v1064 c8_i32_541
  v1065

def k0_off5 (v1064 : BitVec 32) : Fin 2 → Nat :=
  let c8_i32_541 : BitVec 32 := 8#32
  let v1065 : BitVec 32 := Scalar.muli v1064 c8_i32_541
  let v1066 : BitVec 32 := v1065
  let v1067 : Index := Scalar.indexCast v1066
  let c0_542 : Index := 0#32
  ![v1067.toNat, 0]
def k0_off6 (v1064 : BitVec 32) : Fin 2 → Nat :=
  let v1072 : Index := Scalar.indexCast v1064
  let c0_544 : Index := 0#32
  ![v1072.toNat, 0]

def k0_chk3 (v1064 : BitVec 32) : Prop :=
  (8 ∣ (k0_mult3 v1064).toNat) ∧
  (∀ a, (k0_off5 v1064) a + S8x128.size a ≤ S2048x128.size a) ∧
  (∀ a, (k0_off6 v1064) a + S1x128.size a ≤ S256x128.size a)
theorem k0_mult3_dvd : ∀ (v1064 : BitVec 32) (k0_hw3 : k0_chk3 v1064), 8 ∣ (k0_mult3 v1064).toNat := fun v1064 k0_hw3 => k0_hw3.1
theorem k0_off5_inb : ∀ (v1064 : BitVec 32) (k0_hw3 : k0_chk3 v1064), ∀ a, (k0_off5 v1064) a + S8x128.size a ≤ S2048x128.size a := fun v1064 k0_hw3 => k0_hw3.2.1
theorem k0_off6_inb : ∀ (v1064 : BitVec 32) (k0_hw3 : k0_chk3 v1064), ∀ a, (k0_off6 v1064) a + S1x128.size a ≤ S256x128.size a := fun v1064 k0_hw3 => k0_hw3.2.2

def k0_mult4 (v1077 : BitVec 32) : BitVec 32 :=
  let c8_i32_549 : BitVec 32 := 8#32
  let v1078 : BitVec 32 := Scalar.muli v1077 c8_i32_549
  v1078

def k0_off7 (v1077 : BitVec 32) : Fin 2 → Nat :=
  let c8_i32_549 : BitVec 32 := 8#32
  let v1078 : BitVec 32 := Scalar.muli v1077 c8_i32_549
  let v1079 : BitVec 32 := v1078
  let v1080 : Index := Scalar.indexCast v1079
  let c0_550 : Index := 0#32
  ![v1080.toNat, 0]
def k0_off8 (v1077 : BitVec 32) : Fin 2 → Nat :=
  let v1085 : Index := Scalar.indexCast v1077
  let c0_552 : Index := 0#32
  ![v1085.toNat, 0]

def k0_chk4 (v1077 : BitVec 32) : Prop :=
  (8 ∣ (k0_mult4 v1077).toNat) ∧
  (∀ a, (k0_off7 v1077) a + S8x128.size a ≤ S2048x128.size a) ∧
  (∀ a, (k0_off8 v1077) a + S1x128.size a ≤ S256x128.size a)
theorem k0_mult4_dvd : ∀ (v1077 : BitVec 32) (k0_hw4 : k0_chk4 v1077), 8 ∣ (k0_mult4 v1077).toNat := fun v1077 k0_hw4 => k0_hw4.1
theorem k0_off7_inb : ∀ (v1077 : BitVec 32) (k0_hw4 : k0_chk4 v1077), ∀ a, (k0_off7 v1077) a + S8x128.size a ≤ S2048x128.size a := fun v1077 k0_hw4 => k0_hw4.2.1
theorem k0_off8_inb : ∀ (v1077 : BitVec 32) (k0_hw4 : k0_chk4 v1077), ∀ a, (k0_off8 v1077) a + S1x128.size a ≤ S256x128.size a := fun v1077 k0_hw4 => k0_hw4.2.2

def k0_mult5 (v1090 : BitVec 32) : BitVec 32 :=
  let c8_i32_557 : BitVec 32 := 8#32
  let v1091 : BitVec 32 := Scalar.muli v1090 c8_i32_557
  v1091

def k0_off9 (v1090 : BitVec 32) : Fin 2 → Nat :=
  let c8_i32_557 : BitVec 32 := 8#32
  let v1091 : BitVec 32 := Scalar.muli v1090 c8_i32_557
  let v1092 : BitVec 32 := v1091
  let v1093 : Index := Scalar.indexCast v1092
  let c0_558 : Index := 0#32
  ![v1093.toNat, 0]
def k0_off10 (v1090 : BitVec 32) : Fin 2 → Nat :=
  let v1098 : Index := Scalar.indexCast v1090
  let c0_561 : Index := 0#32
  ![v1098.toNat, 0]

def k0_chk5 (v1090 : BitVec 32) : Prop :=
  (8 ∣ (k0_mult5 v1090).toNat) ∧
  (∀ a, (k0_off9 v1090) a + S8x128.size a ≤ S2048x128.size a) ∧
  (∀ a, (k0_off10 v1090) a + S1x128.size a ≤ S256x128.size a)
theorem k0_mult5_dvd : ∀ (v1090 : BitVec 32) (k0_hw5 : k0_chk5 v1090), 8 ∣ (k0_mult5 v1090).toNat := fun v1090 k0_hw5 => k0_hw5.1
theorem k0_off9_inb : ∀ (v1090 : BitVec 32) (k0_hw5 : k0_chk5 v1090), ∀ a, (k0_off9 v1090) a + S8x128.size a ≤ S2048x128.size a := fun v1090 k0_hw5 => k0_hw5.2.1
theorem k0_off10_inb : ∀ (v1090 : BitVec 32) (k0_hw5 : k0_chk5 v1090), ∀ a, (k0_off10 v1090) a + S1x128.size a ≤ S256x128.size a := fun v1090 k0_hw5 => k0_hw5.2.2

def k0_mult6 (v1103 : BitVec 32) : BitVec 32 :=
  let c8_i32_566 : BitVec 32 := 8#32
  let v1104 : BitVec 32 := Scalar.muli v1103 c8_i32_566
  v1104

def k0_off11 (v1103 : BitVec 32) : Fin 2 → Nat :=
  let c8_i32_566 : BitVec 32 := 8#32
  let v1104 : BitVec 32 := Scalar.muli v1103 c8_i32_566
  let v1105 : BitVec 32 := v1104
  let v1106 : Index := Scalar.indexCast v1105
  let c0_567 : Index := 0#32
  ![v1106.toNat, 0]
def k0_off12 (v1103 : BitVec 32) : Fin 2 → Nat :=
  let v1111 : Index := Scalar.indexCast v1103
  let c0_569 : Index := 0#32
  ![v1111.toNat, 0]

def k0_chk6 (v1103 : BitVec 32) : Prop :=
  (8 ∣ (k0_mult6 v1103).toNat) ∧
  (∀ a, (k0_off11 v1103) a + S8x128.size a ≤ S2048x128.size a) ∧
  (∀ a, (k0_off12 v1103) a + S1x128.size a ≤ S256x128.size a)
theorem k0_mult6_dvd : ∀ (v1103 : BitVec 32) (k0_hw6 : k0_chk6 v1103), 8 ∣ (k0_mult6 v1103).toNat := fun v1103 k0_hw6 => k0_hw6.1
theorem k0_off11_inb : ∀ (v1103 : BitVec 32) (k0_hw6 : k0_chk6 v1103), ∀ a, (k0_off11 v1103) a + S8x128.size a ≤ S2048x128.size a := fun v1103 k0_hw6 => k0_hw6.2.1
theorem k0_off12_inb : ∀ (v1103 : BitVec 32) (k0_hw6 : k0_chk6 v1103), ∀ a, (k0_off12 v1103) a + S1x128.size a ≤ S256x128.size a := fun v1103 k0_hw6 => k0_hw6.2.2

def k0_mult7 (v1116 : BitVec 32) : BitVec 32 :=
  let c8_i32_574 : BitVec 32 := 8#32
  let v1117 : BitVec 32 := Scalar.muli v1116 c8_i32_574
  v1117

def k0_off13 (v1116 : BitVec 32) : Fin 2 → Nat :=
  let c8_i32_574 : BitVec 32 := 8#32
  let v1117 : BitVec 32 := Scalar.muli v1116 c8_i32_574
  let v1118 : BitVec 32 := v1117
  let v1119 : Index := Scalar.indexCast v1118
  let c0_575 : Index := 0#32
  ![v1119.toNat, 0]
def k0_off14 (v1116 : BitVec 32) : Fin 2 → Nat :=
  let v1124 : Index := Scalar.indexCast v1116
  let c0_577 : Index := 0#32
  ![v1124.toNat, 0]

def k0_chk7 (v1116 : BitVec 32) : Prop :=
  (8 ∣ (k0_mult7 v1116).toNat) ∧
  (∀ a, (k0_off13 v1116) a + S8x128.size a ≤ S2048x128.size a) ∧
  (∀ a, (k0_off14 v1116) a + S1x128.size a ≤ S256x128.size a)
theorem k0_mult7_dvd : ∀ (v1116 : BitVec 32) (k0_hw7 : k0_chk7 v1116), 8 ∣ (k0_mult7 v1116).toNat := fun v1116 k0_hw7 => k0_hw7.1
theorem k0_off13_inb : ∀ (v1116 : BitVec 32) (k0_hw7 : k0_chk7 v1116), ∀ a, (k0_off13 v1116) a + S8x128.size a ≤ S2048x128.size a := fun v1116 k0_hw7 => k0_hw7.2.1
theorem k0_off14_inb : ∀ (v1116 : BitVec 32) (k0_hw7 : k0_chk7 v1116), ∀ a, (k0_off14 v1116) a + S1x128.size a ≤ S256x128.size a := fun v1116 k0_hw7 => k0_hw7.2.2

def k0_mult8 (v1129 : BitVec 32) : BitVec 32 :=
  let c8_i32_582 : BitVec 32 := 8#32
  let v1130 : BitVec 32 := Scalar.muli v1129 c8_i32_582
  v1130

def k0_off15 (v1129 : BitVec 32) : Fin 2 → Nat :=
  let c8_i32_582 : BitVec 32 := 8#32
  let v1130 : BitVec 32 := Scalar.muli v1129 c8_i32_582
  let v1131 : BitVec 32 := v1130
  let v1132 : Index := Scalar.indexCast v1131
  let c0_583 : Index := 0#32
  ![v1132.toNat, 0]
def k0_off16 (v1129 : BitVec 32) : Fin 2 → Nat :=
  let v1137 : Index := Scalar.indexCast v1129
  let c0_585 : Index := 0#32
  ![v1137.toNat, 0]

def k0_chk8 (v1129 : BitVec 32) : Prop :=
  (8 ∣ (k0_mult8 v1129).toNat) ∧
  (∀ a, (k0_off15 v1129) a + S8x128.size a ≤ S2048x128.size a) ∧
  (∀ a, (k0_off16 v1129) a + S1x128.size a ≤ S256x128.size a)
theorem k0_mult8_dvd : ∀ (v1129 : BitVec 32) (k0_hw8 : k0_chk8 v1129), 8 ∣ (k0_mult8 v1129).toNat := fun v1129 k0_hw8 => k0_hw8.1
theorem k0_off15_inb : ∀ (v1129 : BitVec 32) (k0_hw8 : k0_chk8 v1129), ∀ a, (k0_off15 v1129) a + S8x128.size a ≤ S2048x128.size a := fun v1129 k0_hw8 => k0_hw8.2.1
theorem k0_off16_inb : ∀ (v1129 : BitVec 32) (k0_hw8 : k0_chk8 v1129), ∀ a, (k0_off16 v1129) a + S1x128.size a ≤ S256x128.size a := fun v1129 k0_hw8 => k0_hw8.2.2

def k0_mult9 (v1142 : BitVec 32) : BitVec 32 :=
  let c8_i32_590 : BitVec 32 := 8#32
  let v1143 : BitVec 32 := Scalar.muli v1142 c8_i32_590
  v1143

def k0_off17 (v1142 : BitVec 32) : Fin 2 → Nat :=
  let c8_i32_590 : BitVec 32 := 8#32
  let v1143 : BitVec 32 := Scalar.muli v1142 c8_i32_590
  let v1144 : BitVec 32 := v1143
  let v1145 : Index := Scalar.indexCast v1144
  let c0_591 : Index := 0#32
  ![v1145.toNat, 0]
def k0_off18 (v1142 : BitVec 32) : Fin 2 → Nat :=
  let v1150 : Index := Scalar.indexCast v1142
  let c0_594 : Index := 0#32
  ![v1150.toNat, 0]

def k0_chk9 (v1142 : BitVec 32) : Prop :=
  (8 ∣ (k0_mult9 v1142).toNat) ∧
  (∀ a, (k0_off17 v1142) a + S8x128.size a ≤ S2048x128.size a) ∧
  (∀ a, (k0_off18 v1142) a + S1x128.size a ≤ S256x128.size a)
theorem k0_mult9_dvd : ∀ (v1142 : BitVec 32) (k0_hw9 : k0_chk9 v1142), 8 ∣ (k0_mult9 v1142).toNat := fun v1142 k0_hw9 => k0_hw9.1
theorem k0_off17_inb : ∀ (v1142 : BitVec 32) (k0_hw9 : k0_chk9 v1142), ∀ a, (k0_off17 v1142) a + S8x128.size a ≤ S2048x128.size a := fun v1142 k0_hw9 => k0_hw9.2.1
theorem k0_off18_inb : ∀ (v1142 : BitVec 32) (k0_hw9 : k0_chk9 v1142), ∀ a, (k0_off18 v1142) a + S1x128.size a ≤ S256x128.size a := fun v1142 k0_hw9 => k0_hw9.2.2

def k0_mult10 (v1155 : BitVec 32) : BitVec 32 :=
  let c8_i32_598 : BitVec 32 := 8#32
  let v1156 : BitVec 32 := Scalar.muli v1155 c8_i32_598
  v1156

def k0_off19 (v1155 : BitVec 32) : Fin 2 → Nat :=
  let c8_i32_598 : BitVec 32 := 8#32
  let v1156 : BitVec 32 := Scalar.muli v1155 c8_i32_598
  let v1157 : BitVec 32 := v1156
  let v1158 : Index := Scalar.indexCast v1157
  let c0_599 : Index := 0#32
  ![v1158.toNat, 0]
def k0_off20 (v1155 : BitVec 32) : Fin 2 → Nat :=
  let v1163 : Index := Scalar.indexCast v1155
  let c0_601 : Index := 0#32
  ![v1163.toNat, 0]

def k0_chk10 (v1155 : BitVec 32) : Prop :=
  (8 ∣ (k0_mult10 v1155).toNat) ∧
  (∀ a, (k0_off19 v1155) a + S8x128.size a ≤ S2048x128.size a) ∧
  (∀ a, (k0_off20 v1155) a + S1x128.size a ≤ S256x128.size a)
theorem k0_mult10_dvd : ∀ (v1155 : BitVec 32) (k0_hw10 : k0_chk10 v1155), 8 ∣ (k0_mult10 v1155).toNat := fun v1155 k0_hw10 => k0_hw10.1
theorem k0_off19_inb : ∀ (v1155 : BitVec 32) (k0_hw10 : k0_chk10 v1155), ∀ a, (k0_off19 v1155) a + S8x128.size a ≤ S2048x128.size a := fun v1155 k0_hw10 => k0_hw10.2.1
theorem k0_off20_inb : ∀ (v1155 : BitVec 32) (k0_hw10 : k0_chk10 v1155), ∀ a, (k0_off20 v1155) a + S1x128.size a ≤ S256x128.size a := fun v1155 k0_hw10 => k0_hw10.2.2

def k0_mult11 (v1168 : BitVec 32) : BitVec 32 :=
  let c8_i32_605 : BitVec 32 := 8#32
  let v1169 : BitVec 32 := Scalar.muli v1168 c8_i32_605
  v1169

def k0_off21 (v1168 : BitVec 32) : Fin 2 → Nat :=
  let c8_i32_605 : BitVec 32 := 8#32
  let v1169 : BitVec 32 := Scalar.muli v1168 c8_i32_605
  let v1170 : BitVec 32 := v1169
  let v1171 : Index := Scalar.indexCast v1170
  let c0_606 : Index := 0#32
  ![v1171.toNat, 0]
def k0_off22 (v1168 : BitVec 32) : Fin 2 → Nat :=
  let v1176 : Index := Scalar.indexCast v1168
  let c0_608 : Index := 0#32
  ![v1176.toNat, 0]

def k0_chk11 (v1168 : BitVec 32) : Prop :=
  (8 ∣ (k0_mult11 v1168).toNat) ∧
  (∀ a, (k0_off21 v1168) a + S8x128.size a ≤ S2048x128.size a) ∧
  (∀ a, (k0_off22 v1168) a + S1x128.size a ≤ S256x128.size a)
theorem k0_mult11_dvd : ∀ (v1168 : BitVec 32) (k0_hw11 : k0_chk11 v1168), 8 ∣ (k0_mult11 v1168).toNat := fun v1168 k0_hw11 => k0_hw11.1
theorem k0_off21_inb : ∀ (v1168 : BitVec 32) (k0_hw11 : k0_chk11 v1168), ∀ a, (k0_off21 v1168) a + S8x128.size a ≤ S2048x128.size a := fun v1168 k0_hw11 => k0_hw11.2.1
theorem k0_off22_inb : ∀ (v1168 : BitVec 32) (k0_hw11 : k0_chk11 v1168), ∀ a, (k0_off22 v1168) a + S1x128.size a ≤ S256x128.size a := fun v1168 k0_hw11 => k0_hw11.2.2

def k0_mult12 (v1181 : BitVec 32) : BitVec 32 :=
  let c8_i32_612 : BitVec 32 := 8#32
  let v1182 : BitVec 32 := Scalar.muli v1181 c8_i32_612
  v1182

def k0_off23 (v1181 : BitVec 32) : Fin 2 → Nat :=
  let c8_i32_612 : BitVec 32 := 8#32
  let v1182 : BitVec 32 := Scalar.muli v1181 c8_i32_612
  let v1183 : BitVec 32 := v1182
  let v1184 : Index := Scalar.indexCast v1183
  let c0_613 : Index := 0#32
  ![v1184.toNat, 0]
def k0_off24 (v1181 : BitVec 32) : Fin 2 → Nat :=
  let v1189 : Index := Scalar.indexCast v1181
  let c0_615 : Index := 0#32
  ![v1189.toNat, 0]

def k0_chk12 (v1181 : BitVec 32) : Prop :=
  (8 ∣ (k0_mult12 v1181).toNat) ∧
  (∀ a, (k0_off23 v1181) a + S8x128.size a ≤ S2048x128.size a) ∧
  (∀ a, (k0_off24 v1181) a + S1x128.size a ≤ S256x128.size a)
theorem k0_mult12_dvd : ∀ (v1181 : BitVec 32) (k0_hw12 : k0_chk12 v1181), 8 ∣ (k0_mult12 v1181).toNat := fun v1181 k0_hw12 => k0_hw12.1
theorem k0_off23_inb : ∀ (v1181 : BitVec 32) (k0_hw12 : k0_chk12 v1181), ∀ a, (k0_off23 v1181) a + S8x128.size a ≤ S2048x128.size a := fun v1181 k0_hw12 => k0_hw12.2.1
theorem k0_off24_inb : ∀ (v1181 : BitVec 32) (k0_hw12 : k0_chk12 v1181), ∀ a, (k0_off24 v1181) a + S1x128.size a ≤ S256x128.size a := fun v1181 k0_hw12 => k0_hw12.2.2

def k0_mult13 (v1194 : BitVec 32) : BitVec 32 :=
  let c8_i32_619 : BitVec 32 := 8#32
  let v1195 : BitVec 32 := Scalar.muli v1194 c8_i32_619
  v1195

def k0_off25 (v1194 : BitVec 32) : Fin 2 → Nat :=
  let c8_i32_619 : BitVec 32 := 8#32
  let v1195 : BitVec 32 := Scalar.muli v1194 c8_i32_619
  let v1196 : BitVec 32 := v1195
  let v1197 : Index := Scalar.indexCast v1196
  let c0_620 : Index := 0#32
  ![v1197.toNat, 0]
def k0_off26 (v1194 : BitVec 32) : Fin 2 → Nat :=
  let v1202 : Index := Scalar.indexCast v1194
  let c0_623 : Index := 0#32
  ![v1202.toNat, 0]

def k0_chk13 (v1194 : BitVec 32) : Prop :=
  (8 ∣ (k0_mult13 v1194).toNat) ∧
  (∀ a, (k0_off25 v1194) a + S8x128.size a ≤ S2048x128.size a) ∧
  (∀ a, (k0_off26 v1194) a + S1x128.size a ≤ S256x128.size a)
theorem k0_mult13_dvd : ∀ (v1194 : BitVec 32) (k0_hw13 : k0_chk13 v1194), 8 ∣ (k0_mult13 v1194).toNat := fun v1194 k0_hw13 => k0_hw13.1
theorem k0_off25_inb : ∀ (v1194 : BitVec 32) (k0_hw13 : k0_chk13 v1194), ∀ a, (k0_off25 v1194) a + S8x128.size a ≤ S2048x128.size a := fun v1194 k0_hw13 => k0_hw13.2.1
theorem k0_off26_inb : ∀ (v1194 : BitVec 32) (k0_hw13 : k0_chk13 v1194), ∀ a, (k0_off26 v1194) a + S1x128.size a ≤ S256x128.size a := fun v1194 k0_hw13 => k0_hw13.2.2

def k0_mult14 (v1207 : BitVec 32) : BitVec 32 :=
  let c8_i32_627 : BitVec 32 := 8#32
  let v1208 : BitVec 32 := Scalar.muli v1207 c8_i32_627
  v1208

def k0_off27 (v1207 : BitVec 32) : Fin 2 → Nat :=
  let c8_i32_627 : BitVec 32 := 8#32
  let v1208 : BitVec 32 := Scalar.muli v1207 c8_i32_627
  let v1209 : BitVec 32 := v1208
  let v1210 : Index := Scalar.indexCast v1209
  let c0_628 : Index := 0#32
  ![v1210.toNat, 0]
def k0_off28 (v1207 : BitVec 32) : Fin 2 → Nat :=
  let v1215 : Index := Scalar.indexCast v1207
  let c0_630 : Index := 0#32
  ![v1215.toNat, 0]

def k0_chk14 (v1207 : BitVec 32) : Prop :=
  (8 ∣ (k0_mult14 v1207).toNat) ∧
  (∀ a, (k0_off27 v1207) a + S8x128.size a ≤ S2048x128.size a) ∧
  (∀ a, (k0_off28 v1207) a + S1x128.size a ≤ S256x128.size a)
theorem k0_mult14_dvd : ∀ (v1207 : BitVec 32) (k0_hw14 : k0_chk14 v1207), 8 ∣ (k0_mult14 v1207).toNat := fun v1207 k0_hw14 => k0_hw14.1
theorem k0_off27_inb : ∀ (v1207 : BitVec 32) (k0_hw14 : k0_chk14 v1207), ∀ a, (k0_off27 v1207) a + S8x128.size a ≤ S2048x128.size a := fun v1207 k0_hw14 => k0_hw14.2.1
theorem k0_off28_inb : ∀ (v1207 : BitVec 32) (k0_hw14 : k0_chk14 v1207), ∀ a, (k0_off28 v1207) a + S1x128.size a ≤ S256x128.size a := fun v1207 k0_hw14 => k0_hw14.2.2

def k0_mult15 (v1220 : BitVec 32) : BitVec 32 :=
  let c8_i32_634 : BitVec 32 := 8#32
  let v1221 : BitVec 32 := Scalar.muli v1220 c8_i32_634
  v1221

def k0_off29 (v1220 : BitVec 32) : Fin 2 → Nat :=
  let c8_i32_634 : BitVec 32 := 8#32
  let v1221 : BitVec 32 := Scalar.muli v1220 c8_i32_634
  let v1222 : BitVec 32 := v1221
  let v1223 : Index := Scalar.indexCast v1222
  let c0_635 : Index := 0#32
  ![v1223.toNat, 0]
def k0_off30 (v1220 : BitVec 32) : Fin 2 → Nat :=
  let v1228 : Index := Scalar.indexCast v1220
  let c0_637 : Index := 0#32
  ![v1228.toNat, 0]

def k0_chk15 (v1220 : BitVec 32) : Prop :=
  (8 ∣ (k0_mult15 v1220).toNat) ∧
  (∀ a, (k0_off29 v1220) a + S8x128.size a ≤ S2048x128.size a) ∧
  (∀ a, (k0_off30 v1220) a + S1x128.size a ≤ S256x128.size a)
theorem k0_mult15_dvd : ∀ (v1220 : BitVec 32) (k0_hw15 : k0_chk15 v1220), 8 ∣ (k0_mult15 v1220).toNat := fun v1220 k0_hw15 => k0_hw15.1
theorem k0_off29_inb : ∀ (v1220 : BitVec 32) (k0_hw15 : k0_chk15 v1220), ∀ a, (k0_off29 v1220) a + S8x128.size a ≤ S2048x128.size a := fun v1220 k0_hw15 => k0_hw15.2.1
theorem k0_off30_inb : ∀ (v1220 : BitVec 32) (k0_hw15 : k0_chk15 v1220), ∀ a, (k0_off30 v1220) a + S1x128.size a ≤ S256x128.size a := fun v1220 k0_hw15 => k0_hw15.2.2

def k0_mult16 (v1233 : BitVec 32) : BitVec 32 :=
  let c8_i32_641 : BitVec 32 := 8#32
  let v1234 : BitVec 32 := Scalar.muli v1233 c8_i32_641
  v1234

def k0_off31 (v1233 : BitVec 32) : Fin 2 → Nat :=
  let c8_i32_641 : BitVec 32 := 8#32
  let v1234 : BitVec 32 := Scalar.muli v1233 c8_i32_641
  let v1235 : BitVec 32 := v1234
  let v1236 : Index := Scalar.indexCast v1235
  let c0_642 : Index := 0#32
  ![v1236.toNat, 0]
def k0_off32 (v1233 : BitVec 32) : Fin 2 → Nat :=
  let v1241 : Index := Scalar.indexCast v1233
  let c0_644 : Index := 0#32
  ![v1241.toNat, 0]

def k0_chk16 (v1233 : BitVec 32) : Prop :=
  (8 ∣ (k0_mult16 v1233).toNat) ∧
  (∀ a, (k0_off31 v1233) a + S8x128.size a ≤ S2048x128.size a) ∧
  (∀ a, (k0_off32 v1233) a + S1x128.size a ≤ S256x128.size a)
theorem k0_mult16_dvd : ∀ (v1233 : BitVec 32) (k0_hw16 : k0_chk16 v1233), 8 ∣ (k0_mult16 v1233).toNat := fun v1233 k0_hw16 => k0_hw16.1
theorem k0_off31_inb : ∀ (v1233 : BitVec 32) (k0_hw16 : k0_chk16 v1233), ∀ a, (k0_off31 v1233) a + S8x128.size a ≤ S2048x128.size a := fun v1233 k0_hw16 => k0_hw16.2.1
theorem k0_off32_inb : ∀ (v1233 : BitVec 32) (k0_hw16 : k0_chk16 v1233), ∀ a, (k0_off32 v1233) a + S1x128.size a ≤ S256x128.size a := fun v1233 k0_hw16 => k0_hw16.2.2

def k0_mult17 (v1246 : BitVec 32) : BitVec 32 :=
  let c8_i32_649 : BitVec 32 := 8#32
  let v1247 : BitVec 32 := Scalar.muli v1246 c8_i32_649
  v1247

def k0_off33 (v1246 : BitVec 32) : Fin 2 → Nat :=
  let c8_i32_649 : BitVec 32 := 8#32
  let v1247 : BitVec 32 := Scalar.muli v1246 c8_i32_649
  let v1248 : BitVec 32 := v1247
  let v1249 : Index := Scalar.indexCast v1248
  let c0_650 : Index := 0#32
  ![v1249.toNat, 0]
def k0_off34 (v1246 : BitVec 32) : Fin 2 → Nat :=
  let v1254 : Index := Scalar.indexCast v1246
  let c0_653 : Index := 0#32
  ![v1254.toNat, 0]

def k0_chk17 (v1246 : BitVec 32) : Prop :=
  (8 ∣ (k0_mult17 v1246).toNat) ∧
  (∀ a, (k0_off33 v1246) a + S8x128.size a ≤ S2048x128.size a) ∧
  (∀ a, (k0_off34 v1246) a + S1x128.size a ≤ S256x128.size a)
theorem k0_mult17_dvd : ∀ (v1246 : BitVec 32) (k0_hw17 : k0_chk17 v1246), 8 ∣ (k0_mult17 v1246).toNat := fun v1246 k0_hw17 => k0_hw17.1
theorem k0_off33_inb : ∀ (v1246 : BitVec 32) (k0_hw17 : k0_chk17 v1246), ∀ a, (k0_off33 v1246) a + S8x128.size a ≤ S2048x128.size a := fun v1246 k0_hw17 => k0_hw17.2.1
theorem k0_off34_inb : ∀ (v1246 : BitVec 32) (k0_hw17 : k0_chk17 v1246), ∀ a, (k0_off34 v1246) a + S1x128.size a ≤ S256x128.size a := fun v1246 k0_hw17 => k0_hw17.2.2

def k0_mult18 (v1259 : BitVec 32) : BitVec 32 :=
  let c8_i32_657 : BitVec 32 := 8#32
  let v1260 : BitVec 32 := Scalar.muli v1259 c8_i32_657
  v1260

def k0_off35 (v1259 : BitVec 32) : Fin 2 → Nat :=
  let c8_i32_657 : BitVec 32 := 8#32
  let v1260 : BitVec 32 := Scalar.muli v1259 c8_i32_657
  let v1261 : BitVec 32 := v1260
  let v1262 : Index := Scalar.indexCast v1261
  let c0_658 : Index := 0#32
  ![v1262.toNat, 0]
def k0_off36 (v1259 : BitVec 32) : Fin 2 → Nat :=
  let v1267 : Index := Scalar.indexCast v1259
  let c0_660 : Index := 0#32
  ![v1267.toNat, 0]

def k0_chk18 (v1259 : BitVec 32) : Prop :=
  (8 ∣ (k0_mult18 v1259).toNat) ∧
  (∀ a, (k0_off35 v1259) a + S8x128.size a ≤ S2048x128.size a) ∧
  (∀ a, (k0_off36 v1259) a + S1x128.size a ≤ S256x128.size a)
theorem k0_mult18_dvd : ∀ (v1259 : BitVec 32) (k0_hw18 : k0_chk18 v1259), 8 ∣ (k0_mult18 v1259).toNat := fun v1259 k0_hw18 => k0_hw18.1
theorem k0_off35_inb : ∀ (v1259 : BitVec 32) (k0_hw18 : k0_chk18 v1259), ∀ a, (k0_off35 v1259) a + S8x128.size a ≤ S2048x128.size a := fun v1259 k0_hw18 => k0_hw18.2.1
theorem k0_off36_inb : ∀ (v1259 : BitVec 32) (k0_hw18 : k0_chk18 v1259), ∀ a, (k0_off36 v1259) a + S1x128.size a ≤ S256x128.size a := fun v1259 k0_hw18 => k0_hw18.2.2

def k0_mult19 (v1272 : BitVec 32) : BitVec 32 :=
  let c8_i32_664 : BitVec 32 := 8#32
  let v1273 : BitVec 32 := Scalar.muli v1272 c8_i32_664
  v1273

def k0_off37 (v1272 : BitVec 32) : Fin 2 → Nat :=
  let c8_i32_664 : BitVec 32 := 8#32
  let v1273 : BitVec 32 := Scalar.muli v1272 c8_i32_664
  let v1274 : BitVec 32 := v1273
  let v1275 : Index := Scalar.indexCast v1274
  let c0_665 : Index := 0#32
  ![v1275.toNat, 0]
def k0_off38 (v1272 : BitVec 32) : Fin 2 → Nat :=
  let v1280 : Index := Scalar.indexCast v1272
  let c0_667 : Index := 0#32
  ![v1280.toNat, 0]

def k0_chk19 (v1272 : BitVec 32) : Prop :=
  (8 ∣ (k0_mult19 v1272).toNat) ∧
  (∀ a, (k0_off37 v1272) a + S8x128.size a ≤ S2048x128.size a) ∧
  (∀ a, (k0_off38 v1272) a + S1x128.size a ≤ S256x128.size a)
theorem k0_mult19_dvd : ∀ (v1272 : BitVec 32) (k0_hw19 : k0_chk19 v1272), 8 ∣ (k0_mult19 v1272).toNat := fun v1272 k0_hw19 => k0_hw19.1
theorem k0_off37_inb : ∀ (v1272 : BitVec 32) (k0_hw19 : k0_chk19 v1272), ∀ a, (k0_off37 v1272) a + S8x128.size a ≤ S2048x128.size a := fun v1272 k0_hw19 => k0_hw19.2.1
theorem k0_off38_inb : ∀ (v1272 : BitVec 32) (k0_hw19 : k0_chk19 v1272), ∀ a, (k0_off38 v1272) a + S1x128.size a ≤ S256x128.size a := fun v1272 k0_hw19 => k0_hw19.2.2

def k0_mult20 (v1285 : BitVec 32) : BitVec 32 :=
  let c8_i32_671 : BitVec 32 := 8#32
  let v1286 : BitVec 32 := Scalar.muli v1285 c8_i32_671
  v1286

def k0_off39 (v1285 : BitVec 32) : Fin 2 → Nat :=
  let c8_i32_671 : BitVec 32 := 8#32
  let v1286 : BitVec 32 := Scalar.muli v1285 c8_i32_671
  let v1287 : BitVec 32 := v1286
  let v1288 : Index := Scalar.indexCast v1287
  let c0_672 : Index := 0#32
  ![v1288.toNat, 0]
def k0_off40 (v1285 : BitVec 32) : Fin 2 → Nat :=
  let v1293 : Index := Scalar.indexCast v1285
  let c0_674 : Index := 0#32
  ![v1293.toNat, 0]

def k0_chk20 (v1285 : BitVec 32) : Prop :=
  (8 ∣ (k0_mult20 v1285).toNat) ∧
  (∀ a, (k0_off39 v1285) a + S8x128.size a ≤ S2048x128.size a) ∧
  (∀ a, (k0_off40 v1285) a + S1x128.size a ≤ S256x128.size a)
theorem k0_mult20_dvd : ∀ (v1285 : BitVec 32) (k0_hw20 : k0_chk20 v1285), 8 ∣ (k0_mult20 v1285).toNat := fun v1285 k0_hw20 => k0_hw20.1
theorem k0_off39_inb : ∀ (v1285 : BitVec 32) (k0_hw20 : k0_chk20 v1285), ∀ a, (k0_off39 v1285) a + S8x128.size a ≤ S2048x128.size a := fun v1285 k0_hw20 => k0_hw20.2.1
theorem k0_off40_inb : ∀ (v1285 : BitVec 32) (k0_hw20 : k0_chk20 v1285), ∀ a, (k0_off40 v1285) a + S1x128.size a ≤ S256x128.size a := fun v1285 k0_hw20 => k0_hw20.2.2

def k0_mult21 (v1298 : BitVec 32) : BitVec 32 :=
  let c8_i32_678 : BitVec 32 := 8#32
  let v1299 : BitVec 32 := Scalar.muli v1298 c8_i32_678
  v1299

def k0_off41 (v1298 : BitVec 32) : Fin 2 → Nat :=
  let c8_i32_678 : BitVec 32 := 8#32
  let v1299 : BitVec 32 := Scalar.muli v1298 c8_i32_678
  let v1300 : BitVec 32 := v1299
  let v1301 : Index := Scalar.indexCast v1300
  let c0_679 : Index := 0#32
  ![v1301.toNat, 0]
def k0_off42 (v1298 : BitVec 32) : Fin 2 → Nat :=
  let v1306 : Index := Scalar.indexCast v1298
  let c0_682 : Index := 0#32
  ![v1306.toNat, 0]

def k0_chk21 (v1298 : BitVec 32) : Prop :=
  (8 ∣ (k0_mult21 v1298).toNat) ∧
  (∀ a, (k0_off41 v1298) a + S8x128.size a ≤ S2048x128.size a) ∧
  (∀ a, (k0_off42 v1298) a + S1x128.size a ≤ S256x128.size a)
theorem k0_mult21_dvd : ∀ (v1298 : BitVec 32) (k0_hw21 : k0_chk21 v1298), 8 ∣ (k0_mult21 v1298).toNat := fun v1298 k0_hw21 => k0_hw21.1
theorem k0_off41_inb : ∀ (v1298 : BitVec 32) (k0_hw21 : k0_chk21 v1298), ∀ a, (k0_off41 v1298) a + S8x128.size a ≤ S2048x128.size a := fun v1298 k0_hw21 => k0_hw21.2.1
theorem k0_off42_inb : ∀ (v1298 : BitVec 32) (k0_hw21 : k0_chk21 v1298), ∀ a, (k0_off42 v1298) a + S1x128.size a ≤ S256x128.size a := fun v1298 k0_hw21 => k0_hw21.2.2

def k0_mult22 (v1311 : BitVec 32) : BitVec 32 :=
  let c8_i32_686 : BitVec 32 := 8#32
  let v1312 : BitVec 32 := Scalar.muli v1311 c8_i32_686
  v1312

def k0_off43 (v1311 : BitVec 32) : Fin 2 → Nat :=
  let c8_i32_686 : BitVec 32 := 8#32
  let v1312 : BitVec 32 := Scalar.muli v1311 c8_i32_686
  let v1313 : BitVec 32 := v1312
  let v1314 : Index := Scalar.indexCast v1313
  let c0_687 : Index := 0#32
  ![v1314.toNat, 0]
def k0_off44 (v1311 : BitVec 32) : Fin 2 → Nat :=
  let v1319 : Index := Scalar.indexCast v1311
  let c0_689 : Index := 0#32
  ![v1319.toNat, 0]

def k0_chk22 (v1311 : BitVec 32) : Prop :=
  (8 ∣ (k0_mult22 v1311).toNat) ∧
  (∀ a, (k0_off43 v1311) a + S8x128.size a ≤ S2048x128.size a) ∧
  (∀ a, (k0_off44 v1311) a + S1x128.size a ≤ S256x128.size a)
theorem k0_mult22_dvd : ∀ (v1311 : BitVec 32) (k0_hw22 : k0_chk22 v1311), 8 ∣ (k0_mult22 v1311).toNat := fun v1311 k0_hw22 => k0_hw22.1
theorem k0_off43_inb : ∀ (v1311 : BitVec 32) (k0_hw22 : k0_chk22 v1311), ∀ a, (k0_off43 v1311) a + S8x128.size a ≤ S2048x128.size a := fun v1311 k0_hw22 => k0_hw22.2.1
theorem k0_off44_inb : ∀ (v1311 : BitVec 32) (k0_hw22 : k0_chk22 v1311), ∀ a, (k0_off44 v1311) a + S1x128.size a ≤ S256x128.size a := fun v1311 k0_hw22 => k0_hw22.2.2

def k0_mult23 (v1324 : BitVec 32) : BitVec 32 :=
  let c8_i32_693 : BitVec 32 := 8#32
  let v1325 : BitVec 32 := Scalar.muli v1324 c8_i32_693
  v1325

def k0_off45 (v1324 : BitVec 32) : Fin 2 → Nat :=
  let c8_i32_693 : BitVec 32 := 8#32
  let v1325 : BitVec 32 := Scalar.muli v1324 c8_i32_693
  let v1326 : BitVec 32 := v1325
  let v1327 : Index := Scalar.indexCast v1326
  let c0_694 : Index := 0#32
  ![v1327.toNat, 0]
def k0_off46 (v1324 : BitVec 32) : Fin 2 → Nat :=
  let v1332 : Index := Scalar.indexCast v1324
  let c0_696 : Index := 0#32
  ![v1332.toNat, 0]

def k0_chk23 (v1324 : BitVec 32) : Prop :=
  (8 ∣ (k0_mult23 v1324).toNat) ∧
  (∀ a, (k0_off45 v1324) a + S8x128.size a ≤ S2048x128.size a) ∧
  (∀ a, (k0_off46 v1324) a + S1x128.size a ≤ S256x128.size a)
theorem k0_mult23_dvd : ∀ (v1324 : BitVec 32) (k0_hw23 : k0_chk23 v1324), 8 ∣ (k0_mult23 v1324).toNat := fun v1324 k0_hw23 => k0_hw23.1
theorem k0_off45_inb : ∀ (v1324 : BitVec 32) (k0_hw23 : k0_chk23 v1324), ∀ a, (k0_off45 v1324) a + S8x128.size a ≤ S2048x128.size a := fun v1324 k0_hw23 => k0_hw23.2.1
theorem k0_off46_inb : ∀ (v1324 : BitVec 32) (k0_hw23 : k0_chk23 v1324), ∀ a, (k0_off46 v1324) a + S1x128.size a ≤ S256x128.size a := fun v1324 k0_hw23 => k0_hw23.2.2

def k0_mult24 (v1337 : BitVec 32) : BitVec 32 :=
  let c8_i32_700 : BitVec 32 := 8#32
  let v1338 : BitVec 32 := Scalar.muli v1337 c8_i32_700
  v1338

def k0_off47 (v1337 : BitVec 32) : Fin 2 → Nat :=
  let c8_i32_700 : BitVec 32 := 8#32
  let v1338 : BitVec 32 := Scalar.muli v1337 c8_i32_700
  let v1339 : BitVec 32 := v1338
  let v1340 : Index := Scalar.indexCast v1339
  let c0_701 : Index := 0#32
  ![v1340.toNat, 0]
def k0_off48 (v1337 : BitVec 32) : Fin 2 → Nat :=
  let v1345 : Index := Scalar.indexCast v1337
  let c0_703 : Index := 0#32
  ![v1345.toNat, 0]

def k0_chk24 (v1337 : BitVec 32) : Prop :=
  (8 ∣ (k0_mult24 v1337).toNat) ∧
  (∀ a, (k0_off47 v1337) a + S8x128.size a ≤ S2048x128.size a) ∧
  (∀ a, (k0_off48 v1337) a + S1x128.size a ≤ S256x128.size a)
theorem k0_mult24_dvd : ∀ (v1337 : BitVec 32) (k0_hw24 : k0_chk24 v1337), 8 ∣ (k0_mult24 v1337).toNat := fun v1337 k0_hw24 => k0_hw24.1
theorem k0_off47_inb : ∀ (v1337 : BitVec 32) (k0_hw24 : k0_chk24 v1337), ∀ a, (k0_off47 v1337) a + S8x128.size a ≤ S2048x128.size a := fun v1337 k0_hw24 => k0_hw24.2.1
theorem k0_off48_inb : ∀ (v1337 : BitVec 32) (k0_hw24 : k0_chk24 v1337), ∀ a, (k0_off48 v1337) a + S1x128.size a ≤ S256x128.size a := fun v1337 k0_hw24 => k0_hw24.2.2

def k0_mult25 (v1350 : BitVec 32) : BitVec 32 :=
  let c8_i32_708 : BitVec 32 := 8#32
  let v1351 : BitVec 32 := Scalar.muli v1350 c8_i32_708
  v1351

def k0_off49 (v1350 : BitVec 32) : Fin 2 → Nat :=
  let c8_i32_708 : BitVec 32 := 8#32
  let v1351 : BitVec 32 := Scalar.muli v1350 c8_i32_708
  let v1352 : BitVec 32 := v1351
  let v1353 : Index := Scalar.indexCast v1352
  let c0_709 : Index := 0#32
  ![v1353.toNat, 0]
def k0_off50 (v1350 : BitVec 32) : Fin 2 → Nat :=
  let v1358 : Index := Scalar.indexCast v1350
  let c0_712 : Index := 0#32
  ![v1358.toNat, 0]

def k0_chk25 (v1350 : BitVec 32) : Prop :=
  (8 ∣ (k0_mult25 v1350).toNat) ∧
  (∀ a, (k0_off49 v1350) a + S8x128.size a ≤ S2048x128.size a) ∧
  (∀ a, (k0_off50 v1350) a + S1x128.size a ≤ S256x128.size a)
theorem k0_mult25_dvd : ∀ (v1350 : BitVec 32) (k0_hw25 : k0_chk25 v1350), 8 ∣ (k0_mult25 v1350).toNat := fun v1350 k0_hw25 => k0_hw25.1
theorem k0_off49_inb : ∀ (v1350 : BitVec 32) (k0_hw25 : k0_chk25 v1350), ∀ a, (k0_off49 v1350) a + S8x128.size a ≤ S2048x128.size a := fun v1350 k0_hw25 => k0_hw25.2.1
theorem k0_off50_inb : ∀ (v1350 : BitVec 32) (k0_hw25 : k0_chk25 v1350), ∀ a, (k0_off50 v1350) a + S1x128.size a ≤ S256x128.size a := fun v1350 k0_hw25 => k0_hw25.2.2

@[reducible] def k0_t1_loop : Scf.Loop 32 :=
  let c0_i32_787 : BitVec 32 := 0#32
  let c39_i32 : BitVec 32 := 39#32
  let v1465 : BitVec 32 := Scalar.addi c0_i32_787 c39_i32
  let c1_i32_788 : BitVec 32 := 1#32
  ⟨c0_i32_787, v1465, c1_i32_788⟩
def k0_cond1 (k0_t1 : Fin k0_t1_loop.trips) : BitVec 1 :=
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1187 : BitVec 32 := 1#32
  let v1969 : BitVec 32 := Scalar.subi v1965 c1_i32_1187
  let c8_i32_1188 : BitVec 32 := 8#32
  let v1970 : BitVec 32 := Scalar.addi v1969 c8_i32_1188
  let c40_i32 : BitVec 32 := 40#32
  let v1971 : BitVec 1 := Scalar.cmpi .slt v1970 c40_i32
  let v1972 : BitVec 32 := Scalar.extui v1971
  let c0_i32_1189 : BitVec 32 := 0#32
  let v1973 : BitVec 1 := Scalar.cmpi .ne v1972 c0_i32_1189
  v1973

def k0_off51 (k0_t1 : Fin k0_t1_loop.trips) : Fin 2 → Nat :=
  let c0_i32_1639 : BitVec 32 := 0#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1185 : BitVec 32 := 1#32
  let v1967 : BitVec 32 := Scalar.subi v1965 c1_i32_1185
  let c8_i32_1186 : BitVec 32 := 8#32
  let v1968 : BitVec 32 := Scalar.remsi v1967 c8_i32_1186
  ![0, v1968.toNat]
def k0_off52 (k0_t1 : Fin k0_t1_loop.trips) : Fin 3 → Nat :=
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1185 : BitVec 32 := 1#32
  let v1967 : BitVec 32 := Scalar.subi v1965 c1_i32_1185
  let c8_i32_1186 : BitVec 32 := 8#32
  let v1968 : BitVec 32 := Scalar.remsi v1967 c8_i32_1186
  let c0_i32_1640 : BitVec 32 := 0#32
  let c0_i32_1641 : BitVec 32 := 0#32
  ![v1968.toNat, 0, 0]
def k0_off53 (k0_t1 : Fin k0_t1_loop.trips) : Fin 3 → Nat :=
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1637 : BitVec 32 := 1#32
  let v2789 : BitVec 32 := Scalar.subi v1965 c1_i32_1637
  let c8_i32_1638 : BitVec 32 := 8#32
  let v2790 : BitVec 32 := Scalar.addi v2789 c8_i32_1638
  let c0_i32_1642 : BitVec 32 := 0#32
  let c0_i32_1643 : BitVec 32 := 0#32
  ![v2790.toNat, 0, 0]
def k0_off54 (k0_t1 : Fin k0_t1_loop.trips) : Fin 2 → Nat :=
  let c1_i32_1644 : BitVec 32 := 1#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1185 : BitVec 32 := 1#32
  let v1967 : BitVec 32 := Scalar.subi v1965 c1_i32_1185
  let c8_i32_1186 : BitVec 32 := 8#32
  let v1968 : BitVec 32 := Scalar.remsi v1967 c8_i32_1186
  ![1, v1968.toNat]
def k0_off55 (k0_t1 : Fin k0_t1_loop.trips) : Fin 2 → Nat :=
  let c0_1196 : Index := 0#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v1977 : Index := Scalar.indexCast v1965
  ![0, v1977.toNat]
def k0_mult26 (v1978 : BitVec 32) : BitVec 32 :=
  let c8_i32_1197 : BitVec 32 := 8#32
  let v1979 : BitVec 32 := Scalar.muli v1978 c8_i32_1197
  v1979

def k0_off56 (v1978 : BitVec 32) : Fin 2 → Nat :=
  let c8_i32_1197 : BitVec 32 := 8#32
  let v1979 : BitVec 32 := Scalar.muli v1978 c8_i32_1197
  let v1980 : BitVec 32 := v1979
  let v1981 : Index := Scalar.indexCast v1980
  let c0_1198 : Index := 0#32
  ![v1981.toNat, 0]
def k0_off57 (v1978 : BitVec 32) : Fin 2 → Nat :=
  let v1986 : Index := Scalar.indexCast v1978
  let c0_1201 : Index := 0#32
  ![v1986.toNat, 0]

def k0_chk26 (v1978 : BitVec 32) : Prop :=
  (8 ∣ (k0_mult26 v1978).toNat) ∧
  (∀ a, (k0_off56 v1978) a + S8x128.size a ≤ S2048x128.size a) ∧
  (∀ a, (k0_off57 v1978) a + S1x128.size a ≤ S256x128.size a)
theorem k0_mult26_dvd : ∀ (v1978 : BitVec 32) (k0_hw26 : k0_chk26 v1978), 8 ∣ (k0_mult26 v1978).toNat := fun v1978 k0_hw26 => k0_hw26.1
theorem k0_off56_inb : ∀ (v1978 : BitVec 32) (k0_hw26 : k0_chk26 v1978), ∀ a, (k0_off56 v1978) a + S8x128.size a ≤ S2048x128.size a := fun v1978 k0_hw26 => k0_hw26.2.1
theorem k0_off57_inb : ∀ (v1978 : BitVec 32) (k0_hw26 : k0_chk26 v1978), ∀ a, (k0_off57 v1978) a + S1x128.size a ≤ S256x128.size a := fun v1978 k0_hw26 => k0_hw26.2.2

def k0_off58 (k0_t1 : Fin k0_t1_loop.trips) : Fin 2 → Nat :=
  let c1_1204 : Index := 1#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v1991 : Index := Scalar.indexCast v1965
  ![1, v1991.toNat]
def k0_mult27 (v1992 : BitVec 32) : BitVec 32 :=
  let c8_i32_1205 : BitVec 32 := 8#32
  let v1993 : BitVec 32 := Scalar.muli v1992 c8_i32_1205
  v1993

def k0_off59 (v1992 : BitVec 32) : Fin 2 → Nat :=
  let c8_i32_1205 : BitVec 32 := 8#32
  let v1993 : BitVec 32 := Scalar.muli v1992 c8_i32_1205
  let v1994 : BitVec 32 := v1993
  let v1995 : Index := Scalar.indexCast v1994
  let c0_1206 : Index := 0#32
  ![v1995.toNat, 0]
def k0_off60 (v1992 : BitVec 32) : Fin 2 → Nat :=
  let v2000 : Index := Scalar.indexCast v1992
  let c0_1209 : Index := 0#32
  ![v2000.toNat, 0]

def k0_chk27 (v1992 : BitVec 32) : Prop :=
  (8 ∣ (k0_mult27 v1992).toNat) ∧
  (∀ a, (k0_off59 v1992) a + S8x128.size a ≤ S2048x128.size a) ∧
  (∀ a, (k0_off60 v1992) a + S1x128.size a ≤ S256x128.size a)
theorem k0_mult27_dvd : ∀ (v1992 : BitVec 32) (k0_hw27 : k0_chk27 v1992), 8 ∣ (k0_mult27 v1992).toNat := fun v1992 k0_hw27 => k0_hw27.1
theorem k0_off59_inb : ∀ (v1992 : BitVec 32) (k0_hw27 : k0_chk27 v1992), ∀ a, (k0_off59 v1992) a + S8x128.size a ≤ S2048x128.size a := fun v1992 k0_hw27 => k0_hw27.2.1
theorem k0_off60_inb : ∀ (v1992 : BitVec 32) (k0_hw27 : k0_chk27 v1992), ∀ a, (k0_off60 v1992) a + S1x128.size a ≤ S256x128.size a := fun v1992 k0_hw27 => k0_hw27.2.2

def k0_off61 (k0_t1 : Fin k0_t1_loop.trips) : Fin 2 → Nat :=
  let c2_1212 : Index := 2#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2005 : Index := Scalar.indexCast v1965
  ![2, v2005.toNat]
def k0_mult28 (v2006 : BitVec 32) : BitVec 32 :=
  let c8_i32_1213 : BitVec 32 := 8#32
  let v2007 : BitVec 32 := Scalar.muli v2006 c8_i32_1213
  v2007

def k0_off62 (v2006 : BitVec 32) : Fin 2 → Nat :=
  let c8_i32_1213 : BitVec 32 := 8#32
  let v2007 : BitVec 32 := Scalar.muli v2006 c8_i32_1213
  let v2008 : BitVec 32 := v2007
  let v2009 : Index := Scalar.indexCast v2008
  let c0_1214 : Index := 0#32
  ![v2009.toNat, 0]
def k0_off63 (v2006 : BitVec 32) : Fin 2 → Nat :=
  let v2014 : Index := Scalar.indexCast v2006
  let c0_1217 : Index := 0#32
  ![v2014.toNat, 0]

def k0_chk28 (v2006 : BitVec 32) : Prop :=
  (8 ∣ (k0_mult28 v2006).toNat) ∧
  (∀ a, (k0_off62 v2006) a + S8x128.size a ≤ S2048x128.size a) ∧
  (∀ a, (k0_off63 v2006) a + S1x128.size a ≤ S256x128.size a)
theorem k0_mult28_dvd : ∀ (v2006 : BitVec 32) (k0_hw28 : k0_chk28 v2006), 8 ∣ (k0_mult28 v2006).toNat := fun v2006 k0_hw28 => k0_hw28.1
theorem k0_off62_inb : ∀ (v2006 : BitVec 32) (k0_hw28 : k0_chk28 v2006), ∀ a, (k0_off62 v2006) a + S8x128.size a ≤ S2048x128.size a := fun v2006 k0_hw28 => k0_hw28.2.1
theorem k0_off63_inb : ∀ (v2006 : BitVec 32) (k0_hw28 : k0_chk28 v2006), ∀ a, (k0_off63 v2006) a + S1x128.size a ≤ S256x128.size a := fun v2006 k0_hw28 => k0_hw28.2.2

def k0_off64 (k0_t1 : Fin k0_t1_loop.trips) : Fin 2 → Nat :=
  let c3_1220 : Index := 3#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2019 : Index := Scalar.indexCast v1965
  ![3, v2019.toNat]
def k0_mult29 (v2020 : BitVec 32) : BitVec 32 :=
  let c8_i32_1221 : BitVec 32 := 8#32
  let v2021 : BitVec 32 := Scalar.muli v2020 c8_i32_1221
  v2021

def k0_off65 (v2020 : BitVec 32) : Fin 2 → Nat :=
  let c8_i32_1221 : BitVec 32 := 8#32
  let v2021 : BitVec 32 := Scalar.muli v2020 c8_i32_1221
  let v2022 : BitVec 32 := v2021
  let v2023 : Index := Scalar.indexCast v2022
  let c0_1222 : Index := 0#32
  ![v2023.toNat, 0]
def k0_off66 (v2020 : BitVec 32) : Fin 2 → Nat :=
  let v2028 : Index := Scalar.indexCast v2020
  let c0_1225 : Index := 0#32
  ![v2028.toNat, 0]

def k0_chk29 (v2020 : BitVec 32) : Prop :=
  (8 ∣ (k0_mult29 v2020).toNat) ∧
  (∀ a, (k0_off65 v2020) a + S8x128.size a ≤ S2048x128.size a) ∧
  (∀ a, (k0_off66 v2020) a + S1x128.size a ≤ S256x128.size a)
theorem k0_mult29_dvd : ∀ (v2020 : BitVec 32) (k0_hw29 : k0_chk29 v2020), 8 ∣ (k0_mult29 v2020).toNat := fun v2020 k0_hw29 => k0_hw29.1
theorem k0_off65_inb : ∀ (v2020 : BitVec 32) (k0_hw29 : k0_chk29 v2020), ∀ a, (k0_off65 v2020) a + S8x128.size a ≤ S2048x128.size a := fun v2020 k0_hw29 => k0_hw29.2.1
theorem k0_off66_inb : ∀ (v2020 : BitVec 32) (k0_hw29 : k0_chk29 v2020), ∀ a, (k0_off66 v2020) a + S1x128.size a ≤ S256x128.size a := fun v2020 k0_hw29 => k0_hw29.2.2

def k0_off67 (k0_t1 : Fin k0_t1_loop.trips) : Fin 2 → Nat :=
  let c4_1228 : Index := 4#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2033 : Index := Scalar.indexCast v1965
  ![4, v2033.toNat]
def k0_mult30 (v2034 : BitVec 32) : BitVec 32 :=
  let c8_i32_1229 : BitVec 32 := 8#32
  let v2035 : BitVec 32 := Scalar.muli v2034 c8_i32_1229
  v2035

def k0_off68 (v2034 : BitVec 32) : Fin 2 → Nat :=
  let c8_i32_1229 : BitVec 32 := 8#32
  let v2035 : BitVec 32 := Scalar.muli v2034 c8_i32_1229
  let v2036 : BitVec 32 := v2035
  let v2037 : Index := Scalar.indexCast v2036
  let c0_1230 : Index := 0#32
  ![v2037.toNat, 0]
def k0_off69 (v2034 : BitVec 32) : Fin 2 → Nat :=
  let v2042 : Index := Scalar.indexCast v2034
  let c0_1233 : Index := 0#32
  ![v2042.toNat, 0]

def k0_chk30 (v2034 : BitVec 32) : Prop :=
  (8 ∣ (k0_mult30 v2034).toNat) ∧
  (∀ a, (k0_off68 v2034) a + S8x128.size a ≤ S2048x128.size a) ∧
  (∀ a, (k0_off69 v2034) a + S1x128.size a ≤ S256x128.size a)
theorem k0_mult30_dvd : ∀ (v2034 : BitVec 32) (k0_hw30 : k0_chk30 v2034), 8 ∣ (k0_mult30 v2034).toNat := fun v2034 k0_hw30 => k0_hw30.1
theorem k0_off68_inb : ∀ (v2034 : BitVec 32) (k0_hw30 : k0_chk30 v2034), ∀ a, (k0_off68 v2034) a + S8x128.size a ≤ S2048x128.size a := fun v2034 k0_hw30 => k0_hw30.2.1
theorem k0_off69_inb : ∀ (v2034 : BitVec 32) (k0_hw30 : k0_chk30 v2034), ∀ a, (k0_off69 v2034) a + S1x128.size a ≤ S256x128.size a := fun v2034 k0_hw30 => k0_hw30.2.2

def k0_off70 (k0_t1 : Fin k0_t1_loop.trips) : Fin 2 → Nat :=
  let c5_1236 : Index := 5#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2047 : Index := Scalar.indexCast v1965
  ![5, v2047.toNat]
def k0_mult31 (v2048 : BitVec 32) : BitVec 32 :=
  let c8_i32_1237 : BitVec 32 := 8#32
  let v2049 : BitVec 32 := Scalar.muli v2048 c8_i32_1237
  v2049

def k0_off71 (v2048 : BitVec 32) : Fin 2 → Nat :=
  let c8_i32_1237 : BitVec 32 := 8#32
  let v2049 : BitVec 32 := Scalar.muli v2048 c8_i32_1237
  let v2050 : BitVec 32 := v2049
  let v2051 : Index := Scalar.indexCast v2050
  let c0_1238 : Index := 0#32
  ![v2051.toNat, 0]
def k0_off72 (v2048 : BitVec 32) : Fin 2 → Nat :=
  let v2056 : Index := Scalar.indexCast v2048
  let c0_1241 : Index := 0#32
  ![v2056.toNat, 0]

def k0_chk31 (v2048 : BitVec 32) : Prop :=
  (8 ∣ (k0_mult31 v2048).toNat) ∧
  (∀ a, (k0_off71 v2048) a + S8x128.size a ≤ S2048x128.size a) ∧
  (∀ a, (k0_off72 v2048) a + S1x128.size a ≤ S256x128.size a)
theorem k0_mult31_dvd : ∀ (v2048 : BitVec 32) (k0_hw31 : k0_chk31 v2048), 8 ∣ (k0_mult31 v2048).toNat := fun v2048 k0_hw31 => k0_hw31.1
theorem k0_off71_inb : ∀ (v2048 : BitVec 32) (k0_hw31 : k0_chk31 v2048), ∀ a, (k0_off71 v2048) a + S8x128.size a ≤ S2048x128.size a := fun v2048 k0_hw31 => k0_hw31.2.1
theorem k0_off72_inb : ∀ (v2048 : BitVec 32) (k0_hw31 : k0_chk31 v2048), ∀ a, (k0_off72 v2048) a + S1x128.size a ≤ S256x128.size a := fun v2048 k0_hw31 => k0_hw31.2.2

def k0_off73 (k0_t1 : Fin k0_t1_loop.trips) : Fin 2 → Nat :=
  let c6_1244 : Index := 6#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2061 : Index := Scalar.indexCast v1965
  ![6, v2061.toNat]
def k0_mult32 (v2062 : BitVec 32) : BitVec 32 :=
  let c8_i32_1245 : BitVec 32 := 8#32
  let v2063 : BitVec 32 := Scalar.muli v2062 c8_i32_1245
  v2063

def k0_off74 (v2062 : BitVec 32) : Fin 2 → Nat :=
  let c8_i32_1245 : BitVec 32 := 8#32
  let v2063 : BitVec 32 := Scalar.muli v2062 c8_i32_1245
  let v2064 : BitVec 32 := v2063
  let v2065 : Index := Scalar.indexCast v2064
  let c0_1246 : Index := 0#32
  ![v2065.toNat, 0]
def k0_off75 (v2062 : BitVec 32) : Fin 2 → Nat :=
  let v2070 : Index := Scalar.indexCast v2062
  let c0_1249 : Index := 0#32
  ![v2070.toNat, 0]

def k0_chk32 (v2062 : BitVec 32) : Prop :=
  (8 ∣ (k0_mult32 v2062).toNat) ∧
  (∀ a, (k0_off74 v2062) a + S8x128.size a ≤ S2048x128.size a) ∧
  (∀ a, (k0_off75 v2062) a + S1x128.size a ≤ S256x128.size a)
theorem k0_mult32_dvd : ∀ (v2062 : BitVec 32) (k0_hw32 : k0_chk32 v2062), 8 ∣ (k0_mult32 v2062).toNat := fun v2062 k0_hw32 => k0_hw32.1
theorem k0_off74_inb : ∀ (v2062 : BitVec 32) (k0_hw32 : k0_chk32 v2062), ∀ a, (k0_off74 v2062) a + S8x128.size a ≤ S2048x128.size a := fun v2062 k0_hw32 => k0_hw32.2.1
theorem k0_off75_inb : ∀ (v2062 : BitVec 32) (k0_hw32 : k0_chk32 v2062), ∀ a, (k0_off75 v2062) a + S1x128.size a ≤ S256x128.size a := fun v2062 k0_hw32 => k0_hw32.2.2

def k0_off76 (k0_t1 : Fin k0_t1_loop.trips) : Fin 2 → Nat :=
  let c7_1252 : Index := 7#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2075 : Index := Scalar.indexCast v1965
  ![7, v2075.toNat]
def k0_mult33 (v2076 : BitVec 32) : BitVec 32 :=
  let c8_i32_1253 : BitVec 32 := 8#32
  let v2077 : BitVec 32 := Scalar.muli v2076 c8_i32_1253
  v2077

def k0_off77 (v2076 : BitVec 32) : Fin 2 → Nat :=
  let c8_i32_1253 : BitVec 32 := 8#32
  let v2077 : BitVec 32 := Scalar.muli v2076 c8_i32_1253
  let v2078 : BitVec 32 := v2077
  let v2079 : Index := Scalar.indexCast v2078
  let c0_1254 : Index := 0#32
  ![v2079.toNat, 0]
def k0_off78 (v2076 : BitVec 32) : Fin 2 → Nat :=
  let v2084 : Index := Scalar.indexCast v2076
  let c0_1257 : Index := 0#32
  ![v2084.toNat, 0]

def k0_chk33 (v2076 : BitVec 32) : Prop :=
  (8 ∣ (k0_mult33 v2076).toNat) ∧
  (∀ a, (k0_off77 v2076) a + S8x128.size a ≤ S2048x128.size a) ∧
  (∀ a, (k0_off78 v2076) a + S1x128.size a ≤ S256x128.size a)
theorem k0_mult33_dvd : ∀ (v2076 : BitVec 32) (k0_hw33 : k0_chk33 v2076), 8 ∣ (k0_mult33 v2076).toNat := fun v2076 k0_hw33 => k0_hw33.1
theorem k0_off77_inb : ∀ (v2076 : BitVec 32) (k0_hw33 : k0_chk33 v2076), ∀ a, (k0_off77 v2076) a + S8x128.size a ≤ S2048x128.size a := fun v2076 k0_hw33 => k0_hw33.2.1
theorem k0_off78_inb : ∀ (v2076 : BitVec 32) (k0_hw33 : k0_chk33 v2076), ∀ a, (k0_off78 v2076) a + S1x128.size a ≤ S256x128.size a := fun v2076 k0_hw33 => k0_hw33.2.2

def k0_off79 (k0_t1 : Fin k0_t1_loop.trips) : Fin 2 → Nat :=
  let c8_1260 : Index := 8#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2089 : Index := Scalar.indexCast v1965
  ![8, v2089.toNat]
def k0_mult34 (v2090 : BitVec 32) : BitVec 32 :=
  let c8_i32_1261 : BitVec 32 := 8#32
  let v2091 : BitVec 32 := Scalar.muli v2090 c8_i32_1261
  v2091

def k0_off80 (v2090 : BitVec 32) : Fin 2 → Nat :=
  let c8_i32_1261 : BitVec 32 := 8#32
  let v2091 : BitVec 32 := Scalar.muli v2090 c8_i32_1261
  let v2092 : BitVec 32 := v2091
  let v2093 : Index := Scalar.indexCast v2092
  let c0_1262 : Index := 0#32
  ![v2093.toNat, 0]
def k0_off81 (v2090 : BitVec 32) : Fin 2 → Nat :=
  let v2098 : Index := Scalar.indexCast v2090
  let c0_1265 : Index := 0#32
  ![v2098.toNat, 0]

def k0_chk34 (v2090 : BitVec 32) : Prop :=
  (8 ∣ (k0_mult34 v2090).toNat) ∧
  (∀ a, (k0_off80 v2090) a + S8x128.size a ≤ S2048x128.size a) ∧
  (∀ a, (k0_off81 v2090) a + S1x128.size a ≤ S256x128.size a)
theorem k0_mult34_dvd : ∀ (v2090 : BitVec 32) (k0_hw34 : k0_chk34 v2090), 8 ∣ (k0_mult34 v2090).toNat := fun v2090 k0_hw34 => k0_hw34.1
theorem k0_off80_inb : ∀ (v2090 : BitVec 32) (k0_hw34 : k0_chk34 v2090), ∀ a, (k0_off80 v2090) a + S8x128.size a ≤ S2048x128.size a := fun v2090 k0_hw34 => k0_hw34.2.1
theorem k0_off81_inb : ∀ (v2090 : BitVec 32) (k0_hw34 : k0_chk34 v2090), ∀ a, (k0_off81 v2090) a + S1x128.size a ≤ S256x128.size a := fun v2090 k0_hw34 => k0_hw34.2.2

def k0_off82 (k0_t1 : Fin k0_t1_loop.trips) : Fin 2 → Nat :=
  let c9_1268 : Index := 9#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2103 : Index := Scalar.indexCast v1965
  ![9, v2103.toNat]
def k0_mult35 (v2104 : BitVec 32) : BitVec 32 :=
  let c8_i32_1269 : BitVec 32 := 8#32
  let v2105 : BitVec 32 := Scalar.muli v2104 c8_i32_1269
  v2105

def k0_off83 (v2104 : BitVec 32) : Fin 2 → Nat :=
  let c8_i32_1269 : BitVec 32 := 8#32
  let v2105 : BitVec 32 := Scalar.muli v2104 c8_i32_1269
  let v2106 : BitVec 32 := v2105
  let v2107 : Index := Scalar.indexCast v2106
  let c0_1270 : Index := 0#32
  ![v2107.toNat, 0]
def k0_off84 (v2104 : BitVec 32) : Fin 2 → Nat :=
  let v2112 : Index := Scalar.indexCast v2104
  let c0_1273 : Index := 0#32
  ![v2112.toNat, 0]

def k0_chk35 (v2104 : BitVec 32) : Prop :=
  (8 ∣ (k0_mult35 v2104).toNat) ∧
  (∀ a, (k0_off83 v2104) a + S8x128.size a ≤ S2048x128.size a) ∧
  (∀ a, (k0_off84 v2104) a + S1x128.size a ≤ S256x128.size a)
theorem k0_mult35_dvd : ∀ (v2104 : BitVec 32) (k0_hw35 : k0_chk35 v2104), 8 ∣ (k0_mult35 v2104).toNat := fun v2104 k0_hw35 => k0_hw35.1
theorem k0_off83_inb : ∀ (v2104 : BitVec 32) (k0_hw35 : k0_chk35 v2104), ∀ a, (k0_off83 v2104) a + S8x128.size a ≤ S2048x128.size a := fun v2104 k0_hw35 => k0_hw35.2.1
theorem k0_off84_inb : ∀ (v2104 : BitVec 32) (k0_hw35 : k0_chk35 v2104), ∀ a, (k0_off84 v2104) a + S1x128.size a ≤ S256x128.size a := fun v2104 k0_hw35 => k0_hw35.2.2

def k0_off85 (k0_t1 : Fin k0_t1_loop.trips) : Fin 2 → Nat :=
  let c10_1276 : Index := 10#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2117 : Index := Scalar.indexCast v1965
  ![10, v2117.toNat]
def k0_mult36 (v2118 : BitVec 32) : BitVec 32 :=
  let c8_i32_1277 : BitVec 32 := 8#32
  let v2119 : BitVec 32 := Scalar.muli v2118 c8_i32_1277
  v2119

def k0_off86 (v2118 : BitVec 32) : Fin 2 → Nat :=
  let c8_i32_1277 : BitVec 32 := 8#32
  let v2119 : BitVec 32 := Scalar.muli v2118 c8_i32_1277
  let v2120 : BitVec 32 := v2119
  let v2121 : Index := Scalar.indexCast v2120
  let c0_1278 : Index := 0#32
  ![v2121.toNat, 0]
def k0_off87 (v2118 : BitVec 32) : Fin 2 → Nat :=
  let v2126 : Index := Scalar.indexCast v2118
  let c0_1281 : Index := 0#32
  ![v2126.toNat, 0]

def k0_chk36 (v2118 : BitVec 32) : Prop :=
  (8 ∣ (k0_mult36 v2118).toNat) ∧
  (∀ a, (k0_off86 v2118) a + S8x128.size a ≤ S2048x128.size a) ∧
  (∀ a, (k0_off87 v2118) a + S1x128.size a ≤ S256x128.size a)
theorem k0_mult36_dvd : ∀ (v2118 : BitVec 32) (k0_hw36 : k0_chk36 v2118), 8 ∣ (k0_mult36 v2118).toNat := fun v2118 k0_hw36 => k0_hw36.1
theorem k0_off86_inb : ∀ (v2118 : BitVec 32) (k0_hw36 : k0_chk36 v2118), ∀ a, (k0_off86 v2118) a + S8x128.size a ≤ S2048x128.size a := fun v2118 k0_hw36 => k0_hw36.2.1
theorem k0_off87_inb : ∀ (v2118 : BitVec 32) (k0_hw36 : k0_chk36 v2118), ∀ a, (k0_off87 v2118) a + S1x128.size a ≤ S256x128.size a := fun v2118 k0_hw36 => k0_hw36.2.2

def k0_off88 (k0_t1 : Fin k0_t1_loop.trips) : Fin 2 → Nat :=
  let c11_1284 : Index := 11#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2131 : Index := Scalar.indexCast v1965
  ![11, v2131.toNat]
def k0_mult37 (v2132 : BitVec 32) : BitVec 32 :=
  let c8_i32_1285 : BitVec 32 := 8#32
  let v2133 : BitVec 32 := Scalar.muli v2132 c8_i32_1285
  v2133

def k0_off89 (v2132 : BitVec 32) : Fin 2 → Nat :=
  let c8_i32_1285 : BitVec 32 := 8#32
  let v2133 : BitVec 32 := Scalar.muli v2132 c8_i32_1285
  let v2134 : BitVec 32 := v2133
  let v2135 : Index := Scalar.indexCast v2134
  let c0_1286 : Index := 0#32
  ![v2135.toNat, 0]
def k0_off90 (v2132 : BitVec 32) : Fin 2 → Nat :=
  let v2140 : Index := Scalar.indexCast v2132
  let c0_1289 : Index := 0#32
  ![v2140.toNat, 0]

def k0_chk37 (v2132 : BitVec 32) : Prop :=
  (8 ∣ (k0_mult37 v2132).toNat) ∧
  (∀ a, (k0_off89 v2132) a + S8x128.size a ≤ S2048x128.size a) ∧
  (∀ a, (k0_off90 v2132) a + S1x128.size a ≤ S256x128.size a)
theorem k0_mult37_dvd : ∀ (v2132 : BitVec 32) (k0_hw37 : k0_chk37 v2132), 8 ∣ (k0_mult37 v2132).toNat := fun v2132 k0_hw37 => k0_hw37.1
theorem k0_off89_inb : ∀ (v2132 : BitVec 32) (k0_hw37 : k0_chk37 v2132), ∀ a, (k0_off89 v2132) a + S8x128.size a ≤ S2048x128.size a := fun v2132 k0_hw37 => k0_hw37.2.1
theorem k0_off90_inb : ∀ (v2132 : BitVec 32) (k0_hw37 : k0_chk37 v2132), ∀ a, (k0_off90 v2132) a + S1x128.size a ≤ S256x128.size a := fun v2132 k0_hw37 => k0_hw37.2.2

def k0_off91 (k0_t1 : Fin k0_t1_loop.trips) : Fin 2 → Nat :=
  let c12_1292 : Index := 12#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2145 : Index := Scalar.indexCast v1965
  ![12, v2145.toNat]
def k0_mult38 (v2146 : BitVec 32) : BitVec 32 :=
  let c8_i32_1293 : BitVec 32 := 8#32
  let v2147 : BitVec 32 := Scalar.muli v2146 c8_i32_1293
  v2147

def k0_off92 (v2146 : BitVec 32) : Fin 2 → Nat :=
  let c8_i32_1293 : BitVec 32 := 8#32
  let v2147 : BitVec 32 := Scalar.muli v2146 c8_i32_1293
  let v2148 : BitVec 32 := v2147
  let v2149 : Index := Scalar.indexCast v2148
  let c0_1294 : Index := 0#32
  ![v2149.toNat, 0]
def k0_off93 (v2146 : BitVec 32) : Fin 2 → Nat :=
  let v2154 : Index := Scalar.indexCast v2146
  let c0_1297 : Index := 0#32
  ![v2154.toNat, 0]

def k0_chk38 (v2146 : BitVec 32) : Prop :=
  (8 ∣ (k0_mult38 v2146).toNat) ∧
  (∀ a, (k0_off92 v2146) a + S8x128.size a ≤ S2048x128.size a) ∧
  (∀ a, (k0_off93 v2146) a + S1x128.size a ≤ S256x128.size a)
theorem k0_mult38_dvd : ∀ (v2146 : BitVec 32) (k0_hw38 : k0_chk38 v2146), 8 ∣ (k0_mult38 v2146).toNat := fun v2146 k0_hw38 => k0_hw38.1
theorem k0_off92_inb : ∀ (v2146 : BitVec 32) (k0_hw38 : k0_chk38 v2146), ∀ a, (k0_off92 v2146) a + S8x128.size a ≤ S2048x128.size a := fun v2146 k0_hw38 => k0_hw38.2.1
theorem k0_off93_inb : ∀ (v2146 : BitVec 32) (k0_hw38 : k0_chk38 v2146), ∀ a, (k0_off93 v2146) a + S1x128.size a ≤ S256x128.size a := fun v2146 k0_hw38 => k0_hw38.2.2

def k0_off94 (k0_t1 : Fin k0_t1_loop.trips) : Fin 2 → Nat :=
  let c13_1300 : Index := 13#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2159 : Index := Scalar.indexCast v1965
  ![13, v2159.toNat]
def k0_mult39 (v2160 : BitVec 32) : BitVec 32 :=
  let c8_i32_1301 : BitVec 32 := 8#32
  let v2161 : BitVec 32 := Scalar.muli v2160 c8_i32_1301
  v2161

def k0_off95 (v2160 : BitVec 32) : Fin 2 → Nat :=
  let c8_i32_1301 : BitVec 32 := 8#32
  let v2161 : BitVec 32 := Scalar.muli v2160 c8_i32_1301
  let v2162 : BitVec 32 := v2161
  let v2163 : Index := Scalar.indexCast v2162
  let c0_1302 : Index := 0#32
  ![v2163.toNat, 0]
def k0_off96 (v2160 : BitVec 32) : Fin 2 → Nat :=
  let v2168 : Index := Scalar.indexCast v2160
  let c0_1305 : Index := 0#32
  ![v2168.toNat, 0]

def k0_chk39 (v2160 : BitVec 32) : Prop :=
  (8 ∣ (k0_mult39 v2160).toNat) ∧
  (∀ a, (k0_off95 v2160) a + S8x128.size a ≤ S2048x128.size a) ∧
  (∀ a, (k0_off96 v2160) a + S1x128.size a ≤ S256x128.size a)
theorem k0_mult39_dvd : ∀ (v2160 : BitVec 32) (k0_hw39 : k0_chk39 v2160), 8 ∣ (k0_mult39 v2160).toNat := fun v2160 k0_hw39 => k0_hw39.1
theorem k0_off95_inb : ∀ (v2160 : BitVec 32) (k0_hw39 : k0_chk39 v2160), ∀ a, (k0_off95 v2160) a + S8x128.size a ≤ S2048x128.size a := fun v2160 k0_hw39 => k0_hw39.2.1
theorem k0_off96_inb : ∀ (v2160 : BitVec 32) (k0_hw39 : k0_chk39 v2160), ∀ a, (k0_off96 v2160) a + S1x128.size a ≤ S256x128.size a := fun v2160 k0_hw39 => k0_hw39.2.2

def k0_off97 (k0_t1 : Fin k0_t1_loop.trips) : Fin 2 → Nat :=
  let c14_1308 : Index := 14#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2173 : Index := Scalar.indexCast v1965
  ![14, v2173.toNat]
def k0_mult40 (v2174 : BitVec 32) : BitVec 32 :=
  let c8_i32_1309 : BitVec 32 := 8#32
  let v2175 : BitVec 32 := Scalar.muli v2174 c8_i32_1309
  v2175

def k0_off98 (v2174 : BitVec 32) : Fin 2 → Nat :=
  let c8_i32_1309 : BitVec 32 := 8#32
  let v2175 : BitVec 32 := Scalar.muli v2174 c8_i32_1309
  let v2176 : BitVec 32 := v2175
  let v2177 : Index := Scalar.indexCast v2176
  let c0_1310 : Index := 0#32
  ![v2177.toNat, 0]
def k0_off99 (v2174 : BitVec 32) : Fin 2 → Nat :=
  let v2182 : Index := Scalar.indexCast v2174
  let c0_1313 : Index := 0#32
  ![v2182.toNat, 0]

def k0_chk40 (v2174 : BitVec 32) : Prop :=
  (8 ∣ (k0_mult40 v2174).toNat) ∧
  (∀ a, (k0_off98 v2174) a + S8x128.size a ≤ S2048x128.size a) ∧
  (∀ a, (k0_off99 v2174) a + S1x128.size a ≤ S256x128.size a)
theorem k0_mult40_dvd : ∀ (v2174 : BitVec 32) (k0_hw40 : k0_chk40 v2174), 8 ∣ (k0_mult40 v2174).toNat := fun v2174 k0_hw40 => k0_hw40.1
theorem k0_off98_inb : ∀ (v2174 : BitVec 32) (k0_hw40 : k0_chk40 v2174), ∀ a, (k0_off98 v2174) a + S8x128.size a ≤ S2048x128.size a := fun v2174 k0_hw40 => k0_hw40.2.1
theorem k0_off99_inb : ∀ (v2174 : BitVec 32) (k0_hw40 : k0_chk40 v2174), ∀ a, (k0_off99 v2174) a + S1x128.size a ≤ S256x128.size a := fun v2174 k0_hw40 => k0_hw40.2.2

def k0_off100 (k0_t1 : Fin k0_t1_loop.trips) : Fin 2 → Nat :=
  let c15_1316 : Index := 15#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2187 : Index := Scalar.indexCast v1965
  ![15, v2187.toNat]
def k0_mult41 (v2188 : BitVec 32) : BitVec 32 :=
  let c8_i32_1317 : BitVec 32 := 8#32
  let v2189 : BitVec 32 := Scalar.muli v2188 c8_i32_1317
  v2189

def k0_off101 (v2188 : BitVec 32) : Fin 2 → Nat :=
  let c8_i32_1317 : BitVec 32 := 8#32
  let v2189 : BitVec 32 := Scalar.muli v2188 c8_i32_1317
  let v2190 : BitVec 32 := v2189
  let v2191 : Index := Scalar.indexCast v2190
  let c0_1318 : Index := 0#32
  ![v2191.toNat, 0]
def k0_off102 (v2188 : BitVec 32) : Fin 2 → Nat :=
  let v2196 : Index := Scalar.indexCast v2188
  let c0_1321 : Index := 0#32
  ![v2196.toNat, 0]

def k0_chk41 (v2188 : BitVec 32) : Prop :=
  (8 ∣ (k0_mult41 v2188).toNat) ∧
  (∀ a, (k0_off101 v2188) a + S8x128.size a ≤ S2048x128.size a) ∧
  (∀ a, (k0_off102 v2188) a + S1x128.size a ≤ S256x128.size a)
theorem k0_mult41_dvd : ∀ (v2188 : BitVec 32) (k0_hw41 : k0_chk41 v2188), 8 ∣ (k0_mult41 v2188).toNat := fun v2188 k0_hw41 => k0_hw41.1
theorem k0_off101_inb : ∀ (v2188 : BitVec 32) (k0_hw41 : k0_chk41 v2188), ∀ a, (k0_off101 v2188) a + S8x128.size a ≤ S2048x128.size a := fun v2188 k0_hw41 => k0_hw41.2.1
theorem k0_off102_inb : ∀ (v2188 : BitVec 32) (k0_hw41 : k0_chk41 v2188), ∀ a, (k0_off102 v2188) a + S1x128.size a ≤ S256x128.size a := fun v2188 k0_hw41 => k0_hw41.2.2

def k0_off103 (k0_t1 : Fin k0_t1_loop.trips) : Fin 2 → Nat :=
  let c16_1324 : Index := 16#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2201 : Index := Scalar.indexCast v1965
  ![16, v2201.toNat]
def k0_mult42 (v2202 : BitVec 32) : BitVec 32 :=
  let c8_i32_1325 : BitVec 32 := 8#32
  let v2203 : BitVec 32 := Scalar.muli v2202 c8_i32_1325
  v2203

def k0_off104 (v2202 : BitVec 32) : Fin 2 → Nat :=
  let c8_i32_1325 : BitVec 32 := 8#32
  let v2203 : BitVec 32 := Scalar.muli v2202 c8_i32_1325
  let v2204 : BitVec 32 := v2203
  let v2205 : Index := Scalar.indexCast v2204
  let c0_1326 : Index := 0#32
  ![v2205.toNat, 0]
def k0_off105 (v2202 : BitVec 32) : Fin 2 → Nat :=
  let v2210 : Index := Scalar.indexCast v2202
  let c0_1329 : Index := 0#32
  ![v2210.toNat, 0]

def k0_chk42 (v2202 : BitVec 32) : Prop :=
  (8 ∣ (k0_mult42 v2202).toNat) ∧
  (∀ a, (k0_off104 v2202) a + S8x128.size a ≤ S2048x128.size a) ∧
  (∀ a, (k0_off105 v2202) a + S1x128.size a ≤ S256x128.size a)
theorem k0_mult42_dvd : ∀ (v2202 : BitVec 32) (k0_hw42 : k0_chk42 v2202), 8 ∣ (k0_mult42 v2202).toNat := fun v2202 k0_hw42 => k0_hw42.1
theorem k0_off104_inb : ∀ (v2202 : BitVec 32) (k0_hw42 : k0_chk42 v2202), ∀ a, (k0_off104 v2202) a + S8x128.size a ≤ S2048x128.size a := fun v2202 k0_hw42 => k0_hw42.2.1
theorem k0_off105_inb : ∀ (v2202 : BitVec 32) (k0_hw42 : k0_chk42 v2202), ∀ a, (k0_off105 v2202) a + S1x128.size a ≤ S256x128.size a := fun v2202 k0_hw42 => k0_hw42.2.2

def k0_off106 (k0_t1 : Fin k0_t1_loop.trips) : Fin 2 → Nat :=
  let c17_1332 : Index := 17#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2215 : Index := Scalar.indexCast v1965
  ![17, v2215.toNat]
def k0_mult43 (v2216 : BitVec 32) : BitVec 32 :=
  let c8_i32_1333 : BitVec 32 := 8#32
  let v2217 : BitVec 32 := Scalar.muli v2216 c8_i32_1333
  v2217

def k0_off107 (v2216 : BitVec 32) : Fin 2 → Nat :=
  let c8_i32_1333 : BitVec 32 := 8#32
  let v2217 : BitVec 32 := Scalar.muli v2216 c8_i32_1333
  let v2218 : BitVec 32 := v2217
  let v2219 : Index := Scalar.indexCast v2218
  let c0_1334 : Index := 0#32
  ![v2219.toNat, 0]
def k0_off108 (v2216 : BitVec 32) : Fin 2 → Nat :=
  let v2224 : Index := Scalar.indexCast v2216
  let c0_1337 : Index := 0#32
  ![v2224.toNat, 0]

def k0_chk43 (v2216 : BitVec 32) : Prop :=
  (8 ∣ (k0_mult43 v2216).toNat) ∧
  (∀ a, (k0_off107 v2216) a + S8x128.size a ≤ S2048x128.size a) ∧
  (∀ a, (k0_off108 v2216) a + S1x128.size a ≤ S256x128.size a)
theorem k0_mult43_dvd : ∀ (v2216 : BitVec 32) (k0_hw43 : k0_chk43 v2216), 8 ∣ (k0_mult43 v2216).toNat := fun v2216 k0_hw43 => k0_hw43.1
theorem k0_off107_inb : ∀ (v2216 : BitVec 32) (k0_hw43 : k0_chk43 v2216), ∀ a, (k0_off107 v2216) a + S8x128.size a ≤ S2048x128.size a := fun v2216 k0_hw43 => k0_hw43.2.1
theorem k0_off108_inb : ∀ (v2216 : BitVec 32) (k0_hw43 : k0_chk43 v2216), ∀ a, (k0_off108 v2216) a + S1x128.size a ≤ S256x128.size a := fun v2216 k0_hw43 => k0_hw43.2.2

def k0_off109 (k0_t1 : Fin k0_t1_loop.trips) : Fin 2 → Nat :=
  let c18_1340 : Index := 18#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2229 : Index := Scalar.indexCast v1965
  ![18, v2229.toNat]
def k0_mult44 (v2230 : BitVec 32) : BitVec 32 :=
  let c8_i32_1341 : BitVec 32 := 8#32
  let v2231 : BitVec 32 := Scalar.muli v2230 c8_i32_1341
  v2231

def k0_off110 (v2230 : BitVec 32) : Fin 2 → Nat :=
  let c8_i32_1341 : BitVec 32 := 8#32
  let v2231 : BitVec 32 := Scalar.muli v2230 c8_i32_1341
  let v2232 : BitVec 32 := v2231
  let v2233 : Index := Scalar.indexCast v2232
  let c0_1342 : Index := 0#32
  ![v2233.toNat, 0]
def k0_off111 (v2230 : BitVec 32) : Fin 2 → Nat :=
  let v2238 : Index := Scalar.indexCast v2230
  let c0_1345 : Index := 0#32
  ![v2238.toNat, 0]

def k0_chk44 (v2230 : BitVec 32) : Prop :=
  (8 ∣ (k0_mult44 v2230).toNat) ∧
  (∀ a, (k0_off110 v2230) a + S8x128.size a ≤ S2048x128.size a) ∧
  (∀ a, (k0_off111 v2230) a + S1x128.size a ≤ S256x128.size a)
theorem k0_mult44_dvd : ∀ (v2230 : BitVec 32) (k0_hw44 : k0_chk44 v2230), 8 ∣ (k0_mult44 v2230).toNat := fun v2230 k0_hw44 => k0_hw44.1
theorem k0_off110_inb : ∀ (v2230 : BitVec 32) (k0_hw44 : k0_chk44 v2230), ∀ a, (k0_off110 v2230) a + S8x128.size a ≤ S2048x128.size a := fun v2230 k0_hw44 => k0_hw44.2.1
theorem k0_off111_inb : ∀ (v2230 : BitVec 32) (k0_hw44 : k0_chk44 v2230), ∀ a, (k0_off111 v2230) a + S1x128.size a ≤ S256x128.size a := fun v2230 k0_hw44 => k0_hw44.2.2

def k0_off112 (k0_t1 : Fin k0_t1_loop.trips) : Fin 2 → Nat :=
  let c19_1348 : Index := 19#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2243 : Index := Scalar.indexCast v1965
  ![19, v2243.toNat]
def k0_mult45 (v2244 : BitVec 32) : BitVec 32 :=
  let c8_i32_1349 : BitVec 32 := 8#32
  let v2245 : BitVec 32 := Scalar.muli v2244 c8_i32_1349
  v2245

def k0_off113 (v2244 : BitVec 32) : Fin 2 → Nat :=
  let c8_i32_1349 : BitVec 32 := 8#32
  let v2245 : BitVec 32 := Scalar.muli v2244 c8_i32_1349
  let v2246 : BitVec 32 := v2245
  let v2247 : Index := Scalar.indexCast v2246
  let c0_1350 : Index := 0#32
  ![v2247.toNat, 0]
def k0_off114 (v2244 : BitVec 32) : Fin 2 → Nat :=
  let v2252 : Index := Scalar.indexCast v2244
  let c0_1353 : Index := 0#32
  ![v2252.toNat, 0]

def k0_chk45 (v2244 : BitVec 32) : Prop :=
  (8 ∣ (k0_mult45 v2244).toNat) ∧
  (∀ a, (k0_off113 v2244) a + S8x128.size a ≤ S2048x128.size a) ∧
  (∀ a, (k0_off114 v2244) a + S1x128.size a ≤ S256x128.size a)
theorem k0_mult45_dvd : ∀ (v2244 : BitVec 32) (k0_hw45 : k0_chk45 v2244), 8 ∣ (k0_mult45 v2244).toNat := fun v2244 k0_hw45 => k0_hw45.1
theorem k0_off113_inb : ∀ (v2244 : BitVec 32) (k0_hw45 : k0_chk45 v2244), ∀ a, (k0_off113 v2244) a + S8x128.size a ≤ S2048x128.size a := fun v2244 k0_hw45 => k0_hw45.2.1
theorem k0_off114_inb : ∀ (v2244 : BitVec 32) (k0_hw45 : k0_chk45 v2244), ∀ a, (k0_off114 v2244) a + S1x128.size a ≤ S256x128.size a := fun v2244 k0_hw45 => k0_hw45.2.2

def k0_off115 (k0_t1 : Fin k0_t1_loop.trips) : Fin 2 → Nat :=
  let c20_1356 : Index := 20#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2257 : Index := Scalar.indexCast v1965
  ![20, v2257.toNat]
def k0_mult46 (v2258 : BitVec 32) : BitVec 32 :=
  let c8_i32_1357 : BitVec 32 := 8#32
  let v2259 : BitVec 32 := Scalar.muli v2258 c8_i32_1357
  v2259

def k0_off116 (v2258 : BitVec 32) : Fin 2 → Nat :=
  let c8_i32_1357 : BitVec 32 := 8#32
  let v2259 : BitVec 32 := Scalar.muli v2258 c8_i32_1357
  let v2260 : BitVec 32 := v2259
  let v2261 : Index := Scalar.indexCast v2260
  let c0_1358 : Index := 0#32
  ![v2261.toNat, 0]
def k0_off117 (v2258 : BitVec 32) : Fin 2 → Nat :=
  let v2266 : Index := Scalar.indexCast v2258
  let c0_1361 : Index := 0#32
  ![v2266.toNat, 0]

def k0_chk46 (v2258 : BitVec 32) : Prop :=
  (8 ∣ (k0_mult46 v2258).toNat) ∧
  (∀ a, (k0_off116 v2258) a + S8x128.size a ≤ S2048x128.size a) ∧
  (∀ a, (k0_off117 v2258) a + S1x128.size a ≤ S256x128.size a)
theorem k0_mult46_dvd : ∀ (v2258 : BitVec 32) (k0_hw46 : k0_chk46 v2258), 8 ∣ (k0_mult46 v2258).toNat := fun v2258 k0_hw46 => k0_hw46.1
theorem k0_off116_inb : ∀ (v2258 : BitVec 32) (k0_hw46 : k0_chk46 v2258), ∀ a, (k0_off116 v2258) a + S8x128.size a ≤ S2048x128.size a := fun v2258 k0_hw46 => k0_hw46.2.1
theorem k0_off117_inb : ∀ (v2258 : BitVec 32) (k0_hw46 : k0_chk46 v2258), ∀ a, (k0_off117 v2258) a + S1x128.size a ≤ S256x128.size a := fun v2258 k0_hw46 => k0_hw46.2.2

def k0_off118 (k0_t1 : Fin k0_t1_loop.trips) : Fin 2 → Nat :=
  let c21_1364 : Index := 21#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2271 : Index := Scalar.indexCast v1965
  ![21, v2271.toNat]
def k0_mult47 (v2272 : BitVec 32) : BitVec 32 :=
  let c8_i32_1365 : BitVec 32 := 8#32
  let v2273 : BitVec 32 := Scalar.muli v2272 c8_i32_1365
  v2273

def k0_off119 (v2272 : BitVec 32) : Fin 2 → Nat :=
  let c8_i32_1365 : BitVec 32 := 8#32
  let v2273 : BitVec 32 := Scalar.muli v2272 c8_i32_1365
  let v2274 : BitVec 32 := v2273
  let v2275 : Index := Scalar.indexCast v2274
  let c0_1366 : Index := 0#32
  ![v2275.toNat, 0]
def k0_off120 (v2272 : BitVec 32) : Fin 2 → Nat :=
  let v2280 : Index := Scalar.indexCast v2272
  let c0_1369 : Index := 0#32
  ![v2280.toNat, 0]

def k0_chk47 (v2272 : BitVec 32) : Prop :=
  (8 ∣ (k0_mult47 v2272).toNat) ∧
  (∀ a, (k0_off119 v2272) a + S8x128.size a ≤ S2048x128.size a) ∧
  (∀ a, (k0_off120 v2272) a + S1x128.size a ≤ S256x128.size a)
theorem k0_mult47_dvd : ∀ (v2272 : BitVec 32) (k0_hw47 : k0_chk47 v2272), 8 ∣ (k0_mult47 v2272).toNat := fun v2272 k0_hw47 => k0_hw47.1
theorem k0_off119_inb : ∀ (v2272 : BitVec 32) (k0_hw47 : k0_chk47 v2272), ∀ a, (k0_off119 v2272) a + S8x128.size a ≤ S2048x128.size a := fun v2272 k0_hw47 => k0_hw47.2.1
theorem k0_off120_inb : ∀ (v2272 : BitVec 32) (k0_hw47 : k0_chk47 v2272), ∀ a, (k0_off120 v2272) a + S1x128.size a ≤ S256x128.size a := fun v2272 k0_hw47 => k0_hw47.2.2

def k0_off121 (k0_t1 : Fin k0_t1_loop.trips) : Fin 2 → Nat :=
  let c22_1372 : Index := 22#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2285 : Index := Scalar.indexCast v1965
  ![22, v2285.toNat]
def k0_mult48 (v2286 : BitVec 32) : BitVec 32 :=
  let c8_i32_1373 : BitVec 32 := 8#32
  let v2287 : BitVec 32 := Scalar.muli v2286 c8_i32_1373
  v2287

def k0_off122 (v2286 : BitVec 32) : Fin 2 → Nat :=
  let c8_i32_1373 : BitVec 32 := 8#32
  let v2287 : BitVec 32 := Scalar.muli v2286 c8_i32_1373
  let v2288 : BitVec 32 := v2287
  let v2289 : Index := Scalar.indexCast v2288
  let c0_1374 : Index := 0#32
  ![v2289.toNat, 0]
def k0_off123 (v2286 : BitVec 32) : Fin 2 → Nat :=
  let v2294 : Index := Scalar.indexCast v2286
  let c0_1377 : Index := 0#32
  ![v2294.toNat, 0]

def k0_chk48 (v2286 : BitVec 32) : Prop :=
  (8 ∣ (k0_mult48 v2286).toNat) ∧
  (∀ a, (k0_off122 v2286) a + S8x128.size a ≤ S2048x128.size a) ∧
  (∀ a, (k0_off123 v2286) a + S1x128.size a ≤ S256x128.size a)
theorem k0_mult48_dvd : ∀ (v2286 : BitVec 32) (k0_hw48 : k0_chk48 v2286), 8 ∣ (k0_mult48 v2286).toNat := fun v2286 k0_hw48 => k0_hw48.1
theorem k0_off122_inb : ∀ (v2286 : BitVec 32) (k0_hw48 : k0_chk48 v2286), ∀ a, (k0_off122 v2286) a + S8x128.size a ≤ S2048x128.size a := fun v2286 k0_hw48 => k0_hw48.2.1
theorem k0_off123_inb : ∀ (v2286 : BitVec 32) (k0_hw48 : k0_chk48 v2286), ∀ a, (k0_off123 v2286) a + S1x128.size a ≤ S256x128.size a := fun v2286 k0_hw48 => k0_hw48.2.2

def k0_off124 (k0_t1 : Fin k0_t1_loop.trips) : Fin 2 → Nat :=
  let c23_1380 : Index := 23#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2299 : Index := Scalar.indexCast v1965
  ![23, v2299.toNat]
def k0_mult49 (v2300 : BitVec 32) : BitVec 32 :=
  let c8_i32_1381 : BitVec 32 := 8#32
  let v2301 : BitVec 32 := Scalar.muli v2300 c8_i32_1381
  v2301

def k0_off125 (v2300 : BitVec 32) : Fin 2 → Nat :=
  let c8_i32_1381 : BitVec 32 := 8#32
  let v2301 : BitVec 32 := Scalar.muli v2300 c8_i32_1381
  let v2302 : BitVec 32 := v2301
  let v2303 : Index := Scalar.indexCast v2302
  let c0_1382 : Index := 0#32
  ![v2303.toNat, 0]
def k0_off126 (v2300 : BitVec 32) : Fin 2 → Nat :=
  let v2308 : Index := Scalar.indexCast v2300
  let c0_1385 : Index := 0#32
  ![v2308.toNat, 0]

def k0_chk49 (v2300 : BitVec 32) : Prop :=
  (8 ∣ (k0_mult49 v2300).toNat) ∧
  (∀ a, (k0_off125 v2300) a + S8x128.size a ≤ S2048x128.size a) ∧
  (∀ a, (k0_off126 v2300) a + S1x128.size a ≤ S256x128.size a)
theorem k0_mult49_dvd : ∀ (v2300 : BitVec 32) (k0_hw49 : k0_chk49 v2300), 8 ∣ (k0_mult49 v2300).toNat := fun v2300 k0_hw49 => k0_hw49.1
theorem k0_off125_inb : ∀ (v2300 : BitVec 32) (k0_hw49 : k0_chk49 v2300), ∀ a, (k0_off125 v2300) a + S8x128.size a ≤ S2048x128.size a := fun v2300 k0_hw49 => k0_hw49.2.1
theorem k0_off126_inb : ∀ (v2300 : BitVec 32) (k0_hw49 : k0_chk49 v2300), ∀ a, (k0_off126 v2300) a + S1x128.size a ≤ S256x128.size a := fun v2300 k0_hw49 => k0_hw49.2.2

def k0_off127 (k0_t1 : Fin k0_t1_loop.trips) : Fin 2 → Nat :=
  let c24_1388 : Index := 24#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2313 : Index := Scalar.indexCast v1965
  ![24, v2313.toNat]
def k0_mult50 (v2314 : BitVec 32) : BitVec 32 :=
  let c8_i32_1389 : BitVec 32 := 8#32
  let v2315 : BitVec 32 := Scalar.muli v2314 c8_i32_1389
  v2315

def k0_off128 (v2314 : BitVec 32) : Fin 2 → Nat :=
  let c8_i32_1389 : BitVec 32 := 8#32
  let v2315 : BitVec 32 := Scalar.muli v2314 c8_i32_1389
  let v2316 : BitVec 32 := v2315
  let v2317 : Index := Scalar.indexCast v2316
  let c0_1390 : Index := 0#32
  ![v2317.toNat, 0]
def k0_off129 (v2314 : BitVec 32) : Fin 2 → Nat :=
  let v2322 : Index := Scalar.indexCast v2314
  let c0_1393 : Index := 0#32
  ![v2322.toNat, 0]

def k0_chk50 (v2314 : BitVec 32) : Prop :=
  (8 ∣ (k0_mult50 v2314).toNat) ∧
  (∀ a, (k0_off128 v2314) a + S8x128.size a ≤ S2048x128.size a) ∧
  (∀ a, (k0_off129 v2314) a + S1x128.size a ≤ S256x128.size a)
theorem k0_mult50_dvd : ∀ (v2314 : BitVec 32) (k0_hw50 : k0_chk50 v2314), 8 ∣ (k0_mult50 v2314).toNat := fun v2314 k0_hw50 => k0_hw50.1
theorem k0_off128_inb : ∀ (v2314 : BitVec 32) (k0_hw50 : k0_chk50 v2314), ∀ a, (k0_off128 v2314) a + S8x128.size a ≤ S2048x128.size a := fun v2314 k0_hw50 => k0_hw50.2.1
theorem k0_off129_inb : ∀ (v2314 : BitVec 32) (k0_hw50 : k0_chk50 v2314), ∀ a, (k0_off129 v2314) a + S1x128.size a ≤ S256x128.size a := fun v2314 k0_hw50 => k0_hw50.2.2

def k0_off130 (k0_t1 : Fin k0_t1_loop.trips) : Fin 2 → Nat :=
  let c0_i32_1416 : BitVec 32 := 0#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c8_i32_1184 : BitVec 32 := 8#32
  let v1966 : BitVec 32 := Scalar.remsi v1965 c8_i32_1184
  ![0, v1966.toNat]
def k0_off131 (k0_t1 : Fin k0_t1_loop.trips) : Fin 3 → Nat :=
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c8_i32_1184 : BitVec 32 := 8#32
  let v1966 : BitVec 32 := Scalar.remsi v1965 c8_i32_1184
  let c0_i32_1417 : BitVec 32 := 0#32
  let c0_i32_1418 : BitVec 32 := 0#32
  ![v1966.toNat, 0, 0]
def k0_off132 (k0_t1 : Fin k0_t1_loop.trips) : Fin 3 → Nat :=
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c0_i32_1419 : BitVec 32 := 0#32
  let c0_i32_1420 : BitVec 32 := 0#32
  ![v1965.toNat, 0, 0]
def k0_off133 (k0_t1 : Fin k0_t1_loop.trips) : Fin 2 → Nat :=
  let c1_i32_1421 : BitVec 32 := 1#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c8_i32_1184 : BitVec 32 := 8#32
  let v1966 : BitVec 32 := Scalar.remsi v1965 c8_i32_1184
  ![1, v1966.toNat]
def k0_off134 (k0_t1 : Fin k0_t1_loop.trips) : Fin 3 → Nat :=
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c8_i32_1184 : BitVec 32 := 8#32
  let v1966 : BitVec 32 := Scalar.remsi v1965 c8_i32_1184
  let v2358 : Index := Scalar.indexCast v1966
  let c0_1426 : Index := 0#32
  let c0_1427 : Index := 0#32
  ![v2358.toNat, 0, 0]
def k0_off135 (k0_t1 : Fin k0_t1_loop.trips) : Fin 2 → Nat :=
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let v2368 : Index := Scalar.indexCast v1965
  let c0_1432 : Index := 0#32
  ![v2368.toNat, 0]
def k0_off136 (k0_t1 : Fin k0_t1_loop.trips) : Fin 2 → Nat :=
  let c2_i32_1452 : BitVec 32 := 2#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1185 : BitVec 32 := 1#32
  let v1967 : BitVec 32 := Scalar.subi v1965 c1_i32_1185
  let c8_i32_1186 : BitVec 32 := 8#32
  let v1968 : BitVec 32 := Scalar.remsi v1967 c8_i32_1186
  ![2, v1968.toNat]
def k0_off137 (k0_t1 : Fin k0_t1_loop.trips) : Fin 3 → Nat :=
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1185 : BitVec 32 := 1#32
  let v1967 : BitVec 32 := Scalar.subi v1965 c1_i32_1185
  let c8_i32_1186 : BitVec 32 := 8#32
  let v1968 : BitVec 32 := Scalar.remsi v1967 c8_i32_1186
  let c0_i32_1453 : BitVec 32 := 0#32
  let c0_i32_1454 : BitVec 32 := 0#32
  ![v1968.toNat, 0, 0]
def k0_off138 (k0_t1 : Fin k0_t1_loop.trips) : Fin 3 → Nat :=
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let c0_i32_1455 : BitVec 32 := 0#32
  let c0_i32_1456 : BitVec 32 := 0#32
  ![v2424.toNat, 0, 0]
def k0_off139 (k0_t1 : Fin k0_t1_loop.trips) : Fin 3 → Nat :=
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1185 : BitVec 32 := 1#32
  let v1967 : BitVec 32 := Scalar.subi v1965 c1_i32_1185
  let c8_i32_1186 : BitVec 32 := 8#32
  let v1968 : BitVec 32 := Scalar.remsi v1967 c8_i32_1186
  let v2431 : Index := Scalar.indexCast v1968
  let c0_1457 : Index := 0#32
  let c0_1458 : Index := 0#32
  ![v2431.toNat, 0, 0]
def k0_off140 (k0_t1 : Fin k0_t1_loop.trips) : Fin 2 → Nat :=
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2437 : Index := Scalar.indexCast v2424
  let c0_1460 : Index := 0#32
  ![v2437.toNat, 0]
def k0_off141 (k0_t1 : Fin k0_t1_loop.trips) : Fin 2 → Nat :=
  let c0_1477 : Index := 0#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2475 : Index := Scalar.indexCast v2424
  ![0, v2475.toNat]
def k0_mult51 (v2476 : BitVec 32) : BitVec 32 :=
  let c8_i32_1478 : BitVec 32 := 8#32
  let v2477 : BitVec 32 := Scalar.muli v2476 c8_i32_1478
  v2477

def k0_off142 (v2476 : BitVec 32) : Fin 2 → Nat :=
  let c8_i32_1478 : BitVec 32 := 8#32
  let v2477 : BitVec 32 := Scalar.muli v2476 c8_i32_1478
  let v2478 : BitVec 32 := v2477
  let v2479 : Index := Scalar.indexCast v2478
  let c0_1479 : Index := 0#32
  ![v2479.toNat, 0]

def k0_chk51 (v2476 : BitVec 32) : Prop :=
  (8 ∣ (k0_mult51 v2476).toNat) ∧
  (∀ a, (k0_off142 v2476) a + S8x128.size a ≤ S2048x128.size a)
theorem k0_mult51_dvd : ∀ (v2476 : BitVec 32) (k0_hw51 : k0_chk51 v2476), 8 ∣ (k0_mult51 v2476).toNat := fun v2476 k0_hw51 => k0_hw51.1
theorem k0_off142_inb : ∀ (v2476 : BitVec 32) (k0_hw51 : k0_chk51 v2476), ∀ a, (k0_off142 v2476) a + S8x128.size a ≤ S2048x128.size a := fun v2476 k0_hw51 => k0_hw51.2

def k0_off143 (k0_t1 : Fin k0_t1_loop.trips) : Fin 2 → Nat :=
  let c1_1483 : Index := 1#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2487 : Index := Scalar.indexCast v2424
  ![1, v2487.toNat]
def k0_mult52 (v2488 : BitVec 32) : BitVec 32 :=
  let c8_i32_1484 : BitVec 32 := 8#32
  let v2489 : BitVec 32 := Scalar.muli v2488 c8_i32_1484
  v2489

def k0_off144 (v2488 : BitVec 32) : Fin 2 → Nat :=
  let c8_i32_1484 : BitVec 32 := 8#32
  let v2489 : BitVec 32 := Scalar.muli v2488 c8_i32_1484
  let v2490 : BitVec 32 := v2489
  let v2491 : Index := Scalar.indexCast v2490
  let c0_1485 : Index := 0#32
  ![v2491.toNat, 0]

def k0_chk52 (v2488 : BitVec 32) : Prop :=
  (8 ∣ (k0_mult52 v2488).toNat) ∧
  (∀ a, (k0_off144 v2488) a + S8x128.size a ≤ S2048x128.size a)
theorem k0_mult52_dvd : ∀ (v2488 : BitVec 32) (k0_hw52 : k0_chk52 v2488), 8 ∣ (k0_mult52 v2488).toNat := fun v2488 k0_hw52 => k0_hw52.1
theorem k0_off144_inb : ∀ (v2488 : BitVec 32) (k0_hw52 : k0_chk52 v2488), ∀ a, (k0_off144 v2488) a + S8x128.size a ≤ S2048x128.size a := fun v2488 k0_hw52 => k0_hw52.2

def k0_off145 (k0_t1 : Fin k0_t1_loop.trips) : Fin 2 → Nat :=
  let c2_1489 : Index := 2#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2499 : Index := Scalar.indexCast v2424
  ![2, v2499.toNat]
def k0_mult53 (v2500 : BitVec 32) : BitVec 32 :=
  let c8_i32_1490 : BitVec 32 := 8#32
  let v2501 : BitVec 32 := Scalar.muli v2500 c8_i32_1490
  v2501

def k0_off146 (v2500 : BitVec 32) : Fin 2 → Nat :=
  let c8_i32_1490 : BitVec 32 := 8#32
  let v2501 : BitVec 32 := Scalar.muli v2500 c8_i32_1490
  let v2502 : BitVec 32 := v2501
  let v2503 : Index := Scalar.indexCast v2502
  let c0_1491 : Index := 0#32
  ![v2503.toNat, 0]

def k0_chk53 (v2500 : BitVec 32) : Prop :=
  (8 ∣ (k0_mult53 v2500).toNat) ∧
  (∀ a, (k0_off146 v2500) a + S8x128.size a ≤ S2048x128.size a)
theorem k0_mult53_dvd : ∀ (v2500 : BitVec 32) (k0_hw53 : k0_chk53 v2500), 8 ∣ (k0_mult53 v2500).toNat := fun v2500 k0_hw53 => k0_hw53.1
theorem k0_off146_inb : ∀ (v2500 : BitVec 32) (k0_hw53 : k0_chk53 v2500), ∀ a, (k0_off146 v2500) a + S8x128.size a ≤ S2048x128.size a := fun v2500 k0_hw53 => k0_hw53.2

def k0_off147 (k0_t1 : Fin k0_t1_loop.trips) : Fin 2 → Nat :=
  let c3_1495 : Index := 3#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2511 : Index := Scalar.indexCast v2424
  ![3, v2511.toNat]
def k0_mult54 (v2512 : BitVec 32) : BitVec 32 :=
  let c8_i32_1496 : BitVec 32 := 8#32
  let v2513 : BitVec 32 := Scalar.muli v2512 c8_i32_1496
  v2513

def k0_off148 (v2512 : BitVec 32) : Fin 2 → Nat :=
  let c8_i32_1496 : BitVec 32 := 8#32
  let v2513 : BitVec 32 := Scalar.muli v2512 c8_i32_1496
  let v2514 : BitVec 32 := v2513
  let v2515 : Index := Scalar.indexCast v2514
  let c0_1497 : Index := 0#32
  ![v2515.toNat, 0]

def k0_chk54 (v2512 : BitVec 32) : Prop :=
  (8 ∣ (k0_mult54 v2512).toNat) ∧
  (∀ a, (k0_off148 v2512) a + S8x128.size a ≤ S2048x128.size a)
theorem k0_mult54_dvd : ∀ (v2512 : BitVec 32) (k0_hw54 : k0_chk54 v2512), 8 ∣ (k0_mult54 v2512).toNat := fun v2512 k0_hw54 => k0_hw54.1
theorem k0_off148_inb : ∀ (v2512 : BitVec 32) (k0_hw54 : k0_chk54 v2512), ∀ a, (k0_off148 v2512) a + S8x128.size a ≤ S2048x128.size a := fun v2512 k0_hw54 => k0_hw54.2

def k0_off149 (k0_t1 : Fin k0_t1_loop.trips) : Fin 2 → Nat :=
  let c4_1501 : Index := 4#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2523 : Index := Scalar.indexCast v2424
  ![4, v2523.toNat]
def k0_mult55 (v2524 : BitVec 32) : BitVec 32 :=
  let c8_i32_1502 : BitVec 32 := 8#32
  let v2525 : BitVec 32 := Scalar.muli v2524 c8_i32_1502
  v2525

def k0_off150 (v2524 : BitVec 32) : Fin 2 → Nat :=
  let c8_i32_1502 : BitVec 32 := 8#32
  let v2525 : BitVec 32 := Scalar.muli v2524 c8_i32_1502
  let v2526 : BitVec 32 := v2525
  let v2527 : Index := Scalar.indexCast v2526
  let c0_1503 : Index := 0#32
  ![v2527.toNat, 0]

def k0_chk55 (v2524 : BitVec 32) : Prop :=
  (8 ∣ (k0_mult55 v2524).toNat) ∧
  (∀ a, (k0_off150 v2524) a + S8x128.size a ≤ S2048x128.size a)
theorem k0_mult55_dvd : ∀ (v2524 : BitVec 32) (k0_hw55 : k0_chk55 v2524), 8 ∣ (k0_mult55 v2524).toNat := fun v2524 k0_hw55 => k0_hw55.1
theorem k0_off150_inb : ∀ (v2524 : BitVec 32) (k0_hw55 : k0_chk55 v2524), ∀ a, (k0_off150 v2524) a + S8x128.size a ≤ S2048x128.size a := fun v2524 k0_hw55 => k0_hw55.2

def k0_off151 (k0_t1 : Fin k0_t1_loop.trips) : Fin 2 → Nat :=
  let c5_1507 : Index := 5#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2535 : Index := Scalar.indexCast v2424
  ![5, v2535.toNat]
def k0_mult56 (v2536 : BitVec 32) : BitVec 32 :=
  let c8_i32_1508 : BitVec 32 := 8#32
  let v2537 : BitVec 32 := Scalar.muli v2536 c8_i32_1508
  v2537

def k0_off152 (v2536 : BitVec 32) : Fin 2 → Nat :=
  let c8_i32_1508 : BitVec 32 := 8#32
  let v2537 : BitVec 32 := Scalar.muli v2536 c8_i32_1508
  let v2538 : BitVec 32 := v2537
  let v2539 : Index := Scalar.indexCast v2538
  let c0_1509 : Index := 0#32
  ![v2539.toNat, 0]

def k0_chk56 (v2536 : BitVec 32) : Prop :=
  (8 ∣ (k0_mult56 v2536).toNat) ∧
  (∀ a, (k0_off152 v2536) a + S8x128.size a ≤ S2048x128.size a)
theorem k0_mult56_dvd : ∀ (v2536 : BitVec 32) (k0_hw56 : k0_chk56 v2536), 8 ∣ (k0_mult56 v2536).toNat := fun v2536 k0_hw56 => k0_hw56.1
theorem k0_off152_inb : ∀ (v2536 : BitVec 32) (k0_hw56 : k0_chk56 v2536), ∀ a, (k0_off152 v2536) a + S8x128.size a ≤ S2048x128.size a := fun v2536 k0_hw56 => k0_hw56.2

def k0_off153 (k0_t1 : Fin k0_t1_loop.trips) : Fin 2 → Nat :=
  let c6_1513 : Index := 6#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2547 : Index := Scalar.indexCast v2424
  ![6, v2547.toNat]
def k0_mult57 (v2548 : BitVec 32) : BitVec 32 :=
  let c8_i32_1514 : BitVec 32 := 8#32
  let v2549 : BitVec 32 := Scalar.muli v2548 c8_i32_1514
  v2549

def k0_off154 (v2548 : BitVec 32) : Fin 2 → Nat :=
  let c8_i32_1514 : BitVec 32 := 8#32
  let v2549 : BitVec 32 := Scalar.muli v2548 c8_i32_1514
  let v2550 : BitVec 32 := v2549
  let v2551 : Index := Scalar.indexCast v2550
  let c0_1515 : Index := 0#32
  ![v2551.toNat, 0]

def k0_chk57 (v2548 : BitVec 32) : Prop :=
  (8 ∣ (k0_mult57 v2548).toNat) ∧
  (∀ a, (k0_off154 v2548) a + S8x128.size a ≤ S2048x128.size a)
theorem k0_mult57_dvd : ∀ (v2548 : BitVec 32) (k0_hw57 : k0_chk57 v2548), 8 ∣ (k0_mult57 v2548).toNat := fun v2548 k0_hw57 => k0_hw57.1
theorem k0_off154_inb : ∀ (v2548 : BitVec 32) (k0_hw57 : k0_chk57 v2548), ∀ a, (k0_off154 v2548) a + S8x128.size a ≤ S2048x128.size a := fun v2548 k0_hw57 => k0_hw57.2

def k0_off155 (k0_t1 : Fin k0_t1_loop.trips) : Fin 2 → Nat :=
  let c7_1519 : Index := 7#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2559 : Index := Scalar.indexCast v2424
  ![7, v2559.toNat]
def k0_mult58 (v2560 : BitVec 32) : BitVec 32 :=
  let c8_i32_1520 : BitVec 32 := 8#32
  let v2561 : BitVec 32 := Scalar.muli v2560 c8_i32_1520
  v2561

def k0_off156 (v2560 : BitVec 32) : Fin 2 → Nat :=
  let c8_i32_1520 : BitVec 32 := 8#32
  let v2561 : BitVec 32 := Scalar.muli v2560 c8_i32_1520
  let v2562 : BitVec 32 := v2561
  let v2563 : Index := Scalar.indexCast v2562
  let c0_1521 : Index := 0#32
  ![v2563.toNat, 0]

def k0_chk58 (v2560 : BitVec 32) : Prop :=
  (8 ∣ (k0_mult58 v2560).toNat) ∧
  (∀ a, (k0_off156 v2560) a + S8x128.size a ≤ S2048x128.size a)
theorem k0_mult58_dvd : ∀ (v2560 : BitVec 32) (k0_hw58 : k0_chk58 v2560), 8 ∣ (k0_mult58 v2560).toNat := fun v2560 k0_hw58 => k0_hw58.1
theorem k0_off156_inb : ∀ (v2560 : BitVec 32) (k0_hw58 : k0_chk58 v2560), ∀ a, (k0_off156 v2560) a + S8x128.size a ≤ S2048x128.size a := fun v2560 k0_hw58 => k0_hw58.2

def k0_off157 (k0_t1 : Fin k0_t1_loop.trips) : Fin 2 → Nat :=
  let c8_1525 : Index := 8#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2571 : Index := Scalar.indexCast v2424
  ![8, v2571.toNat]
def k0_mult59 (v2572 : BitVec 32) : BitVec 32 :=
  let c8_i32_1526 : BitVec 32 := 8#32
  let v2573 : BitVec 32 := Scalar.muli v2572 c8_i32_1526
  v2573

def k0_off158 (v2572 : BitVec 32) : Fin 2 → Nat :=
  let c8_i32_1526 : BitVec 32 := 8#32
  let v2573 : BitVec 32 := Scalar.muli v2572 c8_i32_1526
  let v2574 : BitVec 32 := v2573
  let v2575 : Index := Scalar.indexCast v2574
  let c0_1527 : Index := 0#32
  ![v2575.toNat, 0]

def k0_chk59 (v2572 : BitVec 32) : Prop :=
  (8 ∣ (k0_mult59 v2572).toNat) ∧
  (∀ a, (k0_off158 v2572) a + S8x128.size a ≤ S2048x128.size a)
theorem k0_mult59_dvd : ∀ (v2572 : BitVec 32) (k0_hw59 : k0_chk59 v2572), 8 ∣ (k0_mult59 v2572).toNat := fun v2572 k0_hw59 => k0_hw59.1
theorem k0_off158_inb : ∀ (v2572 : BitVec 32) (k0_hw59 : k0_chk59 v2572), ∀ a, (k0_off158 v2572) a + S8x128.size a ≤ S2048x128.size a := fun v2572 k0_hw59 => k0_hw59.2

def k0_off159 (k0_t1 : Fin k0_t1_loop.trips) : Fin 2 → Nat :=
  let c9_1531 : Index := 9#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2583 : Index := Scalar.indexCast v2424
  ![9, v2583.toNat]
def k0_mult60 (v2584 : BitVec 32) : BitVec 32 :=
  let c8_i32_1532 : BitVec 32 := 8#32
  let v2585 : BitVec 32 := Scalar.muli v2584 c8_i32_1532
  v2585

def k0_off160 (v2584 : BitVec 32) : Fin 2 → Nat :=
  let c8_i32_1532 : BitVec 32 := 8#32
  let v2585 : BitVec 32 := Scalar.muli v2584 c8_i32_1532
  let v2586 : BitVec 32 := v2585
  let v2587 : Index := Scalar.indexCast v2586
  let c0_1533 : Index := 0#32
  ![v2587.toNat, 0]

def k0_chk60 (v2584 : BitVec 32) : Prop :=
  (8 ∣ (k0_mult60 v2584).toNat) ∧
  (∀ a, (k0_off160 v2584) a + S8x128.size a ≤ S2048x128.size a)
theorem k0_mult60_dvd : ∀ (v2584 : BitVec 32) (k0_hw60 : k0_chk60 v2584), 8 ∣ (k0_mult60 v2584).toNat := fun v2584 k0_hw60 => k0_hw60.1
theorem k0_off160_inb : ∀ (v2584 : BitVec 32) (k0_hw60 : k0_chk60 v2584), ∀ a, (k0_off160 v2584) a + S8x128.size a ≤ S2048x128.size a := fun v2584 k0_hw60 => k0_hw60.2

def k0_off161 (k0_t1 : Fin k0_t1_loop.trips) : Fin 2 → Nat :=
  let c10_1537 : Index := 10#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2595 : Index := Scalar.indexCast v2424
  ![10, v2595.toNat]
def k0_mult61 (v2596 : BitVec 32) : BitVec 32 :=
  let c8_i32_1538 : BitVec 32 := 8#32
  let v2597 : BitVec 32 := Scalar.muli v2596 c8_i32_1538
  v2597

def k0_off162 (v2596 : BitVec 32) : Fin 2 → Nat :=
  let c8_i32_1538 : BitVec 32 := 8#32
  let v2597 : BitVec 32 := Scalar.muli v2596 c8_i32_1538
  let v2598 : BitVec 32 := v2597
  let v2599 : Index := Scalar.indexCast v2598
  let c0_1539 : Index := 0#32
  ![v2599.toNat, 0]

def k0_chk61 (v2596 : BitVec 32) : Prop :=
  (8 ∣ (k0_mult61 v2596).toNat) ∧
  (∀ a, (k0_off162 v2596) a + S8x128.size a ≤ S2048x128.size a)
theorem k0_mult61_dvd : ∀ (v2596 : BitVec 32) (k0_hw61 : k0_chk61 v2596), 8 ∣ (k0_mult61 v2596).toNat := fun v2596 k0_hw61 => k0_hw61.1
theorem k0_off162_inb : ∀ (v2596 : BitVec 32) (k0_hw61 : k0_chk61 v2596), ∀ a, (k0_off162 v2596) a + S8x128.size a ≤ S2048x128.size a := fun v2596 k0_hw61 => k0_hw61.2

def k0_off163 (k0_t1 : Fin k0_t1_loop.trips) : Fin 2 → Nat :=
  let c11_1543 : Index := 11#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2607 : Index := Scalar.indexCast v2424
  ![11, v2607.toNat]
def k0_mult62 (v2608 : BitVec 32) : BitVec 32 :=
  let c8_i32_1544 : BitVec 32 := 8#32
  let v2609 : BitVec 32 := Scalar.muli v2608 c8_i32_1544
  v2609

def k0_off164 (v2608 : BitVec 32) : Fin 2 → Nat :=
  let c8_i32_1544 : BitVec 32 := 8#32
  let v2609 : BitVec 32 := Scalar.muli v2608 c8_i32_1544
  let v2610 : BitVec 32 := v2609
  let v2611 : Index := Scalar.indexCast v2610
  let c0_1545 : Index := 0#32
  ![v2611.toNat, 0]

def k0_chk62 (v2608 : BitVec 32) : Prop :=
  (8 ∣ (k0_mult62 v2608).toNat) ∧
  (∀ a, (k0_off164 v2608) a + S8x128.size a ≤ S2048x128.size a)
theorem k0_mult62_dvd : ∀ (v2608 : BitVec 32) (k0_hw62 : k0_chk62 v2608), 8 ∣ (k0_mult62 v2608).toNat := fun v2608 k0_hw62 => k0_hw62.1
theorem k0_off164_inb : ∀ (v2608 : BitVec 32) (k0_hw62 : k0_chk62 v2608), ∀ a, (k0_off164 v2608) a + S8x128.size a ≤ S2048x128.size a := fun v2608 k0_hw62 => k0_hw62.2

def k0_off165 (k0_t1 : Fin k0_t1_loop.trips) : Fin 2 → Nat :=
  let c12_1549 : Index := 12#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2619 : Index := Scalar.indexCast v2424
  ![12, v2619.toNat]
def k0_mult63 (v2620 : BitVec 32) : BitVec 32 :=
  let c8_i32_1550 : BitVec 32 := 8#32
  let v2621 : BitVec 32 := Scalar.muli v2620 c8_i32_1550
  v2621

def k0_off166 (v2620 : BitVec 32) : Fin 2 → Nat :=
  let c8_i32_1550 : BitVec 32 := 8#32
  let v2621 : BitVec 32 := Scalar.muli v2620 c8_i32_1550
  let v2622 : BitVec 32 := v2621
  let v2623 : Index := Scalar.indexCast v2622
  let c0_1551 : Index := 0#32
  ![v2623.toNat, 0]

def k0_chk63 (v2620 : BitVec 32) : Prop :=
  (8 ∣ (k0_mult63 v2620).toNat) ∧
  (∀ a, (k0_off166 v2620) a + S8x128.size a ≤ S2048x128.size a)
theorem k0_mult63_dvd : ∀ (v2620 : BitVec 32) (k0_hw63 : k0_chk63 v2620), 8 ∣ (k0_mult63 v2620).toNat := fun v2620 k0_hw63 => k0_hw63.1
theorem k0_off166_inb : ∀ (v2620 : BitVec 32) (k0_hw63 : k0_chk63 v2620), ∀ a, (k0_off166 v2620) a + S8x128.size a ≤ S2048x128.size a := fun v2620 k0_hw63 => k0_hw63.2

def k0_off167 (k0_t1 : Fin k0_t1_loop.trips) : Fin 2 → Nat :=
  let c13_1555 : Index := 13#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2631 : Index := Scalar.indexCast v2424
  ![13, v2631.toNat]
def k0_mult64 (v2632 : BitVec 32) : BitVec 32 :=
  let c8_i32_1556 : BitVec 32 := 8#32
  let v2633 : BitVec 32 := Scalar.muli v2632 c8_i32_1556
  v2633

def k0_off168 (v2632 : BitVec 32) : Fin 2 → Nat :=
  let c8_i32_1556 : BitVec 32 := 8#32
  let v2633 : BitVec 32 := Scalar.muli v2632 c8_i32_1556
  let v2634 : BitVec 32 := v2633
  let v2635 : Index := Scalar.indexCast v2634
  let c0_1557 : Index := 0#32
  ![v2635.toNat, 0]

def k0_chk64 (v2632 : BitVec 32) : Prop :=
  (8 ∣ (k0_mult64 v2632).toNat) ∧
  (∀ a, (k0_off168 v2632) a + S8x128.size a ≤ S2048x128.size a)
theorem k0_mult64_dvd : ∀ (v2632 : BitVec 32) (k0_hw64 : k0_chk64 v2632), 8 ∣ (k0_mult64 v2632).toNat := fun v2632 k0_hw64 => k0_hw64.1
theorem k0_off168_inb : ∀ (v2632 : BitVec 32) (k0_hw64 : k0_chk64 v2632), ∀ a, (k0_off168 v2632) a + S8x128.size a ≤ S2048x128.size a := fun v2632 k0_hw64 => k0_hw64.2

def k0_off169 (k0_t1 : Fin k0_t1_loop.trips) : Fin 2 → Nat :=
  let c14_1561 : Index := 14#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2643 : Index := Scalar.indexCast v2424
  ![14, v2643.toNat]
def k0_mult65 (v2644 : BitVec 32) : BitVec 32 :=
  let c8_i32_1562 : BitVec 32 := 8#32
  let v2645 : BitVec 32 := Scalar.muli v2644 c8_i32_1562
  v2645

def k0_off170 (v2644 : BitVec 32) : Fin 2 → Nat :=
  let c8_i32_1562 : BitVec 32 := 8#32
  let v2645 : BitVec 32 := Scalar.muli v2644 c8_i32_1562
  let v2646 : BitVec 32 := v2645
  let v2647 : Index := Scalar.indexCast v2646
  let c0_1563 : Index := 0#32
  ![v2647.toNat, 0]

def k0_chk65 (v2644 : BitVec 32) : Prop :=
  (8 ∣ (k0_mult65 v2644).toNat) ∧
  (∀ a, (k0_off170 v2644) a + S8x128.size a ≤ S2048x128.size a)
theorem k0_mult65_dvd : ∀ (v2644 : BitVec 32) (k0_hw65 : k0_chk65 v2644), 8 ∣ (k0_mult65 v2644).toNat := fun v2644 k0_hw65 => k0_hw65.1
theorem k0_off170_inb : ∀ (v2644 : BitVec 32) (k0_hw65 : k0_chk65 v2644), ∀ a, (k0_off170 v2644) a + S8x128.size a ≤ S2048x128.size a := fun v2644 k0_hw65 => k0_hw65.2

def k0_off171 (k0_t1 : Fin k0_t1_loop.trips) : Fin 2 → Nat :=
  let c15_1567 : Index := 15#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2655 : Index := Scalar.indexCast v2424
  ![15, v2655.toNat]
def k0_mult66 (v2656 : BitVec 32) : BitVec 32 :=
  let c8_i32_1568 : BitVec 32 := 8#32
  let v2657 : BitVec 32 := Scalar.muli v2656 c8_i32_1568
  v2657

def k0_off172 (v2656 : BitVec 32) : Fin 2 → Nat :=
  let c8_i32_1568 : BitVec 32 := 8#32
  let v2657 : BitVec 32 := Scalar.muli v2656 c8_i32_1568
  let v2658 : BitVec 32 := v2657
  let v2659 : Index := Scalar.indexCast v2658
  let c0_1569 : Index := 0#32
  ![v2659.toNat, 0]

def k0_chk66 (v2656 : BitVec 32) : Prop :=
  (8 ∣ (k0_mult66 v2656).toNat) ∧
  (∀ a, (k0_off172 v2656) a + S8x128.size a ≤ S2048x128.size a)
theorem k0_mult66_dvd : ∀ (v2656 : BitVec 32) (k0_hw66 : k0_chk66 v2656), 8 ∣ (k0_mult66 v2656).toNat := fun v2656 k0_hw66 => k0_hw66.1
theorem k0_off172_inb : ∀ (v2656 : BitVec 32) (k0_hw66 : k0_chk66 v2656), ∀ a, (k0_off172 v2656) a + S8x128.size a ≤ S2048x128.size a := fun v2656 k0_hw66 => k0_hw66.2

def k0_off173 (k0_t1 : Fin k0_t1_loop.trips) : Fin 2 → Nat :=
  let c16_1573 : Index := 16#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2667 : Index := Scalar.indexCast v2424
  ![16, v2667.toNat]
def k0_mult67 (v2668 : BitVec 32) : BitVec 32 :=
  let c8_i32_1574 : BitVec 32 := 8#32
  let v2669 : BitVec 32 := Scalar.muli v2668 c8_i32_1574
  v2669

def k0_off174 (v2668 : BitVec 32) : Fin 2 → Nat :=
  let c8_i32_1574 : BitVec 32 := 8#32
  let v2669 : BitVec 32 := Scalar.muli v2668 c8_i32_1574
  let v2670 : BitVec 32 := v2669
  let v2671 : Index := Scalar.indexCast v2670
  let c0_1575 : Index := 0#32
  ![v2671.toNat, 0]

def k0_chk67 (v2668 : BitVec 32) : Prop :=
  (8 ∣ (k0_mult67 v2668).toNat) ∧
  (∀ a, (k0_off174 v2668) a + S8x128.size a ≤ S2048x128.size a)
theorem k0_mult67_dvd : ∀ (v2668 : BitVec 32) (k0_hw67 : k0_chk67 v2668), 8 ∣ (k0_mult67 v2668).toNat := fun v2668 k0_hw67 => k0_hw67.1
theorem k0_off174_inb : ∀ (v2668 : BitVec 32) (k0_hw67 : k0_chk67 v2668), ∀ a, (k0_off174 v2668) a + S8x128.size a ≤ S2048x128.size a := fun v2668 k0_hw67 => k0_hw67.2

def k0_off175 (k0_t1 : Fin k0_t1_loop.trips) : Fin 2 → Nat :=
  let c17_1579 : Index := 17#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2679 : Index := Scalar.indexCast v2424
  ![17, v2679.toNat]
def k0_mult68 (v2680 : BitVec 32) : BitVec 32 :=
  let c8_i32_1580 : BitVec 32 := 8#32
  let v2681 : BitVec 32 := Scalar.muli v2680 c8_i32_1580
  v2681

def k0_off176 (v2680 : BitVec 32) : Fin 2 → Nat :=
  let c8_i32_1580 : BitVec 32 := 8#32
  let v2681 : BitVec 32 := Scalar.muli v2680 c8_i32_1580
  let v2682 : BitVec 32 := v2681
  let v2683 : Index := Scalar.indexCast v2682
  let c0_1581 : Index := 0#32
  ![v2683.toNat, 0]

def k0_chk68 (v2680 : BitVec 32) : Prop :=
  (8 ∣ (k0_mult68 v2680).toNat) ∧
  (∀ a, (k0_off176 v2680) a + S8x128.size a ≤ S2048x128.size a)
theorem k0_mult68_dvd : ∀ (v2680 : BitVec 32) (k0_hw68 : k0_chk68 v2680), 8 ∣ (k0_mult68 v2680).toNat := fun v2680 k0_hw68 => k0_hw68.1
theorem k0_off176_inb : ∀ (v2680 : BitVec 32) (k0_hw68 : k0_chk68 v2680), ∀ a, (k0_off176 v2680) a + S8x128.size a ≤ S2048x128.size a := fun v2680 k0_hw68 => k0_hw68.2

def k0_off177 (k0_t1 : Fin k0_t1_loop.trips) : Fin 2 → Nat :=
  let c18_1585 : Index := 18#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2691 : Index := Scalar.indexCast v2424
  ![18, v2691.toNat]
def k0_mult69 (v2692 : BitVec 32) : BitVec 32 :=
  let c8_i32_1586 : BitVec 32 := 8#32
  let v2693 : BitVec 32 := Scalar.muli v2692 c8_i32_1586
  v2693

def k0_off178 (v2692 : BitVec 32) : Fin 2 → Nat :=
  let c8_i32_1586 : BitVec 32 := 8#32
  let v2693 : BitVec 32 := Scalar.muli v2692 c8_i32_1586
  let v2694 : BitVec 32 := v2693
  let v2695 : Index := Scalar.indexCast v2694
  let c0_1587 : Index := 0#32
  ![v2695.toNat, 0]

def k0_chk69 (v2692 : BitVec 32) : Prop :=
  (8 ∣ (k0_mult69 v2692).toNat) ∧
  (∀ a, (k0_off178 v2692) a + S8x128.size a ≤ S2048x128.size a)
theorem k0_mult69_dvd : ∀ (v2692 : BitVec 32) (k0_hw69 : k0_chk69 v2692), 8 ∣ (k0_mult69 v2692).toNat := fun v2692 k0_hw69 => k0_hw69.1
theorem k0_off178_inb : ∀ (v2692 : BitVec 32) (k0_hw69 : k0_chk69 v2692), ∀ a, (k0_off178 v2692) a + S8x128.size a ≤ S2048x128.size a := fun v2692 k0_hw69 => k0_hw69.2

def k0_off179 (k0_t1 : Fin k0_t1_loop.trips) : Fin 2 → Nat :=
  let c19_1591 : Index := 19#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2703 : Index := Scalar.indexCast v2424
  ![19, v2703.toNat]
def k0_mult70 (v2704 : BitVec 32) : BitVec 32 :=
  let c8_i32_1592 : BitVec 32 := 8#32
  let v2705 : BitVec 32 := Scalar.muli v2704 c8_i32_1592
  v2705

def k0_off180 (v2704 : BitVec 32) : Fin 2 → Nat :=
  let c8_i32_1592 : BitVec 32 := 8#32
  let v2705 : BitVec 32 := Scalar.muli v2704 c8_i32_1592
  let v2706 : BitVec 32 := v2705
  let v2707 : Index := Scalar.indexCast v2706
  let c0_1593 : Index := 0#32
  ![v2707.toNat, 0]

def k0_chk70 (v2704 : BitVec 32) : Prop :=
  (8 ∣ (k0_mult70 v2704).toNat) ∧
  (∀ a, (k0_off180 v2704) a + S8x128.size a ≤ S2048x128.size a)
theorem k0_mult70_dvd : ∀ (v2704 : BitVec 32) (k0_hw70 : k0_chk70 v2704), 8 ∣ (k0_mult70 v2704).toNat := fun v2704 k0_hw70 => k0_hw70.1
theorem k0_off180_inb : ∀ (v2704 : BitVec 32) (k0_hw70 : k0_chk70 v2704), ∀ a, (k0_off180 v2704) a + S8x128.size a ≤ S2048x128.size a := fun v2704 k0_hw70 => k0_hw70.2

def k0_off181 (k0_t1 : Fin k0_t1_loop.trips) : Fin 2 → Nat :=
  let c20_1597 : Index := 20#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2715 : Index := Scalar.indexCast v2424
  ![20, v2715.toNat]
def k0_mult71 (v2716 : BitVec 32) : BitVec 32 :=
  let c8_i32_1598 : BitVec 32 := 8#32
  let v2717 : BitVec 32 := Scalar.muli v2716 c8_i32_1598
  v2717

def k0_off182 (v2716 : BitVec 32) : Fin 2 → Nat :=
  let c8_i32_1598 : BitVec 32 := 8#32
  let v2717 : BitVec 32 := Scalar.muli v2716 c8_i32_1598
  let v2718 : BitVec 32 := v2717
  let v2719 : Index := Scalar.indexCast v2718
  let c0_1599 : Index := 0#32
  ![v2719.toNat, 0]

def k0_chk71 (v2716 : BitVec 32) : Prop :=
  (8 ∣ (k0_mult71 v2716).toNat) ∧
  (∀ a, (k0_off182 v2716) a + S8x128.size a ≤ S2048x128.size a)
theorem k0_mult71_dvd : ∀ (v2716 : BitVec 32) (k0_hw71 : k0_chk71 v2716), 8 ∣ (k0_mult71 v2716).toNat := fun v2716 k0_hw71 => k0_hw71.1
theorem k0_off182_inb : ∀ (v2716 : BitVec 32) (k0_hw71 : k0_chk71 v2716), ∀ a, (k0_off182 v2716) a + S8x128.size a ≤ S2048x128.size a := fun v2716 k0_hw71 => k0_hw71.2

def k0_off183 (k0_t1 : Fin k0_t1_loop.trips) : Fin 2 → Nat :=
  let c21_1603 : Index := 21#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2727 : Index := Scalar.indexCast v2424
  ![21, v2727.toNat]
def k0_mult72 (v2728 : BitVec 32) : BitVec 32 :=
  let c8_i32_1604 : BitVec 32 := 8#32
  let v2729 : BitVec 32 := Scalar.muli v2728 c8_i32_1604
  v2729

def k0_off184 (v2728 : BitVec 32) : Fin 2 → Nat :=
  let c8_i32_1604 : BitVec 32 := 8#32
  let v2729 : BitVec 32 := Scalar.muli v2728 c8_i32_1604
  let v2730 : BitVec 32 := v2729
  let v2731 : Index := Scalar.indexCast v2730
  let c0_1605 : Index := 0#32
  ![v2731.toNat, 0]

def k0_chk72 (v2728 : BitVec 32) : Prop :=
  (8 ∣ (k0_mult72 v2728).toNat) ∧
  (∀ a, (k0_off184 v2728) a + S8x128.size a ≤ S2048x128.size a)
theorem k0_mult72_dvd : ∀ (v2728 : BitVec 32) (k0_hw72 : k0_chk72 v2728), 8 ∣ (k0_mult72 v2728).toNat := fun v2728 k0_hw72 => k0_hw72.1
theorem k0_off184_inb : ∀ (v2728 : BitVec 32) (k0_hw72 : k0_chk72 v2728), ∀ a, (k0_off184 v2728) a + S8x128.size a ≤ S2048x128.size a := fun v2728 k0_hw72 => k0_hw72.2

def k0_off185 (k0_t1 : Fin k0_t1_loop.trips) : Fin 2 → Nat :=
  let c22_1609 : Index := 22#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2739 : Index := Scalar.indexCast v2424
  ![22, v2739.toNat]
def k0_mult73 (v2740 : BitVec 32) : BitVec 32 :=
  let c8_i32_1610 : BitVec 32 := 8#32
  let v2741 : BitVec 32 := Scalar.muli v2740 c8_i32_1610
  v2741

def k0_off186 (v2740 : BitVec 32) : Fin 2 → Nat :=
  let c8_i32_1610 : BitVec 32 := 8#32
  let v2741 : BitVec 32 := Scalar.muli v2740 c8_i32_1610
  let v2742 : BitVec 32 := v2741
  let v2743 : Index := Scalar.indexCast v2742
  let c0_1611 : Index := 0#32
  ![v2743.toNat, 0]

def k0_chk73 (v2740 : BitVec 32) : Prop :=
  (8 ∣ (k0_mult73 v2740).toNat) ∧
  (∀ a, (k0_off186 v2740) a + S8x128.size a ≤ S2048x128.size a)
theorem k0_mult73_dvd : ∀ (v2740 : BitVec 32) (k0_hw73 : k0_chk73 v2740), 8 ∣ (k0_mult73 v2740).toNat := fun v2740 k0_hw73 => k0_hw73.1
theorem k0_off186_inb : ∀ (v2740 : BitVec 32) (k0_hw73 : k0_chk73 v2740), ∀ a, (k0_off186 v2740) a + S8x128.size a ≤ S2048x128.size a := fun v2740 k0_hw73 => k0_hw73.2

def k0_off187 (k0_t1 : Fin k0_t1_loop.trips) : Fin 2 → Nat :=
  let c23_1615 : Index := 23#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2751 : Index := Scalar.indexCast v2424
  ![23, v2751.toNat]
def k0_mult74 (v2752 : BitVec 32) : BitVec 32 :=
  let c8_i32_1616 : BitVec 32 := 8#32
  let v2753 : BitVec 32 := Scalar.muli v2752 c8_i32_1616
  v2753

def k0_off188 (v2752 : BitVec 32) : Fin 2 → Nat :=
  let c8_i32_1616 : BitVec 32 := 8#32
  let v2753 : BitVec 32 := Scalar.muli v2752 c8_i32_1616
  let v2754 : BitVec 32 := v2753
  let v2755 : Index := Scalar.indexCast v2754
  let c0_1617 : Index := 0#32
  ![v2755.toNat, 0]

def k0_chk74 (v2752 : BitVec 32) : Prop :=
  (8 ∣ (k0_mult74 v2752).toNat) ∧
  (∀ a, (k0_off188 v2752) a + S8x128.size a ≤ S2048x128.size a)
theorem k0_mult74_dvd : ∀ (v2752 : BitVec 32) (k0_hw74 : k0_chk74 v2752), 8 ∣ (k0_mult74 v2752).toNat := fun v2752 k0_hw74 => k0_hw74.1
theorem k0_off188_inb : ∀ (v2752 : BitVec 32) (k0_hw74 : k0_chk74 v2752), ∀ a, (k0_off188 v2752) a + S8x128.size a ≤ S2048x128.size a := fun v2752 k0_hw74 => k0_hw74.2

def k0_off189 (k0_t1 : Fin k0_t1_loop.trips) : Fin 2 → Nat :=
  let c24_1621 : Index := 24#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1451 : BitVec 32 := 1#32
  let v2424 : BitVec 32 := Scalar.subi v1965 c1_i32_1451
  let v2763 : Index := Scalar.indexCast v2424
  ![24, v2763.toNat]
def k0_mult75 (v2764 : BitVec 32) : BitVec 32 :=
  let c8_i32_1622 : BitVec 32 := 8#32
  let v2765 : BitVec 32 := Scalar.muli v2764 c8_i32_1622
  v2765

def k0_off190 (v2764 : BitVec 32) : Fin 2 → Nat :=
  let c8_i32_1622 : BitVec 32 := 8#32
  let v2765 : BitVec 32 := Scalar.muli v2764 c8_i32_1622
  let v2766 : BitVec 32 := v2765
  let v2767 : Index := Scalar.indexCast v2766
  let c0_1623 : Index := 0#32
  ![v2767.toNat, 0]

def k0_chk75 (v2764 : BitVec 32) : Prop :=
  (8 ∣ (k0_mult75 v2764).toNat) ∧
  (∀ a, (k0_off190 v2764) a + S8x128.size a ≤ S2048x128.size a)
theorem k0_mult75_dvd : ∀ (v2764 : BitVec 32) (k0_hw75 : k0_chk75 v2764), 8 ∣ (k0_mult75 v2764).toNat := fun v2764 k0_hw75 => k0_hw75.1
theorem k0_off190_inb : ∀ (v2764 : BitVec 32) (k0_hw75 : k0_chk75 v2764), ∀ a, (k0_off190 v2764) a + S8x128.size a ≤ S2048x128.size a := fun v2764 k0_hw75 => k0_hw75.2

def k0_cond2 (k0_t1 : Fin k0_t1_loop.trips) : BitVec 1 :=
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1633 : BitVec 32 := 1#32
  let v2784 : BitVec 32 := Scalar.subi v1965 c1_i32_1633
  let c8_i32_1634 : BitVec 32 := 8#32
  let v2785 : BitVec 32 := Scalar.addi v2784 c8_i32_1634
  let c40_i32_1635 : BitVec 32 := 40#32
  let v2786 : BitVec 1 := Scalar.cmpi .slt v2785 c40_i32_1635
  let v2787 : BitVec 32 := Scalar.extui v2786
  let c0_i32_1636 : BitVec 32 := 0#32
  let v2788 : BitVec 1 := Scalar.cmpi .ne v2787 c0_i32_1636
  v2788

def k0_off191 (k0_t1 : Fin k0_t1_loop.trips) : Fin 2 → Nat :=
  let c2_i32_1639 : BitVec 32 := 2#32
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1185 : BitVec 32 := 1#32
  let v1967 : BitVec 32 := Scalar.subi v1965 c1_i32_1185
  let c8_i32_1186 : BitVec 32 := 8#32
  let v1968 : BitVec 32 := Scalar.remsi v1967 c8_i32_1186
  ![2, v1968.toNat]
def k0_off192 (k0_t1 : Fin k0_t1_loop.trips) : Fin 3 → Nat :=
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1185 : BitVec 32 := 1#32
  let v1967 : BitVec 32 := Scalar.subi v1965 c1_i32_1185
  let c8_i32_1186 : BitVec 32 := 8#32
  let v1968 : BitVec 32 := Scalar.remsi v1967 c8_i32_1186
  let c0_i32_1640 : BitVec 32 := 0#32
  let c0_i32_1641 : BitVec 32 := 0#32
  ![v1968.toNat, 0, 0]
def k0_off193 (k0_t1 : Fin k0_t1_loop.trips) : Fin 3 → Nat :=
  let c1_i32_1183 : BitVec 32 := 1#32
  let c0_i32_787 : BitVec 32 := 0#32
  let c1_i32_788 : BitVec 32 := 1#32
  let arg41 : BitVec 32 := Scf.iv c0_i32_787 c1_i32_788 k0_t1
  let c1_i32_1182 : BitVec 32 := 1#32
  let v1964 : BitVec 32 := Scalar.muli arg41 c1_i32_1182
  let v1965 : BitVec 32 := Scalar.addi c1_i32_1183 v1964
  let c1_i32_1637 : BitVec 32 := 1#32
  let v2789 : BitVec 32 := Scalar.subi v1965 c1_i32_1637
  let c8_i32_1638 : BitVec 32 := 8#32
  let v2790 : BitVec 32 := Scalar.addi v2789 c8_i32_1638
  let c0_i32_1642 : BitVec 32 := 0#32
  let c0_i32_1643 : BitVec 32 := 0#32
  ![v2790.toNat, 0, 0]
def k0_mult76 (v1517 : BitVec 32) : BitVec 32 :=
  let c8_i32_827 : BitVec 32 := 8#32
  let v1518 : BitVec 32 := Scalar.muli v1517 c8_i32_827
  v1518

def k0_off194 (v1517 : BitVec 32) : Fin 2 → Nat :=
  let c8_i32_827 : BitVec 32 := 8#32
  let v1518 : BitVec 32 := Scalar.muli v1517 c8_i32_827
  let v1519 : BitVec 32 := v1518
  let v1520 : Index := Scalar.indexCast v1519
  let c0_828 : Index := 0#32
  ![v1520.toNat, 0]

def k0_chk76 (v1517 : BitVec 32) : Prop :=
  (8 ∣ (k0_mult76 v1517).toNat) ∧
  (∀ a, (k0_off194 v1517) a + S8x128.size a ≤ S2048x128.size a)
theorem k0_mult76_dvd : ∀ (v1517 : BitVec 32) (k0_hw76 : k0_chk76 v1517), 8 ∣ (k0_mult76 v1517).toNat := fun v1517 k0_hw76 => k0_hw76.1
theorem k0_off194_inb : ∀ (v1517 : BitVec 32) (k0_hw76 : k0_chk76 v1517), ∀ a, (k0_off194 v1517) a + S8x128.size a ≤ S2048x128.size a := fun v1517 k0_hw76 => k0_hw76.2

def k0_mult77 (v1528 : BitVec 32) : BitVec 32 :=
  let c8_i32_834 : BitVec 32 := 8#32
  let v1529 : BitVec 32 := Scalar.muli v1528 c8_i32_834
  v1529

def k0_off195 (v1528 : BitVec 32) : Fin 2 → Nat :=
  let c8_i32_834 : BitVec 32 := 8#32
  let v1529 : BitVec 32 := Scalar.muli v1528 c8_i32_834
  let v1530 : BitVec 32 := v1529
  let v1531 : Index := Scalar.indexCast v1530
  let c0_835 : Index := 0#32
  ![v1531.toNat, 0]

def k0_chk77 (v1528 : BitVec 32) : Prop :=
  (8 ∣ (k0_mult77 v1528).toNat) ∧
  (∀ a, (k0_off195 v1528) a + S8x128.size a ≤ S2048x128.size a)
theorem k0_mult77_dvd : ∀ (v1528 : BitVec 32) (k0_hw77 : k0_chk77 v1528), 8 ∣ (k0_mult77 v1528).toNat := fun v1528 k0_hw77 => k0_hw77.1
theorem k0_off195_inb : ∀ (v1528 : BitVec 32) (k0_hw77 : k0_chk77 v1528), ∀ a, (k0_off195 v1528) a + S8x128.size a ≤ S2048x128.size a := fun v1528 k0_hw77 => k0_hw77.2

def k0_mult78 (v1539 : BitVec 32) : BitVec 32 :=
  let c8_i32_841 : BitVec 32 := 8#32
  let v1540 : BitVec 32 := Scalar.muli v1539 c8_i32_841
  v1540

def k0_off196 (v1539 : BitVec 32) : Fin 2 → Nat :=
  let c8_i32_841 : BitVec 32 := 8#32
  let v1540 : BitVec 32 := Scalar.muli v1539 c8_i32_841
  let v1541 : BitVec 32 := v1540
  let v1542 : Index := Scalar.indexCast v1541
  let c0_842 : Index := 0#32
  ![v1542.toNat, 0]

def k0_chk78 (v1539 : BitVec 32) : Prop :=
  (8 ∣ (k0_mult78 v1539).toNat) ∧
  (∀ a, (k0_off196 v1539) a + S8x128.size a ≤ S2048x128.size a)
theorem k0_mult78_dvd : ∀ (v1539 : BitVec 32) (k0_hw78 : k0_chk78 v1539), 8 ∣ (k0_mult78 v1539).toNat := fun v1539 k0_hw78 => k0_hw78.1
theorem k0_off196_inb : ∀ (v1539 : BitVec 32) (k0_hw78 : k0_chk78 v1539), ∀ a, (k0_off196 v1539) a + S8x128.size a ≤ S2048x128.size a := fun v1539 k0_hw78 => k0_hw78.2

def k0_mult79 (v1550 : BitVec 32) : BitVec 32 :=
  let c8_i32_848 : BitVec 32 := 8#32
  let v1551 : BitVec 32 := Scalar.muli v1550 c8_i32_848
  v1551

def k0_off197 (v1550 : BitVec 32) : Fin 2 → Nat :=
  let c8_i32_848 : BitVec 32 := 8#32
  let v1551 : BitVec 32 := Scalar.muli v1550 c8_i32_848
  let v1552 : BitVec 32 := v1551
  let v1553 : Index := Scalar.indexCast v1552
  let c0_849 : Index := 0#32
  ![v1553.toNat, 0]

def k0_chk79 (v1550 : BitVec 32) : Prop :=
  (8 ∣ (k0_mult79 v1550).toNat) ∧
  (∀ a, (k0_off197 v1550) a + S8x128.size a ≤ S2048x128.size a)
theorem k0_mult79_dvd : ∀ (v1550 : BitVec 32) (k0_hw79 : k0_chk79 v1550), 8 ∣ (k0_mult79 v1550).toNat := fun v1550 k0_hw79 => k0_hw79.1
theorem k0_off197_inb : ∀ (v1550 : BitVec 32) (k0_hw79 : k0_chk79 v1550), ∀ a, (k0_off197 v1550) a + S8x128.size a ≤ S2048x128.size a := fun v1550 k0_hw79 => k0_hw79.2

def k0_mult80 (v1561 : BitVec 32) : BitVec 32 :=
  let c8_i32_855 : BitVec 32 := 8#32
  let v1562 : BitVec 32 := Scalar.muli v1561 c8_i32_855
  v1562

def k0_off198 (v1561 : BitVec 32) : Fin 2 → Nat :=
  let c8_i32_855 : BitVec 32 := 8#32
  let v1562 : BitVec 32 := Scalar.muli v1561 c8_i32_855
  let v1563 : BitVec 32 := v1562
  let v1564 : Index := Scalar.indexCast v1563
  let c0_856 : Index := 0#32
  ![v1564.toNat, 0]

def k0_chk80 (v1561 : BitVec 32) : Prop :=
  (8 ∣ (k0_mult80 v1561).toNat) ∧
  (∀ a, (k0_off198 v1561) a + S8x128.size a ≤ S2048x128.size a)
theorem k0_mult80_dvd : ∀ (v1561 : BitVec 32) (k0_hw80 : k0_chk80 v1561), 8 ∣ (k0_mult80 v1561).toNat := fun v1561 k0_hw80 => k0_hw80.1
theorem k0_off198_inb : ∀ (v1561 : BitVec 32) (k0_hw80 : k0_chk80 v1561), ∀ a, (k0_off198 v1561) a + S8x128.size a ≤ S2048x128.size a := fun v1561 k0_hw80 => k0_hw80.2

def k0_mult81 (v1572 : BitVec 32) : BitVec 32 :=
  let c8_i32_862 : BitVec 32 := 8#32
  let v1573 : BitVec 32 := Scalar.muli v1572 c8_i32_862
  v1573

def k0_off199 (v1572 : BitVec 32) : Fin 2 → Nat :=
  let c8_i32_862 : BitVec 32 := 8#32
  let v1573 : BitVec 32 := Scalar.muli v1572 c8_i32_862
  let v1574 : BitVec 32 := v1573
  let v1575 : Index := Scalar.indexCast v1574
  let c0_863 : Index := 0#32
  ![v1575.toNat, 0]

def k0_chk81 (v1572 : BitVec 32) : Prop :=
  (8 ∣ (k0_mult81 v1572).toNat) ∧
  (∀ a, (k0_off199 v1572) a + S8x128.size a ≤ S2048x128.size a)
theorem k0_mult81_dvd : ∀ (v1572 : BitVec 32) (k0_hw81 : k0_chk81 v1572), 8 ∣ (k0_mult81 v1572).toNat := fun v1572 k0_hw81 => k0_hw81.1
theorem k0_off199_inb : ∀ (v1572 : BitVec 32) (k0_hw81 : k0_chk81 v1572), ∀ a, (k0_off199 v1572) a + S8x128.size a ≤ S2048x128.size a := fun v1572 k0_hw81 => k0_hw81.2

def k0_mult82 (v1583 : BitVec 32) : BitVec 32 :=
  let c8_i32_869 : BitVec 32 := 8#32
  let v1584 : BitVec 32 := Scalar.muli v1583 c8_i32_869
  v1584

def k0_off200 (v1583 : BitVec 32) : Fin 2 → Nat :=
  let c8_i32_869 : BitVec 32 := 8#32
  let v1584 : BitVec 32 := Scalar.muli v1583 c8_i32_869
  let v1585 : BitVec 32 := v1584
  let v1586 : Index := Scalar.indexCast v1585
  let c0_870 : Index := 0#32
  ![v1586.toNat, 0]

def k0_chk82 (v1583 : BitVec 32) : Prop :=
  (8 ∣ (k0_mult82 v1583).toNat) ∧
  (∀ a, (k0_off200 v1583) a + S8x128.size a ≤ S2048x128.size a)
theorem k0_mult82_dvd : ∀ (v1583 : BitVec 32) (k0_hw82 : k0_chk82 v1583), 8 ∣ (k0_mult82 v1583).toNat := fun v1583 k0_hw82 => k0_hw82.1
theorem k0_off200_inb : ∀ (v1583 : BitVec 32) (k0_hw82 : k0_chk82 v1583), ∀ a, (k0_off200 v1583) a + S8x128.size a ≤ S2048x128.size a := fun v1583 k0_hw82 => k0_hw82.2

def k0_mult83 (v1594 : BitVec 32) : BitVec 32 :=
  let c8_i32_876 : BitVec 32 := 8#32
  let v1595 : BitVec 32 := Scalar.muli v1594 c8_i32_876
  v1595

def k0_off201 (v1594 : BitVec 32) : Fin 2 → Nat :=
  let c8_i32_876 : BitVec 32 := 8#32
  let v1595 : BitVec 32 := Scalar.muli v1594 c8_i32_876
  let v1596 : BitVec 32 := v1595
  let v1597 : Index := Scalar.indexCast v1596
  let c0_877 : Index := 0#32
  ![v1597.toNat, 0]

def k0_chk83 (v1594 : BitVec 32) : Prop :=
  (8 ∣ (k0_mult83 v1594).toNat) ∧
  (∀ a, (k0_off201 v1594) a + S8x128.size a ≤ S2048x128.size a)
theorem k0_mult83_dvd : ∀ (v1594 : BitVec 32) (k0_hw83 : k0_chk83 v1594), 8 ∣ (k0_mult83 v1594).toNat := fun v1594 k0_hw83 => k0_hw83.1
theorem k0_off201_inb : ∀ (v1594 : BitVec 32) (k0_hw83 : k0_chk83 v1594), ∀ a, (k0_off201 v1594) a + S8x128.size a ≤ S2048x128.size a := fun v1594 k0_hw83 => k0_hw83.2

def k0_mult84 (v1605 : BitVec 32) : BitVec 32 :=
  let c8_i32_883 : BitVec 32 := 8#32
  let v1606 : BitVec 32 := Scalar.muli v1605 c8_i32_883
  v1606

def k0_off202 (v1605 : BitVec 32) : Fin 2 → Nat :=
  let c8_i32_883 : BitVec 32 := 8#32
  let v1606 : BitVec 32 := Scalar.muli v1605 c8_i32_883
  let v1607 : BitVec 32 := v1606
  let v1608 : Index := Scalar.indexCast v1607
  let c0_884 : Index := 0#32
  ![v1608.toNat, 0]

def k0_chk84 (v1605 : BitVec 32) : Prop :=
  (8 ∣ (k0_mult84 v1605).toNat) ∧
  (∀ a, (k0_off202 v1605) a + S8x128.size a ≤ S2048x128.size a)
theorem k0_mult84_dvd : ∀ (v1605 : BitVec 32) (k0_hw84 : k0_chk84 v1605), 8 ∣ (k0_mult84 v1605).toNat := fun v1605 k0_hw84 => k0_hw84.1
theorem k0_off202_inb : ∀ (v1605 : BitVec 32) (k0_hw84 : k0_chk84 v1605), ∀ a, (k0_off202 v1605) a + S8x128.size a ≤ S2048x128.size a := fun v1605 k0_hw84 => k0_hw84.2

def k0_mult85 (v1616 : BitVec 32) : BitVec 32 :=
  let c8_i32_890 : BitVec 32 := 8#32
  let v1617 : BitVec 32 := Scalar.muli v1616 c8_i32_890
  v1617

def k0_off203 (v1616 : BitVec 32) : Fin 2 → Nat :=
  let c8_i32_890 : BitVec 32 := 8#32
  let v1617 : BitVec 32 := Scalar.muli v1616 c8_i32_890
  let v1618 : BitVec 32 := v1617
  let v1619 : Index := Scalar.indexCast v1618
  let c0_891 : Index := 0#32
  ![v1619.toNat, 0]

def k0_chk85 (v1616 : BitVec 32) : Prop :=
  (8 ∣ (k0_mult85 v1616).toNat) ∧
  (∀ a, (k0_off203 v1616) a + S8x128.size a ≤ S2048x128.size a)
theorem k0_mult85_dvd : ∀ (v1616 : BitVec 32) (k0_hw85 : k0_chk85 v1616), 8 ∣ (k0_mult85 v1616).toNat := fun v1616 k0_hw85 => k0_hw85.1
theorem k0_off203_inb : ∀ (v1616 : BitVec 32) (k0_hw85 : k0_chk85 v1616), ∀ a, (k0_off203 v1616) a + S8x128.size a ≤ S2048x128.size a := fun v1616 k0_hw85 => k0_hw85.2

def k0_mult86 (v1627 : BitVec 32) : BitVec 32 :=
  let c8_i32_897 : BitVec 32 := 8#32
  let v1628 : BitVec 32 := Scalar.muli v1627 c8_i32_897
  v1628

def k0_off204 (v1627 : BitVec 32) : Fin 2 → Nat :=
  let c8_i32_897 : BitVec 32 := 8#32
  let v1628 : BitVec 32 := Scalar.muli v1627 c8_i32_897
  let v1629 : BitVec 32 := v1628
  let v1630 : Index := Scalar.indexCast v1629
  let c0_898 : Index := 0#32
  ![v1630.toNat, 0]

def k0_chk86 (v1627 : BitVec 32) : Prop :=
  (8 ∣ (k0_mult86 v1627).toNat) ∧
  (∀ a, (k0_off204 v1627) a + S8x128.size a ≤ S2048x128.size a)
theorem k0_mult86_dvd : ∀ (v1627 : BitVec 32) (k0_hw86 : k0_chk86 v1627), 8 ∣ (k0_mult86 v1627).toNat := fun v1627 k0_hw86 => k0_hw86.1
theorem k0_off204_inb : ∀ (v1627 : BitVec 32) (k0_hw86 : k0_chk86 v1627), ∀ a, (k0_off204 v1627) a + S8x128.size a ≤ S2048x128.size a := fun v1627 k0_hw86 => k0_hw86.2

def k0_mult87 (v1638 : BitVec 32) : BitVec 32 :=
  let c8_i32_904 : BitVec 32 := 8#32
  let v1639 : BitVec 32 := Scalar.muli v1638 c8_i32_904
  v1639

def k0_off205 (v1638 : BitVec 32) : Fin 2 → Nat :=
  let c8_i32_904 : BitVec 32 := 8#32
  let v1639 : BitVec 32 := Scalar.muli v1638 c8_i32_904
  let v1640 : BitVec 32 := v1639
  let v1641 : Index := Scalar.indexCast v1640
  let c0_905 : Index := 0#32
  ![v1641.toNat, 0]

def k0_chk87 (v1638 : BitVec 32) : Prop :=
  (8 ∣ (k0_mult87 v1638).toNat) ∧
  (∀ a, (k0_off205 v1638) a + S8x128.size a ≤ S2048x128.size a)
theorem k0_mult87_dvd : ∀ (v1638 : BitVec 32) (k0_hw87 : k0_chk87 v1638), 8 ∣ (k0_mult87 v1638).toNat := fun v1638 k0_hw87 => k0_hw87.1
theorem k0_off205_inb : ∀ (v1638 : BitVec 32) (k0_hw87 : k0_chk87 v1638), ∀ a, (k0_off205 v1638) a + S8x128.size a ≤ S2048x128.size a := fun v1638 k0_hw87 => k0_hw87.2

def k0_mult88 (v1649 : BitVec 32) : BitVec 32 :=
  let c8_i32_911 : BitVec 32 := 8#32
  let v1650 : BitVec 32 := Scalar.muli v1649 c8_i32_911
  v1650

def k0_off206 (v1649 : BitVec 32) : Fin 2 → Nat :=
  let c8_i32_911 : BitVec 32 := 8#32
  let v1650 : BitVec 32 := Scalar.muli v1649 c8_i32_911
  let v1651 : BitVec 32 := v1650
  let v1652 : Index := Scalar.indexCast v1651
  let c0_912 : Index := 0#32
  ![v1652.toNat, 0]

def k0_chk88 (v1649 : BitVec 32) : Prop :=
  (8 ∣ (k0_mult88 v1649).toNat) ∧
  (∀ a, (k0_off206 v1649) a + S8x128.size a ≤ S2048x128.size a)
theorem k0_mult88_dvd : ∀ (v1649 : BitVec 32) (k0_hw88 : k0_chk88 v1649), 8 ∣ (k0_mult88 v1649).toNat := fun v1649 k0_hw88 => k0_hw88.1
theorem k0_off206_inb : ∀ (v1649 : BitVec 32) (k0_hw88 : k0_chk88 v1649), ∀ a, (k0_off206 v1649) a + S8x128.size a ≤ S2048x128.size a := fun v1649 k0_hw88 => k0_hw88.2

def k0_mult89 (v1660 : BitVec 32) : BitVec 32 :=
  let c8_i32_918 : BitVec 32 := 8#32
  let v1661 : BitVec 32 := Scalar.muli v1660 c8_i32_918
  v1661

def k0_off207 (v1660 : BitVec 32) : Fin 2 → Nat :=
  let c8_i32_918 : BitVec 32 := 8#32
  let v1661 : BitVec 32 := Scalar.muli v1660 c8_i32_918
  let v1662 : BitVec 32 := v1661
  let v1663 : Index := Scalar.indexCast v1662
  let c0_919 : Index := 0#32
  ![v1663.toNat, 0]

def k0_chk89 (v1660 : BitVec 32) : Prop :=
  (8 ∣ (k0_mult89 v1660).toNat) ∧
  (∀ a, (k0_off207 v1660) a + S8x128.size a ≤ S2048x128.size a)
theorem k0_mult89_dvd : ∀ (v1660 : BitVec 32) (k0_hw89 : k0_chk89 v1660), 8 ∣ (k0_mult89 v1660).toNat := fun v1660 k0_hw89 => k0_hw89.1
theorem k0_off207_inb : ∀ (v1660 : BitVec 32) (k0_hw89 : k0_chk89 v1660), ∀ a, (k0_off207 v1660) a + S8x128.size a ≤ S2048x128.size a := fun v1660 k0_hw89 => k0_hw89.2

def k0_mult90 (v1671 : BitVec 32) : BitVec 32 :=
  let c8_i32_925 : BitVec 32 := 8#32
  let v1672 : BitVec 32 := Scalar.muli v1671 c8_i32_925
  v1672

def k0_off208 (v1671 : BitVec 32) : Fin 2 → Nat :=
  let c8_i32_925 : BitVec 32 := 8#32
  let v1672 : BitVec 32 := Scalar.muli v1671 c8_i32_925
  let v1673 : BitVec 32 := v1672
  let v1674 : Index := Scalar.indexCast v1673
  let c0_926 : Index := 0#32
  ![v1674.toNat, 0]

def k0_chk90 (v1671 : BitVec 32) : Prop :=
  (8 ∣ (k0_mult90 v1671).toNat) ∧
  (∀ a, (k0_off208 v1671) a + S8x128.size a ≤ S2048x128.size a)
theorem k0_mult90_dvd : ∀ (v1671 : BitVec 32) (k0_hw90 : k0_chk90 v1671), 8 ∣ (k0_mult90 v1671).toNat := fun v1671 k0_hw90 => k0_hw90.1
theorem k0_off208_inb : ∀ (v1671 : BitVec 32) (k0_hw90 : k0_chk90 v1671), ∀ a, (k0_off208 v1671) a + S8x128.size a ≤ S2048x128.size a := fun v1671 k0_hw90 => k0_hw90.2

def k0_mult91 (v1682 : BitVec 32) : BitVec 32 :=
  let c8_i32_932 : BitVec 32 := 8#32
  let v1683 : BitVec 32 := Scalar.muli v1682 c8_i32_932
  v1683

def k0_off209 (v1682 : BitVec 32) : Fin 2 → Nat :=
  let c8_i32_932 : BitVec 32 := 8#32
  let v1683 : BitVec 32 := Scalar.muli v1682 c8_i32_932
  let v1684 : BitVec 32 := v1683
  let v1685 : Index := Scalar.indexCast v1684
  let c0_933 : Index := 0#32
  ![v1685.toNat, 0]

def k0_chk91 (v1682 : BitVec 32) : Prop :=
  (8 ∣ (k0_mult91 v1682).toNat) ∧
  (∀ a, (k0_off209 v1682) a + S8x128.size a ≤ S2048x128.size a)
theorem k0_mult91_dvd : ∀ (v1682 : BitVec 32) (k0_hw91 : k0_chk91 v1682), 8 ∣ (k0_mult91 v1682).toNat := fun v1682 k0_hw91 => k0_hw91.1
theorem k0_off209_inb : ∀ (v1682 : BitVec 32) (k0_hw91 : k0_chk91 v1682), ∀ a, (k0_off209 v1682) a + S8x128.size a ≤ S2048x128.size a := fun v1682 k0_hw91 => k0_hw91.2

def k0_mult92 (v1693 : BitVec 32) : BitVec 32 :=
  let c8_i32_939 : BitVec 32 := 8#32
  let v1694 : BitVec 32 := Scalar.muli v1693 c8_i32_939
  v1694

def k0_off210 (v1693 : BitVec 32) : Fin 2 → Nat :=
  let c8_i32_939 : BitVec 32 := 8#32
  let v1694 : BitVec 32 := Scalar.muli v1693 c8_i32_939
  let v1695 : BitVec 32 := v1694
  let v1696 : Index := Scalar.indexCast v1695
  let c0_940 : Index := 0#32
  ![v1696.toNat, 0]

def k0_chk92 (v1693 : BitVec 32) : Prop :=
  (8 ∣ (k0_mult92 v1693).toNat) ∧
  (∀ a, (k0_off210 v1693) a + S8x128.size a ≤ S2048x128.size a)
theorem k0_mult92_dvd : ∀ (v1693 : BitVec 32) (k0_hw92 : k0_chk92 v1693), 8 ∣ (k0_mult92 v1693).toNat := fun v1693 k0_hw92 => k0_hw92.1
theorem k0_off210_inb : ∀ (v1693 : BitVec 32) (k0_hw92 : k0_chk92 v1693), ∀ a, (k0_off210 v1693) a + S8x128.size a ≤ S2048x128.size a := fun v1693 k0_hw92 => k0_hw92.2

def k0_mult93 (v1704 : BitVec 32) : BitVec 32 :=
  let c8_i32_946 : BitVec 32 := 8#32
  let v1705 : BitVec 32 := Scalar.muli v1704 c8_i32_946
  v1705

def k0_off211 (v1704 : BitVec 32) : Fin 2 → Nat :=
  let c8_i32_946 : BitVec 32 := 8#32
  let v1705 : BitVec 32 := Scalar.muli v1704 c8_i32_946
  let v1706 : BitVec 32 := v1705
  let v1707 : Index := Scalar.indexCast v1706
  let c0_947 : Index := 0#32
  ![v1707.toNat, 0]

def k0_chk93 (v1704 : BitVec 32) : Prop :=
  (8 ∣ (k0_mult93 v1704).toNat) ∧
  (∀ a, (k0_off211 v1704) a + S8x128.size a ≤ S2048x128.size a)
theorem k0_mult93_dvd : ∀ (v1704 : BitVec 32) (k0_hw93 : k0_chk93 v1704), 8 ∣ (k0_mult93 v1704).toNat := fun v1704 k0_hw93 => k0_hw93.1
theorem k0_off211_inb : ∀ (v1704 : BitVec 32) (k0_hw93 : k0_chk93 v1704), ∀ a, (k0_off211 v1704) a + S8x128.size a ≤ S2048x128.size a := fun v1704 k0_hw93 => k0_hw93.2

def k0_mult94 (v1715 : BitVec 32) : BitVec 32 :=
  let c8_i32_953 : BitVec 32 := 8#32
  let v1716 : BitVec 32 := Scalar.muli v1715 c8_i32_953
  v1716

def k0_off212 (v1715 : BitVec 32) : Fin 2 → Nat :=
  let c8_i32_953 : BitVec 32 := 8#32
  let v1716 : BitVec 32 := Scalar.muli v1715 c8_i32_953
  let v1717 : BitVec 32 := v1716
  let v1718 : Index := Scalar.indexCast v1717
  let c0_954 : Index := 0#32
  ![v1718.toNat, 0]

def k0_chk94 (v1715 : BitVec 32) : Prop :=
  (8 ∣ (k0_mult94 v1715).toNat) ∧
  (∀ a, (k0_off212 v1715) a + S8x128.size a ≤ S2048x128.size a)
theorem k0_mult94_dvd : ∀ (v1715 : BitVec 32) (k0_hw94 : k0_chk94 v1715), 8 ∣ (k0_mult94 v1715).toNat := fun v1715 k0_hw94 => k0_hw94.1
theorem k0_off212_inb : ∀ (v1715 : BitVec 32) (k0_hw94 : k0_chk94 v1715), ∀ a, (k0_off212 v1715) a + S8x128.size a ≤ S2048x128.size a := fun v1715 k0_hw94 => k0_hw94.2

def k0_mult95 (v1726 : BitVec 32) : BitVec 32 :=
  let c8_i32_960 : BitVec 32 := 8#32
  let v1727 : BitVec 32 := Scalar.muli v1726 c8_i32_960
  v1727

def k0_off213 (v1726 : BitVec 32) : Fin 2 → Nat :=
  let c8_i32_960 : BitVec 32 := 8#32
  let v1727 : BitVec 32 := Scalar.muli v1726 c8_i32_960
  let v1728 : BitVec 32 := v1727
  let v1729 : Index := Scalar.indexCast v1728
  let c0_961 : Index := 0#32
  ![v1729.toNat, 0]

def k0_chk95 (v1726 : BitVec 32) : Prop :=
  (8 ∣ (k0_mult95 v1726).toNat) ∧
  (∀ a, (k0_off213 v1726) a + S8x128.size a ≤ S2048x128.size a)
theorem k0_mult95_dvd : ∀ (v1726 : BitVec 32) (k0_hw95 : k0_chk95 v1726), 8 ∣ (k0_mult95 v1726).toNat := fun v1726 k0_hw95 => k0_hw95.1
theorem k0_off213_inb : ∀ (v1726 : BitVec 32) (k0_hw95 : k0_chk95 v1726), ∀ a, (k0_off213 v1726) a + S8x128.size a ≤ S2048x128.size a := fun v1726 k0_hw95 => k0_hw95.2

def k0_mult96 (v1737 : BitVec 32) : BitVec 32 :=
  let c8_i32_967 : BitVec 32 := 8#32
  let v1738 : BitVec 32 := Scalar.muli v1737 c8_i32_967
  v1738

def k0_off214 (v1737 : BitVec 32) : Fin 2 → Nat :=
  let c8_i32_967 : BitVec 32 := 8#32
  let v1738 : BitVec 32 := Scalar.muli v1737 c8_i32_967
  let v1739 : BitVec 32 := v1738
  let v1740 : Index := Scalar.indexCast v1739
  let c0_968 : Index := 0#32
  ![v1740.toNat, 0]

def k0_chk96 (v1737 : BitVec 32) : Prop :=
  (8 ∣ (k0_mult96 v1737).toNat) ∧
  (∀ a, (k0_off214 v1737) a + S8x128.size a ≤ S2048x128.size a)
theorem k0_mult96_dvd : ∀ (v1737 : BitVec 32) (k0_hw96 : k0_chk96 v1737), 8 ∣ (k0_mult96 v1737).toNat := fun v1737 k0_hw96 => k0_hw96.1
theorem k0_off214_inb : ∀ (v1737 : BitVec 32) (k0_hw96 : k0_chk96 v1737), ∀ a, (k0_off214 v1737) a + S8x128.size a ≤ S2048x128.size a := fun v1737 k0_hw96 => k0_hw96.2

def k0_mult97 (v1748 : BitVec 32) : BitVec 32 :=
  let c8_i32_974 : BitVec 32 := 8#32
  let v1749 : BitVec 32 := Scalar.muli v1748 c8_i32_974
  v1749

def k0_off215 (v1748 : BitVec 32) : Fin 2 → Nat :=
  let c8_i32_974 : BitVec 32 := 8#32
  let v1749 : BitVec 32 := Scalar.muli v1748 c8_i32_974
  let v1750 : BitVec 32 := v1749
  let v1751 : Index := Scalar.indexCast v1750
  let c0_975 : Index := 0#32
  ![v1751.toNat, 0]

def k0_chk97 (v1748 : BitVec 32) : Prop :=
  (8 ∣ (k0_mult97 v1748).toNat) ∧
  (∀ a, (k0_off215 v1748) a + S8x128.size a ≤ S2048x128.size a)
theorem k0_mult97_dvd : ∀ (v1748 : BitVec 32) (k0_hw97 : k0_chk97 v1748), 8 ∣ (k0_mult97 v1748).toNat := fun v1748 k0_hw97 => k0_hw97.1
theorem k0_off215_inb : ∀ (v1748 : BitVec 32) (k0_hw97 : k0_chk97 v1748), ∀ a, (k0_off215 v1748) a + S8x128.size a ≤ S2048x128.size a := fun v1748 k0_hw97 => k0_hw97.2

def k0_mult98 (v1759 : BitVec 32) : BitVec 32 :=
  let c8_i32_981 : BitVec 32 := 8#32
  let v1760 : BitVec 32 := Scalar.muli v1759 c8_i32_981
  v1760

def k0_off216 (v1759 : BitVec 32) : Fin 2 → Nat :=
  let c8_i32_981 : BitVec 32 := 8#32
  let v1760 : BitVec 32 := Scalar.muli v1759 c8_i32_981
  let v1761 : BitVec 32 := v1760
  let v1762 : Index := Scalar.indexCast v1761
  let c0_982 : Index := 0#32
  ![v1762.toNat, 0]

def k0_chk98 (v1759 : BitVec 32) : Prop :=
  (8 ∣ (k0_mult98 v1759).toNat) ∧
  (∀ a, (k0_off216 v1759) a + S8x128.size a ≤ S2048x128.size a)
theorem k0_mult98_dvd : ∀ (v1759 : BitVec 32) (k0_hw98 : k0_chk98 v1759), 8 ∣ (k0_mult98 v1759).toNat := fun v1759 k0_hw98 => k0_hw98.1
theorem k0_off216_inb : ∀ (v1759 : BitVec 32) (k0_hw98 : k0_chk98 v1759), ∀ a, (k0_off216 v1759) a + S8x128.size a ≤ S2048x128.size a := fun v1759 k0_hw98 => k0_hw98.2

def k0_mult99 (v1770 : BitVec 32) : BitVec 32 :=
  let c8_i32_988 : BitVec 32 := 8#32
  let v1771 : BitVec 32 := Scalar.muli v1770 c8_i32_988
  v1771

def k0_off217 (v1770 : BitVec 32) : Fin 2 → Nat :=
  let c8_i32_988 : BitVec 32 := 8#32
  let v1771 : BitVec 32 := Scalar.muli v1770 c8_i32_988
  let v1772 : BitVec 32 := v1771
  let v1773 : Index := Scalar.indexCast v1772
  let c0_989 : Index := 0#32
  ![v1773.toNat, 0]

def k0_chk99 (v1770 : BitVec 32) : Prop :=
  (8 ∣ (k0_mult99 v1770).toNat) ∧
  (∀ a, (k0_off217 v1770) a + S8x128.size a ≤ S2048x128.size a)
theorem k0_mult99_dvd : ∀ (v1770 : BitVec 32) (k0_hw99 : k0_chk99 v1770), 8 ∣ (k0_mult99 v1770).toNat := fun v1770 k0_hw99 => k0_hw99.1
theorem k0_off217_inb : ∀ (v1770 : BitVec 32) (k0_hw99 : k0_chk99 v1770), ∀ a, (k0_off217 v1770) a + S8x128.size a ≤ S2048x128.size a := fun v1770 k0_hw99 => k0_hw99.2

def k0_mult100 (v1781 : BitVec 32) : BitVec 32 :=
  let c8_i32_995 : BitVec 32 := 8#32
  let v1782 : BitVec 32 := Scalar.muli v1781 c8_i32_995
  v1782

def k0_off218 (v1781 : BitVec 32) : Fin 2 → Nat :=
  let c8_i32_995 : BitVec 32 := 8#32
  let v1782 : BitVec 32 := Scalar.muli v1781 c8_i32_995
  let v1783 : BitVec 32 := v1782
  let v1784 : Index := Scalar.indexCast v1783
  let c0_996 : Index := 0#32
  ![v1784.toNat, 0]

def k0_chk100 (v1781 : BitVec 32) : Prop :=
  (8 ∣ (k0_mult100 v1781).toNat) ∧
  (∀ a, (k0_off218 v1781) a + S8x128.size a ≤ S2048x128.size a)
theorem k0_mult100_dvd : ∀ (v1781 : BitVec 32) (k0_hw100 : k0_chk100 v1781), 8 ∣ (k0_mult100 v1781).toNat := fun v1781 k0_hw100 => k0_hw100.1
theorem k0_off218_inb : ∀ (v1781 : BitVec 32) (k0_hw100 : k0_chk100 v1781), ∀ a, (k0_off218 v1781) a + S8x128.size a ≤ S2048x128.size a := fun v1781 k0_hw100 => k0_hw100.2
-- ==== ReferenceIdeal.lean ====
abbrev S256x1024 : Shape := ⟨2, ![256, 1024]⟩
abbrev S1024 : Shape := ⟨1, ![1024]⟩
abbrev S1024x40 : Shape := ⟨2, ![1024, 40]⟩
abbrev S40x25 : Shape := ⟨2, ![40, 25]⟩
abbrev S40x1024x768 : Shape := ⟨3, ![40, 1024, 768]⟩
abbrev S40x768 : Shape := ⟨2, ![40, 768]⟩
abbrev S40x768x1024 : Shape := ⟨3, ![40, 768, 1024]⟩
abbrev S40x1024 : Shape := ⟨2, ![40, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x40 : Shape := ⟨2, ![256, 40]⟩
abbrev S40 : Shape := ⟨1, ![40]⟩
abbrev S40x1 : Shape := ⟨2, ![40, 1]⟩
abbrev S40x25x1 : Shape := ⟨3, ![40, 25, 1]⟩
abbrev S40x25x2 : Shape := ⟨3, ![40, 25, 2]⟩
abbrev S246 : Shape := ⟨1, ![246]⟩
abbrev S1x246 : Shape := ⟨2, ![1, 246]⟩
abbrev S256x246 : Shape := ⟨2, ![256, 246]⟩
abbrev S40x25x1024 : Shape := ⟨3, ![40, 25, 1024]⟩
abbrev S40x25x768 : Shape := ⟨3, ![40, 25, 768]⟩
abbrev S40x1x768 : Shape := ⟨3, ![40, 1, 768]⟩
abbrev S1x1x246 : Shape := ⟨3, ![1, 1, 246]⟩
abbrev S40x25x246 : Shape := ⟨3, ![40, 25, 246]⟩
abbrev S40x1x1024 : Shape := ⟨3, ![40, 1, 1024]⟩
abbrev S1000 : Shape := ⟨1, ![1000]⟩
abbrev S1000x1024 : Shape := ⟨2, ![1000, 1024]⟩
abbrev S1000x1 : Shape := ⟨2, ![1000, 1]⟩
abbrev S1x256 : Shape := ⟨2, ![1, 256]⟩

abbrev nBuf : Space → Nat
  | .hbm => 222
  | .vmem => 9
  | .smem => 0
  | _ => 0

abbrev hbmTy0_0 (i : Nat) : BufTy := match i % 128 with
  | 0 => ⟨S256x1024, .bf16⟩
  | 1 => ⟨S1024, .f32⟩
  | 2 => ⟨S1024x40, .f32⟩
  | 3 => ⟨S40x25, .i32⟩
  | 4 => ⟨S40x1024x768, .fp8e4m3⟩
  | 5 => ⟨S40x1024x768, .fp8e4m3⟩
  | 6 => ⟨S40x768, .f32⟩
  | 7 => ⟨S40x768, .f32⟩
  | 8 => ⟨S40x768x1024, .fp8e4m3⟩
  | 9 => ⟨S40x1024, .f32⟩
  | 10 => ⟨S256x1024, .f32⟩
  | 11 => ⟨S256x1024, .f32⟩
  | 12 => ⟨S_, .f32⟩
  | 13 => ⟨S256, .f32⟩
  | 14 => ⟨S256x1, .f32⟩
  | 15 => ⟨S_, .f32⟩
  | 16 => ⟨S256x1, .f32⟩
  | 17 => ⟨S256x1, .f32⟩
  | 18 => ⟨S_, .f32⟩
  | 19 => ⟨S256x1, .f32⟩
  | 20 => ⟨S256x1, .f32⟩
  | 21 => ⟨S256x1, .f32⟩
  | 22 => ⟨S256x1024, .f32⟩
  | 23 => ⟨S256x1024, .f32⟩
  | 24 => ⟨S1x1024, .f32⟩
  | 25 => ⟨S256x1024, .f32⟩
  | 26 => ⟨S256x1024, .f32⟩
  | 27 => ⟨S256x40, .f32⟩
  | 28 => ⟨S_, .f32⟩
  | 29 => ⟨S256, .f32⟩
  | 30 => ⟨S_, .f32⟩
  | 31 => ⟨S256, .f32⟩
  | 32 => ⟨S256, .f32⟩
  | 33 => ⟨S256x1, .f32⟩
  | 34 => ⟨S256x40, .f32⟩
  | 35 => ⟨S256x40, .f32⟩
  | 36 => ⟨S256x40, .f32⟩
  | 37 => ⟨S_, .f32⟩
  | 38 => ⟨S256, .f32⟩
  | 39 => ⟨S256x1, .f32⟩
  | 40 => ⟨S256x40, .f32⟩
  | 41 => ⟨S256x40, .f32⟩
  | 42 => ⟨S40, .i32⟩
  | 43 => ⟨S40x1, .i32⟩
  | 44 => ⟨S_, .i32⟩
  | 45 => ⟨S40x25, .i32⟩
  | 46 => ⟨S40x25, .i1⟩
  | 47 => ⟨S_, .i32⟩
  | 48 => ⟨S40x25, .i32⟩
  | 49 => ⟨S40x25, .i32⟩
  | 50 => ⟨S40x25, .i32⟩
  | 51 => ⟨S_, .i32⟩
  | 52 => ⟨S40x1, .i32⟩
  | 53 => ⟨S40x1, .i1⟩
  | 54 => ⟨S_, .i32⟩
  | 55 => ⟨S40x1, .i32⟩
  | 56 => ⟨S40x1, .i32⟩
  | 57 => ⟨S40x1, .i32⟩
  | 58 => ⟨S40x25, .i32⟩
  | 59 => ⟨S40x25x1, .i32⟩
  | 60 => ⟨S40x25x1, .i32⟩
  | 61 => ⟨S40x25x2, .i32⟩
  | 62 => ⟨S40x25, .f32⟩
  | 63 => ⟨S256x1024, .f32⟩
  | 64 => ⟨S_, .f32⟩
  | 65 => ⟨S256, .f32⟩
  | 66 => ⟨S256x1, .f32⟩
  | 67 => ⟨S_, .f32⟩
  | 68 => ⟨S256x1, .f32⟩
  | 69 => ⟨S256x1, .f32⟩
  | 70 => ⟨S246, .i32⟩
  | 71 => ⟨S_, .i32⟩
  | 72 => ⟨S246, .i32⟩
  | 73 => ⟨S246, .i32⟩
  | 74 => ⟨S246, .f32⟩
  | 75 => ⟨S_, .f32⟩
  | 76 => ⟨S246, .f32⟩
  | 77 => ⟨S246, .f32⟩
  | 78 => ⟨S1x246, .f32⟩
  | 79 => ⟨S256x246, .f32⟩
  | 80 => ⟨S256x246, .f32⟩
  | 81 => ⟨S256x246, .i1⟩
  | 82 => ⟨S_, .f32⟩
  | 83 => ⟨S_, .f32⟩
  | 84 => ⟨S256x246, .f32⟩
  | 85 => ⟨S256x246, .f32⟩
  | 86 => ⟨S256x246, .f32⟩
  | 87 => ⟨S_, .f32⟩
  | 88 => ⟨S256, .f32⟩
  | 89 => ⟨S256x1, .f32⟩
  | 90 => ⟨S_, .f32⟩
  | 91 => ⟨S256x1, .f32⟩
  | 92 => ⟨S256x1, .i1⟩
  | 93 => ⟨S_, .f32⟩
  | 94 => ⟨S_, .f32⟩
  | 95 => ⟨S256x1, .f32⟩
  | 96 => ⟨S256x1, .f32⟩
  | 97 => ⟨S256x1024, .f32⟩
  | 98 => ⟨S256x1024, .f32⟩
  | 99 => ⟨S_, .f32⟩
  | 100 => ⟨S_, .f32⟩
  | 101 => ⟨S_, .f32⟩
  | 102 => ⟨S256x1024, .f32⟩
  | 103 => ⟨S256x1024, .f32⟩
  | 104 => ⟨S_, .f32⟩
  | 105 => ⟨S256x1024, .f32⟩
  | 106 => ⟨S256x1024, .f32⟩
  | 107 => ⟨S256x1024, .fp8e4m3⟩
  | 108 => ⟨S256x1024, .f32⟩
  | 109 => ⟨S40x1024x768, .f32⟩
  | 110 => ⟨S40x1024x768, .f32⟩
  | 111 => ⟨S40x768x1024, .f32⟩
  | 112 => ⟨S_, .i32⟩
  | 113 => ⟨S40x25, .i32⟩
  | 114 => ⟨S40x25, .i1⟩
  | 115 => ⟨S_, .i32⟩
  | 116 => ⟨S40x25, .i32⟩
  | 117 => ⟨S40x25, .i32⟩
  | 118 => ⟨S40x25, .i32⟩
  | 119 => ⟨S40x25x1, .i32⟩
  | 120 => ⟨S40x25x1024, .f32⟩
  | 121 => ⟨S_, .i32⟩
  | 122 => ⟨S40x25, .i32⟩
  | 123 => ⟨S40x25, .i1⟩
  | 124 => ⟨S_, .i32⟩
  | 125 => ⟨S40x25, .i32⟩
  | 126 => ⟨S40x25, .i32⟩
  | 127 => ⟨S40x25, .i32⟩
  | _ => ⟨S256x1024, .bf16⟩

abbrev hbmTy0_1 (i : Nat) : BufTy := match i % 128 with
  | 0 => ⟨S40x25x1, .i32⟩
  | 1 => ⟨S40x25x1, .f32⟩
  | 2 => ⟨S40x25x768, .f32⟩
  | 3 => ⟨S40x25x768, .f32⟩
  | 4 => ⟨S40x25x768, .f32⟩
  | 5 => ⟨S40x1x768, .f32⟩
  | 6 => ⟨S40x25x768, .f32⟩
  | 7 => ⟨S40x25x768, .f32⟩
  | 8 => ⟨S40x25x768, .f32⟩
  | 9 => ⟨S40x25x768, .f32⟩
  | 10 => ⟨S40x25x768, .f32⟩
  | 11 => ⟨S40x1x768, .f32⟩
  | 12 => ⟨S40x25x768, .f32⟩
  | 13 => ⟨S40x25x768, .f32⟩
  | 14 => ⟨S40x25x768, .f32⟩
  | 15 => ⟨S40x25x768, .f32⟩
  | 16 => ⟨S_, .f32⟩
  | 17 => ⟨S40x25x768, .f32⟩
  | 18 => ⟨S40x25x768, .f32⟩
  | 19 => ⟨S_, .f32⟩
  | 20 => ⟨S40x25x768, .f32⟩
  | 21 => ⟨S40x25x768, .f32⟩
  | 22 => ⟨S40x25x768, .f32⟩
  | 23 => ⟨S40x25x768, .f32⟩
  | 24 => ⟨S40x25x768, .f32⟩
  | 25 => ⟨S_, .f32⟩
  | 26 => ⟨S40x25, .f32⟩
  | 27 => ⟨S40x25x1, .f32⟩
  | 28 => ⟨S_, .f32⟩
  | 29 => ⟨S40x25x1, .f32⟩
  | 30 => ⟨S40x25x1, .f32⟩
  | 31 => ⟨S246, .i32⟩
  | 32 => ⟨S_, .i32⟩
  | 33 => ⟨S246, .i32⟩
  | 34 => ⟨S246, .i32⟩
  | 35 => ⟨S246, .f32⟩
  | 36 => ⟨S_, .f32⟩
  | 37 => ⟨S246, .f32⟩
  | 38 => ⟨S246, .f32⟩
  | 39 => ⟨S1x1x246, .f32⟩
  | 40 => ⟨S40x25x246, .f32⟩
  | 41 => ⟨S40x25x246, .f32⟩
  | 42 => ⟨S40x25x246, .i1⟩
  | 43 => ⟨S_, .f32⟩
  | 44 => ⟨S_, .f32⟩
  | 45 => ⟨S40x25x246, .f32⟩
  | 46 => ⟨S40x25x246, .f32⟩
  | 47 => ⟨S40x25x246, .f32⟩
  | 48 => ⟨S_, .f32⟩
  | 49 => ⟨S40x25, .f32⟩
  | 50 => ⟨S40x25x1, .f32⟩
  | 51 => ⟨S_, .f32⟩
  | 52 => ⟨S40x25x1, .f32⟩
  | 53 => ⟨S40x25x1, .i1⟩
  | 54 => ⟨S_, .f32⟩
  | 55 => ⟨S_, .f32⟩
  | 56 => ⟨S40x25x1, .f32⟩
  | 57 => ⟨S40x25x1, .f32⟩
  | 58 => ⟨S40x25x768, .f32⟩
  | 59 => ⟨S40x25x768, .f32⟩
  | 60 => ⟨S_, .f32⟩
  | 61 => ⟨S_, .f32⟩
  | 62 => ⟨S_, .f32⟩
  | 63 => ⟨S40x25x768, .f32⟩
  | 64 => ⟨S40x25x768, .f32⟩
  | 65 => ⟨S_, .f32⟩
  | 66 => ⟨S40x25x768, .f32⟩
  | 67 => ⟨S40x25x768, .f32⟩
  | 68 => ⟨S40x25x1024, .f32⟩
  | 69 => ⟨S40x25x1024, .f32⟩
  | 70 => ⟨S40x25x1024, .f32⟩
  | 71 => ⟨S40x1x1024, .f32⟩
  | 72 => ⟨S40x25x1024, .f32⟩
  | 73 => ⟨S40x25x1024, .f32⟩
  | 74 => ⟨S40x25x1, .f32⟩
  | 75 => ⟨S40x25x1024, .f32⟩
  | 76 => ⟨S40x25x1024, .f32⟩
  | 77 => ⟨S_, .f32⟩
  | 78 => ⟨S256x1024, .f32⟩
  | 79 => ⟨S1000, .i32⟩
  | 80 => ⟨S1000x1024, .f32⟩
  | 81 => ⟨S_, .i32⟩
  | 82 => ⟨S1000, .i32⟩
  | 83 => ⟨S1000, .i1⟩
  | 84 => ⟨S_, .i32⟩
  | 85 => ⟨S1000, .i32⟩
  | 86 => ⟨S1000, .i32⟩
  | 87 => ⟨S1000, .i32⟩
  | 88 => ⟨S1000x1, .i32⟩
  | 89 => ⟨S256x1024, .f32⟩
  | 90 => ⟨S256x1024, .f32⟩
  | 91 => ⟨S256x1024, .bf16⟩
  | 92 => ⟨S256x1024, .bf16⟩
  | 93 => ⟨S1x256, .f32⟩
  | _ => ⟨S256x1024, .bf16⟩

abbrev hbmTy (i : Nat) : BufTy := match i / 128 with
  | 0 => hbmTy0_0 i
  | 1 => hbmTy0_1 i
  | _ => ⟨S256x1024, .bf16⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S40x1024x768, .fp8e4m3⟩
  | .local _ .vmem, ⟨2, _⟩ => ⟨S40x1024x768, .fp8e4m3⟩
  | .local _ .vmem, ⟨3, _⟩ => ⟨S40x768x1024, .fp8e4m3⟩
  | .local _ .vmem, ⟨4, _⟩ => ⟨S256x1024, .fp8e4m3⟩
  | .local _ .vmem, ⟨5, _⟩ => ⟨S256x1024, .f32⟩
  | .local _ .vmem, ⟨6, _⟩ => ⟨S40x1024x768, .f32⟩
  | .local _ .vmem, ⟨7, _⟩ => ⟨S40x1024x768, .f32⟩
  | .local _ .vmem, ⟨8, _⟩ => ⟨S40x768x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_cst_15 : Ref sig .tc := ⟨.hbm, 93, rfl⟩
abbrev main_call1_v0 : Ref sig .tc := ⟨.hbm, 94, rfl⟩
abbrev main_call1_v1 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_16 : Ref sig .tc := ⟨.hbm, 99, rfl⟩
abbrev main_cst_17 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_v66 : Ref sig .tc := ⟨.hbm, 106, rfl⟩
abbrev main_v67_0 : Ref sig .tc := ⟨.hbm, 107, rfl⟩
abbrev main_v67_1 : Ref sig .tc := ⟨.hbm, 108, rfl⟩
abbrev main_v67_2 : Ref sig .tc := ⟨.hbm, 109, rfl⟩
abbrev main_v67_3 : Ref sig .tc := ⟨.hbm, 110, rfl⟩
abbrev main_v67_4 : Ref sig .tc := ⟨.hbm, 111, rfl⟩
abbrev main_c_18 : Ref sig .tc := ⟨.hbm, 112, rfl⟩
abbrev main_v68 : Ref sig .tc := ⟨.hbm, 113, rfl⟩
abbrev main_v69 : Ref sig .tc := ⟨.hbm, 114, rfl⟩
abbrev main_c_19 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_c_20 : Ref sig .tc := ⟨.hbm, 121, rfl⟩
abbrev main_v75 : Ref sig .tc := ⟨.hbm, 122, rfl⟩
abbrev main_v76 : Ref sig .tc := ⟨.hbm, 123, rfl⟩
abbrev main_c_21 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_call3_v0 : Ref sig .tc := ⟨.hbm, 142, rfl⟩
abbrev main_call3_v1 : Ref sig .tc := ⟨.hbm, 143, rfl⟩
abbrev main_call3_cst : Ref sig .tc := ⟨.hbm, 144, rfl⟩
abbrev main_call3_v2 : Ref sig .tc := ⟨.hbm, 145, rfl⟩
abbrev main_call3_v3 : Ref sig .tc := ⟨.hbm, 146, rfl⟩
abbrev main_call3_cst_0 : Ref sig .tc := ⟨.hbm, 147, rfl⟩
abbrev main_call3_v4 : Ref sig .tc := ⟨.hbm, 148, rfl⟩
abbrev main_call3_v5 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_22 : Ref sig .tc := ⟨.hbm, 153, rfl⟩
abbrev main_v97 : Ref sig .tc := ⟨.hbm, 154, rfl⟩
abbrev main_v98 : Ref sig .tc := ⟨.hbm, 155, rfl⟩
abbrev main_cst_23 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_c_24 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_cst_25 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_cst_26 : Ref sig .tc := ⟨.hbm, 171, rfl⟩
abbrev main_call4_v0 : Ref sig .tc := ⟨.hbm, 172, rfl⟩
abbrev main_call4_v1 : Ref sig .tc := ⟨.hbm, 173, rfl⟩
abbrev main_call4_v2 : Ref sig .tc := ⟨.hbm, 174, rfl⟩
abbrev main_v111 : Ref sig .tc := ⟨.hbm, 175, rfl⟩
abbrev main_cst_27 : Ref sig .tc := ⟨.hbm, 176, rfl⟩
abbrev main_v112 : Ref sig .tc := ⟨.hbm, 177, rfl⟩
abbrev main_v113 : Ref sig .tc := ⟨.hbm, 178, rfl⟩
abbrev main_cst_28 : Ref sig .tc := ⟨.hbm, 179, rfl⟩
abbrev main_v114 : Ref sig .tc := ⟨.hbm, 180, rfl⟩
abbrev main_v115 : Ref sig .tc := ⟨.hbm, 181, rfl⟩
abbrev main_cst_29 : Ref sig .tc := ⟨.hbm, 182, rfl⟩
abbrev main_call5_v0 : Ref sig .tc := ⟨.hbm, 183, rfl⟩
abbrev main_call5_v1 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_cst_30 : Ref sig .tc := ⟨.hbm, 188, rfl⟩
abbrev main_cst_31 : Ref sig .tc := ⟨.hbm, 189, rfl⟩
abbrev main_call6_v0 : Ref sig .tc := ⟨.hbm, 190, rfl⟩
abbrev main_call6_v1 : Ref sig .tc := ⟨.hbm, 191, rfl⟩
abbrev main_call6_v2 : Ref sig .tc := ⟨.hbm, 192, rfl⟩
abbrev main_call6_v3 : Ref sig .tc := ⟨.hbm, 193, rfl⟩
abbrev main_call6_v4 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_cst_32 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_c_33 : Ref sig .tc := ⟨.hbm, 209, rfl⟩
abbrev main_v132 : Ref sig .tc := ⟨.hbm, 210, rfl⟩
abbrev main_v133 : Ref sig .tc := ⟨.hbm, 211, rfl⟩
abbrev main_c_34 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x1024x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x1024x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x768x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40x1024x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S40x1024x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S40x768x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Run.lean ====
/-
  A pure reading of a one-core program that loads, stores, assumes, starts its own transfers and waits for them.

  `Pure.pwp p s Q` says, with no separation logic, that the program `p` runs from the state `s` and ends in a result and
  a state satisfying `Q`. A state holds the contents of every buffer, the elements lent to transfers in flight
  (`lock`), and what is in flight on each transfer cell (`pend`). A transfer's copy is made at once when it starts, and
  its two ends stay locked until it is waited for: no access to a locked element is allowed, so nothing can see the
  difference. `Pure.sound` turns a pure run into the logic's `wp`.
-/
module

public import Idealize.ShloMosaic.Lib.Transfers
public import Idealize.ShloMosaic.Lib.Scf
public import Idealize.ShloMosaic.Lib.Tactic

@[expose] public section

noncomputable section

namespace Idealize.ShloMosaic.Pure

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Val : EltTy → Type}

/-- The elements of the buffer `b` of core `c`. -/
abbrev Ix (c : Dev nD) (b : Ref sig .tc) : Type := Idx ((c : Thread nD τ).loc b)

/-- A transfer in flight: the elements of every buffer it has borrowed, and its amount. -/
structure Pend (τ : Topo) (sig : RefSig) (c : Dev nD) where
  lk : (b : Ref sig .tc) → Finset (Idx ((c : Thread nD τ).loc b))
  N : ℕ

/-- The state of core `c`: the buffers' contents, the elements lent, the transfers in flight. -/
structure St (τ : Topo) (sig : RefSig) (Val : EltTy → Type) (c : Dev nD) where
  σ : (b : Ref sig .tc) → Buf Val ((c : Thread nD τ).loc b)
  lock : (b : Ref sig .tc) → Finset (Idx ((c : Thread nD τ).loc b))
  pend : DmaSem sig → Option (Pend τ sig c)

variable {c : Dev nD}

/-- The buffer `b` overwritten. -/
def St.set (s : St τ sig Val c) (b : Ref sig .tc) (f : Buf Val ((c : Thread nD τ).loc b)) : St τ sig Val c :=
  { s with σ := Function.update s.σ b f }

/-- What a transfer between the elements `Sd` of `rd` and `Ss` of `rs` borrows. -/
def ends (rd rs : Ref sig .tc) (Sd : Finset (Idx ((c : Thread nD τ).loc rd))) (Ss : Finset (Idx ((c : Thread nD τ).loc rs))) :
    (b : Ref sig .tc) → Finset (Idx ((c : Thread nD τ).loc b)) :=
  Function.update (Function.update (fun _ => ∅) rd Sd) rs Ss

/-- A transfer started on `sem`: the destination rewritten, both ends lent. -/
def St.enq (s : St τ sig Val c) (sem : DmaSem sig) (p : Pend τ sig c) (b : Ref sig .tc) (f : Buf Val ((c : Thread nD τ).loc b)) : St τ sig Val c :=
  { σ := Function.update s.σ b f, lock := fun b' => s.lock b' ∪ p.lk b', pend := Function.update s.pend sem (some p) }

/-- The transfer on `sem` waited for: what it borrowed is back. -/
def St.deq (s : St τ sig Val c) (sem : DmaSem sig) (p : Pend τ sig c) : St τ sig Val c :=
  { s with lock := fun b => s.lock b \ p.lk b, pend := Function.update s.pend sem none }

variable {Λ : Labels}

/-- One effect, purely. -/
def step {β : Type} (e : TpuEff nD τ sig Val Λ .tc β) (s : St τ sig Val c) (K : β → St τ sig Val c → Prop) : Prop :=
  match e, K with
  | .load m r _, K => m.view.setOn r.set ⊆ (s.lock m.view.ref)ᶜ ∧ K (m.view.readAt Val r (s.σ m.view.ref)) s
  | .store m r w M _ _, K => (m.access r).setOn M ⊆ (s.lock (m.access r).ref)ᶜ
      ∧ K ⟨⟩ (s.set (m.access r).ref ((m.access r).write Val (s.σ (m.access r).ref) w M))
  | .assume P _, K => ∃ h : P, K ⟨h⟩ s
  | .enqueueDmaAs src tgt via sem _ _ _, K => match tgt, sem with
    | .here dst, .dma sem => s.pend sem = none ∧ dst.view.ref ≠ src.view.ref
      ∧ dst.view.set ⊆ (s.lock dst.view.ref)ᶜ ∧ src.view.set ⊆ (s.lock src.view.ref)ᶜ ∧ 0 < dst.view.dmaCredit
      ∧ K ⟨⟩ (s.enq sem ⟨ends dst.view.ref src.view.ref dst.view.set src.view.set, dst.view.dmaCredit⟩ dst.view.ref
          (dst.view.write Val (s.σ dst.view.ref) (via.apply (src.view.read Val (s.σ src.view.ref))) Finset.univ))
    | .here _, .reg _ => False
    | .remote .., _ => False
  | .waitDma sem b s' e' _, K => ∃ p, s.pend sem = some p ∧ b.dmaCredit s' e' = p.N ∧ K ⟨⟩ (s.deq sem p)
  | .havoc .., _ => False
  | .deviceId, _ => False
  | .semSignal .., _ => False
  | .dmaSemSignal .., _ => False
  | .semWait .., _ => False
  | .semRead .., _ => False
  | .enqueueIndirectDma .., _ => False
  | .prngSeed .., _ => False
  | .prngDraw .., _ => False
  | .hloBegin .., _ => False
  | .hloEnd .., _ => False
  | .call .., _ => False
  | .customCall .., _ => False
  | .kernelExit, _ => False

/-- The program `p` runs from `s` to a result and a state satisfying `Q`. -/
def pwp {α : Type} : Prog (TpuEff nD τ sig Val Λ .tc) α → St τ sig Val c → (α → St τ sig Val c → Prop) → Prop
  | .ret a, s, Q => Q a s
  | .op e k, s, Q => step e s fun x s' => pwp (k x) s' Q

theorem step_mono {β : Type} (e : TpuEff nD τ sig Val Λ .tc β) (s : St τ sig Val c) {K K' : β → St τ sig Val c → Prop}
    (h : ∀ x s', K x s' → K' x s') : step e s K → step e s K' := by
  intro H
  cases e
  case load => exact ⟨H.1, h _ _ H.2⟩
  case store => exact ⟨H.1, h _ _ H.2⟩
  case assume => exact H.elim fun a b => ⟨a, h _ _ b⟩
  case waitDma => obtain ⟨p, h1, h2, h3⟩ := H; exact ⟨p, h1, h2, h _ _ h3⟩
  case enqueueDmaAs src tgt via sem a b d =>
    cases tgt with
    | remote => exact H.elim
    | here dst =>
      cases sem with
      | reg => exact H.elim
      | dma sem => exact ⟨H.1, H.2.1, H.2.2.1, H.2.2.2.1, H.2.2.2.2.1, h _ _ H.2.2.2.2.2⟩
  all_goals exact H.elim

/-- What follows may be weakened. -/
theorem pwp_mono {α : Type} (p : Prog (TpuEff nD τ sig Val Λ .tc) α) (s : St τ sig Val c) {Q Q' : α → St τ sig Val c → Prop}
    (h : ∀ x s', Q x s' → Q' x s') (H : pwp p s Q) : pwp p s Q' := by
  induction p generalizing s with
  | ret a => exact h _ _ H
  | op e k ih => exact step_mono e s (fun x s' hx => ih x s' hx) H

/-- One program after another. -/
theorem pwp_bind {α β : Type} (p : Prog (TpuEff nD τ sig Val Λ .tc) α) (f : α → Prog (TpuEff nD τ sig Val Λ .tc) β) (s : St τ sig Val c)
    (Q : β → St τ sig Val c → Prop) : pwp (p >>= f) s Q = pwp p s fun a s' => pwp (f a) s' Q := by
  induction p generalizing s with
  | ret a => rfl
  | op e k ih =>
    show step e s (fun x s' => pwp (k x >>= f) s' Q) = step e s _
    congr 1; funext x s'; exact ih x s'

/-- A pure run ends in one result and one state. -/
theorem pwp_exists {α : Type} (p : Prog (TpuEff nD τ sig Val Λ .tc) α) (s : St τ sig Val c) (Q : α → St τ sig Val c → Prop)
    (H : pwp p s Q) : ∃ a s', Q a s' ∧ pwp p s fun x t => x = a ∧ t = s' := by
  induction p generalizing s with
  | ret a => exact ⟨a, s, H, rfl, rfl⟩
  | op e k ih =>
    cases e
    case load => obtain ⟨a, s', h1, h2⟩ := ih _ _ H.2; exact ⟨a, s', h1, H.1, h2⟩
    case store => obtain ⟨a, s', h1, h2⟩ := ih _ _ H.2; exact ⟨a, s', h1, H.1, h2⟩
    case assume => obtain ⟨h, H⟩ := H; obtain ⟨a, s', h1, h2⟩ := ih _ _ H; exact ⟨a, s', h1, h, h2⟩
    case waitDma =>
      obtain ⟨p, h1, h2, h3⟩ := H; obtain ⟨a, s', h4, h5⟩ := ih _ _ h3
      exact ⟨a, s', h4, p, h1, h2, h5⟩
    case enqueueDmaAs src tgt via sem _ _ _ =>
      cases tgt with
      | remote => exact H.elim
      | here dst =>
        cases sem with
        | reg => exact H.elim
        | dma sem =>
          obtain ⟨h1, h2, h3, h4, h5, h6⟩ := H; obtain ⟨a, s', h7, h8⟩ := ih _ _ h6
          exact ⟨a, s', h7, h1, h2, h3, h4, h5, h8⟩
    all_goals exact H.elim

/-- A loop with no carried value, by an invariant. -/
theorem pwp_for {w : Nat} (l : Scf.Loop w) (hok : l.OK) (body : Fin l.trips → PUnit → Prog (TpuEff nD τ sig Val Λ .tc) PUnit)
    (I : ℕ → St τ sig Val c → Prop) (s : St τ sig Val c) (Q : PUnit → St τ sig Val c → Prop) (h0 : I 0 s)
    (hstep : ∀ (k : Fin l.trips) s, I k s → pwp (body k ⟨⟩) s fun _ s' => I (k + 1) s')
    (hQ : ∀ s, I l.trips s → Q ⟨⟩ s) : pwp (Scf.Loop.for l hok ⟨⟩ body) s Q := by
  unfold Scf.Loop.for
  rw [Scf.for_eq]
  have key : ∀ (j : ℕ) (ks : List (Fin l.trips)) (s : St τ sig Val c), (ks.map Fin.val = (List.range' j (l.trips - j))) → j ≤ l.trips → I j s →
      pwp (Scf.forFrom body ks ⟨⟩) s Q := by
    intro j ks
    induction ks generalizing j with
    | nil =>
      intro s hks hj hI
      have : l.trips - j = 0 := by
        have := congrArg List.length hks; simpa using this.symm
      have : j = l.trips := by omega
      subst this; exact hQ s hI
    | cons k ks ih =>
      intro s hks hj hI
      have hlen := congrArg List.length hks
      simp at hlen
      obtain ⟨n, hn⟩ : ∃ n, l.trips - j = n + 1 := ⟨ks.length, by omega⟩
      rw [hn, List.range'_succ] at hks
      simp at hks
      obtain ⟨hk, hks⟩ := hks
      rw [Scf.forFrom_cons, pwp_bind]
      refine pwp_mono _ _ ?_ (hstep k s (hk ▸ hI))
      intro x s' hI'
      refine ih (j + 1) s' ?_ (by omega) (hk ▸ hI')
      rw [hks]; congr 1; omega
  refine key 0 _ s ?_ (Nat.zero_le _) h0
  exact List.ext_getElem (by simp) fun i h1 h2 => by simp

/-! ## The logic's reading -/

variable {U : Type} [URA U]

local notation "𝕄" => MT nD τ sig Unit Val ℕ U ℕ

variable (EC : UEmb Counters (MT nD τ sig Unit Val ℕ U ℕ))

/-- What a transfer in flight gives back. -/
def delivery [Fintype (Ref sig .tc)] (lk : (b : Ref sig .tc) → Finset (Idx ((c : Thread nD τ).loc b)))
    (σ : (b : Ref sig .tc) → Buf Val ((c : Thread nD τ).loc b)) : sProp 𝕄 :=
  bigSep Finset.univ fun b => ((c : Thread nD τ).loc b) ↦[lk b]{fullShare} σ b

/-- A transfer cell: at zero, or carrying a transfer. -/
def cell [Fintype (Ref sig .tc)] (s : St τ sig Val c) (sem : DmaSem sig) : sProp 𝕄 :=
  match s.pend sem with
  | none => semVal ((c : Thread nD τ), SemLoc.dma sem) 0
  | some p => Flight EC (c : Thread nD τ) (.dma sem) () p.N (delivery p.lk s.σ)

/-- What is in flight is locked, and no two transfers share an element. -/
structure St.WF (s : St τ sig Val c) : Prop where
  sub : ∀ sem p, s.pend sem = some p → ∀ b, p.lk b ⊆ s.lock b
  disj : ∀ sem sem' p p', sem ≠ sem' → s.pend sem = some p → s.pend sem' = some p' → ∀ b, Disjoint (p.lk b) (p'.lk b)

/-- The core's resources at a state. -/
def Own [Fintype (Ref sig .tc)] (s : St τ sig Val c) : sProp 𝕄 :=
  iprop(⌜s.WF⌝ ∗ delivery (fun b => (s.lock b)ᶜ) s.σ ∗ bigSep Finset.univ (cell EC s) ∗ ∃ W, owes (c : Thread nD τ) 0 W)

variable [Fintype (Ref sig .tc)]

theorem split1 {I : Type} [Fintype I] [DecidableEq I] (i : I) (Φ : I → sProp 𝕄) :
    bigSep Finset.univ Φ = iprop(Φ i ∗ bigSep (Finset.univ.erase i) Φ) := bigSep_univ_split i

theorem erase1 {I : Type} [DecidableEq I] {s : Finset I} {i : I} (h : i ∈ s) (Φ : I → sProp 𝕄) :
    bigSep s Φ = iprop(Φ i ∗ bigSep (s.erase i) Φ) := bigSep_erase h

theorem delivery_congr {lk : (b : Ref sig .tc) → Finset (Idx ((c : Thread nD τ).loc b))} {σ σ' : (b : Ref sig .tc) → Buf Val ((c : Thread nD τ).loc b)}
    (h : ∀ b, ∀ i ∈ lk b, σ b i = σ' b i) : (delivery lk σ : sProp 𝕄) = delivery lk σ' :=
  bigSep_congr fun b _ => pointsTo_congr (h b)

theorem delivery_union {lk lk' : (b : Ref sig .tc) → Finset (Idx ((c : Thread nD τ).loc b))} {σ : (b : Ref sig .tc) → Buf Val ((c : Thread nD τ).loc b)}
    (h : ∀ b, Disjoint (lk b) (lk' b)) : (delivery (fun b => lk b ∪ lk' b) σ : sProp 𝕄) = iprop(delivery lk σ ∗ delivery lk' σ) := by
  unfold delivery
  refine Eq.trans ?_ (bigSep_sep _ _ _)
  exact bigSep_congr fun b _ => Entails.antisymm (pointsTo_union (h b)).1 (pointsTo_union (h b)).2

theorem delivery_take (b : Ref sig .tc) {lk : (b : Ref sig .tc) → Finset (Idx ((c : Thread nD τ).loc b))} {σ : (b : Ref sig .tc) → Buf Val ((c : Thread nD τ).loc b)}
    (f : Buf Val ((c : Thread nD τ).loc b)) :
    (delivery lk σ : sProp 𝕄) ⊢ iprop((((c : Thread nD τ).loc b) ↦[lk b]{fullShare} σ b)
      ∗ ((((c : Thread nD τ).loc b) ↦[lk b]{fullShare} f) -∗ delivery lk (Function.update σ b f))) := by
  classical
  unfold delivery
  rw [split1 b, split1 b (fun b' => ((c : Thread nD τ).loc b') ↦[lk b']{fullShare} Function.update σ b f b')]
  have : (bigSep (Finset.univ.erase b) fun b' => (((c : Thread nD τ).loc b') ↦[lk b']{fullShare} Function.update σ b f b' : sProp 𝕄))
      = bigSep (Finset.univ.erase b) fun b' => ((c : Thread nD τ).loc b') ↦[lk b']{fullShare} σ b' :=
    bigSep_congr fun b' hb' => by rw [Function.update_of_ne (Finset.ne_of_mem_erase hb')]
  rw [this, Function.update_self]
  iintro ⟨H, HR⟩
  isplitl [H]; · iexact H
  iintro H
  isplitl [H] <;> iassumption

theorem sep_emp_eq (A B : sProp 𝕄) : iprop(A ∗ B ∗ emp) = iprop(A ∗ B) := by
  refine Entails.antisymm ?_ ?_
  · show iprop(A ∗ B ∗ emp) ⊢ iprop(A ∗ B)
    iintro ⟨H1, H2, -⟩
    isplitl [H1] <;> iassumption
  · show iprop(A ∗ B) ⊢ iprop(A ∗ B ∗ emp)
    iintro ⟨H1, H2⟩
    isplitl [H1]; · iexact H1
    isplitl [H2]; · iexact H2
    iempintro

theorem delivery_ends {rd rs : Ref sig .tc} (hne : rd ≠ rs) {Sd : Finset (Idx ((c : Thread nD τ).loc rd))} {Ss : Finset (Idx ((c : Thread nD τ).loc rs))}
    {σ : (b : Ref sig .tc) → Buf Val ((c : Thread nD τ).loc b)} :
    (delivery (ends rd rs Sd Ss) σ : sProp 𝕄)
      = iprop((((c : Thread nD τ).loc rd) ↦[Sd]{fullShare} σ rd) ∗ (((c : Thread nD τ).loc rs) ↦[Ss]{fullShare} σ rs)) := by
  classical
  unfold delivery
  rw [split1 rd, erase1 (i := rs) (Finset.mem_erase.mpr ⟨hne.symm, Finset.mem_univ _⟩)]
  have : (bigSep ((Finset.univ.erase rd).erase rs) fun b' => (((c : Thread nD τ).loc b') ↦[ends rd rs Sd Ss b']{fullShare} σ b' : sProp 𝕄)) = iprop(emp) := by
    refine (bigSep_congr fun b' hb' => ?_).trans (bigSep_emp_const _)
    have h1 := Finset.ne_of_mem_erase hb'
    have h2 := Finset.ne_of_mem_erase (Finset.mem_of_mem_erase hb')
    rw [ends, Function.update_of_ne h1, Function.update_of_ne h2]
    exact pointsTo_empty
  rw [this]
  have e1 : ends rd rs Sd Ss rd = Sd := by rw [ends, Function.update_of_ne hne, Function.update_self]
  have e2 : ends rd rs Sd Ss rs = Ss := by rw [ends, Function.update_self]
  rw [e1, e2]
  exact sep_emp_eq _ _

/-- A cell's reading depends on the contents of locked elements only. -/
theorem cells_congr {s s' : St τ sig Val c} (hp : s'.pend = s.pend) (hwf : s.WF) (S : Finset (DmaSem sig))
    (h : ∀ b, ∀ i ∈ s.lock b, s.σ b i = s'.σ b i) : (bigSep S (cell EC s) : sProp 𝕄) = bigSep S (cell EC s') := by
  refine bigSep_congr fun sem _ => ?_
  unfold cell
  rw [hp]
  split
  · rfl
  · rename_i p hpe
    rw [delivery_congr fun b i hi => h b i (hwf.sub sem p hpe b hi)]

variable [EC.LandsIn (upEmb : UEmb _ (MT nD τ sig Unit Val ℕ U ℕ))] {defs : Defs nD τ sig Val Λ} (𝒱 : Variants) (bd : Option 𝒱.V)

/-- A pure run is a run of the logic's: from the resources of the first state the program runs to the resources of a last
    state that satisfies `Q`. -/
theorem sound {α : Type} (p : Prog (TpuEff nD τ sig Val Λ .tc) α) (s : St τ sig Val c) (Q : α → St τ sig Val c → Prop)
    (K : α → sProp 𝕄) (H : pwp p s Q) :
    iprop(Own EC s ∗ (∀ a s', ⌜Q a s'⌝ -∗ Own EC s' -∗ K a)) ⊢ wp frame (wpE defs 𝒱 (c : Thread nD τ) bd) Set.univ p K := by
  classical
  induction p generalizing s with
  | ret a =>
    rw [wp_ret]
    iintro ⟨HO, HK⟩
    imodintro
    iapply HK $$ %a %s
    · ipureintro; exact H
    · iexact HO
  | op e k ih =>
    cases e
    case load m r hl =>
      obtain ⟨hS, H⟩ := H
      iintro ⟨HO, HK⟩
      unfold Own
      icases HO with ⟨%hwf, HD, HC, HW⟩
      ihave ⟨Hp, HD⟩ := (delivery_take m.view.ref (s.σ m.view.ref)) $$ HD
      iapply (wp_load (defs := defs) 𝒱 (c : Thread nD τ) bd Set.univ (m := m) hS) $$ Hp
      iintro Hp
      ihave HD := HD $$ Hp
      rw [Function.update_eq_self]
      iapply (ih _ _ H)
      isplitr [HK]; swap; · iexact HK
      unfold Own
      isplitr; · ipureintro; exact hwf
      isplitl [HD]; · iexact HD
      isplitl [HC]; · iexact HC
      iexact HW
    case store m r w M hx hm =>
      obtain ⟨hS, H⟩ := H
      iintro ⟨HO, HK⟩
      unfold Own
      icases HO with ⟨%hwf, HD, HC, HW⟩
      ihave ⟨Hp, HD⟩ := (delivery_take (m.access r).ref ((m.access r).write Val (s.σ (m.access r).ref) w M)) $$ HD
      iapply (wp_store (defs := defs) 𝒱 (c : Thread nD τ) bd Set.univ (m := m) hS) $$ Hp
      iintro Hp
      ihave HD := HD $$ Hp
      have hcc := cells_congr EC (U := U) (s := s) (s' := s.set (m.access r).ref ((m.access r).write Val (s.σ (m.access r).ref) w M)) rfl hwf Finset.univ (by
        intro b i hi
        by_cases hb : b = (m.access r).ref
        · subst hb
          simp only [St.set, Function.update_self]
          exact (View.write_of_not_mem (v := m.access r) (Val := Val) (s.σ (m.access r).ref) w M (i := i)
            fun h => Finset.mem_compl.mp (hS h) hi).symm
        · simp only [St.set, Function.update_of_ne hb])
      ihave HC := (Entails.of_eq hcc) $$ HC
      iapply (ih _ _ H)
      isplitr [HK]; swap; · iexact HK
      unfold Own
      isplitr; · ipureintro; exact ⟨hwf.sub, hwf.disj⟩
      isplitl [HD]; · iexact HD
      isplitl [HC]; · iexact HC
      iexact HW
    case assume P d =>
      obtain ⟨h, H⟩ := H
      exact (ih _ _ H).trans (wp_assume (defs := defs) 𝒱 (c : Thread nD τ) bd Set.univ h)
    case enqueueDmaAs src tgt via sem hs hd hsem =>
      cases tgt with
      | remote => exact H.elim
      | here dst =>
      cases sem with
      | reg => exact H.elim
      | dma sem =>
      obtain ⟨hpe, hne, hSd, hSs, hN, H⟩ := H
      unfold Own
      set lk := ends (c := c) (τ := τ) dst.view.ref src.view.ref dst.view.set src.view.set with hlk
      have hlkd : lk dst.view.ref = dst.view.set := by rw [hlk, ends, Function.update_of_ne hne, Function.update_self]
      have hlks : lk src.view.ref = src.view.set := by rw [hlk, ends, Function.update_self]
      have hlko : ∀ b, b ≠ dst.view.ref → b ≠ src.view.ref → lk b = ∅ := fun b h1 h2 => by
        rw [hlk, ends, Function.update_of_ne h2, Function.update_of_ne h1]
      have hsub : ∀ b, lk b ⊆ (s.lock b)ᶜ := by
        intro b
        by_cases h2 : b = src.view.ref
        · subst h2; rw [hlks]; exact hSs
        by_cases h1 : b = dst.view.ref
        · subst h1; rw [hlkd]; exact hSd
        rw [hlko b h1 h2]; exact Finset.empty_subset _
      set new := dst.view.write Val (s.σ dst.view.ref) (via.apply (src.view.read Val (s.σ src.view.ref))) Finset.univ with hnew
      set s' := s.enq sem ⟨lk, dst.view.dmaCredit⟩ dst.view.ref new with hs'
      have hσ : ∀ b i, i ∉ lk b → s.σ b i = s'.σ b i := by
        intro b i hi
        by_cases h1 : b = dst.view.ref
        · subst h1
          rw [hs']; simp only [St.enq, Function.update_self]
          rw [hlkd] at hi
          exact (View.write_of_not_mem _ _ _ (by rwa [View.setOn_univ])).symm
        · rw [hs']; simp only [St.enq, Function.update_of_ne h1]
      have hsplit : (delivery (fun b => (s.lock b)ᶜ) s.σ : sProp 𝕄) = iprop(delivery (fun b => (s.lock b ∪ lk b)ᶜ) s'.σ ∗ delivery lk s.σ) := by
        rw [← delivery_congr (σ := s.σ) (σ' := s'.σ) (lk := fun b => (s.lock b ∪ lk b)ᶜ) fun b i hi => hσ b i fun h =>
          (Finset.mem_compl.mp hi) (Finset.mem_union_right _ h)]
        rw [← delivery_union]
        · congr 1; funext b
          ext i
          have := @hsub b i
          simp only [Finset.mem_compl, Finset.mem_union] at this ⊢
          tauto
        · intro b
          rw [Finset.disjoint_left]
          intro i hi h
          exact (Finset.mem_compl.mp hi) (Finset.mem_union_right _ h)
      rw [delivery_ends hne] at hsplit
      iintro ⟨⟨%hwf, HD, HC, HW⟩, HK⟩
      ihave HD := (Entails.of_eq hsplit) $$ HD
      ihave HC := (Entails.of_eq (split1 sem (cell EC s))) $$ HC
      icases HD with ⟨HD, Hd, Hs⟩
      icases HC with ⟨Hc, HC⟩
      have hcell : (cell EC s sem : sProp 𝕄) = semVal ((c : Thread nD τ), SemLoc.dma sem) 0 := by unfold cell; rw [hpe]
      ihave Hc := (Entails.of_eq hcell) $$ Hc
      have hcells : (bigSep (Finset.univ.erase sem) (cell EC s) : sProp 𝕄) = bigSep (Finset.univ.erase sem) (cell EC s') := by
        refine bigSep_congr fun sem' hsem' => ?_
        have hne' := Finset.ne_of_mem_erase hsem'
        have : s'.pend sem' = s.pend sem' := by rw [hs']; simp only [St.enq, Function.update_of_ne hne']
        unfold cell
        rw [this]
        split
        · rfl
        · rename_i p hpe'
          rw [delivery_congr fun b i hi => hσ b i fun h => Finset.mem_compl.mp (hsub b h) (hwf.sub sem' p hpe' b hi)]
      ihave HC := (Entails.of_eq hcells) $$ HC
      iapply (wp_dmaLocal (defs := defs) EC 𝒱 (c : Thread nD τ) bd (src := src) (dst := dst) (via := via) (sm := .dma sem) ()
        dst.view.dmaCredit rfl hN (subset_refl _)) $$ [Hd Hs Hc]
      · isplitl [Hs]; · iexact Hs
        isplitl [Hd]; · iexact Hd
        iexact Hc
      iintro HF
      ihave HF := (Flight_mono EC (c : Thread nD τ) (D' := delivery lk s'.σ) (by
        rw [delivery_ends hne]
        have e1 : s'.σ dst.view.ref = new := by rw [hs']; simp only [St.enq, Function.update_self]
        have e2 : s'.σ src.view.ref = s.σ src.view.ref := by rw [hs']; simp only [St.enq, Function.update_of_ne hne.symm]
        rw [e1, e2])) $$ HF
      iapply (ih _ _ H)
      isplitr [HK]; swap; · iexact HK
      unfold Own
      isplitr
      · ipureintro
        constructor
        · intro sem' p hp b
          by_cases h : sem' = sem
          · subst h
            simp only [hs', St.enq, Function.update_self, Option.some.injEq] at hp
            subst hp; exact Finset.subset_union_right
          · simp only [hs', St.enq, Function.update_of_ne h] at hp
            exact (hwf.sub sem' p hp b).trans Finset.subset_union_left
        · intro sem' sem'' p p' hnn hp hp' b
          have key : ∀ sem' p, sem' ≠ sem → s'.pend sem' = some p → Disjoint (p.lk b) (lk b) := by
            intro sem' p h hp
            simp only [hs', St.enq, Function.update_of_ne h] at hp
            rw [Finset.disjoint_left]
            intro i hi hi'
            exact Finset.mem_compl.mp (hsub b hi') (hwf.sub sem' p hp b hi)
          by_cases h : sem' = sem
          · subst h
            have h2 : sem'' ≠ sem' := hnn.symm
            have := key sem'' p' h2 hp'
            simp only [hs', St.enq, Function.update_self, Option.some.injEq] at hp
            subst hp; exact this.symm
          · by_cases h' : sem'' = sem
            · subst h'
              have := key sem' p h hp
              simp only [hs', St.enq, Function.update_self, Option.some.injEq] at hp'
              subst hp'; exact this
            · simp only [hs', St.enq, Function.update_of_ne h, Function.update_of_ne h'] at hp hp'
              exact hwf.disj sem' sem'' p p' hnn hp hp' b
      isplitl [HD]; · iexact HD
      isplitr [HW]; swap; · iexact HW
      iapply (Entails.of_eq (split1 sem (cell EC s')).symm)
      isplitl [HF]
      · have : (cell EC s' sem : sProp 𝕄) = Flight EC (c : Thread nD τ) (.dma sem) () dst.view.dmaCredit (delivery lk s'.σ) := by
          have : s'.pend sem = some ⟨lk, dst.view.dmaCredit⟩ := by rw [hs']; simp only [St.enq, Function.update_self]
          unfold cell; rw [this]
        iapply (Entails.of_eq this.symm); iexact HF
      · iexact HC
    case waitDma sem b s' e' hk =>
      obtain ⟨p, hpe, hN, H⟩ := H
      iintro ⟨HO, HK⟩
      unfold Own
      icases HO with ⟨%hwf, HD, HC, %W, HW⟩
      ihave HC := (Entails.of_eq (split1 sem (cell EC s))) $$ HC
      icases HC with ⟨Hc, HC⟩
      have hcell : (cell EC s sem : sProp 𝕄) = Flight EC (c : Thread nD τ) (.dma sem) () p.N (delivery p.lk s.σ) := by unfold cell; rw [hpe]
      ihave Hc := (Entails.of_eq hcell) $$ Hc
      iapply (wp_waitLocalSized (defs := defs) EC 𝒱 (c : Thread nD τ) bd () hN) $$ [Hc HW]
      · isplitl [Hc] <;> iassumption
      iintro ⟨Hl, Hc, HW⟩
      have hcells : (bigSep (Finset.univ.erase sem) (cell EC s) : sProp 𝕄) = bigSep (Finset.univ.erase sem) (cell EC (s.deq sem p)) := by
        refine bigSep_congr fun sem' hsem' => ?_
        have hne' := Finset.ne_of_mem_erase hsem'
        have : (s.deq sem p).pend sem' = s.pend sem' := by simp only [St.deq, Function.update_of_ne hne']
        unfold cell
        rw [this]; rfl
      ihave HC := (Entails.of_eq hcells) $$ HC
      have hjoin : iprop(delivery (fun b => (s.lock b)ᶜ) s.σ ∗ delivery p.lk s.σ) = (delivery (fun b => (s.lock b \ p.lk b)ᶜ) s.σ : sProp 𝕄) := by
        rw [← delivery_union]
        · congr 1; funext b
          ext i
          have := @hwf.sub sem p hpe b i
          simp only [Finset.mem_compl, Finset.mem_union, Finset.mem_sdiff] at this ⊢
          tauto
        · intro b
          rw [Finset.disjoint_left]
          intro i hi h
          exact Finset.mem_compl.mp hi (hwf.sub sem p hpe b h)
      iapply (ih _ _ H)
      isplitr [HK]; swap; · iexact HK
      unfold Own
      isplitr
      · ipureintro
        constructor
        · intro sem' p' hp' b
          by_cases h : sem' = sem
          · subst h; simp [St.deq] at hp'
          · simp only [St.deq, Function.update_of_ne h] at hp'
            intro i hi
            exact Finset.mem_sdiff.mpr ⟨hwf.sub sem' p' hp' b hi, fun h' => Finset.disjoint_left.mp (hwf.disj sem' sem p' p h hp' hpe b) hi h'⟩
        · intro sem' sem'' q q' hnn hq hq' b
          by_cases h : sem' = sem
          · subst h; simp [St.deq] at hq
          · by_cases h' : sem'' = sem
            · subst h'; simp [St.deq] at hq'
            · simp only [St.deq, Function.update_of_ne h, Function.update_of_ne h'] at hq hq'
              exact hwf.disj sem' sem'' q q' hnn hq hq' b
      isplitl [HD Hl]
      · have : (delivery (fun b => ((s.deq sem p).lock b)ᶜ) (s.deq sem p).σ : sProp 𝕄) = iprop(delivery (fun b => (s.lock b)ᶜ) s.σ ∗ delivery p.lk s.σ) := hjoin.symm
        iapply (Entails.of_eq this.symm)
        isplitl [HD] <;> iassumption
      isplitr [HW]; swap; · iexists _; iexact HW
      iapply (Entails.of_eq (split1 sem (cell EC (s.deq sem p))).symm)
      isplitl [Hc]
      · have : (cell EC (s.deq sem p) sem : sProp 𝕄) = semVal ((c : Thread nD τ), SemLoc.dma sem) 0 := by
          have : (s.deq sem p).pend sem = none := by simp only [St.deq, Function.update_self]
          unfold cell; rw [this]
        iapply (Entails.of_eq this.symm); iexact Hc
      · iexact HC
    all_goals exact H.elim

end Idealize.ShloMosaic.Pure
-- ==== Proof.Launch.lean ====
/-
  From a pure run of the kernel's body to a run of the whole program.
  `run_of_body`: if the body, from any state that holds the region's entry contents, no lock and nothing in flight, runs
  purely to a state that again has no lock and nothing in flight, the unwritten unscoped buffers as they were and the
  results satisfying `PG`, then the whole program runs, every counter ends at zero, every argument array is unchanged and
  the results satisfy `PG`.
-/
module

public import proofs.«01_k».proof.Proof.Run
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameValue
public import Idealize.ShloMosaic.Lib.Pipeline.FrameSuffix

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The four results, left in HBM and written by the body's own transfers. -/
def R0 : Finset (Ref sig .tc) := {main_v3_0, main_v3_1, main_v3_2, main_v3_3}
/-- Every other unscoped buffer. -/
def H0 : Finset (Ref sig .tc) := {main_arg0, main_arg1, main_arg2, main_arg3, main_arg4, main_arg5, main_arg6, main_arg7, main_arg8, main_arg9, main_v0, main_v1, main_v2}
/-- The scoped buffers. -/
def S0 : Finset (Ref sig .tc) := (Finset.univ.filter fun b : Ref sig .tc => b.isScoped) \ Finset.univ.image (Pipeline.stageRef (cfg0.spec))
theorem H0_sub : H0 ⊆ Pipeline.restRefs sig (cfg0.spec) := by decide
theorem R0_sub : R0 ⊆ Pipeline.restRefs sig (cfg0.spec) \ H0 := by decide
theorem rest_sub : Pipeline.restRefs sig (cfg0.spec) ⊆ Pipeline.restRefsP sig (pcfgs (F := F) 0).pre (cfg0.spec) :=
  fun b hb => Finset.mem_sdiff.mpr ⟨hb, fun h => ((Finset.mem_image.mp h).elim fun k _ => k.elim0)⟩
theorem H0_subP : H0 ⊆ Pipeline.restRefsP sig (pcfgs (F := F) 0).pre (cfg0.spec) := H0_sub.trans rest_sub
theorem R0_subP : R0 ⊆ Pipeline.restRefsP sig (pcfgs (F := F) 0).pre (cfg0.spec) \ H0 :=
  R0_sub.trans (Finset.sdiff_subset_sdiff rest_sub (Finset.Subset.refl _))
theorem all_eq : (Finset.univ : Finset (Ref sig .tc)) = S0 ∪ (H0 ∪ R0) := by decide
theorem dis1 : Disjoint S0 (H0 ∪ R0) := by decide
theorem dis2 : Disjoint H0 R0 := by decide

/-- Every transfer cell is the kernel's own. -/
abbrev osem0 : DmaSem sig → SemLoc sig := SemLoc.dma
theorem ownSemFacts0 : Pipeline.OwnSemFacts (cfg0.spec) osem0 := by decide

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- A state of the region's entry. -/
structure Init (c : Dev nD) (s : Pure.St τ sig (Elt F) c) : Prop where
  vals : ∀ b, b ∉ S0 → s.σ b = V m c b
  lock : ∀ b, s.lock b = ∅
  pend : ∀ sem, s.pend sem = none

/-- A state of the region's end. -/
structure Final (PG : (c : Dev nD) → ((b : Ref sig .tc) → Buf (Elt F) ((c : Thread nD τ).loc b)) → Prop) (c : Dev nD) (s : Pure.St τ sig (Elt F) c) : Prop where
  vals : ∀ b ∈ H0, s.σ b = V m c b
  res : PG c s.σ
  lock : ∀ b, s.lock b = ∅
  pend : ∀ sem, s.pend sem = none

variable (PG : (c : Dev nD) → ((b : Ref sig .tc) → Buf (Elt F) ((c : Thread nD τ).loc b)) → Prop)

/-- The invariant at the one point's two ends. -/
def Phi (c : Dev nD) (t : Fin (cfg0.N + 1)) : sProp 𝕄 :=
  if t = 0 then Pipeline.ΦDRG osem0 (cfg0.spec) H0 R0 (V m) (V m) c
  else iprop(Pipeline.ΦD osem0 (cfg0.spec) H0 (V m) c ∗ Pipeline.routedSat R0 c (PG c))

theorem Phi_zero (c : Dev nD) : Phi m PG c 0 = Pipeline.ΦDRG osem0 (cfg0.spec) H0 R0 (V m) (V m) c := if_pos rfl
theorem Phi_one (c : Dev nD) (t) (h : t ≠ 0) : Phi m PG c t = iprop(Pipeline.ΦD osem0 (cfg0.spec) H0 (V m) c ∗ Pipeline.routedSat R0 c (PG c)) := if_neg h

/-- The region's data: no window, so the invariant alone. -/
def rdat (c : Dev nD) : RDat τ (Elt F) Unit ℕ (Pipeline.UD sig nD τ) ℕ cfg0 c where
  A w := w.elim0
  after w := w.elim0
  Φ := Phi m PG c
  q w := w.elim0
  owed _ := 0

abbrev EC : UEmb Counters 𝕄 := countersEmb (U := Pipeline.UD sig nD τ)

theorem entry (c : Dev nD) (W : Waits sig Unit) :
    iprop(Pipeline.ΦDRG osem0 (cfg0.spec) H0 R0 (V m) (V m) c ∗ owes (c : Thread nD τ) 0 W)
      ⊢ iprop(∃ s : Pure.St τ sig (Elt F) c, ⌜Init m c s⌝ ∗ Pure.Own EC s ∗ (∃ r, prngReg c r)) := by
  rw [Pipeline.ΦDRG_eq]
  iintro ⟨⟨Hs, Hg, Hq, Hh, Hr⟩, HW⟩
  ihave Hs := (show (Pipeline.scopedRest (cfg0.spec) c : sProp 𝕄) ⊢ Pipeline.owned S0 c from .rfl) $$ Hs
  ihave ⟨%G, Hs⟩ := (Pipeline.owned_elim_fn S0 c) $$ Hs
  have key : iprop((bigSep S0 fun b => ((c : Thread nD τ).loc b) ↦{fullShare} G b) ∗ (bigSep H0 fun b => ((c : Thread nD τ).loc b) ↦{fullShare} V m c b)
      ∗ Pipeline.routed R0 c (V m c)) ⊢ (Pure.delivery (fun _ => Finset.univ) (fun b => if b ∈ S0 then G b else V m c b) : sProp 𝕄) := by
    unfold Pure.delivery Pipeline.routed
    rw [all_eq, bigSep_union dis1, bigSep_union dis2]
    have e1 : (bigSep S0 fun b => ((c : Thread nD τ).loc b) ↦{fullShare} (if b ∈ S0 then G b else V m c b) : sProp 𝕄) = bigSep S0 fun b => ((c : Thread nD τ).loc b) ↦{fullShare} G b :=
      bigSep_congr fun b hb => by rw [if_pos hb]
    have e2 : (bigSep H0 fun b => ((c : Thread nD τ).loc b) ↦{fullShare} (if b ∈ S0 then G b else V m c b) : sProp 𝕄) = bigSep H0 fun b => ((c : Thread nD τ).loc b) ↦{fullShare} V m c b :=
      bigSep_congr fun b hb => by rw [if_neg fun h => Finset.disjoint_left.mp dis1 h (Finset.mem_union_left _ hb)]
    have e3 : (bigSep R0 fun b => ((c : Thread nD τ).loc b) ↦{fullShare} (if b ∈ S0 then G b else V m c b) : sProp 𝕄) = bigSep R0 fun b => ((c : Thread nD τ).loc b) ↦{fullShare} V m c b :=
      bigSep_congr fun b hb => by rw [if_neg fun h => Finset.disjoint_left.mp dis1 h (Finset.mem_union_right _ hb)]
    rw [e1, e2, e3]
    exact .rfl
  iexists (⟨fun b => if b ∈ S0 then G b else V m c b, fun _ => ∅, fun _ => none⟩ : Pure.St τ sig (Elt F) c)
  isplitr
  · ipureintro; exact ⟨fun b hb => if_neg hb, fun _ => rfl, fun _ => rfl⟩
  isplitr [Hg]; swap; · iexact Hg
  unfold Pure.Own
  isplitr; · ipureintro; exact ⟨fun _ _ h => (nomatch h), fun _ _ _ _ _ h => (nomatch h)⟩
  isplitl [Hs Hh Hr]
  · iapply (show (Pure.delivery (fun _ => Finset.univ) (fun b => if b ∈ S0 then G b else V m c b) : sProp 𝕄)
      ⊢ Pure.delivery (fun b => (∅ : Finset (Idx ((c : Thread nD τ).loc b)))ᶜ) _ from by simp only [Finset.compl_empty]; exact .rfl)
    iapply key
    isplitl [Hs]; · iexact Hs
    isplitl [Hh] <;> iassumption
  isplitl [Hq]
  · iapply (show (Pipeline.ownSems0 osem0 c : sProp 𝕄) ⊢ bigSep Finset.univ (Pure.cell EC _) from .rfl); iexact Hq
  iexists W; iexact HW

theorem exit (c : Dev nD) (s : Pure.St τ sig (Elt F) c) (h : Final m PG c s) :
    iprop(Pure.Own EC s ∗ (∃ r, prngReg c r))
      ⊢ iprop((Pipeline.ΦD osem0 (cfg0.spec) H0 (V m) c ∗ Pipeline.routedSat R0 c (PG c)) ∗ ∃ W, owes (c : Thread nD τ) 0 W) := by
  unfold Pure.Own
  have e0 : (Pure.delivery (fun b => (s.lock b)ᶜ) s.σ : sProp 𝕄) = iprop((bigSep S0 fun b => ((c : Thread nD τ).loc b) ↦{fullShare} s.σ b)
      ∗ (bigSep H0 fun b => ((c : Thread nD τ).loc b) ↦{fullShare} V m c b) ∗ Pipeline.routed R0 c s.σ) := by
    have e2 : (bigSep H0 fun b => ((c : Thread nD τ).loc b) ↦{fullShare} V m c b : sProp 𝕄) = bigSep H0 fun b => ((c : Thread nD τ).loc b) ↦{fullShare} s.σ b :=
      bigSep_congr fun b hb => by rw [h.vals b hb]
    rw [e2]
    have hl : (fun b => (s.lock b)ᶜ) = fun b => (Finset.univ : Finset (Idx ((c : Thread nD τ).loc b))) := by
      funext b; rw [h.lock b, Finset.compl_empty]
    rw [hl]
    unfold Pure.delivery Pipeline.routed
    rw [all_eq, bigSep_union dis1, bigSep_union dis2]
    rfl
  have e1 : (bigSep Finset.univ (Pure.cell EC s) : sProp 𝕄) = Pipeline.ownSems0 osem0 c :=
    bigSep_congr fun sem _ => by unfold Pure.cell; rw [h.pend sem]
  rw [e0, e1, Pipeline.ΦD_eq]
  iintro ⟨⟨-, ⟨Hs, Hh, Hr⟩, Hq, HW⟩, Hg⟩
  isplitr [HW]; swap; · iexact HW
  isplitl [Hs Hh Hq Hg]
  · isplitl [Hs]
    · iapply (show (Pipeline.owned S0 c : sProp 𝕄) ⊢ Pipeline.scopedRest (cfg0.spec) c from .rfl)
      iapply (Pipeline.owned_intro S0 c s.σ); iexact Hs
    isplitl [Hg]; · iexact Hg
    isplitl [Hq] <;> iassumption
  · unfold Pipeline.routedSat
    iexists s.σ
    isplitr; · ipureintro; exact h.res
    iexact Hr

theorem defs₀_row (t : Fin cfg0.N) :
    defs₀ (F := F) .tc cfg0.body (cfg0.bodyArgs t (cfg0.slots t)) = bodyAt0 t := by
  unfold defs₀; rw [Defs.onTc_tc]

theorem body_obligation (hb : ∀ (c : Dev nD) s, Init m c s → Pure.pwp (bodyAt0 (F := F) t0_0) s fun _ s' => Final m PG c s') (c : Dev nD) :
    (rdat m PG c).BodyObligation (defs₀ (F := F)) Variants.none () Set.univ := fun t Y hY => by
  rw [defs₀_row]
  obtain rfl := fin_N0 t
  have hW : ∀ Φ : Fin cfg0.W → sProp 𝕄, bigSep Finset.univ Φ = iprop(emp) := fun Φ => by
    have : (Finset.univ : Finset (Fin cfg0.W)) = ∅ := by decide
    rw [this, bigSep_empty]; rfl
  rw [hW, hW]
  have e1 : (rdat m PG c).Φ (Fin.castSucc t0_0) = Pipeline.ΦDRG osem0 (cfg0.spec) H0 R0 (V m) (V m) c := Phi_zero m PG c
  have e2 : (rdat m PG c).Φ (Fin.succ t0_0) = iprop(Pipeline.ΦD osem0 (cfg0.spec) H0 (V m) c ∗ Pipeline.routedSat R0 c (PG c)) :=
    Phi_one m PG c (Fin.succ t0_0) (by decide)
  rw [e1, e2]
  unfold RDat.owesAt Pipeline.owesWithin
  rw [show (rdat m PG c).owed (Fin.castSucc t0_0) = 0 from rfl, show (rdat m PG c).owed (Fin.succ t0_0) = 0 from rfl]
  iintro ⟨HP, ⟨%W, -, HW⟩, -⟩
  ihave HE := (entry m c W) $$ [HP HW]
  · isplitl [HP] <;> iassumption
  icases HE with ⟨%s, %hs, HO, Hg⟩
  iapply (Pure.sound EC Variants.none none (bodyAt0 (F := F) t0_0) s (fun _ s' => Final m PG c s') _ (hb c s hs))
  isplitl [HO]; · iexact HO
  iintro %a %s' %hs' HO
  ihave HX := (exit m PG c s' hs') $$ [HO Hg]
  · isplitl [HO] <;> iassumption
  icases HX with ⟨HP, ⟨%W', HW⟩⟩
  isplitl [HP]; · iexact HP
  isplitl [HW]
  · iexists W'; isplitr; · ipureintro; exact fun _ _ => Or.inl trivial
    iexact HW
  iempintro

set_option backward.isDefEq.respectTransparency.types false in
/-- The run of the whole program, from the body's. -/
theorem run_of_body (hb : ∀ (c : Dev nD) s, Init m c s → Pure.pwp (bodyAt0 (F := F) t0_0) s fun _ s' => Final m PG c s') :
    θ_run defs (onTc (τ := τ) (main (F := F))) ⟨m, fun _ => 0, ρ⟩ (fun r => ((∀ c : Dev nD, ∀ b ∈ H0, r.2.mem ((c.tc : Thread nD τ).loc b) = V m c b)
      ∧ ∀ c : Dev nD, ∃ W : (b : Ref sig .tc) → Buf (Elt F) ((c.tc : Thread nD τ).loc b), PG c W ∧ ∀ b ∈ R0, r.2.mem ((c.tc : Thread nD τ).loc b) = W b)
      ∧ r.2.sem = fun _ => 0) :=
  RDat.θ_run_frameP_dmaRSat_shared (Q' := _) pcfgs (fun q => (cfgs q).toPCfg_adm) (0 : Fin 1) launch0.toP.to₀ osem0 defs₀ Variants.none (rdat m PG) ownSemFacts0 H0 R0
    H0_subP R0_subP m ρ main (body_obligation m PG hb) (fun c w => w.elim0) (fun _ _ => rfl) (V m) (hmainD m Variants.none)
    (fun c w => w.elim0) (fun _ k => k.elim0) PG
    (fun c => (show _ ⊢ Pipeline.ΦDRG osem0 (cfg0.spec) H0 R0 (V m) (V m) c from by iintro ⟨H, -⟩; iexact H).trans (Entails.of_eq (Phi_zero m PG c).symm))
    (fun c => Entails.of_eq (Phi_one m PG c (Fin.last cfg0.N) (by decide)))
    (fun r h => ⟨⟨fun c b hb => (h.1.1 c).2 b (Finset.mem_sdiff.mpr ⟨H0_sub hb, fun h => Finset.disjoint_left.mp dis2 hb h⟩), h.1.2⟩, h.2⟩)

end Cert.Kernel.Hand

end
-- ==== Proof.Values.lean ====
/-
  What one block of rows of the kernel computes, as functions of the vectors it has loaded: the row quantiser, the
  normalised rows, the router's probabilities, one expert's gate-and-up block and one expert's down block.
-/
module

public import proofs.«01_k».proof.Proof.Launch

@[expose] public section

noncomputable section

namespace Cert.Kernel.Hand

open Cert.Kernel Cert.Kernel.Gen
open Idealize.ShloMosaic Idealize.ShloMosaic.TcCoe Idealize.ShloMosaic.Tactic

variable {F : FTy → Type} [FloatOps F]

/-- The counted exponent of a row's largest magnitude `m`: how many of `2^-126, …, 2^119` are at most `m / 448`, less
126, and 0 when there is none. -/
def expoV (m : FVec F S32x1 .f32) : IVec S32x1 32 :=
  have field : IVec S32x246 32 := addi (iota .tc S32x246 32 [1] iota_S32x246_d1_w32) (broadcast S32x246 1#32)
  have least : FVec F S32x246 .f32 := bitcastToFloat .f32 (shli field (broadcast S32x246 23#32))
  have scaled : FVec F S32x1 .f32 := mulf m (broadcast S32x1 (Scalar.ofBits .f32 0x3B124925#32))
  have ge : IVec S32x246 1 := cmpf .oge (broadcastTo S32x246 scaled broadcasts_S32x1_S32x246) least
  have ones : IVec S32x246 32 := select ge (broadcast S32x246 1#32) (broadcast S32x246 0#32)
  have biased : IVec S32x1 32 := shapeCast S32x1 (multiReductionI .add [1] S32 ones 0#32 reduces_S32x246_S32 rfl) shapeCasts_S32_S32x1
  select (cmpi .eq biased (broadcast S32x1 0#32)) (broadcast S32x1 0#32) (subi biased (broadcast S32x1 126#32))

/-- Two to the power `e`, built from its bits. -/
def powV (e : IVec S32x1 32) : FVec F S32x1 .f32 :=
  bitcastToFloat .f32 (shli (addi e (broadcast S32x1 127#32)) (broadcast S32x1 23#32))

/-- The exponents of the rows of a block of 1024 columns. -/
def expo1024 (v : FVec F S32x1024 .f32) : IVec S32x1 32 :=
  expoV (F := F) (shapeCast S32x1 (multiReduction .maximumf [1] S32 (absf v) 0xFF800000#32 reduces_S32x1024_S32 (.inl rfl) rfl) shapeCasts_S32_S32x1)
/-- The codes of the rows of a block of 1024 columns. -/
def codes1024 (v : FVec F S32x1024 .f32) : FVec F S32x1024 .fp8e4m3 :=
  truncf .fp8e4m3 (minimumf (broadcast S32x1024 (Scalar.ofBits .f32 0x43E00000#32)) (maximumf (broadcast S32x1024 (Scalar.ofBits .f32 0xC3E00000#32))
    (mulf v (broadcastTo S32x1024 (powV (subi (broadcast S32x1 0#32) (expo1024 v))) broadcasts_S32x1_S32x1024)))) bitsLt_fp8e4m3_f32
/-- The scales of the rows of a block of 1024 columns. -/
def scale1024 (v : FVec F S32x1024 .f32) : FVec F S32x1 .f32 := powV (expo1024 v)

/-- The exponents of the rows of a block of 768 columns. -/
def expo768 (v : FVec F S32x768 .f32) : IVec S32x1 32 :=
  expoV (F := F) (shapeCast S32x1 (multiReduction .maximumf [1] S32 (absf v) 0xFF800000#32 reduces_S32x768_S32 (.inl rfl) rfl) shapeCasts_S32_S32x1)
/-- The codes of the rows of a block of 768 columns. -/
def codes768 (v : FVec F S32x768 .f32) : FVec F S32x768 .fp8e4m3 :=
  truncf .fp8e4m3 (minimumf (broadcast S32x768 (Scalar.ofBits .f32 0x43E00000#32)) (maximumf (broadcast S32x768 (Scalar.ofBits .f32 0xC3E00000#32))
    (mulf v (broadcastTo S32x768 (powV (subi (broadcast S32x1 0#32) (expo768 v))) broadcasts_S32x1_S32x768)))) bitsLt_fp8e4m3_f32
/-- The scales of the rows of a block of 768 columns. -/
def scale768 (v : FVec F S32x768 .f32) : FVec F S32x1 .f32 := powV (expo768 v)

/-- A block of 32 normalised rows. -/
def xnV (x : FVec F S32x1024 .bf16) (gain : FVec F S1x1024 .f32) : FVec F S32x1024 .f32 :=
  have xf : FVec F S32x1024 .f32 := extf .f32 x bitsLt_bf16_f32
  have ss : FVec F S32x1 .f32 := shapeCast S32x1 (multiReduction .add [1] S32 (mulf xf xf) 0x00000000#32 reduces_S32x1024_S32 (.inl rfl) rfl) shapeCasts_S32_S32x1
  have r : FVec F S32x1 .f32 := rsqrt (addf (divf ss (broadcast S32x1 (Scalar.ofBits .f32 0x44800000#32))) (broadcast S32x1 (Scalar.ofBits .f32 0x358637BD#32)))
  mulf (mulf xf (broadcastTo S32x1024 r broadcasts_S32x1_S32x1024)) (broadcastTo S32x1024 gain broadcasts_S1x1024_S32x1024)

/-- The diagonal of a square block, as one row. -/
def diagV (b : FVec F S128x128 .f32) : FVec F S1x128 .f32 :=
  have dg : IVec S128x128 1 := cmpi .eq (iota .tc S128x128 32 [0] iota_S128x128_d0_w32) (iota .tc S128x128 32 [1] iota_S128x128_d1_w32)
  shapeCast S1x128 (multiReduction .add [0] S128 (select dg b (broadcast S128x128 (Scalar.ofBits .f32 0x00000000#32)) : FVec F S128x128 .f32) 0x00000000#32 reduces_S128x128_S128 (.inl rfl) rfl) shapeCasts_S128_S1x128

/-- The router's probabilities of all the rows. -/
def probV (xn : FVec F S256x1024 .f32) (wr : FVec F S40x1024 .f32) : FVec F S256x40 .f32 :=
  have lg : FVec F S256x40 .f32 := matmul dot_S256x1024_S40x1024_S256x40_1_1_0_0_n_n (some .fp32) xn wr (constant S256x40 .f32 0x00000000#32)
  have mx : FVec F S256x1 .f32 := shapeCast S256x1 (multiReduction .maximumf [1] S256 lg 0xFF800000#32 reduces_S256x40_S256 (.inl rfl) rfl) shapeCasts_S256_S256x1
  have p : FVec F S256x40 .f32 := exp (subf lg (broadcastTo S256x40 mx broadcasts_S256x1_S256x40))
  have s : FVec F S256x1 .f32 := shapeCast S256x1 (multiReduction .add [1] S256 p 0x00000000#32 reduces_S256x40_S256 (.inl rfl) rfl) shapeCasts_S256_S256x1
  divf p (broadcastTo S256x40 s broadcasts_S256x1_S256x40)

/-- Eight column strips of 128 side by side. -/
def cat8 (v : Fin 8 → FVec F S32x128 .f32) : FVec F S32x1024 .f32 :=
  concatenate S32x1024 1 [⟨S32x128, v 0⟩, ⟨S32x128, v 1⟩, ⟨S32x128, v 2⟩, ⟨S32x128, v 3⟩, ⟨S32x128, v 4⟩, ⟨S32x128, v 5⟩, ⟨S32x128, v 6⟩, ⟨S32x128, v 7⟩] concatenates_S32x128_S32x128_S32x128_S32x128_S32x128_S32x128_S32x128_S32x128_S32x1024_d1

/-- The scales of the gathered rows: lane 127 of the auxiliary rows. -/
def xsV (aux : FVec F S32x128 .f32) : FVec F S32x1 .f32 := extractStridedSlice S32x1 ![0, 127] aux slices_S32x128_o0_127_S32x1
/-- The gathered rows' probabilities of expert `e`: lane `e` of the auxiliary rows. -/
def rV (e : BitVec 32) (aux : FVec F S32x128 .f32) : FVec F S32x1 .f32 :=
  shapeCast S32x1 (multiReduction .add [1] S32 (select (cmpi .eq (iota .tc S32x128 32 [1] iota_S32x128_d1_w32) (broadcast S32x128 e)) aux (broadcast S32x128 (Scalar.ofBits .f32 0x00000000#32)) : FVec F S32x128 .f32) 0x00000000#32 reduces_S32x128_S32 (.inl rfl) rfl) shapeCasts_S32_S32x1

/-- One expert's gate product, scaled by its rows and columns; `up` is the same function of the other weights. -/
def gateV (xc : FVec F S32x1024 .fp8e4m3) (xs : FVec F S32x1 .f32) (w : FVec F S1x1024x768 .fp8e4m3) (sg : FVec F S1x768 .f32) : FVec F S32x768 .f32 :=
  mulf (mulf (matmul dot_S32x1024_S1024x768_S32x768_1_0_0_1_n_n none xc (shapeCast S1024x768 w shapeCasts_S1x1024x768_S1024x768 : FVec F S1024x768 .fp8e4m3) (constant S32x768 .f32 0x00000000#32))
    (broadcastTo S32x768 xs broadcasts_S32x1_S32x768)) (broadcastTo S32x768 sg broadcasts_S1x768_S32x768)

/-- One expert's hidden rows before they are quantised. -/
def hidV (xc : FVec F S32x1024 .fp8e4m3) (xs : FVec F S32x1 .f32) (wg wu : FVec F S1x1024x768 .fp8e4m3) (sg su : FVec F S1x768 .f32) : FVec F S32x768 .f32 :=
  have ga : FVec F S32x768 .f32 := gateV xc xs wg sg
  mulf (mulf ga (logistic ga)) (gateV xc xs wu su)

/-- One expert's result rows, weighted by the router. -/
def yV (hc : FVec F S32x768 .fp8e4m3) (hs r : FVec F S32x1 .f32) (wd : FVec F S1x768x1024 .fp8e4m3) (sd : FVec F S1x1024 .f32) : FVec F S32x1024 .f32 :=
  mulf (mulf (mulf (matmul dot_S32x768_S768x1024_S32x1024_1_0_0_1_n_n none hc (shapeCast S768x1024 wd shapeCasts_S1x768x1024_S768x1024 : FVec F S768x1024 .fp8e4m3) (constant S32x1024 .f32 0x00000000#32))
    (broadcastTo S32x1024 hs broadcasts_S32x1_S32x1024)) (broadcastTo S32x1024 sd broadcasts_S1x1024_S32x1024)) (broadcastTo S32x1024 r broadcasts_S32x1_S32x1024)

end Cert.Kernel.Hand
-- ==== Proof.Body.lean ====
/-
  The kernel's body written once more in pieces: every piece is a function of the offsets it uses, so that a row of a
  gather, a transfer of the ring or an expert's step is one definition. `body_eq` says that the printed body is this one.
-/
module

public import proofs.«01_k».proof.Proof.Values

@[expose] public section

noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F]

/-- A program of the kernel. -/
abbrev Pg (F : FTy → Type) (α : Type) := Prog (TpuEff nD τ sig (Elt F) Λ₀ .tc) α

/-- `f 0`, then `f 1`, …. -/
def seqFin : (n : ℕ) → (Fin n → Pg F PUnit) → Pg F PUnit
  | 0, _ => pure ⟨⟩
  | n + 1, f => do f 0; seqFin n (fun i => f i.succ)

abbrev aX : Memref sig .tc .hbm S256x1024 .bf16 := Memref.whole main_arg0
abbrev aGain : Memref sig .tc .hbm S1x1024 .f32 := Memref.whole main_v0
abbrev aWr : Memref sig .tc .hbm S40x1024 .f32 := Memref.whole main_v1
abbrev aCh : Memref sig .tc .hbm S25x40 .i32 := Memref.whole main_v2
abbrev aWg : Memref sig .tc .hbm S40x1024x768 .fp8e4m3 := Memref.whole main_arg4
abbrev aWu : Memref sig .tc .hbm S40x1024x768 .fp8e4m3 := Memref.whole main_arg5
abbrev aSg : Memref sig .tc .hbm S40x768 .f32 := Memref.whole main_arg6
abbrev aSu : Memref sig .tc .hbm S40x768 .f32 := Memref.whole main_arg7
abbrev aWd : Memref sig .tc .hbm S40x768x1024 .fp8e4m3 := Memref.whole main_arg8
abbrev aSd : Memref sig .tc .hbm S40x1024 .f32 := Memref.whole main_arg9
abbrev aOut : Memref sig .tc .hbm S256x1024 .bf16 := Memref.whole main_v3_0
abbrev aMoe : Memref sig .tc .hbm S256x1024 .bf16 := Memref.whole main_v3_1
abbrev aCodes : Memref sig .tc .hbm S256x1024 .fp8e4m3 := Memref.whole main_v3_2
abbrev aScale : Memref sig .tc .hbm S1x256 .f32 := Memref.whole main_v3_3
abbrev vX : Memref sig .tc .vmem S256x1024 .bf16 := Memref.whole cc0_scratch0
abbrev vGain : Memref sig .tc .vmem S1x1024 .f32 := Memref.whole cc0_scratch1
abbrev vWr : Memref sig .tc .vmem S40x1024 .f32 := Memref.whole cc0_scratch2
abbrev vCh : Memref sig .tc .smem S25x40 .i32 := Memref.whole cc0_scratch3
abbrev vSg : Memref sig .tc .vmem S40x768 .f32 := Memref.whole cc0_scratch4
abbrev vSu : Memref sig .tc .vmem S40x768 .f32 := Memref.whole cc0_scratch5
abbrev vSd : Memref sig .tc .vmem S40x1024 .f32 := Memref.whole cc0_scratch6
abbrev vWg : Memref sig .tc .vmem S8x1024x768 .fp8e4m3 := Memref.whole cc0_scratch7
abbrev vWu : Memref sig .tc .vmem S8x1024x768 .fp8e4m3 := Memref.whole cc0_scratch8
abbrev vWd : Memref sig .tc .vmem S8x768x1024 .fp8e4m3 := Memref.whole cc0_scratch9
abbrev vXn : Memref sig .tc .vmem S256x1024 .f32 := Memref.whole cc0_scratch10
abbrev vCodes : Memref sig .tc .vmem S256x1024 .fp8e4m3 := Memref.whole cc0_scratch11
abbrev vScale : Memref sig .tc .vmem S1x256 .f32 := Memref.whole cc0_scratch12
abbrev vTok : Memref sig .tc .vmem S2048x128 .f32 := Memref.whole cc0_scratch13
abbrev vAux : Memref sig .tc .vmem S256x128 .f32 := Memref.whole cc0_scratch14
abbrev vGb : Memref sig .tc .vmem S256x128 .f32 := Memref.whole cc0_scratch15
abbrev vAb : Memref sig .tc .vmem S32x128 .f32 := Memref.whole cc0_scratch16
abbrev vHc : Memref sig .tc .vmem S32x768 .fp8e4m3 := Memref.whole cc0_scratch17
abbrev vHs : Memref sig .tc .vmem S32x1 .f32 := Memref.whole cc0_scratch18
abbrev vR : Memref sig .tc .vmem S32x1 .f32 := Memref.whole cc0_scratch19
abbrev vYb : Memref sig .tc .vmem S256x128 .f32 := Memref.whole cc0_scratch20
abbrev vAcc : Memref sig .tc .vmem S2048x128 .f32 := Memref.whole cc0_scratch21
abbrev vOut : Memref sig .tc .vmem S256x1024 .bf16 := Memref.whole cc0_scratch22
abbrev vMoe : Memref sig .tc .vmem S256x1024 .bf16 := Memref.whole cc0_scratch23

/-- The semaphores of the small copies, of the ring and of the results. -/
abbrev inSem : DmaSems sig S7 := cc0_scratch24
abbrev wSem : DmaSems sig S3x8 := cc0_scratch25
abbrev outSem : DmaSems sig S4 := cc0_scratch26
abbrev inAt (k : ℕ) (h : ∀ a, (![k] : Fin 1 → ℕ) a + S1.size a ≤ S7.size a) : DmaSem sig :=
  ((inSem.slice (Rect.unit (s := S7) ![k] S1.size h)).squeeze S_ squeezes_S1_S_).sem
abbrev outAt (k : ℕ) (h : ∀ a, (![k] : Fin 1 → ℕ) a + S1.size a ≤ S4.size a) : DmaSem sig :=
  ((outSem.slice (Rect.unit (s := S4) ![k] S1.size h)).squeeze S_ squeezes_S1_S_).sem
abbrev wAt (off : Fin 2 → ℕ) (h : ∀ a, off a + S1x1.size a ≤ S3x8.size a) : DmaSem sig :=
  ((wSem.slice (Rect.unit (s := S3x8) off S1x1.size h)).squeeze S_ squeezes_S1x1_S_).sem

/-- One slot of a gate or up ring. -/
abbrev slotG (M : Memref sig .tc .vmem S8x1024x768 .fp8e4m3) (off : Fin 3 → ℕ) (h : ∀ a, off a + S1x1024x768.size a ≤ S8x1024x768.size a) :
    Memref sig .tc .vmem S1024x768 .fp8e4m3 :=
  (M.slice (Rect.unit (s := S8x1024x768) off S1x1024x768.size h) (fun _ => rfl)).squeeze S1024x768 squeezes_S1x1024x768_S1024x768
/-- One expert's gate or up weights. -/
abbrev exptG (M : Memref sig .tc .hbm S40x1024x768 .fp8e4m3) (off : Fin 3 → ℕ) (h : ∀ a, off a + S1x1024x768.size a ≤ S40x1024x768.size a) :
    Memref sig .tc .hbm S1024x768 .fp8e4m3 :=
  (M.slice (Rect.unit (s := S40x1024x768) off S1x1024x768.size h) (fun _ => rfl)).squeeze S1024x768 squeezes_S1x1024x768_S1024x768
/-- One slot of the down ring. -/
abbrev slotD (off : Fin 3 → ℕ) (h : ∀ a, off a + S1x768x1024.size a ≤ S8x768x1024.size a) : Memref sig .tc .vmem S768x1024 .fp8e4m3 :=
  (vWd.slice (Rect.unit (s := S8x768x1024) off S1x768x1024.size h) (fun _ => rfl)).squeeze S768x1024 squeezes_S1x768x1024_S768x1024
/-- One expert's down weights. -/
abbrev exptD (off : Fin 3 → ℕ) (h : ∀ a, off a + S1x768x1024.size a ≤ S40x768x1024.size a) : Memref sig .tc .hbm S768x1024 .fp8e4m3 :=
  (aWd.slice (Rect.unit (s := S40x768x1024) off S1x768x1024.size h) (fun _ => rfl)).squeeze S768x1024 squeezes_S1x768x1024_S768x1024

/-- A whole buffer is whole. -/
theorem wh (b : Ref sig .tc) : (Memref.whole b).IsWhole := Memref.isWhole_whole b

/-- Start a transfer from HBM to VMEM. -/
abbrev startIn {s : Shape} {e : EltTy} (src : Memref sig .tc .hbm s e) (dst : Memref sig .tc .vmem s e) (sem : DmaSem sig)
    (h1 : src.view.WordExact) (h2 : dst.view.WordExact) : Pg F PUnit :=
  Prog.lift (.enqueueDma src (.here dst) (.dma sem) h1 h2 ⟨Or.inl rfl, trivial⟩)
/-- Start a transfer from HBM to SMEM. -/
abbrev startSm {s : Shape} {e : EltTy} (src : Memref sig .tc .hbm s e) (dst : Memref sig .tc .smem s e) (sem : DmaSem sig)
    (h1 : src.view.WordExact) (h2 : dst.view.WordExact) : Pg F PUnit :=
  Prog.lift (.enqueueDma src (.here dst) (.dma sem) h1 h2 ⟨Or.inl rfl, trivial⟩)
/-- Start a transfer from VMEM to HBM. -/
abbrev startOut {s : Shape} {e : EltTy} (src : Memref sig .tc .vmem s e) (dst : Memref sig .tc .hbm s e) (sem : DmaSem sig)
    (h1 : src.view.WordExact) (h2 : dst.view.WordExact) : Pg F PUnit :=
  Prog.lift (.enqueueDma src (.here dst) (.dma sem) h1 h2 ⟨Or.inl rfl, trivial⟩)
/-- Wait for a transfer. -/
abbrev wait {sp sp' : Space} {s : Shape} {e : EltTy} (src : Memref sig .tc sp s e) (dst : Memref sig .tc sp' s e) (sem : DmaSem sig)
    (h1 : src.view.WordExact) (h2 : dst.view.WordExact) : Pg F PUnit :=
  Prog.lift (.waitDma2 sem src dst h1 h2)

/-- Load a rectangle of a VMEM buffer. -/
abbrev ld {s : Shape} {e : EltTy} (M : Memref sig .tc .vmem s e) (r : LoadRect s) (h : 0 < (r.shape : Shape).numel) : Pg F (Vec F r.shape e) :=
  Prog.lift (.load M r (View.loadsAt_vmem h))
/-- Store 32-bit elements into a rectangle of a VMEM buffer. -/
abbrev st {s : Shape} (M : Memref sig .tc .vmem s .f32) (r : Rect s) (h : 0 < (r.shape : Shape).numel) (v : Vec F r.shape .f32) : Pg F PUnit :=
  Prog.lift (.store M r v Finset.univ (View.stores_vmem_bits_univ h rfl) (.inl rfl))

/-- Copy the gathered token's codes and auxiliary row: slot `i` takes the row that the table names at `oc`. -/
def gatherRow (oc : Fin 2 → ℕ) (hoc : ∀ a, oc a + S1x1.size a ≤ S25x40.size a) (i : ℕ)
    (hg : ∀ a, (![8 * i, 0] : Fin 2 → ℕ) a + S8x128.size a ≤ S256x128.size a)
    (ha : ∀ a, (![i, 0] : Fin 2 → ℕ) a + S1x128.size a ≤ S32x128.size a) : Pg F PUnit := do
  let t : Elt F .i32 ← smemLoad vCh (Rect.unit (s := S25x40) oc S1x1.size hoc) numel1_S1x1 rfl
  have hw : k0_chk26 t := (← Prog.lift (TpuEff.assume (k0_chk26 t) (k0_chk26.dec t))).down
  let v ← ld (F := F) vTok (Rect.unit (s := S2048x128) (k0_off56 t) S8x128.size (k0_off56_inb t hw)).toLoadRect h_S8x128
  let _ ← ld (F := F) vGb (Rect.unit (s := S256x128) ![8 * i, 0] S8x128.size hg).toLoadRect h_S8x128
  st vGb (Rect.unit (s := S256x128) ![8 * i, 0] S8x128.size hg) h_S8x128 (shapeCast S8x128 v shapeCasts_S8x128_S8x128)
  let a ← ld (F := F) vAux (Rect.unit (s := S256x128) (k0_off57 t) S1x128.size (k0_off57_inb t hw)).toLoadRect h_S1x128
  let _ ← ld (F := F) vAb (Rect.unit (s := S32x128) ![i, 0] S1x128.size ha).toLoadRect h_S1x128
  st vAb (Rect.unit (s := S32x128) ![i, 0] S1x128.size ha) h_S1x128 (shapeCast S1x128 a shapeCasts_S1x128_S1x128)

/-- Add slot `i` of the expert's result rows to the accumulator's rows of its token. -/
def scatterRow (oc : Fin 2 → ℕ) (hoc : ∀ a, oc a + S1x1.size a ≤ S25x40.size a) (i : ℕ)
    (hg : ∀ a, (![8 * i, 0] : Fin 2 → ℕ) a + S8x128.size a ≤ S256x128.size a) : Pg F PUnit := do
  let t : Elt F .i32 ← smemLoad vCh (Rect.unit (s := S25x40) oc S1x1.size hoc) numel1_S1x1 rfl
  have hw : k0_chk51 t := (← Prog.lift (TpuEff.assume (k0_chk51 t) (k0_chk51.dec t))).down
  let v ← ld (F := F) vAcc (Rect.unit (s := S2048x128) (k0_off142 t) S8x128.size (k0_off142_inb t hw)).toLoadRect h_S8x128
  let y ← ld (F := F) vYb (Rect.unit (s := S256x128) ![8 * i, 0] S8x128.size hg).toLoadRect h_S8x128
  let _ ← ld (F := F) vAcc (Rect.unit (s := S2048x128) (k0_off142 t) S8x128.size (k0_off142_inb t hw)).toLoadRect h_S8x128
  st vAcc (Rect.unit (s := S2048x128) (k0_off142 t) S8x128.size (k0_off142_inb t hw)) h_S8x128 (shapeCast S8x128 (addf v y : FVec F S8x128 .f32) shapeCasts_S8x128_S8x128)

theorem inbG (i : Fin 25) : ∀ a, (![8 * i.val, 0] : Fin 2 → ℕ) a + S8x128.size a ≤ S256x128.size a := by revert i; decide
theorem inbA (i : Fin 25) : ∀ a, (![i.val, 0] : Fin 2 → ℕ) a + S1x128.size a ≤ S32x128.size a := by revert i; decide
theorem inbS (j : Fin 8) : ∀ a, S32x128.size a = 0 ∨ (![j.val, 0] : Fin 2 → ℕ) a + (![8, 1] : Fin 2 → ℕ) a * (S32x128.size a - 1) < S256x128.size a := by revert j; decide
/-- Every eighth row from row `j` of a 256-row buffer. -/
abbrev strip (j : Fin 8) : LoadRect S256x128 := ⟨![j.val, 0], S32x128.size, ![8, 1], inbS j⟩
theorem inbT (k j : Fin 8) : ∀ a, S32x128.size a = 0 ∨ (![256 * k.val + j.val, 0] : Fin 2 → ℕ) a + (![8, 1] : Fin 2 → ℕ) a * (S32x128.size a - 1) < S2048x128.size a := by revert k j; decide
/-- Every eighth row from row `256 k + j` of a 2048-row buffer, 32 of them. -/
abbrev stripT (k j : Fin 8) : LoadRect S2048x128 := ⟨![256 * k.val + j.val, 0], S32x128.size, ![8, 1], inbT k j⟩
theorem slc (j : Fin 8) : S32x1024.Slices ![0, 128 * j.val] S32x128 := by revert j; decide

/-- The table's entries of one expert, in the column that `col` names. -/
abbrev ocs (col : ℕ) (i : Fin 25) : Fin 2 → ℕ := ![i.val, col]
theorem inbOc (col : ℕ) (hc : col < 40) (i : Fin 25) : ∀ a, (ocs col i) a + S1x1.size a ≤ S25x40.size a := by
  intro a
  have := i.isLt
  match a with
  | 0 => show i.val + 1 ≤ 25; omega
  | 1 => show col + 1 ≤ 40; omega

/-- What a gate-and-up step yields. -/
abbrev GU (F : FTy → Type) := Vec F S32x768 .fp8e4m3 × Vec F S32x1 .f32 × Vec F S32x1 .f32

/-- One expert's gather, gate and up products and quantised hidden rows: `col` is its column of the table, `e` the same
number as the kernel holds it, `oS` the semaphores' place, `oV`/`oH` the slot and the expert, `oR` the expert's row of the
scales. -/
def gateUp (col : ℕ) (hcol : col < 40) (e : BitVec 32) (oS0 oS1 : Fin 2 → ℕ) (hS0 : ∀ a, oS0 a + S1x1.size a ≤ S3x8.size a) (hS1 : ∀ a, oS1 a + S1x1.size a ≤ S3x8.size a)
    (oV oH : Fin 3 → ℕ) (hV : ∀ a, oV a + S1x1024x768.size a ≤ S8x1024x768.size a) (hH : ∀ a, oH a + S1x1024x768.size a ≤ S40x1024x768.size a)
    (wV : (Rect.unit (s := S8x1024x768) oV S1x1024x768.size hV).WholeWords (EltTy.packing .fp8e4m3))
    (wH : (Rect.unit (s := S40x1024x768) oH S1x1024x768.size hH).WholeWords (EltTy.packing .fp8e4m3))
    (oR : Fin 2 → ℕ) (hR : ∀ a, oR a + S1x768.size a ≤ S40x768.size a) : Pg F (GU F) := do
  seqFin 25 fun i => gatherRow (ocs col i) (inbOc col hcol i) i.val (inbG i) (inbA i)
  let g0 ← ld (F := F) vGb (strip 0) h_S32x128
  let g1 ← ld (F := F) vGb (strip 1) h_S32x128
  let g2 ← ld (F := F) vGb (strip 2) h_S32x128
  let g3 ← ld (F := F) vGb (strip 3) h_S32x128
  let g4 ← ld (F := F) vGb (strip 4) h_S32x128
  let g5 ← ld (F := F) vGb (strip 5) h_S32x128
  let g6 ← ld (F := F) vGb (strip 6) h_S32x128
  let g7 ← ld (F := F) vGb (strip 7) h_S32x128
  have xc : FVec F S32x1024 .fp8e4m3 := truncf .fp8e4m3 (cat8 ![g0, g1, g2, g3, g4, g5, g6, g7]) bitsLt_fp8e4m3_f32
  let aux ← ld (F := F) vAb (Rect.unit (s := S32x128) ![0, 0] S32x128.size inb_S32x128_S32x128_0_0).toLoadRect h_S32x128
  wait (exptG aWg oH hH) (slotG vWg oV hV) (wAt oS0 hS0) (((wh main_arg4).wordExact_slice rfl _ wH).reshape _ _) (((wh cc0_scratch7).wordExact_slice rfl _ wV).reshape _ _)
  wait (exptG aWu oH hH) (slotG vWu oV hV) (wAt oS1 hS1) (((wh main_arg5).wordExact_slice rfl _ wH).reshape _ _) (((wh cc0_scratch8).wordExact_slice rfl _ wV).reshape _ _)
  let wg ← ld (F := F) vWg (Rect.unit (s := S8x1024x768) oV S1x1024x768.size hV).toLoadRect h_S1x1024x768
  let wu ← ld (F := F) vWu (Rect.unit (s := S8x1024x768) oV S1x1024x768.size hV).toLoadRect h_S1x1024x768
  let sg ← ld (F := F) vSg (Rect.unit (s := S40x768) oR S1x768.size hR).toLoadRect h_S1x768
  let su ← ld (F := F) vSu (Rect.unit (s := S40x768) oR S1x768.size hR).toLoadRect h_S1x768
  have h : FVec F S32x768 .f32 := hidV xc (xsV aux) wg wu sg su
  pure (codes768 h, scale768 h, rV e aux)

/-- One expert's down product, its result rows, and their addition to the accumulator. -/
def down (col : ℕ) (hcol : col < 40) (oS : Fin 2 → ℕ) (hS : ∀ a, oS a + S1x1.size a ≤ S3x8.size a)
    (oV oH : Fin 3 → ℕ) (hV : ∀ a, oV a + S1x768x1024.size a ≤ S8x768x1024.size a) (hH : ∀ a, oH a + S1x768x1024.size a ≤ S40x768x1024.size a)
    (wV : (Rect.unit (s := S8x768x1024) oV S1x768x1024.size hV).WholeWords (EltTy.packing .fp8e4m3))
    (wH : (Rect.unit (s := S40x768x1024) oH S1x768x1024.size hH).WholeWords (EltTy.packing .fp8e4m3))
    (oR : Fin 2 → ℕ) (hR : ∀ a, oR a + S1x1024.size a ≤ S40x1024.size a) (g : GU F) : Pg F PUnit := do
  wait (exptD oH hH) (slotD oV hV) (wAt oS hS) (((wh main_arg8).wordExact_slice rfl _ wH).reshape _ _) (((wh cc0_scratch9).wordExact_slice rfl _ wV).reshape _ _)
  let wd ← ld (F := F) vWd (Rect.unit (s := S8x768x1024) oV S1x768x1024.size hV).toLoadRect h_S1x768x1024
  let sd ← ld (F := F) vSd (Rect.unit (s := S40x1024) oR S1x1024.size hR).toLoadRect h_S1x1024
  seqFin 8 fun j => do
    let _ ← ld (F := F) vYb (strip j) h_S32x128
    st vYb ⟨strip j, spos_8_1⟩ h_S32x128 (shapeCast S32x128 (extractStridedSlice S32x128 ![0, 128 * j.val] (yV g.1 g.2.1 g.2.2 wd sd) (slc j) : FVec F S32x128 .f32) shapeCasts_S32x128_S32x128)
  seqFin 25 fun i => scatterRow (ocs col i) (inbOc col hcol i) i.val (inbG i)

/-- Keep what a gate-and-up step yielded. -/
def keep (g : GU F) : Pg F PUnit := do
  let _ ← ld (F := F) vHc (Rect.unit (s := S32x768) ![0, 0] S32x768.size inb_S32x768_S32x768_0_0).toLoadRect h_S32x768
  Prog.lift (.store vHc (Rect.unit (s := S32x768) ![0, 0] S32x768.size inb_S32x768_S32x768_0_0) (shapeCast S32x768 g.1 shapeCasts_S32x768_S32x768 : FVec F S32x768 .fp8e4m3) Finset.univ (View.stores_vmem h_S32x768 ((wh cc0_scratch17).storeExact_slice rfl _ packedfp8e4m3_S32x768_S32x768_0_0) (fun _ => rfl)) (.inl rfl))
  let _ ← ld (F := F) vHs (Rect.unit (s := S32x1) ![0, 0] S32x1.size inb_S32x1_S32x1_0_0).toLoadRect h_S32x1
  st vHs (Rect.unit (s := S32x1) ![0, 0] S32x1.size inb_S32x1_S32x1_0_0) h_S32x1 (shapeCast S32x1 g.2.1 shapeCasts_S32x1_S32x1)
  let _ ← ld (F := F) vR (Rect.unit (s := S32x1) ![0, 0] S32x1.size inb_S32x1_S32x1_0_0).toLoadRect h_S32x1
  st vR (Rect.unit (s := S32x1) ![0, 0] S32x1.size inb_S32x1_S32x1_0_0) h_S32x1 (shapeCast S32x1 g.2.2 shapeCasts_S32x1_S32x1)
/-- Read back what was kept. -/
def kept : Pg F (GU F) := do
  let hc ← ld (F := F) vHc (Rect.unit (s := S32x768) ![0, 0] S32x768.size inb_S32x768_S32x768_0_0).toLoadRect h_S32x768
  let hs ← ld (F := F) vHs (Rect.unit (s := S32x1) ![0, 0] S32x1.size inb_S32x1_S32x1_0_0).toLoadRect h_S32x1
  let r ← ld (F := F) vR (Rect.unit (s := S32x1) ![0, 0] S32x1.size inb_S32x1_S32x1_0_0).toLoadRect h_S32x1
  pure (hc, hs, r)

/-- Start one expert's gate and up transfers. -/
def startGU (oS0 oS1 : Fin 2 → ℕ) (hS0 : ∀ a, oS0 a + S1x1.size a ≤ S3x8.size a) (hS1 : ∀ a, oS1 a + S1x1.size a ≤ S3x8.size a)
    (oV oH : Fin 3 → ℕ) (hV : ∀ a, oV a + S1x1024x768.size a ≤ S8x1024x768.size a) (hH : ∀ a, oH a + S1x1024x768.size a ≤ S40x1024x768.size a)
    (wV : (Rect.unit (s := S8x1024x768) oV S1x1024x768.size hV).WholeWords (EltTy.packing .fp8e4m3))
    (wH : (Rect.unit (s := S40x1024x768) oH S1x1024x768.size hH).WholeWords (EltTy.packing .fp8e4m3)) : Pg F PUnit := do
  startIn (exptG aWg oH hH) (slotG vWg oV hV) (wAt oS0 hS0) (((wh main_arg4).wordExact_slice rfl _ wH).reshape _ _) (((wh cc0_scratch7).wordExact_slice rfl _ wV).reshape _ _)
  startIn (exptG aWu oH hH) (slotG vWu oV hV) (wAt oS1 hS1) (((wh main_arg5).wordExact_slice rfl _ wH).reshape _ _) (((wh cc0_scratch8).wordExact_slice rfl _ wV).reshape _ _)
/-- Start one expert's down transfer. -/
def startD (oS : Fin 2 → ℕ) (hS : ∀ a, oS a + S1x1.size a ≤ S3x8.size a)
    (oV oH : Fin 3 → ℕ) (hV : ∀ a, oV a + S1x768x1024.size a ≤ S8x768x1024.size a) (hH : ∀ a, oH a + S1x768x1024.size a ≤ S40x768x1024.size a)
    (wV : (Rect.unit (s := S8x768x1024) oV S1x768x1024.size hV).WholeWords (EltTy.packing .fp8e4m3))
    (wH : (Rect.unit (s := S40x768x1024) oH S1x768x1024.size hH).WholeWords (EltTy.packing .fp8e4m3)) : Pg F PUnit :=
  startIn (exptD oH hH) (slotD oV hV) (wAt oS hS) (((wh main_arg8).wordExact_slice rfl _ wH).reshape _ _) (((wh cc0_scratch9).wordExact_slice rfl _ wV).reshape _ _)

/-- The expert of trip `t`, as the kernel holds it. -/
abbrev eB (t : ℕ) : BitVec 32 := Scalar.addi 1#32 (Scalar.muli (Scf.iv 0#32 1#32 t) 1#32)
/-- The same and the one before it, as columns of the table. -/
abbrev eCol (t : ℕ) : ℕ := (Scalar.indexCast (Scalar.addi 1#32 (Scalar.muli (Scf.iv 0#32 1#32 t) 1#32))).toNat
abbrev pCol (t : ℕ) : ℕ := (Scalar.indexCast (Scalar.subi (Scalar.addi 1#32 (Scalar.muli (Scf.iv 0#32 1#32 t) 1#32)) 1#32)).toNat
theorem eCol_eq : ∀ t : Fin k0_t1_loop.trips, eCol t = t + 1 := by decide
theorem pCol_eq : ∀ t : Fin k0_t1_loop.trips, pCol t = t := by decide
theorem trips_eq : k0_t1_loop.trips = 39 := by decide
theorem eCol_lt (t : Fin k0_t1_loop.trips) : eCol t < 40 := by have := lt_of_lt_of_eq t.isLt trips_eq; rw [eCol_eq]; omega
theorem pCol_lt (t : Fin k0_t1_loop.trips) : pCol t < 40 := by have := lt_of_lt_of_eq t.isLt trips_eq; rw [pCol_eq]; omega

/-- One trip: the next transfers, the gate and up products of expert `t + 1`, the down product of expert `t`. -/
def trip (t : Fin k0_t1_loop.trips) : Pg F PUnit := do
  if h1 : k0_cond1 t = 1#1 then do
    startGU (k0_off51 t) (k0_off54 t) (k0_off51_inb t h1) (k0_off54_inb t h1) (k0_off52 t) (k0_off53 t) (k0_off52_inb t h1) (k0_off53_inb t h1) (k0_off52_wordsfp8e4m3 t h1) (k0_off53_wordsfp8e4m3 t h1)
  else pure ⟨⟩
  let g ← kept
  let g' ← gateUp (eCol t) (eCol_lt t) (eB t) (k0_off130 t) (k0_off133 t) (k0_off130_inb t) (k0_off133_inb t) (k0_off131 t) (k0_off132 t) (k0_off131_inb t) (k0_off132_inb t) (k0_off131_wordsfp8e4m3 t) (k0_off132_wordsfp8e4m3 t) (k0_off135 t) (k0_off135_inb t)
  down (pCol t) (pCol_lt t) (k0_off136 t) (k0_off136_inb t) (k0_off137 t) (k0_off138 t) (k0_off137_inb t) (k0_off138_inb t) (k0_off137_wordsfp8e4m3 t) (k0_off138_wordsfp8e4m3 t) (k0_off140 t) (k0_off140_inb t) g
  keep g'
  if h2 : k0_cond2 t = 1#1 then do
    startD (k0_off191 t) (k0_off191_inb t h2) (k0_off192 t) (k0_off193 t) (k0_off192_inb t h2) (k0_off193_inb t h2) (k0_off192_wordsfp8e4m3 t h2) (k0_off193_wordsfp8e4m3 t h2)
  else pure ⟨⟩
  pure ⟨⟩

/-- One trip as printed. -/
def tripP (k0_t1 : Fin k0_t1_loop.trips) : Pg F PUnit := do
    let ⟨v1965, v2785⟩ : Σ' (v1965 : BitVec 32), BitVec 32 ← k0_part24 (Memref.whole main_arg0) (Memref.isWhole_whole main_arg0) (Memref.whole main_v0) (Memref.isWhole_whole main_v0) (Memref.whole main_v1) (Memref.isWhole_whole main_v1) (Memref.whole main_v2) (Memref.isWhole_whole main_v2) (Memref.whole main_arg4) (Memref.isWhole_whole main_arg4) (Memref.whole main_arg5) (Memref.isWhole_whole main_arg5) (Memref.whole main_arg6) (Memref.isWhole_whole main_arg6) (Memref.whole main_arg7) (Memref.isWhole_whole main_arg7) (Memref.whole main_arg8) (Memref.isWhole_whole main_arg8) (Memref.whole main_arg9) (Memref.isWhole_whole main_arg9) (Memref.whole main_v3_0) (Memref.isWhole_whole main_v3_0) (Memref.whole main_v3_1) (Memref.isWhole_whole main_v3_1) (Memref.whole main_v3_2) (Memref.isWhole_whole main_v3_2) (Memref.whole main_v3_3) (Memref.isWhole_whole main_v3_3) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) (Memref.whole cc0_scratch10) (Memref.isWhole_whole cc0_scratch10) (Memref.whole cc0_scratch11) (Memref.isWhole_whole cc0_scratch11) (Memref.whole cc0_scratch12) (Memref.isWhole_whole cc0_scratch12) (Memref.whole cc0_scratch13) (Memref.isWhole_whole cc0_scratch13) (Memref.whole cc0_scratch14) (Memref.isWhole_whole cc0_scratch14) (Memref.whole cc0_scratch15) (Memref.isWhole_whole cc0_scratch15) (Memref.whole cc0_scratch16) (Memref.isWhole_whole cc0_scratch16) (Memref.whole cc0_scratch17) (Memref.isWhole_whole cc0_scratch17) (Memref.whole cc0_scratch18) (Memref.isWhole_whole cc0_scratch18) (Memref.whole cc0_scratch19) (Memref.isWhole_whole cc0_scratch19) (Memref.whole cc0_scratch20) (Memref.isWhole_whole cc0_scratch20) (Memref.whole cc0_scratch21) (Memref.isWhole_whole cc0_scratch21) (Memref.whole cc0_scratch22) (Memref.isWhole_whole cc0_scratch22) (Memref.whole cc0_scratch23) (Memref.isWhole_whole cc0_scratch23) cc0_scratch24 cc0_scratch25 cc0_scratch26 0#32 1#32 k0_t1
    let c40_i32_1635 : BitVec 32 := 40#32
    let v2786 : BitVec 1 := Scalar.cmpi .slt v2785 c40_i32_1635
    let v2787 : BitVec 32 := Scalar.extui v2786
    let c0_i32_1636 : BitVec 32 := 0#32
    let v2788 : BitVec 1 := Scalar.cmpi .ne v2787 c0_i32_1636
    if k0_h2 : k0_cond2 k0_t1 = 1#1 then do
      let c1_i32_1637 : BitVec 32 := 1#32
      let v2789 : BitVec 32 := Scalar.subi v1965 c1_i32_1637
      let c8_i32_1638 : BitVec 32 := 8#32
      let v2790 : BitVec 32 := Scalar.addi v2789 c8_i32_1638
      let c2_i32_1639 : BitVec 32 := 2#32
      let v2791 : DmaSems sig S1x1 := cc0_scratch25.slice (Rect.unit (s := S3x8) (k0_off191 k0_t1) S1x1.size (k0_off191_inb k0_t1 k0_h2))
      let v2792 : DmaSems sig S_ := v2791.squeeze S_ squeezes_S1x1_S_
      let c0_i32_1640 : BitVec 32 := 0#32
      let c0_i32_1641 : BitVec 32 := 0#32
      let v2793 : Memref sig .tc .vmem S1x768x1024 .fp8e4m3 := (Memref.whole cc0_scratch9).slice (Rect.unit (s := S8x768x1024) (k0_off192 k0_t1) S1x768x1024.size (k0_off192_inb k0_t1 k0_h2)) (fun _ => rfl)
      let v2794 : Memref sig .tc .vmem S768x1024 .fp8e4m3 := v2793.squeeze S768x1024 squeezes_S1x768x1024_S768x1024
      let c0_i32_1642 : BitVec 32 := 0#32
      let c0_i32_1643 : BitVec 32 := 0#32
      let v2795 : Memref sig .tc .hbm S1x768x1024 .fp8e4m3 := (Memref.whole main_arg8).slice (Rect.unit (s := S40x768x1024) (k0_off193 k0_t1) S1x768x1024.size (k0_off193_inb k0_t1 k0_h2)) (fun _ => rfl)
      let v2796 : Memref sig .tc .hbm S768x1024 .fp8e4m3 := v2795.squeeze S768x1024 squeezes_S1x768x1024_S768x1024
      Prog.lift (.enqueueDma v2796 (.here v2794) (.dma v2792.sem) (((Memref.isWhole_whole main_arg8).wordExact_slice rfl _ (k0_off193_wordsfp8e4m3 k0_t1 k0_h2)).reshape _ _) (((Memref.isWhole_whole cc0_scratch9).wordExact_slice rfl _ (k0_off192_wordsfp8e4m3 k0_t1 k0_h2)).reshape _ _) ⟨Or.inl rfl, trivial⟩)
      pure ⟨⟩
    else do
      pure ⟨⟩
    pure ⟨⟩

set_option maxRecDepth 100000 in
set_option maxHeartbeats 4000000 in
/-- The printed trip is `trip`. -/
theorem trip_eq (t : Fin k0_t1_loop.trips) : tripP (F := F) t = trip t := by
  by_cases h : k0_cond1 t = 1#1
  · unfold tripP k0_part24 k0_part1 trip
    rw [dif_pos h, dif_pos h]
    chain_rfl
  · unfold tripP k0_part24 k0_part1 trip
    rw [dif_neg h, dif_neg h]
    chain_rfl

/-- The column of the table of a literal expert. -/
theorem rw8 (e : Fin 8) : ∀ a, (![e.val, 0, 0] : Fin 3 → ℕ) a + S1x1024x768.size a ≤ S8x1024x768.size a := by revert e; decide
theorem rw40 (e : Fin 40) : ∀ a, (![e.val, 0, 0] : Fin 3 → ℕ) a + S1x1024x768.size a ≤ S40x1024x768.size a := by revert e; decide
theorem rd8 (e : Fin 8) : ∀ a, (![e.val, 0, 0] : Fin 3 → ℕ) a + S1x768x1024.size a ≤ S8x768x1024.size a := by revert e; decide
theorem rd40 (e : Fin 40) : ∀ a, (![e.val, 0, 0] : Fin 3 → ℕ) a + S1x768x1024.size a ≤ S40x768x1024.size a := by revert e; decide
theorem rs (q : Fin 3) (e : Fin 8) : ∀ a, (![q.val, e.val] : Fin 2 → ℕ) a + S1x1.size a ≤ S3x8.size a := by revert q e; decide
theorem ww8 (e : Fin 8) : (Rect.unit (s := S8x1024x768) ![e.val, 0, 0] S1x1024x768.size (rw8 e)).WholeWords (EltTy.packing .fp8e4m3) := by revert e; decide
theorem ww40 (e : Fin 40) : (Rect.unit (s := S40x1024x768) ![e.val, 0, 0] S1x1024x768.size (rw40 e)).WholeWords (EltTy.packing .fp8e4m3) := by revert e; decide
theorem wd8 (e : Fin 8) : (Rect.unit (s := S8x768x1024) ![e.val, 0, 0] S1x768x1024.size (rd8 e)).WholeWords (EltTy.packing .fp8e4m3) := by revert e; decide
theorem wd40 (e : Fin 40) : (Rect.unit (s := S40x768x1024) ![e.val, 0, 0] S1x768x1024.size (rd40 e)).WholeWords (EltTy.packing .fp8e4m3) := by revert e; decide
theorem inbR (k : Fin 8) : ∀ a, (![32 * k.val, 0] : Fin 2 → ℕ) a + S32x1024.size a ≤ S256x1024.size a := by revert k; decide
theorem inbRa (k : Fin 8) : ∀ a, (![32 * k.val, 0] : Fin 2 → ℕ) a + S32x128.size a ≤ S256x128.size a := by revert k; decide
theorem pk8 (k : Fin 8) : (Rect.unit (s := S256x1024) ![32 * k.val, 0] S32x1024.size (inbR k)).PackedRows (EltTy.packing .fp8e4m3) := by revert k; decide
theorem pk16 (k : Fin 8) : (Rect.unit (s := S256x1024) ![32 * k.val, 0] S32x1024.size (inbR k)).PackedRows (EltTy.packing .bf16) := by revert k; decide
theorem inbDg (k : Fin 2) : ∀ a, (![128 * k.val, 0] : Fin 2 → ℕ) a + S128x128.size a ≤ S256x128.size a := by revert k; decide
theorem inbDs (k : Fin 2) : ∀ a, (![0, 128 * k.val] : Fin 2 → ℕ) a + S1x128.size a ≤ S1x256.size a := by revert k; decide

/-- Rows `32 k, …` of a 256-row array. -/
abbrev rowsX (k : Fin 8) : Rect S256x1024 := Rect.unit (s := S256x1024) ![32 * k.val, 0] S32x1024.size (inbR k)
abbrev rowsA (k : Fin 8) : Rect S256x128 := Rect.unit (s := S256x128) ![32 * k.val, 0] S32x128.size (inbRa k)

/-- Start all of expert `e`'s transfers into slot `e`. -/
def startE (e : Fin 8) : Pg F PUnit := do
  startGU ![(0 : Fin 3).val, e.val] ![(1 : Fin 3).val, e.val] (rs 0 e) (rs 1 e) ![e.val, 0, 0] ![(e.castLE (by decide) : Fin 40).val, 0, 0] (rw8 e) (rw40 (e.castLE (by decide))) (ww8 e) (ww40 (e.castLE (by decide)))
  startD ![(2 : Fin 3).val, e.val] (rs 2 e) ![e.val, 0, 0] ![(e.castLE (by decide) : Fin 40).val, 0, 0] (rd8 e) (rd40 (e.castLE (by decide))) (wd8 e) (wd40 (e.castLE (by decide)))

/-- Zero the accumulator and the two gather buffers. -/
def zero : Pg F PUnit := do
  let _ ← ld (F := F) vAcc (Rect.unit (s := S2048x128) ![0, 0] S2048x128.size inb_S2048x128_S2048x128_0_0).toLoadRect h_S2048x128
  st vAcc (Rect.unit (s := S2048x128) ![0, 0] S2048x128.size inb_S2048x128_S2048x128_0_0) h_S2048x128 (shapeCast S2048x128 (broadcast S2048x128 (Scalar.ofBits .f32 0x00000000#32) : FVec F S2048x128 .f32) shapeCasts_S2048x128_S2048x128)
  let _ ← ld (F := F) vGb (Rect.unit (s := S256x128) ![0, 0] S256x128.size inb_S256x128_S256x128_0_0).toLoadRect h_S256x128
  st vGb (Rect.unit (s := S256x128) ![0, 0] S256x128.size inb_S256x128_S256x128_0_0) h_S256x128 (shapeCast S256x128 (broadcast S256x128 (Scalar.ofBits .f32 0x00000000#32) : FVec F S256x128 .f32) shapeCasts_S256x128_S256x128)
  let _ ← ld (F := F) vAb (Rect.unit (s := S32x128) ![0, 0] S32x128.size inb_S32x128_S32x128_0_0).toLoadRect h_S32x128
  st vAb (Rect.unit (s := S32x128) ![0, 0] S32x128.size inb_S32x128_S32x128_0_0) h_S32x128 (shapeCast S32x128 (broadcast S32x128 (Scalar.ofBits .f32 0x00000000#32) : FVec F S32x128 .f32) shapeCasts_S32x128_S32x128)

/-- The small transfers' starts, and their waits. -/
def smallStart : Pg F PUnit := do
  startIn aX vX (inAt 0 inb_S7_S1_0) (wh _).wordExact (wh _).wordExact
  startIn aGain vGain (inAt 1 inb_S7_S1_1) (wh _).wordExact (wh _).wordExact
  startIn aWr vWr (inAt 2 inb_S7_S1_2) (wh _).wordExact (wh _).wordExact
  startSm aCh vCh (inAt 3 inb_S7_S1_3) (wh _).wordExact (wh _).wordExact
  startIn aSg vSg (inAt 4 inb_S7_S1_4) (wh _).wordExact (wh _).wordExact
  startIn aSu vSu (inAt 5 inb_S7_S1_5) (wh _).wordExact (wh _).wordExact
  startIn aSd vSd (inAt 6 inb_S7_S1_6) (wh _).wordExact (wh _).wordExact
def smallWait : Pg F PUnit := do
  wait aX vX (inAt 0 inb_S7_S1_0) (wh _).wordExact (wh _).wordExact
  wait aGain vGain (inAt 1 inb_S7_S1_1) (wh _).wordExact (wh _).wordExact
  wait aWr vWr (inAt 2 inb_S7_S1_2) (wh _).wordExact (wh _).wordExact
  wait aCh vCh (inAt 3 inb_S7_S1_3) (wh _).wordExact (wh _).wordExact
  wait aSg vSg (inAt 4 inb_S7_S1_4) (wh _).wordExact (wh _).wordExact
  wait aSu vSu (inAt 5 inb_S7_S1_5) (wh _).wordExact (wh _).wordExact
  wait aSd vSd (inAt 6 inb_S7_S1_6) (wh _).wordExact (wh _).wordExact

/-- Normalise and quantise rows `32 k, …`. -/
def chunk (k : Fin 8) : Pg F PUnit := do
  let x ← ld (F := F) vX (rowsX k).toLoadRect h_S32x1024
  let g ← ld (F := F) vGain (Rect.unit (s := S1x1024) ![0, 0] S1x1024.size inb_S1x1024_S1x1024_0_0).toLoadRect h_S1x1024
  let _ ← ld (F := F) vXn (rowsX k).toLoadRect h_S32x1024
  st vXn (rowsX k) h_S32x1024 (shapeCast S32x1024 (xnV x g) shapeCasts_S32x1024_S32x1024)
  let _ ← ld (F := F) vCodes (rowsX k).toLoadRect h_S32x1024
  Prog.lift (.store vCodes (rowsX k) (shapeCast S32x1024 (codes1024 (xnV x g)) shapeCasts_S32x1024_S32x1024 : FVec F S32x1024 .fp8e4m3) Finset.univ (View.stores_vmem h_S32x1024 ((wh cc0_scratch11).storeExact_slice rfl _ (pk8 k)) (fun _ => rfl)) (.inl rfl))
  let _ ← ld (F := F) vAux (rowsA k).toLoadRect h_S32x128
  st vAux (rowsA k) h_S32x128 (shapeCast S32x128 (broadcastTo S32x128 (shapeCast S32x1 (scale1024 (xnV x g)) shapeCasts_S32x1_S32x1 : FVec F S32x1 .f32) broadcasts_S32x1_S32x128 : FVec F S32x128 .f32) shapeCasts_S32x128_S32x128)
  seqFin 8 fun j => do
    let _ ← ld (F := F) vTok (stripT k j) h_S32x128
    st vTok ⟨stripT k j, spos_8_1⟩ h_S32x128 (shapeCast S32x128 (extractStridedSlice S32x128 ![0, 128 * j.val] (extf .f32 (codes1024 (xnV x g)) bitsLt_fp8e4m3_f32 : FVec F S32x1024 .f32) (slc j) : FVec F S32x128 .f32) shapeCasts_S32x128_S32x128)

/-- Read the scales of 128 rows off a diagonal. -/
def diag (k : Fin 2) : Pg F PUnit := do
  let b ← ld (F := F) vAux (Rect.unit (s := S256x128) ![128 * k.val, 0] S128x128.size (inbDg k)).toLoadRect h_S128x128
  let _ ← ld (F := F) vScale (Rect.unit (s := S1x256) ![0, 128 * k.val] S1x128.size (inbDs k)).toLoadRect h_S1x128
  st vScale (Rect.unit (s := S1x256) ![0, 128 * k.val] S1x128.size (inbDs k)) h_S1x128 (shapeCast S1x128 (diagV b) shapeCasts_S1x128_S1x128)

/-- The router's probabilities, into lanes 0–39 of the auxiliary rows. -/
def probs : Pg F PUnit := do
  let xn ← ld (F := F) vXn (Rect.unit (s := S256x1024) ![0, 0] S256x1024.size inb_S256x1024_S256x1024_0_0).toLoadRect h_S256x1024
  let wr ← ld (F := F) vWr (Rect.unit (s := S40x1024) ![0, 0] S40x1024.size inb_S40x1024_S40x1024_0_0).toLoadRect h_S40x1024
  let _ ← ld (F := F) vAux (Rect.unit (s := S256x128) ![0, 0] S256x40.size inb_S256x128_S256x40_0_0).toLoadRect h_S256x40
  st vAux (Rect.unit (s := S256x128) ![0, 0] S256x40.size inb_S256x128_S256x40_0_0) h_S256x40 (shapeCast S256x40 (probV xn wr) shapeCasts_S256x40_S256x40)

/-- The codes' and the scales' transfers out. -/
def outsA : Pg F PUnit := do
  startOut vCodes aCodes (outAt 0 inb_S4_S1_0) (wh _).wordExact (wh _).wordExact
  startOut vScale aScale (outAt 1 inb_S4_S1_1) (wh _).wordExact (wh _).wordExact

/-- Expert 0's gate and up products. -/
def gate0 : Pg F (GU F) :=
  gateUp 0 (by decide) 0#32 ![(0 : Fin 3).val, (0 : Fin 8).val] ![(1 : Fin 3).val, (0 : Fin 8).val] (rs 0 0) (rs 1 0) ![(0 : Fin 8).val, 0, 0] ![(0 : Fin 40).val, 0, 0] (rw8 0) (rw40 0) (ww8 0) (ww40 0) ![0, 0] inb_S40x768_S1x768_0_0

/-- Everything before the loop. -/
def pre : Pg F PUnit := do
  smallStart
  seqFin 8 startE
  zero
  smallWait
  seqFin 8 chunk
  seqFin 2 diag
  probs
  outsA
  let g ← gate0
  keep g

/-- The last expert's down product. -/
def down39 (g : GU F) : Pg F PUnit :=
  down 39 (by decide) ![(2 : Fin 3).val, (7 : Fin 8).val] (rs 2 7) ![(7 : Fin 8).val, 0, 0] ![(39 : Fin 40).val, 0, 0] (rd8 7) (rd40 39) (wd8 7) (wd40 39) ![39, 0] inb_S40x1024_S1x1024_39_0 g

/-- Rows `32 k, …` of the two results. -/
def epi (k : Fin 8) : Pg F PUnit := do
  let g0 ← ld (F := F) vAcc (stripT k 0) h_S32x128
  let g1 ← ld (F := F) vAcc (stripT k 1) h_S32x128
  let g2 ← ld (F := F) vAcc (stripT k 2) h_S32x128
  let g3 ← ld (F := F) vAcc (stripT k 3) h_S32x128
  let g4 ← ld (F := F) vAcc (stripT k 4) h_S32x128
  let g5 ← ld (F := F) vAcc (stripT k 5) h_S32x128
  let g6 ← ld (F := F) vAcc (stripT k 6) h_S32x128
  let g7 ← ld (F := F) vAcc (stripT k 7) h_S32x128
  have moe : FVec F S32x1024 .f32 := cat8 ![g0, g1, g2, g3, g4, g5, g6, g7]
  let _ ← ld (F := F) vMoe (rowsX k).toLoadRect h_S32x1024
  Prog.lift (.store vMoe (rowsX k) (shapeCast S32x1024 (truncf .bf16 moe bitsLt_bf16_f32 : FVec F S32x1024 .bf16) shapeCasts_S32x1024_S32x1024 : FVec F S32x1024 .bf16) Finset.univ (View.stores_vmem h_S32x1024 ((wh cc0_scratch23).storeExact_slice rfl _ (pk16 k)) (fun _ => rfl)) (.inl rfl))
  let x ← ld (F := F) vX (rowsX k).toLoadRect h_S32x1024
  let _ ← ld (F := F) vOut (rowsX k).toLoadRect h_S32x1024
  Prog.lift (.store vOut (rowsX k) (shapeCast S32x1024 (truncf .bf16 (addf (extf .f32 (x : FVec F S32x1024 .bf16) bitsLt_bf16_f32) moe) bitsLt_bf16_f32 : FVec F S32x1024 .bf16) shapeCasts_S32x1024_S32x1024 : FVec F S32x1024 .bf16) Finset.univ (View.stores_vmem h_S32x1024 ((wh cc0_scratch22).storeExact_slice rfl _ (pk16 k)) (fun _ => rfl)) (.inl rfl))

/-- The results' transfers out, and the last waits. -/
def outB0 : Pg F PUnit := startOut vOut aOut (outAt 2 inb_S4_S1_2) (wh _).wordExact (wh _).wordExact
def fin : Pg F PUnit := do
  startOut vMoe aMoe (outAt 3 inb_S4_S1_3) (wh _).wordExact (wh _).wordExact
  wait vCodes aCodes (outAt 0 inb_S4_S1_0) (wh _).wordExact (wh _).wordExact
  wait vScale aScale (outAt 1 inb_S4_S1_1) (wh _).wordExact (wh _).wordExact
  wait vOut aOut (outAt 2 inb_S4_S1_2) (wh _).wordExact (wh _).wordExact
  wait vMoe aMoe (outAt 3 inb_S4_S1_3) (wh _).wordExact (wh _).wordExact

/-- Everything after the loop. -/
def post : Pg F PUnit := do
  let g ← kept
  down39 g
  seqFin 8 epi
  outB0
  fin

/-- What follows the loop in the printed window that holds it, and what follows that window. -/
def cutA : Pg F (Σ' (_ : FVec F S32x1024 .f32), FVec F S32x128 .f32) := do
  let g ← kept
  wait (exptD ![(39 : Fin 40).val, 0, 0] (rd40 39)) (slotD ![(7 : Fin 8).val, 0, 0] (rd8 7)) (wAt ![(2 : Fin 3).val, (7 : Fin 8).val] (rs 2 7)) (((wh main_arg8).wordExact_slice rfl _ (wd40 39)).reshape _ _) (((wh cc0_scratch9).wordExact_slice rfl _ (wd8 7)).reshape _ _)
  let wd ← ld (F := F) vWd (Rect.unit (s := S8x768x1024) ![(7 : Fin 8).val, 0, 0] S1x768x1024.size (rd8 7)).toLoadRect h_S1x768x1024
  let sd ← ld (F := F) vSd (Rect.unit (s := S40x1024) ![39, 0] S1x1024.size inb_S40x1024_S1x1024_39_0).toLoadRect h_S1x1024
  let _ ← ld (F := F) vYb (strip 0) h_S32x128
  st vYb ⟨strip 0, spos_8_1⟩ h_S32x128 (shapeCast S32x128 (extractStridedSlice S32x128 ![0, 0] (yV g.1 g.2.1 g.2.2 wd sd) (slc 0) : FVec F S32x128 .f32) shapeCasts_S32x128_S32x128)
  let _ ← ld (F := F) vYb (strip 1) h_S32x128
  pure ⟨yV g.1 g.2.1 g.2.2 wd sd, extractStridedSlice S32x128 ![0, 128] (yV g.1 g.2.1 g.2.2 wd sd) (slc 1)⟩
def cutB : (Σ' (_ : FVec F S32x1024 .f32), FVec F S32x128 .f32) → Pg F PUnit
  | ⟨y, s1⟩ => do
  st vYb ⟨strip 1, spos_8_1⟩ h_S32x128 (shapeCast S32x128 s1 shapeCasts_S32x128_S32x128)
  seqFin 6 fun j => do
    let _ ← ld (F := F) vYb (strip j.succ.succ) h_S32x128
    st vYb ⟨strip j.succ.succ, spos_8_1⟩ h_S32x128 (shapeCast S32x128 (extractStridedSlice S32x128 ![0, 128 * j.succ.succ.val] y (slc j.succ.succ) : FVec F S32x128 .f32) shapeCasts_S32x128_S32x128)
  seqFin 25 fun i => scatterRow (ocs 39 i) (inbOc 39 (by decide) i) i.val (inbG i)
  seqFin 8 epi
  outB0

/-- The loop. -/
def loop : Pg F PUnit := Scf.Loop.for k0_t1_loop Gen.k0_t1_ok ⟨⟩ fun t _ => tripP t

set_option maxRecDepth 100000 in
set_option maxHeartbeats 4000000 in
/-- The printed body, cut as it is printed. -/
theorem body_cut (t : Fin cfg0.N) : bodyAt0 (F := F) t = (do (do pre; let r ← (do loop; cutA); cutB r); fin) := by
  chain_rfl
set_option maxRecDepth 100000 in
set_option maxHeartbeats 4000000 in
theorem post_cut : (do let r ← cutA (F := F); cutB r; fin) = post (F := F) := by
  chain_rfl

end Cert.Kernel.Hand
-- ==== Proof.Steps.lean ====
/-
  How the small pieces of the kernel's body run: loads and stores, a row of the gather, a row of the scatter, the strips
  of a block of results. Every lemma names the state a piece leaves as the entry state with some buffers overwritten.
-/
module

public import proofs.«01_k».proof.Proof.Body
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL.Sem
open Idealize.ShloMosaic.Pure (St Pend ends pwp pwp_bind pwp_mono)

variable {F : FTy → Type} [FloatOps F] {c : Dev nD}

/-- A state of the kernel's run on core `c`. -/
abbrev KSt (F : FTy → Type) (c : Dev nD) := St τ sig (Elt F) c

/-! ### Indices -/

/-- The index of a matrix at row `i`, column `j`, taken within the matrix. -/
def i2 {a b : ℕ} [NeZero a] [NeZero b] (i j : ℕ) : Shape.Idx ⟨2, ![a, b]⟩ :=
  fun k => match k with
    | 0 => Fin.ofNat a i
    | 1 => Fin.ofNat b j
/-- The index of a stack of matrices. -/
def i3 {a b d : ℕ} [NeZero a] [NeZero b] [NeZero d] (i j k : ℕ) : Shape.Idx ⟨3, ![a, b, d]⟩ :=
  fun q => match q with
    | 0 => Fin.ofNat a i
    | 1 => Fin.ofNat b j
    | 2 => Fin.ofNat d k
theorem i2_zero {a b : ℕ} [NeZero a] [NeZero b] {i j : ℕ} (h : i < a) : ((i2 (a := a) (b := b) i j 0).val : ℕ) = i := Nat.mod_eq_of_lt h
theorem i2_one {a b : ℕ} [NeZero a] [NeZero b] {i j : ℕ} (h : j < b) : ((i2 (a := a) (b := b) i j 1).val : ℕ) = j := Nat.mod_eq_of_lt h
theorem eq_i2 {a b : ℕ} [NeZero a] [NeZero b] (q : Shape.Idx ⟨2, ![a, b]⟩) (i j : ℕ) (hi : (q 0).val = i) (hj : (q 1).val = j) : q = i2 i j := by
  subst hi hj
  funext k
  match k with
  | 0 => exact Fin.ext (Nat.mod_eq_of_lt (q 0).isLt).symm
  | 1 => exact Fin.ext (Nat.mod_eq_of_lt (q 1).isLt).symm
theorem eq_i3 {a b d : ℕ} [NeZero a] [NeZero b] [NeZero d] (q : Shape.Idx ⟨3, ![a, b, d]⟩) (i j k : ℕ) (hi : (q 0).val = i) (hj : (q 1).val = j) (hk : (q 2).val = k) : q = i3 i j k := by
  subst hi hj hk
  funext k
  match k with
  | 0 => exact Fin.ext (Nat.mod_eq_of_lt (q 0).isLt).symm
  | 1 => exact Fin.ext (Nat.mod_eq_of_lt (q 1).isLt).symm
  | 2 => exact Fin.ext (Nat.mod_eq_of_lt (q 2).isLt).symm
theorem ext2 {a b : ℕ} {p q : Shape.Idx ⟨2, ![a, b]⟩} (h0 : (p 0).val = (q 0).val) (h1 : (p 1).val = (q 1).val) : p = q := by
  funext k
  match k with
  | 0 => exact Fin.ext h0
  | 1 => exact Fin.ext h1

/-! ### States -/

theorem set_σ (S : KSt F c) (b : Ref sig .tc) (f) : (S.set b f).σ b = f := Function.update_self ..
theorem set_σ_ne (S : KSt F c) {b b' : Ref sig .tc} (h : b' ≠ b) (f) : (S.set b f).σ b' = S.σ b' := Function.update_of_ne h ..
theorem set_set (S : KSt F c) (b : Ref sig .tc) (f g) : (S.set b f).set b g = S.set b g := by
  unfold St.set; simp only [Function.update_idem]
theorem set_comm (S : KSt F c) {b b' : Ref sig .tc} (h : b ≠ b') (f g) : (S.set b f).set b' g = (S.set b' g).set b f := by
  unfold St.set; simp only []; rw [Function.update_comm h]
theorem set_self (S : KSt F c) (b : Ref sig .tc) : S.set b (S.σ b) = S := by
  unfold St.set; rw [Function.update_eq_self]

/-! ### One effect -/

theorem lk {α : Type} [Fintype α] [DecidableEq α] {L s : Finset α} (h : L = ∅) : s ⊆ Lᶜ := by rw [h]; simp

theorem pwp_ld {s : Shape} {e : EltTy} (M : Memref sig .tc .vmem s e) (r : LoadRect s) (h) (S : KSt F c) (Q : Vec F r.shape e → KSt F c → Prop)
    (hl : S.lock M.view.ref = ∅) (H : Q (M.view.readAt (Elt F) r (S.σ M.view.ref)) S) : pwp (ld M r h) S Q :=
  ⟨by rw [hl]; simp, H⟩
theorem pwp_store {s : Shape} {e : EltTy} (M : Memref sig .tc .vmem s e) (r : Rect s) (w : Vec F r.shape e) (h1 h2) (S : KSt F c) (Q : PUnit → KSt F c → Prop)
    (hl : S.lock M.view.ref = ∅) (H : Q ⟨⟩ (S.set M.view.ref ((M.access r).write (Elt F) (S.σ M.view.ref) w Finset.univ))) :
    pwp (Prog.lift (.store M r w Finset.univ h1 h2) : Pg F PUnit) S Q :=
  ⟨by show _ ⊆ (S.lock M.view.ref)ᶜ; rw [hl]; simp, H⟩
theorem pwp_st {s : Shape} (M : Memref sig .tc .vmem s .f32) (r : Rect s) (h) (w : Vec F r.shape .f32) (S : KSt F c) (Q : PUnit → KSt F c → Prop)
    (hl : S.lock M.view.ref = ∅) (H : Q ⟨⟩ (S.set M.view.ref ((M.access r).write (Elt F) (S.σ M.view.ref) w Finset.univ))) :
    pwp (st M r h w) S Q := pwp_store M r w _ _ S Q hl H

/-- What a store leaves, told by its values inside and outside the rectangle. -/
theorem write_eq {sp : Space} {s : Shape} {e : EltTy} (M : Memref sig .tc sp s e) (r : Rect s) (f g : M.view.ref.ty.Contents (Elt F)) (w : r.shape.Idx → Elt F e)
    (hin : ∀ j, g (M.view.emb (r.emb j)) = _root_.cast (congrArg (Elt F) M.view.elt_eq.symm) (w j))
    (hout : ∀ q, (∀ j, M.view.emb (r.emb j) ≠ q) → g q = f q) : (M.access r).write (Elt F) f w Finset.univ = g := by
  funext q
  by_cases hq : ∃ j, M.view.emb (r.emb j) = q
  · obtain ⟨j, rfl⟩ := hq
    rw [hin]
    exact View.write_emb_of_mem (v := M.access r) f w (Finset.mem_univ j)
  · rw [hout q (fun j hj => hq ⟨j, hj⟩)]
    refine View.write_of_not_mem (v := M.access r) f w Finset.univ ?_
    intro hm
    obtain ⟨j, -, hj⟩ := Finset.mem_map.mp hm
    exact hq ⟨j, hj⟩

theorem pwp_seqFin (n : ℕ) (f : Fin n → Pg F PUnit) (I : ℕ → KSt F c → Prop) (S : KSt F c) (Q : PUnit → KSt F c → Prop) (h0 : I 0 S)
    (hs : ∀ (i : Fin n) S, I i.val S → pwp (f i) S fun _ S' => I (i.val + 1) S') (hQ : ∀ S, I n S → Q ⟨⟩ S) : pwp (seqFin n f) S Q := by
  induction n generalizing S I with
  | zero => exact hQ S h0
  | succ n ih =>
    show pwp (f 0 >>= fun _ => seqFin n fun i => f i.succ) S Q
    rw [pwp_bind]
    refine pwp_mono _ _ (fun _ S' h => ?_) (hs 0 S h0)
    exact ih (fun i => f i.succ) (fun k => I (k + 1)) S' h (fun i S hi => hs i.succ S hi) hQ

/-! ### The gather and the scatter -/

theorem off56_eq (t : BitVec 32) (h : t.toNat < 256) : k0_off56 t = ![8 * t.toNat, 0] := by
  have : (t * 8#32).toNat = 8 * t.toNat := by rw [BitVec.toNat_mul]; show t.toNat * 8 % 2 ^ 32 = _; omega
  show ![(t * 8#32).toNat, 0] = _
  rw [this]
theorem off142_eq (t : BitVec 32) (h : t.toNat < 256) : k0_off142 t = ![8 * t.toNat, 0] := off56_eq t h
theorem off57_eq (t : BitVec 32) : k0_off57 t = ![t.toNat, 0] := rfl
theorem chk26 (t : BitVec 32) (h : t.toNat < 256) : k0_chk26 t := by
  refine ⟨?_, ?_, ?_⟩
  · have : (t * 8#32).toNat = 8 * t.toNat := by rw [BitVec.toNat_mul]; show t.toNat * 8 % 2 ^ 32 = _; omega
    show 8 ∣ (t * 8#32).toNat
    rw [this]; exact ⟨_, rfl⟩
  · rw [off56_eq t h]; intro a
    match a with
    | 0 => show 8 * t.toNat + 8 ≤ 2048; omega
    | 1 => show 0 + 128 ≤ 128; omega
  · rw [off57_eq]; intro a
    match a with
    | 0 => show t.toNat + 1 ≤ 256; omega
    | 1 => show 0 + 128 ≤ 128; omega
theorem chk51 (t : BitVec 32) (h : t.toNat < 256) : k0_chk51 t := ⟨(chk26 t h).1, (chk26 t h).2.1⟩

/-- Slot `i` of the gathered codes replaced by token `t`'s. -/
def gRow (i t : ℕ) (tok : Vec F S2048x128 .f32) (g : Vec F S256x128 .f32) : Vec F S256x128 .f32 :=
  fun q => if (q 0).val / 8 = i then tok (i2 (8 * t + (q 0).val % 8) (q 1).val) else g q
/-- Slot `i` of the gathered auxiliary rows replaced by token `t`'s. -/
def aRow (i t : ℕ) (aux : Vec F S256x128 .f32) (g : Vec F S32x128 .f32) : Vec F S32x128 .f32 :=
  fun q => if (q 0).val = i then aux (i2 t (q 1).val) else g q
/-- Slot `i` of the result rows added to token `t`'s rows of the accumulator. -/
def accRow (i t : ℕ) (y : Vec F S256x128 .f32) (g : Vec F S2048x128 .f32) : Vec F S2048x128 .f32 :=
  fun q => if (q 0).val / 8 = t then FloatOps.addf (g q) (y (i2 (8 * i + (q 0).val % 8) (q 1).val)) else g q

theorem wr_gRow (i t : ℕ) (tb : BitVec 32) (htb : tb.toNat = t) (ht : t < 256) (hg hw) (hi : i < 32) (tok : Vec F S2048x128 .f32) (g : Vec F S256x128 .f32) :
    (vGb.access (Rect.unit (s := S256x128) ![8 * i, 0] S8x128.size hg)).write (Elt F) g
      (shapeCast S8x128 (fun j : S8x128.Idx => tok ((Rect.unit (s := S2048x128) (k0_off56 tb) S8x128.size hw).emb j)) shapeCasts_S8x128_S8x128) Finset.univ = gRow i t tok g := by
  rw [shapeCast_self]
  subst htb
  refine write_eq vGb _ g (gRow i _ tok g) _ (fun j => ?_) (fun q hq => ?_)
  · have h0 : (j 0).val < 8 := (j 0).isLt
    have h1 : (j 1).val < 128 := (j 1).isLt
    show (if (8 * i + 1 * (j 0).val) / 8 = i then _ else _) = tok _
    rw [if_pos (by omega)]
    refine congrArg tok (Eq.symm (eq_i2 _ _ _ ?_ ?_))
    · show k0_off56 tb 0 + 1 * (j 0).val = 8 * tb.toNat + (8 * i + 1 * (j 0).val) % 8
      rw [off56_eq tb ht]; show 8 * tb.toNat + 1 * (j 0).val = _; omega
    · show k0_off56 tb 1 + 1 * (j 1).val = 0 + 1 * (j 1).val
      rw [off56_eq tb ht]; rfl
  · have h0 : (q 0).val < 256 := (q 0).isLt
    have h1 : (q 1).val < 128 := (q 1).isLt
    refine if_neg fun h => ?_
    refine hq (i2 (a := 8) (b := 128) ((q 0).val % 8) (q 1).val) (ext2 ?_ ?_)
    · show 8 * i + 1 * ((q 0).val % 8 % 8) = _; omega
    · show 0 + 1 * ((q 1).val % 128) = _; omega

theorem wr_aRow (i t : ℕ) (tb : BitVec 32) (htb : tb.toNat = t) (ht : t < 256) (ha hw) (hi : i < 32) (aux : Vec F S256x128 .f32) (g : Vec F S32x128 .f32) :
    (vAb.access (Rect.unit (s := S32x128) ![i, 0] S1x128.size ha)).write (Elt F) g
      (shapeCast S1x128 (fun j : S1x128.Idx => aux ((Rect.unit (s := S256x128) (k0_off57 tb) S1x128.size hw).emb j)) shapeCasts_S1x128_S1x128) Finset.univ = aRow i t aux g := by
  rw [shapeCast_self]
  subst htb
  refine write_eq vAb _ g (aRow i _ aux g) _ (fun j => ?_) (fun q hq => ?_)
  · have h0 : (j 0).val < 1 := (j 0).isLt
    have h1 : (j 1).val < 128 := (j 1).isLt
    show (if i + 1 * (j 0).val = i then _ else _) = aux _
    rw [if_pos (by omega)]
    refine congrArg aux (Eq.symm (eq_i2 _ _ _ ?_ ?_))
    · show tb.toNat + 1 * (j 0).val = tb.toNat
      omega
    · show 0 + 1 * (j 1).val = 0 + 1 * (j 1).val
      rfl
  · have h1 : (q 1).val < 128 := (q 1).isLt
    refine if_neg fun h => ?_
    refine hq (i2 (a := 1) (b := 128) 0 (q 1).val) (ext2 ?_ ?_)
    · show i + 1 * (0 % 1) = _; omega
    · show 0 + 1 * ((q 1).val % 128) = _; omega

theorem wr_accRow (i t : ℕ) (tb : BitVec 32) (htb : tb.toNat = t) (ht : t < 256) (hg hw) (hi : i < 32) (y : Vec F S256x128 .f32) (g : Vec F S2048x128 .f32) :
    (vAcc.access (Rect.unit (s := S2048x128) (k0_off142 tb) S8x128.size hw)).write (Elt F) g
      (shapeCast S8x128 (addf (fun j : S8x128.Idx => g ((Rect.unit (s := S2048x128) (k0_off142 tb) S8x128.size hw).emb j))
        (fun j : S8x128.Idx => y ((Rect.unit (s := S256x128) ![8 * i, 0] S8x128.size hg).emb j)) : FVec F S8x128 .f32) shapeCasts_S8x128_S8x128) Finset.univ = accRow i t y g := by
  rw [shapeCast_self]
  subst htb
  have e0 : k0_off142 tb 0 = 8 * tb.toNat := by rw [off142_eq tb ht]; rfl
  have e1 : k0_off142 tb 1 = 0 := by rw [off142_eq tb ht]; rfl
  refine write_eq vAcc _ g (accRow i _ y g) _ (fun j => ?_) (fun q hq => ?_)
  · have h0 : (j 0).val < 8 := (j 0).isLt
    have h1 : (j 1).val < 128 := (j 1).isLt
    show (if (k0_off142 tb 0 + 1 * (j 0).val) / 8 = tb.toNat then _ else _) = _
    rw [if_pos (by rw [e0]; omega)]
    refine congrArg (FloatOps.addf _) (congrArg y (Eq.symm (eq_i2 _ _ _ ?_ ?_)))
    · show 8 * i + 1 * (j 0).val = 8 * i + (k0_off142 tb 0 + 1 * (j 0).val) % 8
      rw [e0]; omega
    · show 0 + 1 * (j 1).val = k0_off142 tb 1 + 1 * (j 1).val
      rw [e1]
  · have h0 : (q 0).val < 2048 := (q 0).isLt
    have h1 : (q 1).val < 128 := (q 1).isLt
    refine if_neg fun h => ?_
    refine hq (i2 (a := 8) (b := 128) ((q 0).val % 8) (q 1).val) (ext2 ?_ ?_)
    · show k0_off142 tb 0 + 1 * ((q 0).val % 8 % 8) = _; rw [e0]; omega
    · show k0_off142 tb 1 + 1 * ((q 1).val % 128) = _; rw [e1]; omega

/-- The table's entry at row `i`, column `e`, in the state `S`. -/
abbrev chAt (S : KSt F c) (i e : ℕ) : BitVec 32 := (S.σ cc0_scratch3 : Vec F S25x40 .i32) (i2 i e)

theorem pwp_gatherRow (oc hoc) (i : ℕ) (hg ha) (S : KSt F c) (Q : PUnit → KSt F c → Prop) (t : ℕ) (ht : (chAt S (oc 0) (oc 1)).toNat = t) (hlt : t < 256) (hi : i < 32)
    (l3 : S.lock cc0_scratch3 = ∅) (l13 : S.lock cc0_scratch13 = ∅) (l14 : S.lock cc0_scratch14 = ∅) (l15 : S.lock cc0_scratch15 = ∅) (l16 : S.lock cc0_scratch16 = ∅)
    (H : Q ⟨⟩ ((S.set cc0_scratch15 (gRow (F := F) i t (S.σ cc0_scratch13) (S.σ cc0_scratch15))).set cc0_scratch16 (aRow (F := F) i t (S.σ cc0_scratch14) (S.σ cc0_scratch16)))) :
    pwp (gatherRow (F := F) oc hoc i hg ha) S Q := by
  have hidx : (Rect.unit (s := S25x40) oc S1x1.size hoc).emb (Shape.Idx.first (numel1_S1x1.symm ▸ Nat.one_pos)) = i2 (oc 0) (oc 1) :=
    eq_i2 _ _ _ (by show oc 0 + 1 * 0 = _; omega) (by show oc 1 + 1 * 0 = _; omega)
  have ht' : ((S.σ cc0_scratch3 : Vec F S25x40 .i32) ((Rect.unit (s := S25x40) oc S1x1.size hoc).emb (Shape.Idx.first (numel1_S1x1.symm ▸ Nat.one_pos))) : BitVec 32).toNat = t := by rw [hidx]; exact ht
  refine ⟨by rw [show S.lock vCh.view.ref = ∅ from l3]; simp, chk26 _ (lt_of_eq_of_lt ht' hlt), ?_⟩
  refine ⟨lk l13, lk l15, lk l15, lk l14, lk l16, lk l16, ?_⟩
  have e1 := wr_gRow (F := F) i t _ ht' hlt hg (k0_off56_inb _ (chk26 _ (lt_of_eq_of_lt ht' hlt))) hi (S.σ cc0_scratch13) (S.σ cc0_scratch15)
  have e2 := wr_aRow (F := F) i t _ ht' hlt ha (k0_off57_inb _ (chk26 _ (lt_of_eq_of_lt ht' hlt))) hi (S.σ cc0_scratch14) (S.σ cc0_scratch16)
  rw [← e1, ← e2] at H
  exact H

theorem pwp_scatterRow (oc hoc) (i : ℕ) (hg) (S : KSt F c) (Q : PUnit → KSt F c → Prop) (t : ℕ) (ht : (chAt S (oc 0) (oc 1)).toNat = t) (hlt : t < 256) (hi : i < 32)
    (l3 : S.lock cc0_scratch3 = ∅) (l20 : S.lock cc0_scratch20 = ∅) (l21 : S.lock cc0_scratch21 = ∅)
    (H : Q ⟨⟩ (S.set cc0_scratch21 (accRow (F := F) i t (S.σ cc0_scratch20) (S.σ cc0_scratch21)))) :
    pwp (scatterRow (F := F) oc hoc i hg) S Q := by
  have hidx : (Rect.unit (s := S25x40) oc S1x1.size hoc).emb (Shape.Idx.first (numel1_S1x1.symm ▸ Nat.one_pos)) = i2 (oc 0) (oc 1) :=
    eq_i2 _ _ _ (by show oc 0 + 1 * 0 = _; omega) (by show oc 1 + 1 * 0 = _; omega)
  have ht' : ((S.σ cc0_scratch3 : Vec F S25x40 .i32) ((Rect.unit (s := S25x40) oc S1x1.size hoc).emb (Shape.Idx.first (numel1_S1x1.symm ▸ Nat.one_pos))) : BitVec 32).toNat = t := by rw [hidx]; exact ht
  refine ⟨by rw [show S.lock vCh.view.ref = ∅ from l3]; simp, chk51 _ (lt_of_eq_of_lt ht' hlt), ?_⟩
  refine ⟨lk l21, lk l20, lk l21, lk l21, ?_⟩
  have e1 := wr_accRow (F := F) i t _ ht' hlt hg (k0_off142_inb _ (chk51 _ (lt_of_eq_of_lt ht' hlt))) hi (S.σ cc0_scratch20) (S.σ cc0_scratch21)
  rw [← e1] at H
  exact H

end Cert.Kernel.Hand
-- ==== Proof.Ctl.lean ====
/-
  The transfers of the kernel and what is lent while they fly. A transfer is named: one of the eleven copies of a whole
  array, or expert `e`'s gate, up or down weights. `Ctl A` says that exactly the transfers in `A` are in flight.
-/
module

public import proofs.«01_k».proof.Proof.Steps

@[expose] public section

noncomputable section

namespace Cert.Kernel.Hand

open Cert.Kernel Cert.Kernel.Gen
open Idealize.ShloMosaic Idealize.ShloMosaic.TcCoe Idealize.ShloMosaic.Tactic
open Idealize.SL.Sem
open Idealize.ShloMosaic.Pure (St Pend ends pwp pwp_bind pwp_mono)

variable {F : FTy → Type} [FloatOps F] {c : Dev nD}

/-- The transfers: a whole array's, or an expert's gate, up or down weights. -/
inductive Tid
  | w (k : Fin 11)
  | g (e : Fin 40)
  | u (e : Fin 40)
  | d (e : Fin 40)

/-- Where the whole copies go, and where they come from. -/
def wdst : Fin 11 → Ref sig .tc := ![cc0_scratch0, cc0_scratch1, cc0_scratch2, cc0_scratch3, cc0_scratch4, cc0_scratch5, cc0_scratch6, main_v3_2, main_v3_3, main_v3_0, main_v3_1]
def wsrc : Fin 11 → Ref sig .tc := ![main_arg0, main_v0, main_v1, main_v2, main_arg6, main_arg7, main_arg9, cc0_scratch11, cc0_scratch12, cc0_scratch22, cc0_scratch23]

/-- The slot of an expert. -/
abbrev slot8 (e : Fin 40) : Fin 8 := ⟨e.val % 8, Nat.mod_lt _ (by decide)⟩

/-- The semaphore of a transfer. -/
def semOf : Tid → DmaSem sig
  | .w k => ![inAt 0 inb_S7_S1_0, inAt 1 inb_S7_S1_1, inAt 2 inb_S7_S1_2, inAt 3 inb_S7_S1_3, inAt 4 inb_S7_S1_4, inAt 5 inb_S7_S1_5, inAt 6 inb_S7_S1_6,
      outAt 0 inb_S4_S1_0, outAt 1 inb_S4_S1_1, outAt 2 inb_S4_S1_2, outAt 3 inb_S4_S1_3] k
  | .g e => wAt ![(0 : Fin 3).val, (slot8 e).val] (rs 0 _)
  | .u e => wAt ![(1 : Fin 3).val, (slot8 e).val] (rs 1 _)
  | .d e => wAt ![(2 : Fin 3).val, (slot8 e).val] (rs 2 _)

/-- What a transfer borrows. -/
def lkOf : Tid → (b : Ref sig .tc) → Finset (Idx ((c : Thread nD τ).loc b))
  | .w k => ends (wdst k) (wsrc k) (Memref.whole (wdst k)).view.set (Memref.whole (wsrc k)).view.set
  | .g e => ends cc0_scratch7 main_arg4 (slotG vWg ![(slot8 e).val, 0, 0] (rw8 _)).view.set (exptG aWg ![e.val, 0, 0] (rw40 _)).view.set
  | .u e => ends cc0_scratch8 main_arg5 (slotG vWu ![(slot8 e).val, 0, 0] (rw8 _)).view.set (exptG aWu ![e.val, 0, 0] (rw40 _)).view.set
  | .d e => ends cc0_scratch9 main_arg8 (slotD ![(slot8 e).val, 0, 0] (rd8 _)).view.set (exptD ![e.val, 0, 0] (rd40 _)).view.set

/-- How much a transfer delivers. -/
def nOf : Tid → ℕ
  | .w k => (Memref.whole (wdst k)).view.dmaCredit
  | .g e => (slotG vWg ![(slot8 e).val, 0, 0] (rw8 _)).view.dmaCredit
  | .u e => (slotG vWu ![(slot8 e).val, 0, 0] (rw8 _)).view.dmaCredit
  | .d e => (slotD ![(slot8 e).val, 0, 0] (rd8 _)).view.dmaCredit

/-- Two transfers that can fly together: other semaphores, nothing borrowed by both. -/
structure Cmp (c : Dev nD) (a b : Tid) : Prop where
  sem : semOf a ≠ semOf b
  dis : ∀ r, Disjoint (lkOf (c := c) a r) (lkOf (c := c) b r)

theorem Cmp.symm {a b : Tid} (h : Cmp c a b) : Cmp c b a := ⟨fun e => h.sem e.symm, fun r => (h.dis r).symm⟩

/-- Exactly the transfers of `A` are in flight. -/
structure Ctl (A : Tid → Prop) (lock : (b : Ref sig .tc) → Finset (Idx ((c : Thread nD τ).loc b))) (pend : DmaSem sig → Option (Pend τ sig c)) : Prop where
  cmp : ∀ a b, A a → A b → a ≠ b → Cmp c a b
  some : ∀ a, A a → pend (semOf a) = some ⟨lkOf a, nOf a⟩
  none : ∀ s, (∀ a, A a → s ≠ semOf a) → pend s = none
  lock : ∀ b x, x ∈ lock b ↔ ∃ a, A a ∧ x ∈ lkOf a b

theorem Ctl.congr {A A' : Tid → Prop} {lock pend} (h : Ctl (c := c) A lock pend) (e : ∀ a, A a ↔ A' a) : Ctl (c := c) A' lock pend := by
  have : A = A' := funext fun a => propext (e a)
  exact this ▸ h

theorem Ctl.enq {A : Tid → Prop} {S : KSt F c} (h : Ctl A S.lock S.pend) (id : Tid) (hc : ∀ a, A a → Cmp c id a) (b f) :
    Ctl (fun a => a = id ∨ A a) (S.enq (semOf id) ⟨lkOf id, nOf id⟩ b f).lock (S.enq (semOf id) ⟨lkOf id, nOf id⟩ b f).pend where
  cmp := by
    rintro a b (rfl | ha) (rfl | hb) hab
    · exact absurd rfl hab
    · exact hc _ hb
    · exact (hc _ ha).symm
    · exact h.cmp a b ha hb hab
  some := by
    rintro a (rfl | ha)
    · exact Function.update_self ..
    · exact (Function.update_of_ne (hc _ ha).symm.sem _ _).trans (h.some a ha)
  none := fun s hs => (Function.update_of_ne (hs id (.inl rfl)) _ _).trans (h.none s fun a ha => hs a (.inr ha))
  lock := fun b x => by
    show x ∈ S.lock b ∪ lkOf id b ↔ _
    rw [Finset.mem_union, h.lock]
    constructor
    · rintro (⟨a, ha, hx⟩ | hx)
      · exact ⟨a, .inr ha, hx⟩
      · exact ⟨id, .inl rfl, hx⟩
    · rintro ⟨a, rfl | ha, hx⟩
      · exact .inr hx
      · exact .inl ⟨a, ha, hx⟩

theorem Ctl.deq {A : Tid → Prop} {S : KSt F c} (h : Ctl A S.lock S.pend) (id : Tid) (hid : A id) :
    Ctl (fun a => a ≠ id ∧ A a) (S.deq (semOf id) ⟨lkOf id, nOf id⟩).lock (S.deq (semOf id) ⟨lkOf id, nOf id⟩).pend where
  cmp := fun a b ha hb hab => h.cmp a b ha.2 hb.2 hab
  some := fun a ha => (Function.update_of_ne (h.cmp a id ha.2 hid ha.1).sem _ _).trans (h.some a ha.2)
  none := fun s hs => by
    by_cases e : s = semOf id
    · subst e; exact Function.update_self ..
    · refine (Function.update_of_ne e _ _).trans (h.none s fun a ha => ?_)
      by_cases ea : a = id
      · subst ea; exact e
      · exact hs a ⟨ea, ha⟩
  lock := fun b x => by
    show x ∈ S.lock b \ lkOf id b ↔ _
    rw [Finset.mem_sdiff, h.lock]
    constructor
    · rintro ⟨⟨a, ha, hx⟩, hn⟩
      exact ⟨a, ⟨fun e => hn (e ▸ hx), ha⟩, hx⟩
    · rintro ⟨a, ⟨hne, ha⟩, hx⟩
      exact ⟨⟨a, ha, hx⟩, fun hx' => Finset.disjoint_left.mp ((h.cmp a id ha hid hne).dis b) hx hx'⟩

/-- Starting a transfer. -/
theorem pwp_enq {sp : Space} {s : Shape} {e : EltTy} (src : Memref sig .tc sp s e) {sp' : Space} (dst : Memref sig .tc sp' s e) (sem : DmaSem sig) (h1 h2 ty)
    (id : Tid) {A : Tid → Prop} {α : Type} (k : PUnit → Pg F α) (S : KSt F c) (Q : α → KSt F c → Prop) (hC : Ctl A S.lock S.pend) (hc : ∀ a, A a → Cmp c id a) (hs : semOf id = sem)
    (hlk : lkOf (c := c) id = ends dst.view.ref src.view.ref dst.view.set src.view.set) (hN : nOf id = dst.view.dmaCredit) (hne : dst.view.ref ≠ src.view.ref)
    (hpos : 0 < dst.view.dmaCredit)
    (H : ∀ S' : KSt F c, S'.σ = Function.update S.σ dst.view.ref (dst.view.write (Elt F) (S.σ dst.view.ref) (src.view.read (Elt F) (S.σ src.view.ref)) Finset.univ) →
      Ctl (fun a => a = id ∨ A a) S'.lock S'.pend → pwp (k ⟨⟩) S' Q) :
    pwp (.op (.enqueueDma src (.here dst) (.dma sem) h1 h2 ty) k : Pg F α) S Q := by
  subst hs
  have hd : dst.view.set = lkOf (c := c) id dst.view.ref := by
    rw [hlk]; unfold ends; rw [Function.update_of_ne hne, Function.update_self]
  have hsr : src.view.set = lkOf (c := c) id src.view.ref := by
    rw [hlk]; unfold ends; rw [Function.update_self]
  have free : ∀ b, lkOf (c := c) id b ⊆ (S.lock b)ᶜ := fun b x hx => by
    rw [Finset.mem_compl, hC.lock]
    rintro ⟨a, ha, hx'⟩
    exact Finset.disjoint_left.mp ((hc a ha).dis b) hx hx'
  refine ⟨hC.none _ fun a ha => (hc a ha).sem, hne, ?_, ?_, hpos, H _ rfl ?_⟩
  · show dst.view.set ⊆ (S.lock dst.view.ref)ᶜ
    rw [hd]; exact free _
  · show src.view.set ⊆ (S.lock src.view.ref)ᶜ
    rw [hsr]; exact free _
  · rw [← hlk, ← hN]; exact hC.enq id hc _ _

/-- Waiting for a transfer. -/
theorem pwp_wait {sp sp' : Space} {s : Shape} {e : EltTy} (src : Memref sig .tc sp s e) (dst : Memref sig .tc sp' s e) (sem : DmaSem sig) (h1 h2)
    (id : Tid) {A : Tid → Prop} {α : Type} (k : PUnit → Pg F α) (S : KSt F c) (Q : α → KSt F c → Prop) (hC : Ctl A S.lock S.pend) (hid : A id) (hs : semOf id = sem)
    (hN : nOf id = dst.view.dmaCredit)
    (H : ∀ S' : KSt F c, S'.σ = S.σ → Ctl (fun a => a ≠ id ∧ A a) S'.lock S'.pend → pwp (k ⟨⟩) S' Q) :
    pwp (.op (.waitDma2 sem src dst h1 h2) k : Pg F α) S Q := by
  subst hs
  exact ⟨_, hC.some id hid, hN.symm, H _ rfl (hC.deq id hid)⟩

/-! ### Which transfers fly together -/

theorem ends_rs {rd rs : Ref sig .tc} {Sd Ss} : ends (c := c) (τ := τ) rd rs Sd Ss rs = Ss := Function.update_self ..
theorem ends_rd {rd rs : Ref sig .tc} (h : rd ≠ rs) {Sd Ss} : ends (c := c) (τ := τ) rd rs Sd Ss rd = Sd :=
  (Function.update_of_ne h ..).trans (Function.update_self ..)
theorem ends_other {rd rs b : Ref sig .tc} (h : b ≠ rd) (h' : b ≠ rs) {Sd Ss} : ends (c := c) (τ := τ) rd rs Sd Ss b = ∅ :=
  (Function.update_of_ne h' ..).trans (Function.update_of_ne h ..)
theorem ends_dis {rd rs rd' rs' : Ref sig .tc} {Sd Ss Sd' Ss'} (h1 : rd ≠ rd') (h2 : rd ≠ rs') (h3 : rs ≠ rd') (h4 : rs ≠ rs') (b : Ref sig .tc) :
    Disjoint (ends (c := c) (τ := τ) rd rs Sd Ss b) (ends (c := c) (τ := τ) rd' rs' Sd' Ss' b) := by
  by_cases e : b = rs
  · subst e; rw [ends_other (rd := rd') h3 h4]; exact Finset.disjoint_empty_right _
  · by_cases e' : b = rd
    · subst e'; rw [ends_other (rd := rd') h1 h2]; exact Finset.disjoint_empty_right _
    · rw [ends_other (rd := rd) e' e]; exact Finset.disjoint_empty_left _
theorem ends_dis_same {rd rs : Ref sig .tc} {Sd Ss Sd' Ss'} (h : rd ≠ rs) (hd : Disjoint Sd Sd') (hs : Disjoint Ss Ss') (b : Ref sig .tc) :
    Disjoint (ends (c := c) (τ := τ) rd rs Sd Ss b) (ends (c := c) (τ := τ) rd rs Sd' Ss' b) := by
  by_cases e : b = rs
  · subst e; rw [ends_rs, ends_rs]; exact hs
  · by_cases e' : b = rd
    · subst e'; rw [ends_rd h, ends_rd h]; exact hd
    · rw [ends_other e' e]; exact Finset.disjoint_empty_left _

theorem wref : ∀ j k : Fin 11, j ≠ k → wdst j ≠ wdst k ∧ wdst j ≠ wsrc k ∧ wsrc j ≠ wdst k ∧ wsrc j ≠ wsrc k := by decide
theorem wself : ∀ k : Fin 11, wdst k ≠ wsrc k := by decide
theorem wring : ∀ k : Fin 11, (wdst k ≠ cc0_scratch7 ∧ wdst k ≠ main_arg4 ∧ wsrc k ≠ cc0_scratch7 ∧ wsrc k ≠ main_arg4) ∧
    (wdst k ≠ cc0_scratch8 ∧ wdst k ≠ main_arg5 ∧ wsrc k ≠ cc0_scratch8 ∧ wsrc k ≠ main_arg5) ∧
    (wdst k ≠ cc0_scratch9 ∧ wdst k ≠ main_arg8 ∧ wsrc k ≠ cc0_scratch9 ∧ wsrc k ≠ main_arg8) := by decide
theorem semw_val : ∀ k : Fin 11, (semOf (.w k)).val = if k.val < 7 then k.val else k.val + 24 := by decide
theorem semr_val : ∀ (p : Fin 3) (k : Fin 8), (wAt ![p.val, k.val] (rs p k)).val = 7 + 8 * p.val + k.val := by decide
theorem semg_val (e : Fin 40) : (semOf (.g e)).val = 7 + e.val % 8 := semr_val 0 (slot8 e)
theorem semu_val (e : Fin 40) : (semOf (.u e)).val = 15 + e.val % 8 := semr_val 1 (slot8 e)
theorem semd_val (e : Fin 40) : (semOf (.d e)).val = 23 + e.val % 8 := semr_val 2 (slot8 e)

theorem cmp_ww {j k : Fin 11} (h : j ≠ k) : Cmp c (.w j) (.w k) where
  sem := fun e => by
    have e' := congrArg Fin.val e
    rw [semw_val, semw_val] at e'
    have : j.val ≠ k.val := fun e => h (Fin.ext e)
    split at e' <;> split at e' <;> omega
  dis := ends_dis (wref j k h).1 (wref j k h).2.1 (wref j k h).2.2.1 (wref j k h).2.2.2

theorem cmp_wg (k : Fin 11) (e : Fin 40) : Cmp c (.w k) (.g e) where
  sem := fun h => by
    have e' := congrArg Fin.val h
    rw [semw_val, semg_val] at e'
    have := k.isLt
    split at e' <;> omega
  dis := ends_dis (wring k).1.1 (wring k).1.2.1 (wring k).1.2.2.1 (wring k).1.2.2.2
theorem slotg_set (e : Fin 40) (x) : x ∈ (slotG vWg ![(slot8 e).val, 0, 0] (rw8 _)).view.set ↔ (x 0).val = e.val % 8 := by
  show x ∈ (View.reshape (((Memref.whole cc0_scratch7).view).slice (Rect.unit (s := S8x1024x768) ![(slot8 e).val, 0, 0] S1x1024x768.size (rw8 _))) _ _).set ↔ _
  rw [View.set_reshape, show ((Memref.whole cc0_scratch7).view.slice (Rect.unit (s := S8x1024x768) ![(slot8 e).val, 0, 0] S1x1024x768.size (rw8 _))).set = (Rect.unit (s := S8x1024x768) ![(slot8 e).val, 0, 0] S1x1024x768.size (rw8 _)).set from View.set_slice_whole _ _, Rect.mem_set_unit]
  constructor
  · intro h
    have := h 0
    have l : e.val % 8 ≤ (x 0).val := this.1
    have u : (x 0).val < e.val % 8 + 1 := this.2
    omega
  · intro h a
    match a with
    | 0 => exact ⟨h.ge, by show (x 0).val < e.val % 8 + 1; omega⟩
    | 1 => exact ⟨Nat.zero_le _, by have : (x 1).val < 1024 := (x 1).isLt; show (x 1).val < 0 + 1024; omega⟩
    | 2 => exact ⟨Nat.zero_le _, by have : (x 2).val < 768 := (x 2).isLt; show (x 2).val < 0 + 768; omega⟩
theorem exptg_set (e : Fin 40) (x) (h : x ∈ (exptG aWg ![e.val, 0, 0] (rw40 _)).view.set) : (x 0).val = e.val := by
  change x ∈ (View.reshape (((Memref.whole main_arg4).view).slice (Rect.unit (s := S40x1024x768) ![e.val, 0, 0] S1x1024x768.size (rw40 _))) _ _).set at h
  rw [View.set_reshape, show ((Memref.whole main_arg4).view.slice (Rect.unit (s := S40x1024x768) ![e.val, 0, 0] S1x1024x768.size (rw40 _))).set = (Rect.unit (s := S40x1024x768) ![e.val, 0, 0] S1x1024x768.size (rw40 _)).set from View.set_slice_whole _ _, Rect.mem_set_unit] at h
  have := h 0
  have l : e.val ≤ (x 0).val := this.1
  have u : (x 0).val < e.val + 1 := this.2
  omega
theorem cmp_gg {e e' : Fin 40} (h : e.val % 8 ≠ e'.val % 8) : Cmp c (.g e) (.g e') where
  sem := fun q => by
    have q' := congrArg Fin.val q
    rw [semg_val, semg_val] at q'
    omega
  dis := ends_dis_same (by decide)
    (Finset.disjoint_left.mpr fun x hx hx' => h (((slotg_set e x).mp hx).symm.trans ((slotg_set e' x).mp hx')))
    (Finset.disjoint_left.mpr fun x hx hx' => h (by rw [← exptg_set e x hx, ← exptg_set e' x hx']))

theorem cmp_wu (k : Fin 11) (e : Fin 40) : Cmp c (.w k) (.u e) where
  sem := fun h => by
    have e' := congrArg Fin.val h
    rw [semw_val, semu_val] at e'
    have := k.isLt
    split at e' <;> omega
  dis := ends_dis (wring k).2.1.1 (wring k).2.1.2.1 (wring k).2.1.2.2.1 (wring k).2.1.2.2.2
theorem slotu_set (e : Fin 40) (x) : x ∈ (slotG vWu ![(slot8 e).val, 0, 0] (rw8 _)).view.set ↔ (x 0).val = e.val % 8 := by
  show x ∈ (View.reshape (((Memref.whole cc0_scratch8).view).slice (Rect.unit (s := S8x1024x768) ![(slot8 e).val, 0, 0] S1x1024x768.size (rw8 _))) _ _).set ↔ _
  rw [View.set_reshape, show ((Memref.whole cc0_scratch8).view.slice (Rect.unit (s := S8x1024x768) ![(slot8 e).val, 0, 0] S1x1024x768.size (rw8 _))).set = (Rect.unit (s := S8x1024x768) ![(slot8 e).val, 0, 0] S1x1024x768.size (rw8 _)).set from View.set_slice_whole _ _, Rect.mem_set_unit]
  constructor
  · intro h
    have := h 0
    have l : e.val % 8 ≤ (x 0).val := this.1
    have u : (x 0).val < e.val % 8 + 1 := this.2
    omega
  · intro h a
    match a with
    | 0 => exact ⟨h.ge, by show (x 0).val < e.val % 8 + 1; omega⟩
    | 1 => exact ⟨Nat.zero_le _, by have : (x 1).val < 1024 := (x 1).isLt; show (x 1).val < 0 + 1024; omega⟩
    | 2 => exact ⟨Nat.zero_le _, by have : (x 2).val < 768 := (x 2).isLt; show (x 2).val < 0 + 768; omega⟩
theorem exptu_set (e : Fin 40) (x) (h : x ∈ (exptG aWu ![e.val, 0, 0] (rw40 _)).view.set) : (x 0).val = e.val := by
  change x ∈ (View.reshape (((Memref.whole main_arg5).view).slice (Rect.unit (s := S40x1024x768) ![e.val, 0, 0] S1x1024x768.size (rw40 _))) _ _).set at h
  rw [View.set_reshape, show ((Memref.whole main_arg5).view.slice (Rect.unit (s := S40x1024x768) ![e.val, 0, 0] S1x1024x768.size (rw40 _))).set = (Rect.unit (s := S40x1024x768) ![e.val, 0, 0] S1x1024x768.size (rw40 _)).set from View.set_slice_whole _ _, Rect.mem_set_unit] at h
  have := h 0
  have l : e.val ≤ (x 0).val := this.1
  have u : (x 0).val < e.val + 1 := this.2
  omega
theorem cmp_uu {e e' : Fin 40} (h : e.val % 8 ≠ e'.val % 8) : Cmp c (.u e) (.u e') where
  sem := fun q => by
    have q' := congrArg Fin.val q
    rw [semu_val, semu_val] at q'
    omega
  dis := ends_dis_same (by decide)
    (Finset.disjoint_left.mpr fun x hx hx' => h (((slotu_set e x).mp hx).symm.trans ((slotu_set e' x).mp hx')))
    (Finset.disjoint_left.mpr fun x hx hx' => h (by rw [← exptu_set e x hx, ← exptu_set e' x hx']))

theorem cmp_wd (k : Fin 11) (e : Fin 40) : Cmp c (.w k) (.d e) where
  sem := fun h => by
    have e' := congrArg Fin.val h
    rw [semw_val, semd_val] at e'
    have := k.isLt
    split at e' <;> omega
  dis := ends_dis (wring k).2.2.1 (wring k).2.2.2.1 (wring k).2.2.2.2.1 (wring k).2.2.2.2.2
theorem slotd_set (e : Fin 40) (x) : x ∈ (slotD ![(slot8 e).val, 0, 0] (rd8 _)).view.set ↔ (x 0).val = e.val % 8 := by
  show x ∈ (View.reshape (((Memref.whole cc0_scratch9).view).slice (Rect.unit (s := S8x768x1024) ![(slot8 e).val, 0, 0] S1x768x1024.size (rd8 _))) _ _).set ↔ _
  rw [View.set_reshape, show ((Memref.whole cc0_scratch9).view.slice (Rect.unit (s := S8x768x1024) ![(slot8 e).val, 0, 0] S1x768x1024.size (rd8 _))).set = (Rect.unit (s := S8x768x1024) ![(slot8 e).val, 0, 0] S1x768x1024.size (rd8 _)).set from View.set_slice_whole _ _, Rect.mem_set_unit]
  constructor
  · intro h
    have := h 0
    have l : e.val % 8 ≤ (x 0).val := this.1
    have u : (x 0).val < e.val % 8 + 1 := this.2
    omega
  · intro h a
    match a with
    | 0 => exact ⟨h.ge, by show (x 0).val < e.val % 8 + 1; omega⟩
    | 1 => exact ⟨Nat.zero_le _, by have : (x 1).val < 768 := (x 1).isLt; show (x 1).val < 0 + 768; omega⟩
    | 2 => exact ⟨Nat.zero_le _, by have : (x 2).val < 1024 := (x 2).isLt; show (x 2).val < 0 + 1024; omega⟩
theorem exptd_set (e : Fin 40) (x) (h : x ∈ (exptD ![e.val, 0, 0] (rd40 _)).view.set) : (x 0).val = e.val := by
  change x ∈ (View.reshape (((Memref.whole main_arg8).view).slice (Rect.unit (s := S40x768x1024) ![e.val, 0, 0] S1x768x1024.size (rd40 _))) _ _).set at h
  rw [View.set_reshape, show ((Memref.whole main_arg8).view.slice (Rect.unit (s := S40x768x1024) ![e.val, 0, 0] S1x768x1024.size (rd40 _))).set = (Rect.unit (s := S40x768x1024) ![e.val, 0, 0] S1x768x1024.size (rd40 _)).set from View.set_slice_whole _ _, Rect.mem_set_unit] at h
  have := h 0
  have l : e.val ≤ (x 0).val := this.1
  have u : (x 0).val < e.val + 1 := this.2
  omega
theorem cmp_dd {e e' : Fin 40} (h : e.val % 8 ≠ e'.val % 8) : Cmp c (.d e) (.d e') where
  sem := fun q => by
    have q' := congrArg Fin.val q
    rw [semd_val, semd_val] at q'
    omega
  dis := ends_dis_same (by decide)
    (Finset.disjoint_left.mpr fun x hx hx' => h (((slotd_set e x).mp hx).symm.trans ((slotd_set e' x).mp hx')))
    (Finset.disjoint_left.mpr fun x hx hx' => h (by rw [← exptd_set e x hx, ← exptd_set e' x hx']))

theorem cmp_gu (e e' : Fin 40) : Cmp c (.g e) (.u e') where
  sem := fun q => by
    have q' := congrArg Fin.val q
    rw [semg_val, semu_val] at q'
    omega
  dis := ends_dis (by decide) (by decide) (by decide) (by decide)

theorem cmp_gd (e e' : Fin 40) : Cmp c (.g e) (.d e') where
  sem := fun q => by
    have q' := congrArg Fin.val q
    rw [semg_val, semd_val] at q'
    omega
  dis := ends_dis (by decide) (by decide) (by decide) (by decide)

theorem cmp_ud (e e' : Fin 40) : Cmp c (.u e) (.d e') where
  sem := fun q => by
    have q' := congrArg Fin.val q
    rw [semu_val, semd_val] at q'
    omega
  dis := ends_dis (by decide) (by decide) (by decide) (by decide)

/-- The transfers in flight: the whole copies `K` and, of each ring, the experts of an interval. -/
def Ph (K : Fin 11 → Prop) (lg hg lu hu ld hd : ℕ) : Tid → Prop
  | .w k => K k
  | .g e => lg ≤ e.val ∧ e.val < hg
  | .u e => lu ≤ e.val ∧ e.val < hu
  | .d e => ld ≤ e.val ∧ e.val < hd

theorem Ctl.lock_empty {A : Tid → Prop} {lock pend} (h : Ctl (c := c) A lock pend) (b : Ref sig .tc) (hb : ∀ a, A a → lkOf (c := c) a b = ∅) : lock b = ∅ := by
  refine Finset.eq_empty_of_forall_notMem fun x hx => ?_
  obtain ⟨a, ha, hx'⟩ := (h.lock b x).mp hx
  rw [hb a ha] at hx'
  exact absurd hx' (Finset.notMem_empty x)

/-- A buffer that no transfer in flight touches. -/
theorem Ctl.free {K : Fin 11 → Prop} {lg hg lu hu ld hd : ℕ} {lock pend} (h : Ctl (c := c) (Ph K lg hg lu hu ld hd) lock pend) (b : Ref sig .tc)
    (hb : b ∉ [cc0_scratch7, cc0_scratch8, cc0_scratch9, main_arg4, main_arg5, main_arg8]) (hK : ∀ k, K k → b ≠ wdst k ∧ b ≠ wsrc k) : lock b = ∅ := by
  simp only [List.mem_cons, List.not_mem_nil, or_false, not_or] at hb
  obtain ⟨h7, h8, h9, h4, h5, h6⟩ := hb
  refine h.lock_empty b fun a ha => ?_
  match a with
  | .w k => exact ends_other (hK k ha).1 (hK k ha).2
  | .g e => exact ends_other h7 h4
  | .u e => exact ends_other h8 h5
  | .d e => exact ends_other h9 h6

theorem ext3 {a b d : ℕ} {p q : Shape.Idx ⟨3, ![a, b, d]⟩} (h0 : (p 0).val = (q 0).val) (h1 : (p 1).val = (q 1).val) (h2 : (p 2).val = (q 2).val) : p = q := by
  funext k
  match k with
  | 0 => exact Fin.ext h0
  | 1 => exact Fin.ext h1
  | 2 => exact Fin.ext h2

theorem Ctl.slotg {K : Fin 11 → Prop} {lg hg lu hu ld hd : ℕ} {lock pend} (h : Ctl (c := c) (Ph K lg hg lu hu ld hd) lock pend) (e : Fin 40)
    (he : ∀ e' : Fin 40, lg ≤ e'.val → e'.val < hg → e'.val % 8 ≠ e.val % 8) (off h0) (ho : off = ![e.val % 8, 0, 0]) :
    (Memref.view vWg).setOn (Rect.unit (s := S8x1024x768) off S1x1024x768.size h0).set ⊆ (lock cc0_scratch7)ᶜ := by
  subst ho
  intro x hx
  obtain ⟨y, hy, rfl⟩ := Finset.mem_map.mp hx
  rw [Finset.mem_compl, h.lock]
  rintro ⟨a, ha, hx'⟩
  have hy0 : (y 0).val = e.val % 8 := by
    have := (Rect.mem_set_unit.mp hy) 0
    have l : e.val % 8 ≤ (y 0).val := this.1
    have u : (y 0).val < e.val % 8 + 1 := this.2
    omega
  match a with
  | .w k => rw [show lkOf (c := c) (.w k) cc0_scratch7 = ∅ from ends_other (wring k).1.1.symm (wring k).1.2.2.1.symm] at hx'; exact absurd hx' (Finset.notMem_empty _)
  | .u e => rw [show lkOf (c := c) (.u e) cc0_scratch7 = ∅ from ends_other (by decide) (by decide)] at hx'; exact absurd hx' (Finset.notMem_empty _)
  | .d e => rw [show lkOf (c := c) (.d e) cc0_scratch7 = ∅ from ends_other (by decide) (by decide)] at hx'; exact absurd hx' (Finset.notMem_empty _)
  | .g e' =>
    rw [show lkOf (c := c) (.g e') cc0_scratch7 = _ from ends_rd (by decide)] at hx'
    exact he e' ha.1 ha.2 (((slotg_set e' _).mp hx').symm.trans hy0)

/-- What a slot's transfer writes. -/
def putg (e : ℕ) (w : Vec F S40x1024x768 .fp8e4m3) (f : Vec F S8x1024x768 .fp8e4m3) : Vec F S8x1024x768 .fp8e4m3 :=
  fun q => if (q 0).val = e % 8 then w (i3 e (q 1).val (q 2).val) else f q

theorem write_putg (e : Fin 40) (w : Vec F S40x1024x768 .fp8e4m3) (f : Vec F S8x1024x768 .fp8e4m3) :
    (slotG vWg ![(slot8 e).val, 0, 0] (rw8 _)).view.write (Elt F) f ((exptG aWg ![e.val, 0, 0] (rw40 _)).view.read (Elt F) w) Finset.univ = putg e.val w f := by
  funext q
  by_cases hq : (q 0).val = e.val % 8
  · obtain ⟨y, -, hy⟩ := Finset.mem_map.mp ((slotg_set e q).mpr hq)
    refine ((congrArg _ hy.symm).trans (View.write_emb_of_mem (v := (slotG vWg ![(slot8 e).val, 0, 0] (rw8 _)).view) f _ (Finset.mem_univ y))).trans ?_
    refine Eq.trans ?_ (if_pos hq).symm
    refine congrArg w (eq_i3 _ _ _ _ ?_ ?_ ?_)
    · have := exptg_set e _ (Finset.mem_map_of_mem (exptG aWg ![e.val, 0, 0] (rw40 _)).view.emb (Finset.mem_univ y))
      exact this
    · rw [← hy]; rfl
    · rw [← hy]; rfl
  · exact (View.write_of_not_mem (v := (slotG vWg ![(slot8 e).val, 0, 0] (rw8 _)).view) f _ Finset.univ (fun hm => hq ((slotg_set e q).mp hm))).trans (if_neg hq).symm

/-- An expert's weights alone. -/
def slabg (w : Vec F S40x1024x768 .fp8e4m3) (e : ℕ) : Vec F S1x1024x768 .fp8e4m3 := fun j => w (i3 e (j 1).val (j 2).val)

/-- The slots of the experts of an interval hold those experts' weights. -/
def Contg (w : Vec F S40x1024x768 .fp8e4m3) (lo hi : ℕ) (f : Vec F S8x1024x768 .fp8e4m3) : Prop :=
  ∀ e, lo ≤ e → e < hi → ∀ q : S8x1024x768.Idx, (q 0).val = e % 8 → f q = w (i3 e (q 1).val (q 2).val)

theorem Contg.put {w : Vec F S40x1024x768 .fp8e4m3} {lo hi : ℕ} {f : Vec F S8x1024x768 .fp8e4m3} (h : Contg w lo hi f) (lo') (hl : lo ≤ lo') (hh : hi < lo' + 8) : Contg w lo' (hi + 1) (putg hi w f) := by
  intro e hle hlt q hq
  by_cases he : e = hi
  · subst he; exact if_pos hq
  · refine (if_neg ?_).trans (h e (by omega) (by omega) q hq)
    omega

theorem Contg.read {w : Vec F S40x1024x768 .fp8e4m3} {lo hi : ℕ} {f : Vec F S8x1024x768 .fp8e4m3} (h : Contg w lo hi f) (e : ℕ) (h1 : lo ≤ e) (h2 : e < hi) (off h0) (ho : off = ![e % 8, 0, 0]) :
    (Memref.view vWg).readAt (Elt F) (Rect.unit (s := S8x1024x768) off S1x1024x768.size h0).toLoadRect f = slabg w e := by
  subst ho
  funext j
  have hj : (j 0).val < 1 := (j 0).isLt
  refine (h e h1 h2 ((Rect.unit (s := S8x1024x768) ![e % 8, 0, 0] S1x1024x768.size h0).emb j) (by show e % 8 + 1 * (j 0).val = _; omega)).trans ?_
  refine congrArg w (ext3 rfl ?_ ?_)
  · show ((0 + 1 * (j 1).val) % 1024) = (j 1).val % 1024; omega
  · show ((0 + 1 * (j 2).val) % 768) = (j 2).val % 768; omega

theorem Ctl.slotu {K : Fin 11 → Prop} {lg hg lu hu ld hd : ℕ} {lock pend} (h : Ctl (c := c) (Ph K lg hg lu hu ld hd) lock pend) (e : Fin 40)
    (he : ∀ e' : Fin 40, lu ≤ e'.val → e'.val < hu → e'.val % 8 ≠ e.val % 8) (off h0) (ho : off = ![e.val % 8, 0, 0]) :
    (Memref.view vWu).setOn (Rect.unit (s := S8x1024x768) off S1x1024x768.size h0).set ⊆ (lock cc0_scratch8)ᶜ := by
  subst ho
  intro x hx
  obtain ⟨y, hy, rfl⟩ := Finset.mem_map.mp hx
  rw [Finset.mem_compl, h.lock]
  rintro ⟨a, ha, hx'⟩
  have hy0 : (y 0).val = e.val % 8 := by
    have := (Rect.mem_set_unit.mp hy) 0
    have l : e.val % 8 ≤ (y 0).val := this.1
    have u : (y 0).val < e.val % 8 + 1 := this.2
    omega
  match a with
  | .w k => rw [show lkOf (c := c) (.w k) cc0_scratch8 = ∅ from ends_other (wring k).2.1.1.symm (wring k).2.1.2.2.1.symm] at hx'; exact absurd hx' (Finset.notMem_empty _)
  | .g e => rw [show lkOf (c := c) (.g e) cc0_scratch8 = ∅ from ends_other (by decide) (by decide)] at hx'; exact absurd hx' (Finset.notMem_empty _)
  | .d e => rw [show lkOf (c := c) (.d e) cc0_scratch8 = ∅ from ends_other (by decide) (by decide)] at hx'; exact absurd hx' (Finset.notMem_empty _)
  | .u e' =>
    rw [show lkOf (c := c) (.u e') cc0_scratch8 = _ from ends_rd (by decide)] at hx'
    exact he e' ha.1 ha.2 (((slotu_set e' _).mp hx').symm.trans hy0)

/-- What a slot's transfer writes. -/
def putu (e : ℕ) (w : Vec F S40x1024x768 .fp8e4m3) (f : Vec F S8x1024x768 .fp8e4m3) : Vec F S8x1024x768 .fp8e4m3 :=
  fun q => if (q 0).val = e % 8 then w (i3 e (q 1).val (q 2).val) else f q

theorem write_putu (e : Fin 40) (w : Vec F S40x1024x768 .fp8e4m3) (f : Vec F S8x1024x768 .fp8e4m3) :
    (slotG vWu ![(slot8 e).val, 0, 0] (rw8 _)).view.write (Elt F) f ((exptG aWu ![e.val, 0, 0] (rw40 _)).view.read (Elt F) w) Finset.univ = putu e.val w f := by
  funext q
  by_cases hq : (q 0).val = e.val % 8
  · obtain ⟨y, -, hy⟩ := Finset.mem_map.mp ((slotu_set e q).mpr hq)
    refine ((congrArg _ hy.symm).trans (View.write_emb_of_mem (v := (slotG vWu ![(slot8 e).val, 0, 0] (rw8 _)).view) f _ (Finset.mem_univ y))).trans ?_
    refine Eq.trans ?_ (if_pos hq).symm
    refine congrArg w (eq_i3 _ _ _ _ ?_ ?_ ?_)
    · have := exptu_set e _ (Finset.mem_map_of_mem (exptG aWu ![e.val, 0, 0] (rw40 _)).view.emb (Finset.mem_univ y))
      exact this
    · rw [← hy]; rfl
    · rw [← hy]; rfl
  · exact (View.write_of_not_mem (v := (slotG vWu ![(slot8 e).val, 0, 0] (rw8 _)).view) f _ Finset.univ (fun hm => hq ((slotu_set e q).mp hm))).trans (if_neg hq).symm

/-- An expert's weights alone. -/
def slabu (w : Vec F S40x1024x768 .fp8e4m3) (e : ℕ) : Vec F S1x1024x768 .fp8e4m3 := fun j => w (i3 e (j 1).val (j 2).val)

/-- The slots of the experts of an interval hold those experts' weights. -/
def Contu (w : Vec F S40x1024x768 .fp8e4m3) (lo hi : ℕ) (f : Vec F S8x1024x768 .fp8e4m3) : Prop :=
  ∀ e, lo ≤ e → e < hi → ∀ q : S8x1024x768.Idx, (q 0).val = e % 8 → f q = w (i3 e (q 1).val (q 2).val)

theorem Contu.put {w : Vec F S40x1024x768 .fp8e4m3} {lo hi : ℕ} {f : Vec F S8x1024x768 .fp8e4m3} (h : Contu w lo hi f) (lo') (hl : lo ≤ lo') (hh : hi < lo' + 8) : Contu w lo' (hi + 1) (putu hi w f) := by
  intro e hle hlt q hq
  by_cases he : e = hi
  · subst he; exact if_pos hq
  · refine (if_neg ?_).trans (h e (by omega) (by omega) q hq)
    omega

theorem Contu.read {w : Vec F S40x1024x768 .fp8e4m3} {lo hi : ℕ} {f : Vec F S8x1024x768 .fp8e4m3} (h : Contu w lo hi f) (e : ℕ) (h1 : lo ≤ e) (h2 : e < hi) (off h0) (ho : off = ![e % 8, 0, 0]) :
    (Memref.view vWu).readAt (Elt F) (Rect.unit (s := S8x1024x768) off S1x1024x768.size h0).toLoadRect f = slabu w e := by
  subst ho
  funext j
  have hj : (j 0).val < 1 := (j 0).isLt
  refine (h e h1 h2 ((Rect.unit (s := S8x1024x768) ![e % 8, 0, 0] S1x1024x768.size h0).emb j) (by show e % 8 + 1 * (j 0).val = _; omega)).trans ?_
  refine congrArg w (ext3 rfl ?_ ?_)
  · show ((0 + 1 * (j 1).val) % 1024) = (j 1).val % 1024; omega
  · show ((0 + 1 * (j 2).val) % 768) = (j 2).val % 768; omega

theorem Ctl.slotd {K : Fin 11 → Prop} {lg hg lu hu ld hd : ℕ} {lock pend} (h : Ctl (c := c) (Ph K lg hg lu hu ld hd) lock pend) (e : Fin 40)
    (he : ∀ e' : Fin 40, ld ≤ e'.val → e'.val < hd → e'.val % 8 ≠ e.val % 8) (off h0) (ho : off = ![e.val % 8, 0, 0]) :
    (Memref.view vWd).setOn (Rect.unit (s := S8x768x1024) off S1x768x1024.size h0).set ⊆ (lock cc0_scratch9)ᶜ := by
  subst ho
  intro x hx
  obtain ⟨y, hy, rfl⟩ := Finset.mem_map.mp hx
  rw [Finset.mem_compl, h.lock]
  rintro ⟨a, ha, hx'⟩
  have hy0 : (y 0).val = e.val % 8 := by
    have := (Rect.mem_set_unit.mp hy) 0
    have l : e.val % 8 ≤ (y 0).val := this.1
    have u : (y 0).val < e.val % 8 + 1 := this.2
    omega
  match a with
  | .w k => rw [show lkOf (c := c) (.w k) cc0_scratch9 = ∅ from ends_other (wring k).2.2.1.symm (wring k).2.2.2.2.1.symm] at hx'; exact absurd hx' (Finset.notMem_empty _)
  | .g e => rw [show lkOf (c := c) (.g e) cc0_scratch9 = ∅ from ends_other (by decide) (by decide)] at hx'; exact absurd hx' (Finset.notMem_empty _)
  | .u e => rw [show lkOf (c := c) (.u e) cc0_scratch9 = ∅ from ends_other (by decide) (by decide)] at hx'; exact absurd hx' (Finset.notMem_empty _)
  | .d e' =>
    rw [show lkOf (c := c) (.d e') cc0_scratch9 = _ from ends_rd (by decide)] at hx'
    exact he e' ha.1 ha.2 (((slotd_set e' _).mp hx').symm.trans hy0)

/-- What a slot's transfer writes. -/
def putd (e : ℕ) (w : Vec F S40x768x1024 .fp8e4m3) (f : Vec F S8x768x1024 .fp8e4m3) : Vec F S8x768x1024 .fp8e4m3 :=
  fun q => if (q 0).val = e % 8 then w (i3 e (q 1).val (q 2).val) else f q

theorem write_putd (e : Fin 40) (w : Vec F S40x768x1024 .fp8e4m3) (f : Vec F S8x768x1024 .fp8e4m3) :
    (slotD ![(slot8 e).val, 0, 0] (rd8 _)).view.write (Elt F) f ((exptD ![e.val, 0, 0] (rd40 _)).view.read (Elt F) w) Finset.univ = putd e.val w f := by
  funext q
  by_cases hq : (q 0).val = e.val % 8
  · obtain ⟨y, -, hy⟩ := Finset.mem_map.mp ((slotd_set e q).mpr hq)
    refine ((congrArg _ hy.symm).trans (View.write_emb_of_mem (v := (slotD ![(slot8 e).val, 0, 0] (rd8 _)).view) f _ (Finset.mem_univ y))).trans ?_
    refine Eq.trans ?_ (if_pos hq).symm
    refine congrArg w (eq_i3 _ _ _ _ ?_ ?_ ?_)
    · have := exptd_set e _ (Finset.mem_map_of_mem (exptD ![e.val, 0, 0] (rd40 _)).view.emb (Finset.mem_univ y))
      exact this
    · rw [← hy]; rfl
    · rw [← hy]; rfl
  · exact (View.write_of_not_mem (v := (slotD ![(slot8 e).val, 0, 0] (rd8 _)).view) f _ Finset.univ (fun hm => hq ((slotd_set e q).mp hm))).trans (if_neg hq).symm

/-- An expert's weights alone. -/
def slabd (w : Vec F S40x768x1024 .fp8e4m3) (e : ℕ) : Vec F S1x768x1024 .fp8e4m3 := fun j => w (i3 e (j 1).val (j 2).val)

/-- The slots of the experts of an interval hold those experts' weights. -/
def Contd (w : Vec F S40x768x1024 .fp8e4m3) (lo hi : ℕ) (f : Vec F S8x768x1024 .fp8e4m3) : Prop :=
  ∀ e, lo ≤ e → e < hi → ∀ q : S8x768x1024.Idx, (q 0).val = e % 8 → f q = w (i3 e (q 1).val (q 2).val)

theorem Contd.put {w : Vec F S40x768x1024 .fp8e4m3} {lo hi : ℕ} {f : Vec F S8x768x1024 .fp8e4m3} (h : Contd w lo hi f) (lo') (hl : lo ≤ lo') (hh : hi < lo' + 8) : Contd w lo' (hi + 1) (putd hi w f) := by
  intro e hle hlt q hq
  by_cases he : e = hi
  · subst he; exact if_pos hq
  · refine (if_neg ?_).trans (h e (by omega) (by omega) q hq)
    omega

theorem Contd.read {w : Vec F S40x768x1024 .fp8e4m3} {lo hi : ℕ} {f : Vec F S8x768x1024 .fp8e4m3} (h : Contd w lo hi f) (e : ℕ) (h1 : lo ≤ e) (h2 : e < hi) (off h0) (ho : off = ![e % 8, 0, 0]) :
    (Memref.view vWd).readAt (Elt F) (Rect.unit (s := S8x768x1024) off S1x768x1024.size h0).toLoadRect f = slabd w e := by
  subst ho
  funext j
  have hj : (j 0).val < 1 := (j 0).isLt
  refine (h e h1 h2 ((Rect.unit (s := S8x768x1024) ![e % 8, 0, 0] S1x768x1024.size h0).emb j) (by show e % 8 + 1 * (j 0).val = _; omega)).trans ?_
  refine congrArg w (ext3 rfl ?_ ?_)
  · show ((0 + 1 * (j 1).val) % 768) = (j 1).val % 768; omega
  · show ((0 + 1 * (j 2).val) % 1024) = (j 2).val % 1024; omega

end Cert.Kernel.Hand
-- ==== Proof.Pieces.lean ====
/-
  How the pieces of an expert's step run: the gather, the gate and up products, the down product, the scatter, and the
  transfers of the rings.
-/
module

public import proofs.«01_k».proof.Proof.Ctl

@[expose] public section

noncomputable section

namespace Cert.Kernel.Hand

open Cert.Kernel Cert.Kernel.Gen
open Idealize.ShloMosaic Idealize.ShloMosaic.TcCoe Idealize.ShloMosaic.Tactic
open Idealize.SL.Sem
open Idealize.ShloMosaic.Pure (St Pend ends pwp pwp_bind pwp_mono)

variable {F : FTy → Type} [FloatOps F] {c : Dev nD}

/-- Only the buffers `L` differ. -/
def Sm (L : List (Ref sig .tc)) (S S' : KSt F c) : Prop := ∀ b, b ∉ L → S'.σ b = S.σ b

theorem Sm.refl (L : List (Ref sig .tc)) (S : KSt F c) : Sm L S S := fun _ _ => rfl
theorem Sm.set {L : List (Ref sig .tc)} {S S' : KSt F c} (h : Sm L S S') {b : Ref sig .tc} (hb : b ∈ L) (f) : Sm L S (S'.set b f) :=
  fun b' hb' => (set_σ_ne S' (fun e : b' = b => hb' (by rw [e]; exact hb)) f).trans (h b' hb')
theorem Sm.of_σ {L : List (Ref sig .tc)} {S S' S'' : KSt F c} (h : Sm L S S') (e : S''.σ = S'.σ) : Sm L S S'' := fun b hb => (congrFun e b).trans (h b hb)
theorem Sm.upd {L : List (Ref sig .tc)} {S S' S'' : KSt F c} (h : Sm L S S') {b : Ref sig .tc} {f} (e : S''.σ = Function.update S'.σ b f) (hb : b ∈ L) : Sm L S S'' :=
  fun b' hb' => (congrFun e b').trans ((Function.update_of_ne (fun e : b' = b => hb' (by rw [e]; exact hb)) ..).trans (h b' hb'))
theorem Sm.trans {L L' : List (Ref sig .tc)} {S S' S'' : KSt F c} (h : Sm L S S') (h' : Sm L' S' S'') : Sm (L ++ L') S S'' :=
  fun b hb => by
    rw [List.mem_append, not_or] at hb
    exact (h' b hb.2).trans (h b hb.1)

/-- Only the buffers `L` differ, and the transfers are as they were. -/
structure Upd (L : List (Ref sig .tc)) (S S' : KSt F c) : Prop where
  sm : Sm L S S'
  lock : S'.lock = S.lock
  pend : S'.pend = S.pend
theorem Upd.refl (L : List (Ref sig .tc)) (S : KSt F c) : Upd L S S := ⟨Sm.refl L S, rfl, rfl⟩
theorem Upd.set {L : List (Ref sig .tc)} {S S' : KSt F c} (h : Upd L S S') {b : Ref sig .tc} (hb : b ∈ L) (f) : Upd L S (S'.set b f) :=
  ⟨h.sm.set hb f, h.lock, h.pend⟩
theorem Upd.ctl {L : List (Ref sig .tc)} {S S' : KSt F c} (h : Upd L S S') {A} (hC : Ctl A S.lock S.pend) : Ctl A S'.lock S'.pend := by
  rw [h.lock, h.pend]; exact hC
theorem Upd.trans {L L' : List (Ref sig .tc)} {S S' S'' : KSt F c} (h : Upd L S S') (h' : Upd L' S' S'') : Upd (L ++ L') S S'' :=
  ⟨h.sm.trans h'.sm, h'.lock.trans h.lock, h'.pend.trans h.pend⟩

theorem unit0 {a b : ℕ} (h) (j : Shape.Idx ⟨2, ![a, b]⟩) : (Rect.unit (s := ⟨2, ![a, b]⟩) ![0, 0] ![a, b] h).emb j = j :=
  ext2 (by show 0 + 1 * (j 0).val = _; omega) (by show 0 + 1 * (j 1).val = _; omega)

/-! ### The gather -/

/-- The first `n` slots of the gathered codes filled. -/
def gFold (tb : ℕ → ℕ) (tok : Vec F S2048x128 .f32) (g : Vec F S256x128 .f32) : ℕ → Vec F S256x128 .f32
  | 0 => g
  | n + 1 => gRow n (tb n) tok (gFold tb tok g n)
/-- The first `n` slots of the gathered auxiliary rows filled. -/
def aFold (tb : ℕ → ℕ) (aux : Vec F S256x128 .f32) (g : Vec F S32x128 .f32) : ℕ → Vec F S32x128 .f32
  | 0 => g
  | n + 1 => aRow n (tb n) aux (aFold tb aux g n)
/-- The first `n` slots of the result rows added to the accumulator. -/
def accFold (tb : ℕ → ℕ) (y : Vec F S256x128 .f32) (g : Vec F S2048x128 .f32) : ℕ → Vec F S2048x128 .f32
  | 0 => g
  | n + 1 => accRow n (tb n) y (accFold tb y g n)

theorem pwp_gather (col : ℕ) (hcol : col < 40) (S : KSt F c) (Q : PUnit → KSt F c → Prop) (ht : ∀ i < 25, (chAt S i col).toNat < 256)
    (l3 : S.lock cc0_scratch3 = ∅) (l13 : S.lock cc0_scratch13 = ∅) (l14 : S.lock cc0_scratch14 = ∅) (l15 : S.lock cc0_scratch15 = ∅) (l16 : S.lock cc0_scratch16 = ∅)
    (H : ∀ S', Upd [cc0_scratch15, cc0_scratch16] S S' → S'.σ cc0_scratch15 = gFold (F := F) (fun i => (chAt S i col).toNat) (S.σ cc0_scratch13) (S.σ cc0_scratch15) 25 →
      S'.σ cc0_scratch16 = aFold (F := F) (fun i => (chAt S i col).toNat) (S.σ cc0_scratch14) (S.σ cc0_scratch16) 25 → Q ⟨⟩ S') :
    pwp (seqFin 25 fun i => gatherRow (F := F) (ocs col i) (inbOc col hcol i) i.val (inbG i) (inbA i)) S Q := by
  refine pwp_seqFin 25 _ (fun k S' => Upd [cc0_scratch15, cc0_scratch16] S S' ∧ S'.σ cc0_scratch15 = gFold (F := F) (fun i => (chAt S i col).toNat) (S.σ cc0_scratch13) (S.σ cc0_scratch15) k ∧
      S'.σ cc0_scratch16 = aFold (F := F) (fun i => (chAt S i col).toNat) (S.σ cc0_scratch14) (S.σ cc0_scratch16) k) S Q ⟨Upd.refl _ _, rfl, rfl⟩ ?_ (fun S' h => H S' h.1 h.2.1 h.2.2)
  rintro i S' ⟨hu, h15, h16⟩
  have l : ∀ b, S.lock b = ∅ → S'.lock b = ∅ := fun b h => by rw [hu.lock]; exact h
  have hch : chAt S' i.val col = chAt S i.val col := congrFun (hu.sm cc0_scratch3 (by decide)) _
  refine pwp_gatherRow (ocs col i) (inbOc col hcol i) i.val (inbG i) (inbA i) S' _ (chAt S i.val col).toNat (congrArg BitVec.toNat hch) (ht _ i.isLt) (by have := i.isLt; omega)
    (l _ l3) (l _ l13) (l _ l14) (l _ l15) (l _ l16) ⟨(hu.set (by decide) _).set (by decide) _, ?_, ?_⟩
  · refine (set_σ_ne _ (by decide) _).trans ((set_σ _ _ _).trans ?_)
    rw [h15, hu.sm cc0_scratch13 (by decide)]; rfl
  · refine (set_σ _ _ _).trans ?_
    rw [h16, hu.sm cc0_scratch14 (by decide)]; rfl

theorem pwp_scatter (col : ℕ) (hcol : col < 40) (S : KSt F c) (Q : PUnit → KSt F c → Prop) (ht : ∀ i < 25, (chAt S i col).toNat < 256)
    (l3 : S.lock cc0_scratch3 = ∅) (l20 : S.lock cc0_scratch20 = ∅) (l21 : S.lock cc0_scratch21 = ∅)
    (H : ∀ S', Upd [cc0_scratch21] S S' → S'.σ cc0_scratch21 = accFold (F := F) (fun i => (chAt S i col).toNat) (S.σ cc0_scratch20) (S.σ cc0_scratch21) 25 → Q ⟨⟩ S') :
    pwp (seqFin 25 fun i => scatterRow (F := F) (ocs col i) (inbOc col hcol i) i.val (inbG i)) S Q := by
  refine pwp_seqFin 25 _ (fun k S' => Upd [cc0_scratch21] S S' ∧ S'.σ cc0_scratch21 = accFold (F := F) (fun i => (chAt S i col).toNat) (S.σ cc0_scratch20) (S.σ cc0_scratch21) k) S Q
    ⟨Upd.refl _ _, rfl⟩ ?_ (fun S' h => H S' h.1 h.2)
  rintro i S' ⟨hu, h21⟩
  have l : ∀ b, S.lock b = ∅ → S'.lock b = ∅ := fun b h => by rw [hu.lock]; exact h
  have hch : chAt S' i.val col = chAt S i.val col := congrFun (hu.sm cc0_scratch3 (by decide)) _
  refine pwp_scatterRow (ocs col i) (inbOc col hcol i) i.val (inbG i) S' _ (chAt S i.val col).toNat (congrArg BitVec.toNat hch) (ht _ i.isLt) (by have := i.isLt; omega)
    (l _ l3) (l _ l20) (l _ l21) ⟨hu.set (by decide) _, ?_⟩
  refine (set_σ _ _ _).trans ?_
  rw [h21, hu.sm cc0_scratch20 (by decide)]; rfl

/-! ### The gate and up products -/

/-- Strip `j` of a 256-row buffer: column block `j` of the matrix it holds. -/
def stripOf (g : Vec F S256x128 .f32) (j : Fin 8) : FVec F S32x128 .f32 := fun x => g ((strip j).idx x)
/-- Row `e` of a matrix with 40 rows. -/
def row768 (s : Vec F S40x768 .f32) (e : ℕ) : FVec F S1x768 .f32 := fun j => s (i2 e (j 1).val)
def row1024 (s : Vec F S40x1024 .f32) (e : ℕ) : FVec F S1x1024 .f32 := fun j => s (i2 e (j 1).val)

/-- What an expert's gate and up products yield, from the gathered rows. -/
def guOf (e : ℕ) (g : Vec F S256x128 .f32) (a : Vec F S32x128 .f32) (wg wu : Vec F S40x1024x768 .fp8e4m3) (sg su : Vec F S40x768 .f32) : GU F :=
  have h : FVec F S32x768 .f32 := hidV (truncf .fp8e4m3 (cat8 (stripOf g)) bitsLt_fp8e4m3_f32) (xsV a) (slabg wg e) (slabu wu e) (row768 sg e) (row768 su e)
  (codes768 h, scale768 h, rV (BitVec.ofNat 32 e) a)

theorem read_row768 (s : Vec F S40x768 .f32) (e : ℕ) (off h) (ho : off = ![e, 0]) (M : Memref sig .tc .vmem S40x768 .f32) (hM : M = vSg ∨ M = vSu) :
    (fun j => s ((Rect.unit (s := S40x768) off S1x768.size h).emb j)) = row768 s e := by
  subst ho
  have he : e + 1 ≤ 40 := h 0
  funext j
  have h0 : (j 0).val < 1 := (j 0).isLt
  refine congrArg s (ext2 ?_ ?_)
  · show e + 1 * (j 0).val = e % 40; omega
  · have : (j 1).val < 768 := (j 1).isLt
    show 0 + 1 * (j 1).val = (j 1).val % 768; omega
theorem read_row1024 (s : Vec F S40x1024 .f32) (e : ℕ) (off h) (ho : off = ![e, 0]) :
    (fun j => s ((Rect.unit (s := S40x1024) off S1x1024.size h).emb j)) = row1024 s e := by
  subst ho
  have he : e + 1 ≤ 40 := h 0
  funext j
  have h0 : (j 0).val < 1 := (j 0).isLt
  refine congrArg s (ext2 ?_ ?_)
  · show e + 1 * (j 0).val = e % 40; omega
  · have : (j 1).val < 1024 := (j 1).isLt
    show 0 + 1 * (j 1).val = (j 1).val % 1024; omega

theorem pwp_gateUp (e : Fin 40) (col hcol eb oS0 oS1 hS0 hS1 oV oH hV hH wV wH oR hR) (hcole : col = e.val) (heb : eb = BitVec.ofNat 32 e.val)
    (hoS0 : oS0 = ![(0 : Fin 3).val, (slot8 e).val]) (hoS1 : oS1 = ![(1 : Fin 3).val, (slot8 e).val]) (hoV : oV = ![(slot8 e).val, 0, 0]) (hoH : oH = ![e.val, 0, 0]) (hoR : oR = ![e.val, 0])
    (S : KSt F c) (Q : GU F → KSt F c → Prop) {K : Fin 11 → Prop} {hg hu ld hd : ℕ} (hC : Ctl (Ph K e.val hg e.val hu ld hd) S.lock S.pend)
    (hK : ∀ k, K k → k = 7 ∨ k = 8) (hhg : e.val < hg) (hhu : e.val < hu) (hg8 : hg ≤ e.val + 8) (hu8 : hu ≤ e.val + 8) (ht : ∀ i < 25, (chAt S i e.val).toNat < 256)
    (wg wu) (hcg : Contg wg e.val hg (S.σ cc0_scratch7)) (hcu : Contu wu e.val hu (S.σ cc0_scratch8))
    (H : ∀ S', Sm [cc0_scratch15, cc0_scratch16] S S' → S'.σ cc0_scratch15 = gFold (F := F) (fun i => (chAt S i e.val).toNat) (S.σ cc0_scratch13) (S.σ cc0_scratch15) 25 →
      S'.σ cc0_scratch16 = aFold (F := F) (fun i => (chAt S i e.val).toNat) (S.σ cc0_scratch14) (S.σ cc0_scratch16) 25 →
      Ctl (Ph K (e.val + 1) hg (e.val + 1) hu ld hd) S'.lock S'.pend →
      Q (guOf (F := F) e.val (S'.σ cc0_scratch15) (S'.σ cc0_scratch16) wg wu (S.σ cc0_scratch4) (S.σ cc0_scratch5)) S') :
    pwp (gateUp (F := F) col hcol eb oS0 oS1 hS0 hS1 oV oH hV hH wV wH oR hR) S Q := by
  subst hcole heb hoS0 hoS1 hoV hoH hoR
  have fr : ∀ b, b ∉ [cc0_scratch7, cc0_scratch8, cc0_scratch9, main_arg4, main_arg5, main_arg8] → (∀ k, (k = 7 ∨ k = 8) → b ≠ wdst k ∧ b ≠ wsrc k) → S.lock b = ∅ :=
    fun b hb h => hC.free b hb fun k hk => h k (hK k hk)
  unfold gateUp
  rw [pwp_bind]
  refine pwp_gather e.val hcol S _ ht (fr _ (by decide) (by decide)) (fr _ (by decide) (by decide)) (fr _ (by decide) (by decide)) (fr _ (by decide) (by decide)) (fr _ (by decide) (by decide))
    fun S1 u1 e15 e16 => ?_
  have hC1 := u1.ctl hC
  have l15 : S1.lock cc0_scratch15 = ∅ := by rw [u1.lock]; exact fr _ (by decide) (by decide)
  have l16 : S1.lock cc0_scratch16 = ∅ := by rw [u1.lock]; exact fr _ (by decide) (by decide)
  refine ⟨lk l15, lk l15, lk l15, lk l15, lk l15, lk l15, lk l15, lk l15, lk l16, ?_⟩
  refine pwp_wait _ _ _ _ _ (.g e) _ S1 _ hC1 ⟨le_refl _, hhg⟩ rfl rfl fun S2 s2 hC2 => ?_
  refine pwp_wait _ _ _ _ _ (.u e) _ S2 _ hC2 ⟨by simp, ⟨le_refl _, hhu⟩⟩ rfl rfl fun S3 s3 hC3 => ?_
  have hC4 : Ctl (Ph K (e.val + 1) hg (e.val + 1) hu ld hd) S3.lock S3.pend := hC3.congr fun a => by
    match a with
    | .w k => simp [Ph]
    | .g x =>
      have : x ≠ e ↔ x.val ≠ e.val := by rw [ne_eq, Fin.ext_iff]
      simp only [Ph, ne_eq, reduceCtorEq, not_false_eq_true, true_and, Tid.g.injEq]
      rw [show (¬ x = e) ↔ x.val ≠ e.val from this]; omega
    | .u x =>
      have : x ≠ e ↔ x.val ≠ e.val := by rw [ne_eq, Fin.ext_iff]
      simp only [Ph, ne_eq, reduceCtorEq, not_false_eq_true, true_and, Tid.u.injEq]
      rw [show (¬ x = e) ↔ x.val ≠ e.val from this]; omega
    | .d x => simp [Ph]
  have fr3 : ∀ b, b ∉ [cc0_scratch7, cc0_scratch8, cc0_scratch9, main_arg4, main_arg5, main_arg8] → (∀ k, (k = 7 ∨ k = 8) → b ≠ wdst k ∧ b ≠ wsrc k) → S3.lock b = ∅ :=
    fun b hb h => hC4.free b hb fun k hk => h k (hK k hk)
  have sm3 : Sm [cc0_scratch15, cc0_scratch16] S S3 := (u1.sm.of_σ s2).of_σ s3
  refine ⟨hC4.slotg e (fun e' _ _ => by omega) _ _ rfl, hC4.slotu e (fun e' _ _ => by omega) _ _ rfl, lk (fr3 _ (by decide) (by decide)), lk (fr3 _ (by decide) (by decide)), ?_⟩
  have k15 : S3.σ cc0_scratch15 = S1.σ cc0_scratch15 := by rw [s3, s2]
  have k16 : S3.σ cc0_scratch16 = S1.σ cc0_scratch16 := by rw [s3, s2]
  have HQ := H S3 sm3 (k15.trans e15) (k16.trans e16) hC4
  have r7 := Contg.read (F := F) (f := S3.σ cc0_scratch7) (w := wg) (by rw [sm3 cc0_scratch7 (by decide)]; exact hcg) e.val (le_refl _) hhg _ hV rfl
  have r8 := Contu.read (F := F) (f := S3.σ cc0_scratch8) (w := wu) (by rw [sm3 cc0_scratch8 (by decide)]; exact hcu) e.val (le_refl _) hhu _ hV rfl
  have q4 := read_row768 (F := F) (S3.σ cc0_scratch4) e.val _ hR rfl vSg (.inl rfl)
  have q5 := read_row768 (F := F) (S3.σ cc0_scratch5) e.val _ hR rfl vSu (.inr rfl)
  have q16 : (fun j => (S1.σ cc0_scratch16 : Vec F S32x128 .f32) ((Rect.unit (s := S32x128) ![0, 0] S32x128.size inb_S32x128_S32x128_0_0).emb j)) = S1.σ cc0_scratch16 :=
    funext fun j => congrArg _ (unit0 _ j)
  rw [← sm3 cc0_scratch4 (by decide), ← sm3 cc0_scratch5 (by decide), k15, k16] at HQ
  unfold guOf at HQ
  rw [← r7, ← r8, ← q4, ← q5, ← q16] at HQ
  exact HQ

end Cert.Kernel.Hand
-- ==== Proof.Down.lean ====
/-
  How the down product, the kept values and the rings' transfers run.
-/
module

public import proofs.«01_k».proof.Proof.Pieces

@[expose] public section

noncomputable section

namespace Cert.Kernel.Hand

open Cert.Kernel Cert.Kernel.Gen
open Idealize.ShloMosaic Idealize.ShloMosaic.TcCoe Idealize.ShloMosaic.Tactic
open Idealize.SL.Sem
open Idealize.ShloMosaic.Pure (St Pend ends pwp pwp_bind pwp_mono)

variable {F : FTy → Type} [FloatOps F] {c : Dev nD}

/-- A 32-row matrix of 1024 columns as 256 rows of 128: row `8 i + j` holds columns `128 j, …` of row `i`. -/
def ybOf (y : Vec F S32x1024 .f32) : Vec F S256x128 .f32 := fun q => y (i2 ((q 0).val / 8) (128 * ((q 0).val % 8) + (q 1).val))

theorem wr_strip (j : Fin 8) (y : FVec F S32x1024 .f32) (f : Vec F S256x128 .f32) :
    (vYb.access ⟨strip j, spos_8_1⟩).write (Elt F) f (shapeCast S32x128 (extractStridedSlice S32x128 ![0, 128 * j.val] y (slc j) : FVec F S32x128 .f32) shapeCasts_S32x128_S32x128) Finset.univ
      = fun q => if (q 0).val % 8 = j.val then ybOf y q else f q := by
  rw [shapeCast_self]
  have hj := j.isLt
  refine write_eq vYb ⟨strip j, spos_8_1⟩ f _ _ (fun x => ?_) (fun q hq => ?_)
  · have h0 : (x 0).val < 32 := (x 0).isLt
    have h1 : (x 1).val < 128 := (x 1).isLt
    show (if (j.val + 8 * (x 0).val) % 8 = j.val then _ else _) = y _
    rw [if_pos (by omega)]
    refine congrArg y (Eq.symm (eq_i2 _ _ _ ?_ ?_))
    · show 0 + (x 0).val = (j.val + 8 * (x 0).val) / 8; omega
    · show 128 * j.val + (x 1).val = 128 * ((j.val + 8 * (x 0).val) % 8) + (0 + 1 * (x 1).val); omega
  · have h0 : (q 0).val < 256 := (q 0).isLt
    have h1 : (q 1).val < 128 := (q 1).isLt
    refine if_neg fun h => ?_
    refine hq (i2 (a := 32) (b := 128) ((q 0).val / 8) (q 1).val) (ext2 ?_ ?_)
    · show j.val + 8 * ((q 0).val / 8 % 32) = _; omega
    · show 0 + 1 * ((q 1).val % 128) = _; omega

theorem pwp_strips (y : FVec F S32x1024 .f32) (S : KSt F c) (Q : PUnit → KSt F c → Prop) (l20 : S.lock cc0_scratch20 = ∅)
    (H : ∀ S', Upd [cc0_scratch20] S S' → S'.σ cc0_scratch20 = ybOf y → Q ⟨⟩ S') :
    pwp (seqFin 8 fun j => do
      let _ ← ld (F := F) vYb (strip j) h_S32x128
      st vYb ⟨strip j, spos_8_1⟩ h_S32x128 (shapeCast S32x128 (extractStridedSlice S32x128 ![0, 128 * j.val] y (slc j) : FVec F S32x128 .f32) shapeCasts_S32x128_S32x128)) S Q := by
  refine pwp_seqFin 8 _ (fun k S' => Upd [cc0_scratch20] S S' ∧ ∀ q : S256x128.Idx, (q 0).val % 8 < k → (S'.σ cc0_scratch20 : Vec F S256x128 .f32) q = ybOf y q) S Q
    ⟨Upd.refl _ _, fun q h => absurd h (Nat.not_lt_zero _)⟩ ?_ (fun S' h => H S' h.1 (funext fun q => h.2 q (Nat.mod_lt _ (by decide))))
  rintro j S' ⟨hu, hy⟩
  have l : S'.lock cc0_scratch20 = ∅ := by rw [hu.lock]; exact l20
  refine ⟨lk l, lk l, hu.set (b := cc0_scratch20) (by decide) _, fun q hq => ?_⟩
  have hw := congrFun (wr_strip (F := F) j y (S'.σ cc0_scratch20)) q
  refine (congrFun (set_σ S' cc0_scratch20 _) q).trans (hw.trans ?_)
  show (if (q 0).val % 8 = j.val then _ else _) = _
  by_cases e : (q 0).val % 8 = j.val
  · rw [if_pos e]
  · rw [if_neg e]; exact hy q (by omega)

theorem pwp_down (e : Fin 40) (col hcol oS hS oV oH hV hH wV wH oR hR) (hcole : col = e.val) (hoS : oS = ![(2 : Fin 3).val, (slot8 e).val])
    (hoV : oV = ![(slot8 e).val, 0, 0]) (hoH : oH = ![e.val, 0, 0]) (hoR : oR = ![e.val, 0]) (g : GU F)
    (S : KSt F c) (Q : PUnit → KSt F c → Prop) {K : Fin 11 → Prop} {lg hg lu hu hd : ℕ} (hC : Ctl (Ph K lg hg lu hu e.val hd) S.lock S.pend)
    (hK : ∀ k, K k → k = 7 ∨ k = 8) (hhd : e.val < hd) (hd8 : hd ≤ e.val + 8) (ht : ∀ i < 25, (chAt S i e.val).toNat < 256)
    (wd) (hcd : Contd wd e.val hd (S.σ cc0_scratch9))
    (H : ∀ S', Sm [cc0_scratch20, cc0_scratch21] S S' →
      S'.σ cc0_scratch21 = accFold (F := F) (fun i => (chAt S i e.val).toNat) (ybOf (yV g.1 g.2.1 g.2.2 (slabd wd e.val) (row1024 (S.σ cc0_scratch6) e.val))) (S.σ cc0_scratch21) 25 →
      Ctl (Ph K lg hg lu hu (e.val + 1) hd) S'.lock S'.pend → Q ⟨⟩ S') :
    pwp (down (F := F) col hcol oS hS oV oH hV hH wV wH oR hR g) S Q := by
  subst hcole hoS hoV hoH hoR
  unfold down
  refine pwp_wait _ _ _ _ _ (.d e) _ S _ hC ⟨le_refl _, hhd⟩ rfl rfl fun S1 s1 hC1 => ?_
  have hC2 : Ctl (Ph K lg hg lu hu (e.val + 1) hd) S1.lock S1.pend := hC1.congr fun a => by
    match a with
    | .w k => simp [Ph]
    | .g x => simp [Ph]
    | .u x => simp [Ph]
    | .d x =>
      have : x ≠ e ↔ x.val ≠ e.val := by rw [ne_eq, Fin.ext_iff]
      simp only [Ph, ne_eq, reduceCtorEq, not_false_eq_true, true_and, Tid.d.injEq]
      rw [show (¬ x = e) ↔ x.val ≠ e.val from this]; omega
  have fr : ∀ b, b ∉ [cc0_scratch7, cc0_scratch8, cc0_scratch9, main_arg4, main_arg5, main_arg8] → (∀ k, (k = 7 ∨ k = 8) → b ≠ wdst k ∧ b ≠ wsrc k) → S1.lock b = ∅ :=
    fun b hb h => hC2.free b hb fun k hk => h k (hK k hk)
  refine ⟨hC2.slotd e (fun e' _ _ => by omega) _ _ rfl, lk (fr _ (by decide) (by decide)), ?_⟩
  have r9 := Contd.read (F := F) (f := S1.σ cc0_scratch9) (w := wd) (by rw [s1]; exact hcd) e.val (le_refl _) hhd _ hV rfl
  have q6 := read_row1024 (F := F) (S1.σ cc0_scratch6) e.val _ hR rfl
  have hst := pwp_strips (F := F) (c := c) (yV g.1 g.2.1 g.2.2 (vWd.view.readAt (Elt F) (Rect.unit (s := S8x768x1024) ![(slot8 e).val, 0, 0] S1x768x1024.size hV).toLoadRect (S1.σ cc0_scratch9))
    (fun j => (S1.σ cc0_scratch6 : Vec F S40x1024 .f32) ((Rect.unit (s := S40x1024) ![e.val, 0] S1x1024.size hR).emb j))) S1
    (fun _ S' => pwp (seqFin 25 fun i => scatterRow (F := F) (ocs e.val i) (inbOc e.val hcol i) i.val (inbG i)) S' Q) (fr _ (by decide) (by decide)) (fun S2 u2 e20 => ?_)
  · rw [← pwp_bind] at hst
    exact hst
  · replace e20 := e20.trans (congrArg₂ (fun a b => ybOf (yV (F := F) g.1 g.2.1 g.2.2 a b)) r9 q6)
    have hC3 := u2.ctl hC2
    have l2 : ∀ b, S1.lock b = ∅ → S2.lock b = ∅ := fun b h => by rw [u2.lock]; exact h
    have ech : ∀ i, chAt S2 i e.val = chAt S i e.val := fun i => (congrFun (u2.sm cc0_scratch3 (by decide)) _).trans (congrFun (congrFun s1 cc0_scratch3) _)
    refine pwp_scatter e.val hcol S2 Q (fun i hi => by rw [ech]; exact ht i hi) (l2 _ (fr _ (by decide) (by decide))) (l2 _ (fr _ (by decide) (by decide))) (l2 _ (fr _ (by decide) (by decide)))
      fun S3 u3 e21 => H S3 ?_ ?_ (u3.ctl hC3)
    · exact (((Sm.refl [] S).of_σ s1).trans u2.sm).trans u3.sm
    · rw [e21, e20, u2.sm cc0_scratch21 (by decide), s1]
      simp only [ech]

/-! ### The kept values -/

theorem pwp_keep (g : GU F) (S : KSt F c) (Q : PUnit → KSt F c → Prop) (l17 : S.lock cc0_scratch17 = ∅) (l18 : S.lock cc0_scratch18 = ∅) (l19 : S.lock cc0_scratch19 = ∅)
    (H : ∀ S', Upd [cc0_scratch17, cc0_scratch18, cc0_scratch19] S S' → S'.σ cc0_scratch17 = g.1 → S'.σ cc0_scratch18 = g.2.1 → S'.σ cc0_scratch19 = g.2.2 → Q ⟨⟩ S') :
    pwp (keep (F := F) g) S Q := by
  refine ⟨lk l17, lk l17, lk l18, lk l18, lk l19, lk l19, H _ ((((Upd.refl _ S).set (b := cc0_scratch17) (by decide) _).set (b := cc0_scratch18) (by decide) _).set (b := cc0_scratch19) (by decide) _) ?_ ?_ ?_⟩
  · refine (set_σ_ne _ (by decide) _).trans ((set_σ_ne _ (by decide) _).trans ((set_σ _ _ _).trans ?_))
    rw [shapeCast_self]
    exact write_eq vHc (Rect.unit (s := S32x768) ![0, 0] S32x768.size inb_S32x768_S32x768_0_0) _ g.1 g.1 (fun j => congrArg g.1 (unit0 _ j)) (fun q hq => absurd (unit0 _ q) (hq q))
  · refine (set_σ_ne _ (by decide) _).trans ((set_σ _ _ _).trans ?_)
    simp only [shapeCast_self]
    exact write_eq vHs (Rect.unit (s := S32x1) ![0, 0] S32x1.size inb_S32x1_S32x1_0_0) _ g.2.1 g.2.1 (fun j => congrArg g.2.1 (unit0 _ j)) (fun q hq => absurd (unit0 _ q) (hq q))
  · refine (set_σ _ _ _).trans ?_
    simp only [shapeCast_self]
    exact write_eq vR (Rect.unit (s := S32x1) ![0, 0] S32x1.size inb_S32x1_S32x1_0_0) _ g.2.2 g.2.2 (fun j => congrArg g.2.2 (unit0 _ j)) (fun q hq => absurd (unit0 _ q) (hq q))

theorem pwp_kept (S : KSt F c) (Q : GU F → KSt F c → Prop) (l17 : S.lock cc0_scratch17 = ∅) (l18 : S.lock cc0_scratch18 = ∅) (l19 : S.lock cc0_scratch19 = ∅)
    (H : Q (S.σ cc0_scratch17, S.σ cc0_scratch18, S.σ cc0_scratch19) S) : pwp (kept (F := F)) S Q := by
  refine ⟨lk l17, lk l18, lk l19, ?_⟩
  have e1 : (fun j => (S.σ cc0_scratch17 : Vec F S32x768 .fp8e4m3) ((Rect.unit (s := S32x768) ![0, 0] S32x768.size inb_S32x768_S32x768_0_0).emb j)) = S.σ cc0_scratch17 := funext fun j => congrArg _ (unit0 _ j)
  have e2 : (fun j => (S.σ cc0_scratch18 : Vec F S32x1 .f32) ((Rect.unit (s := S32x1) ![0, 0] S32x1.size inb_S32x1_S32x1_0_0).emb j)) = S.σ cc0_scratch18 := funext fun j => congrArg _ (unit0 _ j)
  have e3 : (fun j => (S.σ cc0_scratch19 : Vec F S32x1 .f32) ((Rect.unit (s := S32x1) ![0, 0] S32x1.size inb_S32x1_S32x1_0_0).emb j)) = S.σ cc0_scratch19 := funext fun j => congrArg _ (unit0 _ j)
  rw [← e1, ← e2, ← e3] at H
  exact H

/-! ### The rings' transfers -/

theorem credG : 0 < (slotG vWg ![0, 0, 0] (rw8 0)).view.dmaCredit := by decide
theorem credD : 0 < (slotD ![0, 0, 0] (rd8 0)).view.dmaCredit := by decide

theorem pwp_startGU (e : Fin 40) (oS0 oS1 hS0 hS1 oV oH hV hH wV wH) (hoS0 : oS0 = ![(0 : Fin 3).val, (slot8 e).val]) (hoS1 : oS1 = ![(1 : Fin 3).val, (slot8 e).val])
    (hoV : oV = ![(slot8 e).val, 0, 0]) (hoH : oH = ![e.val, 0, 0]) (S : KSt F c) (Q : PUnit → KSt F c → Prop) {K : Fin 11 → Prop} {lg lu ld hd : ℕ}
    (hC : Ctl (Ph K lg e.val lu e.val ld hd) S.lock S.pend) (hl : e.val < lg + 8) (hl' : e.val < lu + 8) (hll : lg ≤ e.val) (hll' : lu ≤ e.val)
    (H : ∀ S', Sm [cc0_scratch7, cc0_scratch8] S S' → S'.σ cc0_scratch7 = putg (F := F) e.val (S.σ main_arg4) (S.σ cc0_scratch7) → S'.σ cc0_scratch8 = putu (F := F) e.val (S.σ main_arg5) (S.σ cc0_scratch8) →
      Ctl (Ph K lg (e.val + 1) lu (e.val + 1) ld hd) S'.lock S'.pend → Q ⟨⟩ S') :
    pwp (startGU (F := F) oS0 oS1 hS0 hS1 oV oH hV hH wV wH) S Q := by
  subst hoS0 hoS1 hoV hoH
  refine pwp_enq _ _ _ _ _ _ (.g e) _ S _ hC (fun a ha => ?_) rfl rfl rfl (show cc0_scratch7 ≠ main_arg4 by decide) credG fun S1 s1 hC1 => ?_
  · match a with
    | .w k => exact (cmp_wg k e).symm
    | .g x => exact cmp_gg (by have := ha.1; have := ha.2; omega)
    | .u x => exact cmp_gu e x
    | .d x => exact cmp_gd e x
  refine pwp_enq _ _ _ _ _ _ (.u e) _ S1 _ hC1 (fun a ha => ?_) rfl rfl rfl (show cc0_scratch8 ≠ main_arg5 by decide) credG fun S2 s2 hC2 => ?_
  · rcases ha with rfl | ha
    · exact (cmp_gu e e).symm
    match a with
    | .w k => exact (cmp_wu k e).symm
    | .g x => exact (cmp_gu x e).symm
    | .u x => exact cmp_uu (by have := ha.1; have := ha.2; omega)
    | .d x => exact cmp_ud e x
  replace s1 : S1.σ = Function.update S.σ cc0_scratch7 _ := s1
  replace s2 : S2.σ = Function.update S1.σ cc0_scratch8 _ := s2
  refine H S2 (((Sm.refl _ S).upd s1 (by decide)).upd s2 (by decide)) ?_ ?_ (hC2.congr fun a => ?_)
  · rw [s2]
    refine (Function.update_of_ne (by decide) ..).trans ?_
    rw [s1]
    refine (Function.update_self ..).trans (write_putg e _ _)
  · rw [s2]
    refine (Function.update_self ..).trans ((write_putu e _ _).trans ?_)
    have a5 : S1.σ main_arg5 = S.σ main_arg5 := by rw [s1]; exact Function.update_of_ne (by decide) ..
    have a8 : S1.σ cc0_scratch8 = S.σ cc0_scratch8 := by rw [s1]; exact Function.update_of_ne (by decide) ..
    exact congrArg₂ (putu (F := F) e.val) a5 a8
  · match a with
    | .w k => simp [Ph]
    | .g x =>
      simp only [Ph, reduceCtorEq, false_or, Tid.g.injEq, Fin.ext_iff]; omega
    | .u x =>
      simp only [Ph, reduceCtorEq, false_or, Tid.u.injEq, Fin.ext_iff]; omega
    | .d x => simp [Ph]

theorem pwp_startD (e : Fin 40) (oS hS oV oH hV hH wV wH) (hoS : oS = ![(2 : Fin 3).val, (slot8 e).val])
    (hoV : oV = ![(slot8 e).val, 0, 0]) (hoH : oH = ![e.val, 0, 0]) (S : KSt F c) (Q : PUnit → KSt F c → Prop) {K : Fin 11 → Prop} {lg hg lu hu ld : ℕ}
    (hC : Ctl (Ph K lg hg lu hu ld e.val) S.lock S.pend) (hl : e.val < ld + 8) (hll : ld ≤ e.val)
    (H : ∀ S', Sm [cc0_scratch9] S S' → S'.σ cc0_scratch9 = putd (F := F) e.val (S.σ main_arg8) (S.σ cc0_scratch9) →
      Ctl (Ph K lg hg lu hu ld (e.val + 1)) S'.lock S'.pend → Q ⟨⟩ S') :
    pwp (startD (F := F) oS hS oV oH hV hH wV wH) S Q := by
  subst hoS hoV hoH
  refine pwp_enq _ _ _ _ _ _ (.d e) _ S _ hC (fun a ha => ?_) rfl rfl rfl (show cc0_scratch9 ≠ main_arg8 by decide) credD fun S1 s1 hC1 => ?_
  · match a with
    | .w k => exact (cmp_wd k e).symm
    | .g x => exact (cmp_gd x e).symm
    | .u x => exact (cmp_ud x e).symm
    | .d x => exact cmp_dd (by have := ha.1; have := ha.2; omega)
  replace s1 : S1.σ = Function.update S.σ cc0_scratch9 _ := s1
  refine H S1 ((Sm.refl _ S).upd s1 (by decide)) ?_ (hC1.congr fun a => ?_)
  · rw [s1]
    exact (Function.update_self ..).trans (write_putd e _ _)
  · match a with
    | .w k => simp [Ph]
    | .g x => simp [Ph]
    | .u x => simp [Ph]
    | .d x => simp only [Ph, reduceCtorEq, false_or, Tid.d.injEq, Fin.ext_iff]; omega

end Cert.Kernel.Hand
-- ==== Proof.Whole.lean ====
/-
  What every buffer of the run holds, as functions of the arrays the kernel is given.
-/
module

public import proofs.«01_k».proof.Proof.Down

@[expose] public section

noncomputable section

namespace Cert.Kernel.Hand

open Cert.Kernel Cert.Kernel.Gen
open Idealize.ShloMosaic Idealize.ShloMosaic.TcCoe Idealize.ShloMosaic.Tactic
open Idealize.SL.Sem
open Idealize.ShloMosaic.Pure (St Pend ends pwp pwp_bind pwp_mono)

variable {F : FTy → Type} [FloatOps F] {c : Dev nD}

/-- The arrays the kernel's region is given: the router transposed, the table of chosen rows transposed. -/
structure Inp (F : FTy → Type) where
  x : Vec F S256x1024 .bf16
  gain : Vec F S1x1024 .f32
  wr : Vec F S40x1024 .f32
  ch : Vec F S25x40 .i32
  wg : Vec F S40x1024x768 .fp8e4m3
  wu : Vec F S40x1024x768 .fp8e4m3
  sg : Vec F S40x768 .f32
  su : Vec F S40x768 .f32
  wd : Vec F S40x768x1024 .fp8e4m3
  sd : Vec F S40x1024 .f32

variable (I : Inp F)

/-- Rows `32 k, …` normalised. -/
def xnB (k : ℕ) : FVec F S32x1024 .f32 := xnV (fun j => I.x (i2 (32 * k + (j 0).val) (j 1).val)) I.gain
/-- The normalised rows. -/
def xnAll : Vec F S256x1024 .f32 := fun q => xnB I ((q 0).val / 32) (i2 ((q 0).val % 32) (q 1).val)
/-- The codes. -/
def codesAll : Vec F S256x1024 .fp8e4m3 := fun q => codes1024 (xnB I ((q 0).val / 32)) (i2 ((q 0).val % 32) (q 1).val)
/-- The scales, one per row in every lane. -/
def aux0 : Vec F S256x128 .f32 := fun q => scale1024 (xnB I ((q 0).val / 32)) (i2 ((q 0).val % 32) 0)
/-- The codes as numbers, eight rows of 128 to a token. -/
def tokAll : Vec F S2048x128 .f32 := fun q =>
  (extf .f32 (codes1024 (xnB I ((q 0).val / 256))) bitsLt_fp8e4m3_f32 : FVec F S32x1024 .f32) (i2 ((q 0).val % 256 / 8) (128 * ((q 0).val % 8) + (q 1).val))
/-- The scales as one row. -/
def scaleAll : Vec F S1x256 .f32 := fun q => diagV (fun j => aux0 I (i2 (128 * ((q 1).val / 128) + (j 0).val) (j 1).val)) (i2 0 ((q 1).val % 128))
/-- The auxiliary rows: the router's probabilities in lanes 0–39, the scale in the others. -/
def auxAll : Vec F S256x128 .f32 := fun q => if (q 1).val < 40 then probV (xnAll I) I.wr (i2 (q 0).val (q 1).val) else aux0 I q
/-- The token that expert `e`'s slot `i` takes. -/
def tb (e i : ℕ) : ℕ := (I.ch (i2 i e) : BitVec 32).toNat

/-- A buffer of zeros. -/
def zeros (s : Shape) : Vec F s .f32 := broadcast s (Scalar.ofBits .f32 0x00000000#32)
/-- The gather buffers before expert `e`. -/
def gbAt : ℕ → Vec F S256x128 .f32
  | 0 => zeros _
  | e + 1 => gFold (tb I e) (tokAll I) (gbAt e) 25
def abAt : ℕ → Vec F S32x128 .f32
  | 0 => zeros _
  | e + 1 => aFold (tb I e) (auxAll I) (abAt e) 25
/-- What expert `e`'s gate and up step yields. -/
def guAt (e : ℕ) : GU F := guOf e (gbAt I (e + 1)) (abAt I (e + 1)) I.wg I.wu I.sg I.su
/-- Expert `e`'s result rows. -/
def yAt (e : ℕ) : FVec F S32x1024 .f32 := yV (guAt I e).1 (guAt I e).2.1 (guAt I e).2.2 (slabd I.wd e) (row1024 I.sd e)
/-- The accumulator before expert `e`'s rows are added. -/
def accAt : ℕ → Vec F S2048x128 .f32
  | 0 => zeros _
  | e + 1 => accFold (tb I e) (ybOf (yAt I e)) (accAt e) 25
/-- Rows `32 k, …` of the sum over the experts. -/
def moeB (k : ℕ) : FVec F S32x1024 .f32 := cat8 fun j => fun x => accAt I 40 (i2 (256 * k + j.val + 8 * (x 0).val) (x 1).val)
/-- The second result, and the first. -/
def moeAll : Vec F S256x1024 .bf16 := fun q => (truncf .bf16 (moeB I ((q 0).val / 32)) bitsLt_bf16_f32 : FVec F S32x1024 .bf16) (i2 ((q 0).val % 32) (q 1).val)
def outAll : Vec F S256x1024 .bf16 := fun q => (truncf .bf16 (addf (extf .f32 (fun j => I.x (i2 (32 * ((q 0).val / 32) + (j 0).val) (j 1).val) : FVec F S32x1024 .bf16) bitsLt_bf16_f32) (moeB I ((q 0).val / 32))) bitsLt_bf16_f32 : FVec F S32x1024 .bf16)
  (i2 ((q 0).val % 32) (q 1).val)

/-- What holds from the end of the prologue on. -/
structure Base (W : (b : Ref sig .tc) → Buf (Elt F) ((c : Thread nD τ).loc b)) (S : KSt F c) : Prop where
  hbm : ∀ b, b ∈ [main_arg0, main_arg1, main_arg2, main_arg3, main_arg4, main_arg5, main_arg6, main_arg7, main_arg8, main_arg9, main_v0, main_v1, main_v2] → S.σ b = W b
  x : S.σ cc0_scratch0 = I.x
  ch : S.σ cc0_scratch3 = I.ch
  sg : S.σ cc0_scratch4 = I.sg
  su : S.σ cc0_scratch5 = I.su
  sd : S.σ cc0_scratch6 = I.sd
  tok : S.σ cc0_scratch13 = tokAll I
  aux : S.σ cc0_scratch14 = auxAll I
  oc : S.σ main_v3_2 = codesAll I
  os : S.σ main_v3_3 = scaleAll I

/-- The buffers that `Base` speaks of. -/
abbrev baseRefs : List (Ref sig .tc) := [cc0_scratch0, cc0_scratch3, cc0_scratch4, cc0_scratch5, cc0_scratch6, cc0_scratch13, cc0_scratch14, main_v3_2, main_v3_3,
  main_arg0, main_arg1, main_arg2, main_arg3, main_arg4, main_arg5, main_arg6, main_arg7, main_arg8, main_arg9, main_v0, main_v1, main_v2]

variable {I}
theorem Base.sm {W} {S S' : KSt F c} (h : Base I W S) {L : List (Ref sig .tc)} (hs : Sm L S S') (hL : ∀ b ∈ baseRefs, b ∉ L) : Base I W S' where
  hbm := fun b hb => (hs b (hL b (by
    simp only [List.mem_cons, List.not_mem_nil, or_false] at hb ⊢
    tauto))).trans (h.hbm b hb)
  x := (hs _ (hL _ (by decide))).trans h.x
  ch := (hs _ (hL _ (by decide))).trans h.ch
  sg := (hs _ (hL _ (by decide))).trans h.sg
  su := (hs _ (hL _ (by decide))).trans h.su
  sd := (hs _ (hL _ (by decide))).trans h.sd
  tok := (hs _ (hL _ (by decide))).trans h.tok
  aux := (hs _ (hL _ (by decide))).trans h.aux
  oc := (hs _ (hL _ (by decide))).trans h.oc
  os := (hs _ (hL _ (by decide))).trans h.os
variable (I)

/-- The two copies in flight during the loop. -/
abbrev K78 : Fin 11 → Prop := fun k => k = 7 ∨ k = 8

/-- The arrays as the region is given them are `I`'s weights. -/
structure Fits (W : (b : Ref sig .tc) → Buf (Elt F) ((c : Thread nD τ).loc b)) : Prop where
  x : W main_arg0 = I.x
  gain : W main_v0 = I.gain
  wr : W main_v1 = I.wr
  ch : W main_v2 = I.ch
  wg : W main_arg4 = I.wg
  wu : W main_arg5 = I.wu
  sg : W main_arg6 = I.sg
  su : W main_arg7 = I.su
  wd : W main_arg8 = I.wd
  sd : W main_arg9 = I.sd
  lt : ∀ e < 40, ∀ i < 25, tb I e i < 256

/-- The state before trip `t`. -/
structure LoopInv (W : (b : Ref sig .tc) → Buf (Elt F) ((c : Thread nD τ).loc b)) (t : ℕ) (S : KSt F c) : Prop where
  base : Base I W S
  ctl : Ctl (Ph K78 (t + 1) (min (t + 8) 40) (t + 1) (min (t + 8) 40) t (min (t + 8) 40)) S.lock S.pend
  cg : Contg I.wg (t + 1) (min (t + 8) 40) (S.σ cc0_scratch7)
  cu : Contu I.wu (t + 1) (min (t + 8) 40) (S.σ cc0_scratch8)
  cd : Contd I.wd t (min (t + 8) 40) (S.σ cc0_scratch9)
  gb : S.σ cc0_scratch15 = gbAt I (t + 1)
  ab : S.σ cc0_scratch16 = abAt I (t + 1)
  hc : S.σ cc0_scratch17 = (guAt I t).1
  hs : S.σ cc0_scratch18 = (guAt I t).2.1
  r : S.σ cc0_scratch19 = (guAt I t).2.2
  acc : S.σ cc0_scratch21 = accAt I t

end Cert.Kernel.Hand
-- ==== Proof.Prologue.lean ====
/-
  The prologue and the epilogue: the small copies, the quantised rows, the scales, the router, and the results.
-/
module

public import proofs.«01_k».proof.Proof.Whole

@[expose] public section

noncomputable section

namespace Cert.Kernel.Hand

open Cert.Kernel Cert.Kernel.Gen
open Idealize.ShloMosaic Idealize.ShloMosaic.TcCoe Idealize.ShloMosaic.Tactic
open Idealize.SL.Sem
open Idealize.ShloMosaic.Pure (St Pend ends pwp pwp_bind pwp_mono)

variable {F : FTy → Type} [FloatOps F] {c : Dev nD}

/-! ### The whole copies -/

theorem cmp_ph {K : Fin 11 → Prop} {lg hg lu hu ld hd : ℕ} (k : Fin 11) (hk : ¬ K k) : ∀ a, Ph K lg hg lu hu ld hd a → Cmp c (.w k) a
  | .w j, h => cmp_ww fun e => hk (by rw [e]; exact h)
  | .g e, _ => cmp_wg k e
  | .u e, _ => cmp_wu k e
  | .d e, _ => cmp_wd k e
theorem ph_insert {K : Fin 11 → Prop} {lg hg lu hu ld hd : ℕ} {k : Fin 11} {lock pend} (h : Ctl (c := c) (fun a => a = .w k ∨ Ph K lg hg lu hu ld hd a) lock pend) :
    Ctl (c := c) (Ph (fun j => j = k ∨ K j) lg hg lu hu ld hd) lock pend :=
  h.congr fun a => by
    match a with
    | .w j => simp only [Ph, Tid.w.injEq]
    | .g e => simp only [Ph, reduceCtorEq, false_or]
    | .u e => simp only [Ph, reduceCtorEq, false_or]
    | .d e => simp only [Ph, reduceCtorEq, false_or]
theorem ph_erase {K : Fin 11 → Prop} {lg hg lu hu ld hd : ℕ} {k : Fin 11} {lock pend} (h : Ctl (c := c) (fun a => a ≠ .w k ∧ Ph K lg hg lu hu ld hd a) lock pend) :
    Ctl (c := c) (Ph (fun j => j ≠ k ∧ K j) lg hg lu hu ld hd) lock pend :=
  h.congr fun a => by
    match a with
    | .w j => simp only [Ph, ne_eq, Tid.w.injEq]
    | .g e => simp only [Ph, ne_eq, reduceCtorEq, not_false_eq_true, true_and]
    | .u e => simp only [Ph, ne_eq, reduceCtorEq, not_false_eq_true, true_and]
    | .d e => simp only [Ph, ne_eq, reduceCtorEq, not_false_eq_true, true_and]
theorem ph_congr {K K' : Fin 11 → Prop} {lg hg lu hu ld hd : ℕ} {lock pend} (h : Ctl (c := c) (Ph K lg hg lu hu ld hd) lock pend) (e : ∀ k, K k ↔ K' k) :
    Ctl (c := c) (Ph K' lg hg lu hu ld hd) lock pend := by
  rw [← show K = K' from funext fun k => propext (e k)]; exact h

/-- The first seven copies. -/
abbrev K7 : Fin 11 → Prop := fun k => k.val < 7
abbrev K0 : Fin 11 → Prop := fun _ => False

theorem pwp_smallStart (S : KSt F c) (Q : PUnit → KSt F c → Prop) (hC : Ctl (Ph K0 0 0 0 0 0 0) S.lock S.pend)
    (H : ∀ S', Sm [cc0_scratch0, cc0_scratch1, cc0_scratch2, cc0_scratch3, cc0_scratch4, cc0_scratch5, cc0_scratch6] S S' →
      S'.σ cc0_scratch0 = S.σ main_arg0 →
      S'.σ cc0_scratch1 = S.σ main_v0 →
      S'.σ cc0_scratch2 = S.σ main_v1 →
      S'.σ cc0_scratch3 = S.σ main_v2 →
      S'.σ cc0_scratch4 = S.σ main_arg6 →
      S'.σ cc0_scratch5 = S.σ main_arg7 →
      S'.σ cc0_scratch6 = S.σ main_arg9 →
      Ctl (Ph K7 0 0 0 0 0 0) S'.lock S'.pend → Q ⟨⟩ S') : pwp (smallStart (F := F)) S Q := by
  have sm0 : Sm [cc0_scratch0, cc0_scratch1, cc0_scratch2, cc0_scratch3, cc0_scratch4, cc0_scratch5, cc0_scratch6] S S := Sm.refl _ S
  refine pwp_enq aX vX _ _ _ _ (.w 0) _ S _ hC (cmp_ph _ (by simp)) rfl rfl rfl (show cc0_scratch0 ≠ main_arg0 by decide) (by decide) fun S1 s1 hD1 => ?_
  replace s1 : S1.σ = Function.update S.σ cc0_scratch0 _ := s1
  have e1 : S1.σ cc0_scratch0 = S.σ main_arg0 := by
    rw [s1]
    exact (Function.update_self ..).trans ((View.write_whole_univ cc0_scratch0 (S.σ cc0_scratch0) (S.σ main_arg0)).trans (sm0 _ (by decide)))
  have sm1 := sm0.upd s1 (by decide)
  have hC1 := ph_insert hD1
  refine pwp_enq aGain vGain _ _ _ _ (.w 1) _ S1 _ hC1 (cmp_ph _ (by simp)) rfl rfl rfl (show cc0_scratch1 ≠ main_v0 by decide) (by decide) fun S2 s2 hD2 => ?_
  replace s2 : S2.σ = Function.update S1.σ cc0_scratch1 _ := s2
  have e2 : S2.σ cc0_scratch1 = S.σ main_v0 := by
    rw [s2]
    exact (Function.update_self ..).trans ((View.write_whole_univ cc0_scratch1 (S1.σ cc0_scratch1) (S1.σ main_v0)).trans (sm1 _ (by decide)))
  have sm2 := sm1.upd s2 (by decide)
  have hC2 := ph_insert hD2
  refine pwp_enq aWr vWr _ _ _ _ (.w 2) _ S2 _ hC2 (cmp_ph _ (by simp)) rfl rfl rfl (show cc0_scratch2 ≠ main_v1 by decide) (by decide) fun S3 s3 hD3 => ?_
  replace s3 : S3.σ = Function.update S2.σ cc0_scratch2 _ := s3
  have e3 : S3.σ cc0_scratch2 = S.σ main_v1 := by
    rw [s3]
    exact (Function.update_self ..).trans ((View.write_whole_univ cc0_scratch2 (S2.σ cc0_scratch2) (S2.σ main_v1)).trans (sm2 _ (by decide)))
  have sm3 := sm2.upd s3 (by decide)
  have hC3 := ph_insert hD3
  refine pwp_enq aCh vCh _ _ _ _ (.w 3) _ S3 _ hC3 (cmp_ph _ (by simp)) rfl rfl rfl (show cc0_scratch3 ≠ main_v2 by decide) (by decide) fun S4 s4 hD4 => ?_
  replace s4 : S4.σ = Function.update S3.σ cc0_scratch3 _ := s4
  have e4 : S4.σ cc0_scratch3 = S.σ main_v2 := by
    rw [s4]
    exact (Function.update_self ..).trans ((View.write_whole_univ cc0_scratch3 (S3.σ cc0_scratch3) (S3.σ main_v2)).trans (sm3 _ (by decide)))
  have sm4 := sm3.upd s4 (by decide)
  have hC4 := ph_insert hD4
  refine pwp_enq aSg vSg _ _ _ _ (.w 4) _ S4 _ hC4 (cmp_ph _ (by simp)) rfl rfl rfl (show cc0_scratch4 ≠ main_arg6 by decide) (by decide) fun S5 s5 hD5 => ?_
  replace s5 : S5.σ = Function.update S4.σ cc0_scratch4 _ := s5
  have e5 : S5.σ cc0_scratch4 = S.σ main_arg6 := by
    rw [s5]
    exact (Function.update_self ..).trans ((View.write_whole_univ cc0_scratch4 (S4.σ cc0_scratch4) (S4.σ main_arg6)).trans (sm4 _ (by decide)))
  have sm5 := sm4.upd s5 (by decide)
  have hC5 := ph_insert hD5
  refine pwp_enq aSu vSu _ _ _ _ (.w 5) _ S5 _ hC5 (cmp_ph _ (by simp)) rfl rfl rfl (show cc0_scratch5 ≠ main_arg7 by decide) (by decide) fun S6 s6 hD6 => ?_
  replace s6 : S6.σ = Function.update S5.σ cc0_scratch5 _ := s6
  have e6 : S6.σ cc0_scratch5 = S.σ main_arg7 := by
    rw [s6]
    exact (Function.update_self ..).trans ((View.write_whole_univ cc0_scratch5 (S5.σ cc0_scratch5) (S5.σ main_arg7)).trans (sm5 _ (by decide)))
  have sm6 := sm5.upd s6 (by decide)
  have hC6 := ph_insert hD6
  refine pwp_enq aSd vSd _ _ _ _ (.w 6) _ S6 _ hC6 (cmp_ph _ (by simp)) rfl rfl rfl (show cc0_scratch6 ≠ main_arg9 by decide) (by decide) fun S7 s7 hD7 => ?_
  replace s7 : S7.σ = Function.update S6.σ cc0_scratch6 _ := s7
  have e7 : S7.σ cc0_scratch6 = S.σ main_arg9 := by
    rw [s7]
    exact (Function.update_self ..).trans ((View.write_whole_univ cc0_scratch6 (S6.σ cc0_scratch6) (S6.σ main_arg9)).trans (sm6 _ (by decide)))
  have sm7 := sm6.upd s7 (by decide)
  have hC7 := ph_insert hD7
  refine H S7 sm7 ?_ ?_ ?_ ?_ ?_ ?_ ?_ (ph_congr hC7 (by decide))
  · exact (show S7.σ cc0_scratch0 = S6.σ cc0_scratch0 by rw [s7]; exact Function.update_of_ne (by decide) ..).trans ((show S6.σ cc0_scratch0 = S5.σ cc0_scratch0 by rw [s6]; exact Function.update_of_ne (by decide) ..).trans ((show S5.σ cc0_scratch0 = S4.σ cc0_scratch0 by rw [s5]; exact Function.update_of_ne (by decide) ..).trans ((show S4.σ cc0_scratch0 = S3.σ cc0_scratch0 by rw [s4]; exact Function.update_of_ne (by decide) ..).trans ((show S3.σ cc0_scratch0 = S2.σ cc0_scratch0 by rw [s3]; exact Function.update_of_ne (by decide) ..).trans ((show S2.σ cc0_scratch0 = S1.σ cc0_scratch0 by rw [s2]; exact Function.update_of_ne (by decide) ..).trans (e1))))))
  · exact (show S7.σ cc0_scratch1 = S6.σ cc0_scratch1 by rw [s7]; exact Function.update_of_ne (by decide) ..).trans ((show S6.σ cc0_scratch1 = S5.σ cc0_scratch1 by rw [s6]; exact Function.update_of_ne (by decide) ..).trans ((show S5.σ cc0_scratch1 = S4.σ cc0_scratch1 by rw [s5]; exact Function.update_of_ne (by decide) ..).trans ((show S4.σ cc0_scratch1 = S3.σ cc0_scratch1 by rw [s4]; exact Function.update_of_ne (by decide) ..).trans ((show S3.σ cc0_scratch1 = S2.σ cc0_scratch1 by rw [s3]; exact Function.update_of_ne (by decide) ..).trans (e2)))))
  · exact (show S7.σ cc0_scratch2 = S6.σ cc0_scratch2 by rw [s7]; exact Function.update_of_ne (by decide) ..).trans ((show S6.σ cc0_scratch2 = S5.σ cc0_scratch2 by rw [s6]; exact Function.update_of_ne (by decide) ..).trans ((show S5.σ cc0_scratch2 = S4.σ cc0_scratch2 by rw [s5]; exact Function.update_of_ne (by decide) ..).trans ((show S4.σ cc0_scratch2 = S3.σ cc0_scratch2 by rw [s4]; exact Function.update_of_ne (by decide) ..).trans (e3))))
  · exact (show S7.σ cc0_scratch3 = S6.σ cc0_scratch3 by rw [s7]; exact Function.update_of_ne (by decide) ..).trans ((show S6.σ cc0_scratch3 = S5.σ cc0_scratch3 by rw [s6]; exact Function.update_of_ne (by decide) ..).trans ((show S5.σ cc0_scratch3 = S4.σ cc0_scratch3 by rw [s5]; exact Function.update_of_ne (by decide) ..).trans (e4)))
  · exact (show S7.σ cc0_scratch4 = S6.σ cc0_scratch4 by rw [s7]; exact Function.update_of_ne (by decide) ..).trans ((show S6.σ cc0_scratch4 = S5.σ cc0_scratch4 by rw [s6]; exact Function.update_of_ne (by decide) ..).trans (e5))
  · exact (show S7.σ cc0_scratch5 = S6.σ cc0_scratch5 by rw [s7]; exact Function.update_of_ne (by decide) ..).trans (e6)
  · exact e7

theorem pwp_smallWait {lg hg lu hu ld hd : ℕ} (S : KSt F c) (Q : PUnit → KSt F c → Prop) (hC : Ctl (Ph K7 lg hg lu hu ld hd) S.lock S.pend)
    (H : ∀ S', S'.σ = S.σ → Ctl (Ph K0 lg hg lu hu ld hd) S'.lock S'.pend → Q ⟨⟩ S') : pwp (smallWait (F := F)) S Q := by
  refine pwp_wait aX vX _ _ _ (.w 0) _ S _ hC (by simp [Ph]) rfl rfl fun S1 s1 hD1 => ?_
  have hC1 := ph_erase hD1
  refine pwp_wait aGain vGain _ _ _ (.w 1) _ S1 _ hC1 (by simp [Ph]) rfl rfl fun S2 s2 hD2 => ?_
  have hC2 := ph_erase hD2
  refine pwp_wait aWr vWr _ _ _ (.w 2) _ S2 _ hC2 (by simp [Ph]) rfl rfl fun S3 s3 hD3 => ?_
  have hC3 := ph_erase hD3
  refine pwp_wait aCh vCh _ _ _ (.w 3) _ S3 _ hC3 (by simp [Ph]) rfl rfl fun S4 s4 hD4 => ?_
  have hC4 := ph_erase hD4
  refine pwp_wait aSg vSg _ _ _ (.w 4) _ S4 _ hC4 (by simp [Ph]) rfl rfl fun S5 s5 hD5 => ?_
  have hC5 := ph_erase hD5
  refine pwp_wait aSu vSu _ _ _ (.w 5) _ S5 _ hC5 (by simp [Ph]) rfl rfl fun S6 s6 hD6 => ?_
  have hC6 := ph_erase hD6
  refine pwp_wait aSd vSd _ _ _ (.w 6) _ S6 _ hC6 (by simp [Ph]) rfl rfl fun S7 s7 hD7 => ?_
  have hC7 := ph_erase hD7
  refine H S7 (by rw [s7, s6, s5, s4, s3, s2, s1]) (ph_congr hC7 (by decide))

/-! ### Blocks of rows -/

theorem wr_rows_vXn (k : Fin 8) (f : Vec F S256x1024 .f32) (w : Vec F S32x1024 .f32) :
    (vXn.access (rowsX k)).write (Elt F) f (shapeCast S32x1024 w shapeCasts_S32x1024_S32x1024) Finset.univ = fun q => if (q 0).val / 32 = k.val then w (i2 ((q 0).val % 32) (q 1).val) else f q := by
  rw [shapeCast_self]
  refine write_eq vXn (rowsX k) f _ w (fun x => ?_) (fun q hq => ?_)
  · have h0 : (x 0).val < 32 := (x 0).isLt
    show (if (32 * k.val + 1 * (x 0).val) / 32 = k.val then _ else _) = w _
    rw [if_pos (by omega)]
    refine congrArg w (Eq.symm (eq_i2 _ _ _ ?_ ?_))
    · show (x 0).val = (32 * k.val + 1 * (x 0).val) % 32; omega
    · show (x 1).val = 0 + 1 * (x 1).val; omega
  · have h0 : (q 0).val < 256 := (q 0).isLt
    have h1 : (q 1).val < 1024 := (q 1).isLt
    refine if_neg fun h => ?_
    refine hq (i2 (a := 32) (b := 1024) ((q 0).val % 32) (q 1).val) (ext2 ?_ ?_)
    · show 32 * k.val + 1 * ((q 0).val % 32 % 32) = _; omega
    · show 0 + 1 * ((q 1).val % 1024) = _; omega

theorem wr_rows_vCodes (k : Fin 8) (f : Vec F S256x1024 .fp8e4m3) (w : Vec F S32x1024 .fp8e4m3) :
    (vCodes.access (rowsX k)).write (Elt F) f (shapeCast S32x1024 w shapeCasts_S32x1024_S32x1024) Finset.univ = fun q => if (q 0).val / 32 = k.val then w (i2 ((q 0).val % 32) (q 1).val) else f q := by
  rw [shapeCast_self]
  refine write_eq vCodes (rowsX k) f _ w (fun x => ?_) (fun q hq => ?_)
  · have h0 : (x 0).val < 32 := (x 0).isLt
    show (if (32 * k.val + 1 * (x 0).val) / 32 = k.val then _ else _) = w _
    rw [if_pos (by omega)]
    refine congrArg w (Eq.symm (eq_i2 _ _ _ ?_ ?_))
    · show (x 0).val = (32 * k.val + 1 * (x 0).val) % 32; omega
    · show (x 1).val = 0 + 1 * (x 1).val; omega
  · have h0 : (q 0).val < 256 := (q 0).isLt
    have h1 : (q 1).val < 1024 := (q 1).isLt
    refine if_neg fun h => ?_
    refine hq (i2 (a := 32) (b := 1024) ((q 0).val % 32) (q 1).val) (ext2 ?_ ?_)
    · show 32 * k.val + 1 * ((q 0).val % 32 % 32) = _; omega
    · show 0 + 1 * ((q 1).val % 1024) = _; omega

theorem wr_rows_vMoe (k : Fin 8) (f : Vec F S256x1024 .bf16) (w : Vec F S32x1024 .bf16) :
    (vMoe.access (rowsX k)).write (Elt F) f (shapeCast S32x1024 w shapeCasts_S32x1024_S32x1024) Finset.univ = fun q => if (q 0).val / 32 = k.val then w (i2 ((q 0).val % 32) (q 1).val) else f q := by
  rw [shapeCast_self]
  refine write_eq vMoe (rowsX k) f _ w (fun x => ?_) (fun q hq => ?_)
  · have h0 : (x 0).val < 32 := (x 0).isLt
    show (if (32 * k.val + 1 * (x 0).val) / 32 = k.val then _ else _) = w _
    rw [if_pos (by omega)]
    refine congrArg w (Eq.symm (eq_i2 _ _ _ ?_ ?_))
    · show (x 0).val = (32 * k.val + 1 * (x 0).val) % 32; omega
    · show (x 1).val = 0 + 1 * (x 1).val; omega
  · have h0 : (q 0).val < 256 := (q 0).isLt
    have h1 : (q 1).val < 1024 := (q 1).isLt
    refine if_neg fun h => ?_
    refine hq (i2 (a := 32) (b := 1024) ((q 0).val % 32) (q 1).val) (ext2 ?_ ?_)
    · show 32 * k.val + 1 * ((q 0).val % 32 % 32) = _; omega
    · show 0 + 1 * ((q 1).val % 1024) = _; omega

theorem wr_rows_vOut (k : Fin 8) (f : Vec F S256x1024 .bf16) (w : Vec F S32x1024 .bf16) :
    (vOut.access (rowsX k)).write (Elt F) f (shapeCast S32x1024 w shapeCasts_S32x1024_S32x1024) Finset.univ = fun q => if (q 0).val / 32 = k.val then w (i2 ((q 0).val % 32) (q 1).val) else f q := by
  rw [shapeCast_self]
  refine write_eq vOut (rowsX k) f _ w (fun x => ?_) (fun q hq => ?_)
  · have h0 : (x 0).val < 32 := (x 0).isLt
    show (if (32 * k.val + 1 * (x 0).val) / 32 = k.val then _ else _) = w _
    rw [if_pos (by omega)]
    refine congrArg w (Eq.symm (eq_i2 _ _ _ ?_ ?_))
    · show (x 0).val = (32 * k.val + 1 * (x 0).val) % 32; omega
    · show (x 1).val = 0 + 1 * (x 1).val; omega
  · have h0 : (q 0).val < 256 := (q 0).isLt
    have h1 : (q 1).val < 1024 := (q 1).isLt
    refine if_neg fun h => ?_
    refine hq (i2 (a := 32) (b := 1024) ((q 0).val % 32) (q 1).val) (ext2 ?_ ?_)
    · show 32 * k.val + 1 * ((q 0).val % 32 % 32) = _; omega
    · show 0 + 1 * ((q 1).val % 1024) = _; omega

theorem wr_rows_vAux (k : Fin 8) (f : Vec F S256x128 .f32) (w : Vec F S32x128 .f32) :
    (vAux.access (rowsA k)).write (Elt F) f (shapeCast S32x128 w shapeCasts_S32x128_S32x128) Finset.univ = fun q => if (q 0).val / 32 = k.val then w (i2 ((q 0).val % 32) (q 1).val) else f q := by
  rw [shapeCast_self]
  refine write_eq vAux (rowsA k) f _ w (fun x => ?_) (fun q hq => ?_)
  · have h0 : (x 0).val < 32 := (x 0).isLt
    show (if (32 * k.val + 1 * (x 0).val) / 32 = k.val then _ else _) = w _
    rw [if_pos (by omega)]
    refine congrArg w (Eq.symm (eq_i2 _ _ _ ?_ ?_))
    · show (x 0).val = (32 * k.val + 1 * (x 0).val) % 32; omega
    · show (x 1).val = 0 + 1 * (x 1).val; omega
  · have h0 : (q 0).val < 256 := (q 0).isLt
    have h1 : (q 1).val < 128 := (q 1).isLt
    refine if_neg fun h => ?_
    refine hq (i2 (a := 32) (b := 128) ((q 0).val % 32) (q 1).val) (ext2 ?_ ?_)
    · show 32 * k.val + 1 * ((q 0).val % 32 % 32) = _; omega
    · show 0 + 1 * ((q 1).val % 128) = _; omega

theorem wr_stripT (k j : Fin 8) (y : FVec F S32x1024 .f32) (f : Vec F S2048x128 .f32) :
    (vTok.access ⟨stripT k j, spos_8_1⟩).write (Elt F) f (shapeCast S32x128 (extractStridedSlice S32x128 ![0, 128 * j.val] y (slc j) : FVec F S32x128 .f32) shapeCasts_S32x128_S32x128) Finset.univ
      = fun q => if (q 0).val / 256 = k.val ∧ (q 0).val % 8 = j.val then y (i2 ((q 0).val % 256 / 8) (128 * ((q 0).val % 8) + (q 1).val)) else f q := by
  rw [shapeCast_self]
  have hj := j.isLt
  have hk := k.isLt
  refine write_eq vTok ⟨stripT k j, spos_8_1⟩ f _ _ (fun x => ?_) (fun q hq => ?_)
  · have h0 : (x 0).val < 32 := (x 0).isLt
    have h1 : (x 1).val < 128 := (x 1).isLt
    show (if (256 * k.val + j.val + 8 * (x 0).val) / 256 = k.val ∧ (256 * k.val + j.val + 8 * (x 0).val) % 8 = j.val then _ else _) = y _
    rw [if_pos (by omega)]
    refine congrArg y (Eq.symm (eq_i2 _ _ _ ?_ ?_))
    · show 0 + (x 0).val = (256 * k.val + j.val + 8 * (x 0).val) % 256 / 8; omega
    · show 128 * j.val + (x 1).val = 128 * ((256 * k.val + j.val + 8 * (x 0).val) % 8) + (0 + 1 * (x 1).val); omega
  · have h0 : (q 0).val < 2048 := (q 0).isLt
    have h1 : (q 1).val < 128 := (q 1).isLt
    refine if_neg fun h => ?_
    refine hq (i2 (a := 32) (b := 128) ((q 0).val % 256 / 8) (q 1).val) (ext2 ?_ ?_)
    · show 256 * k.val + j.val + 8 * ((q 0).val % 256 / 8 % 32) = _; omega
    · show 0 + 1 * ((q 1).val % 128) = _; omega

variable (I : Inp F)

/-- The rows before `n` hold what they are to hold. -/
structure Rows (k : ℕ) (S : KSt F c) : Prop where
  xn : ∀ q : S256x1024.Idx, (q 0).val / 32 < k → (S.σ cc0_scratch10 : Vec F S256x1024 .f32) q = xnAll I q
  codes : ∀ q : S256x1024.Idx, (q 0).val / 32 < k → (S.σ cc0_scratch11 : Vec F S256x1024 .fp8e4m3) q = codesAll I q
  aux : ∀ q : S256x128.Idx, (q 0).val / 32 < k → (S.σ cc0_scratch14 : Vec F S256x128 .f32) q = aux0 I q
  tok : ∀ q : S2048x128.Idx, (q 0).val / 256 < k → (S.σ cc0_scratch13 : Vec F S2048x128 .f32) q = tokAll I q

theorem pwp_stripsT (k : Fin 8) (y : FVec F S32x1024 .f32) (S : KSt F c) (Q : PUnit → KSt F c → Prop) (l13 : S.lock cc0_scratch13 = ∅)
    (H : ∀ S', Upd [cc0_scratch13] S S' → (∀ q : S2048x128.Idx, (S'.σ cc0_scratch13 : Vec F S2048x128 .f32) q = if (q 0).val / 256 = k.val then y (i2 ((q 0).val % 256 / 8) (128 * ((q 0).val % 8) + (q 1).val)) else (S.σ cc0_scratch13 : Vec F S2048x128 .f32) q) → Q ⟨⟩ S') :
    pwp (seqFin 8 fun j => do
      let _ ← ld (F := F) vTok (stripT k j) h_S32x128
      st vTok ⟨stripT k j, spos_8_1⟩ h_S32x128 (shapeCast S32x128 (extractStridedSlice S32x128 ![0, 128 * j.val] y (slc j) : FVec F S32x128 .f32) shapeCasts_S32x128_S32x128)) S Q := by
  refine pwp_seqFin 8 _ (fun n S' => Upd [cc0_scratch13] S S' ∧ ∀ q : S2048x128.Idx, (S'.σ cc0_scratch13 : Vec F S2048x128 .f32) q = if (q 0).val / 256 = k.val ∧ (q 0).val % 8 < n then y (i2 ((q 0).val % 256 / 8) (128 * ((q 0).val % 8) + (q 1).val)) else (S.σ cc0_scratch13 : Vec F S2048x128 .f32) q) S Q
    ⟨Upd.refl _ _, fun q => (if_neg (by omega)).symm⟩ ?_ (fun S' h => H S' h.1 fun q => (h.2 q).trans (if_congr (and_iff_left (Nat.mod_lt _ (by decide))) rfl rfl))
  rintro j S' ⟨hu, hy⟩
  have l : S'.lock cc0_scratch13 = ∅ := by rw [hu.lock]; exact l13
  refine ⟨lk l, lk l, hu.set (b := cc0_scratch13) (by decide) _, fun q => ?_⟩
  have hw := congrFun (wr_stripT (F := F) k j y (S'.σ cc0_scratch13)) q
  refine (congrFun (set_σ S' cc0_scratch13 _) q).trans (hw.trans ?_)
  show (if (q 0).val / 256 = k.val ∧ (q 0).val % 8 = j.val then _ else _) = _
  by_cases e : (q 0).val / 256 = k.val ∧ (q 0).val % 8 = j.val
  · rw [if_pos e, if_pos (by omega)]
  · rw [if_neg e, hy q]
    exact if_congr (by omega) rfl rfl

/-- A block of rows, once normalised. -/
def chunk2 (k : Fin 8) (v : FVec F S32x1024 .f32) : Pg F PUnit := do
  let _ ← ld (F := F) vXn (rowsX k).toLoadRect h_S32x1024
  st vXn (rowsX k) h_S32x1024 (shapeCast S32x1024 v shapeCasts_S32x1024_S32x1024)
  let _ ← ld (F := F) vCodes (rowsX k).toLoadRect h_S32x1024
  Prog.lift (.store vCodes (rowsX k) (shapeCast S32x1024 (codes1024 v) shapeCasts_S32x1024_S32x1024 : FVec F S32x1024 .fp8e4m3) Finset.univ (View.stores_vmem h_S32x1024 ((wh cc0_scratch11).storeExact_slice rfl _ (pk8 k)) (fun _ => rfl)) (.inl rfl))
  let _ ← ld (F := F) vAux (rowsA k).toLoadRect h_S32x128
  st vAux (rowsA k) h_S32x128 (shapeCast S32x128 (broadcastTo S32x128 (shapeCast S32x1 (scale1024 v) shapeCasts_S32x1_S32x1 : FVec F S32x1 .f32) broadcasts_S32x1_S32x128 : FVec F S32x128 .f32) shapeCasts_S32x128_S32x128)
  seqFin 8 fun j => do
    let _ ← ld (F := F) vTok (stripT k j) h_S32x128
    st vTok ⟨stripT k j, spos_8_1⟩ h_S32x128 (shapeCast S32x128 (extractStridedSlice S32x128 ![0, 128 * j.val] (extf .f32 (codes1024 v) bitsLt_fp8e4m3_f32 : FVec F S32x1024 .f32) (slc j) : FVec F S32x128 .f32) shapeCasts_S32x128_S32x128)
theorem chunk_eq (k : Fin 8) : chunk (F := F) k = (do
    let x ← ld (F := F) vX (rowsX k).toLoadRect h_S32x1024
    let g ← ld (F := F) vGain (Rect.unit (s := S1x1024) ![0, 0] S1x1024.size inb_S1x1024_S1x1024_0_0).toLoadRect h_S1x1024
    chunk2 k (xnV x g)) := rfl

theorem aux_wide (v : FVec F S32x1 .f32) (q : S32x128.Idx) :
    (broadcastTo S32x128 (shapeCast S32x1 v shapeCasts_S32x1_S32x1 : FVec F S32x1 .f32) broadcasts_S32x1_S32x128 : FVec F S32x128 .f32) q = v (i2 (q 0).val 0) := by
  rw [shapeCast_self]
  refine congrArg v (ext2 ?_ ?_)
  · have h : (q 0).val < 32 := (q 0).isLt
    show (q 0).val = (q 0).val % 32; omega
  · rfl

theorem pwp_chunk2 (k : Fin 8) (S : KSt F c) (Q : PUnit → KSt F c → Prop) (hR : Rows I k.val S) (v : FVec F S32x1024 .f32) (hv : v = xnB I k.val)
    (l10 : S.lock cc0_scratch10 = ∅) (l11 : S.lock cc0_scratch11 = ∅) (l13 : S.lock cc0_scratch13 = ∅) (l14 : S.lock cc0_scratch14 = ∅)
    (H : ∀ S', Upd [cc0_scratch10, cc0_scratch11, cc0_scratch14, cc0_scratch13] S S' → Rows I (k.val + 1) S' → Q ⟨⟩ S') : pwp (chunk2 (F := F) k v) S Q := by
  refine ⟨lk l10, lk l10, lk l11, lk l11, lk l14, lk l14, ?_⟩
  have w10 := wr_rows_vXn (F := F) k (S.σ cc0_scratch10) v
  have w11 := wr_rows_vCodes (F := F) k (S.σ cc0_scratch11) (codes1024 v)
  have w14 := wr_rows_vAux (F := F) k (S.σ cc0_scratch14) (broadcastTo S32x128 (shapeCast S32x1 (scale1024 v) shapeCasts_S32x1_S32x1 : FVec F S32x1 .f32) broadcasts_S32x1_S32x128)
  have hst := pwp_stripsT (F := F) (c := c) k (extf .f32 (codes1024 v) bitsLt_fp8e4m3_f32)
    (((S.set cc0_scratch10 ((vXn.access (rowsX k)).write (Elt F) (S.σ cc0_scratch10) (shapeCast S32x1024 v shapeCasts_S32x1024_S32x1024) Finset.univ)).set cc0_scratch11
      ((vCodes.access (rowsX k)).write (Elt F) (S.σ cc0_scratch11) (shapeCast S32x1024 (codes1024 v) shapeCasts_S32x1024_S32x1024) Finset.univ)).set cc0_scratch14
      ((vAux.access (rowsA k)).write (Elt F) (S.σ cc0_scratch14) (shapeCast S32x128 (broadcastTo S32x128 (shapeCast S32x1 (scale1024 v) shapeCasts_S32x1_S32x1 : FVec F S32x1 .f32) broadcasts_S32x1_S32x128 : FVec F S32x128 .f32) shapeCasts_S32x128_S32x128) Finset.univ)) Q l13
  refine hst fun S2 u2 h13 => ?_
  have u1 := (((Upd.refl [cc0_scratch10, cc0_scratch11, cc0_scratch14] S).set (b := cc0_scratch10) (by decide) ((vXn.access (rowsX k)).write (Elt F) (S.σ cc0_scratch10) (shapeCast S32x1024 v shapeCasts_S32x1024_S32x1024) Finset.univ)).set (b := cc0_scratch11) (by decide)
      ((vCodes.access (rowsX k)).write (Elt F) (S.σ cc0_scratch11) (shapeCast S32x1024 (codes1024 v) shapeCasts_S32x1024_S32x1024) Finset.univ)).set (b := cc0_scratch14) (by decide)
      ((vAux.access (rowsA k)).write (Elt F) (S.σ cc0_scratch14) (shapeCast S32x128 (broadcastTo S32x128 (shapeCast S32x1 (scale1024 v) shapeCasts_S32x1_S32x1 : FVec F S32x1 .f32) broadcasts_S32x1_S32x128 : FVec F S32x128 .f32) shapeCasts_S32x128_S32x128) Finset.univ)
  have e10 := (u2.sm cc0_scratch10 (by decide)).trans ((set_σ_ne _ (by decide) _).trans ((set_σ_ne _ (by decide) _).trans ((set_σ S cc0_scratch10 _).trans w10)))
  have e11 := (u2.sm cc0_scratch11 (by decide)).trans ((set_σ_ne _ (by decide) _).trans ((set_σ _ cc0_scratch11 _).trans w11))
  have e14 := (u2.sm cc0_scratch14 (by decide)).trans ((set_σ _ cc0_scratch14 _).trans w14)
  subst hv
  refine H S2 (u1.trans u2) ⟨fun q hq => ?_, fun q hq => ?_, fun q hq => ?_, fun q hq => ?_⟩
  · refine (congrFun e10 q).trans ?_
    by_cases hk : (q 0).val / 32 = k.val
    · refine (if_pos hk).trans ?_
      show _ = xnB I ((q 0).val / 32) _
      rw [hk]
    · exact (if_neg hk).trans (hR.xn q (by omega))
  · refine (congrFun e11 q).trans ?_
    by_cases hk : (q 0).val / 32 = k.val
    · refine (if_pos hk).trans ?_
      show _ = codes1024 (xnB I ((q 0).val / 32)) _
      rw [hk]
    · exact (if_neg hk).trans (hR.codes q (by omega))
  · refine (congrFun e14 q).trans ?_
    by_cases hk : (q 0).val / 32 = k.val
    · refine (if_pos hk).trans ((aux_wide _ _).trans ?_)
      show _ = scale1024 (xnB I ((q 0).val / 32)) _
      rw [hk]
      refine congrArg (scale1024 (xnB I k.val)) (ext2 ?_ rfl)
      show (q 0).val % 32 % 32 % 32 = (q 0).val % 32 % 32
      omega
    · exact (if_neg hk).trans (hR.aux q (by omega))
  · refine (h13 q).trans ?_
    by_cases hk : (q 0).val / 256 = k.val
    · rw [if_pos hk]
      show _ = (extf .f32 (codes1024 (xnB I ((q 0).val / 256))) bitsLt_fp8e4m3_f32 : FVec F S32x1024 .f32) _
      rw [hk]
    · rw [if_neg hk]
      exact (congrFun (u1.sm cc0_scratch13 (by decide)) q).trans (hR.tok q (by omega))

theorem pwp_chunk (k : Fin 8) (S : KSt F c) (Q : PUnit → KSt F c → Prop) (hx : S.σ cc0_scratch0 = I.x) (hgn : S.σ cc0_scratch1 = I.gain) (hR : Rows I k.val S)
    (l0 : S.lock cc0_scratch0 = ∅) (l1 : S.lock cc0_scratch1 = ∅) (l10 : S.lock cc0_scratch10 = ∅) (l11 : S.lock cc0_scratch11 = ∅) (l13 : S.lock cc0_scratch13 = ∅) (l14 : S.lock cc0_scratch14 = ∅)
    (H : ∀ S', Upd [cc0_scratch10, cc0_scratch11, cc0_scratch14, cc0_scratch13] S S' → Rows I (k.val + 1) S' → Q ⟨⟩ S') : pwp (chunk (F := F) k) S Q := by
  rw [chunk_eq]
  refine ⟨lk l0, lk l1, pwp_chunk2 I k S Q hR _ ?_ l10 l11 l13 l14 H⟩
  refine congrArg₂ (xnV (F := F)) (funext fun j => ?_) (funext fun j => ?_)
  · refine (congrFun hx _).trans (congrArg I.x (eq_i2 _ _ _ ?_ ?_))
    · show 32 * k.val + 1 * (j 0).val = _; omega
    · show 0 + 1 * (j 1).val = _; omega
  · exact (congrFun hgn _).trans (congrArg I.gain (unit0 _ j))

end Cert.Kernel.Hand
-- ==== Proof.LoopRun.lean ====
/-
  The loop: every trip takes the state before it to the state before the next.
-/
module

public import proofs.«01_k».proof.Proof.Whole

@[expose] public section

noncomputable section

namespace Cert.Kernel.Hand

open Cert.Kernel Cert.Kernel.Gen
open Idealize.ShloMosaic Idealize.ShloMosaic.TcCoe Idealize.ShloMosaic.Tactic
open Idealize.SL.Sem
open Idealize.ShloMosaic.Pure (St Pend ends pwp pwp_bind pwp_mono)

variable {F : FTy → Type} [FloatOps F] {c : Dev nD}

attribute [local irreducible] gateUp down keep kept startGU startD

/-- The parts of a trip. -/
def startC (t : Fin k0_t1_loop.trips) : Pg F PUnit :=
  if h1 : k0_cond1 t = 1#1 then
    startGU (k0_off51 t) (k0_off54 t) (k0_off51_inb t h1) (k0_off54_inb t h1) (k0_off52 t) (k0_off53 t) (k0_off52_inb t h1) (k0_off53_inb t h1) (k0_off52_wordsfp8e4m3 t h1) (k0_off53_wordsfp8e4m3 t h1)
  else pure ⟨⟩
def gateT (t : Fin k0_t1_loop.trips) : Pg F (GU F) :=
  gateUp (eCol t) (eCol_lt t) (eB t) (k0_off130 t) (k0_off133 t) (k0_off130_inb t) (k0_off133_inb t) (k0_off131 t) (k0_off132 t) (k0_off131_inb t) (k0_off132_inb t) (k0_off131_wordsfp8e4m3 t) (k0_off132_wordsfp8e4m3 t) (k0_off135 t) (k0_off135_inb t)
def downT (t : Fin k0_t1_loop.trips) (g : GU F) : Pg F PUnit :=
  down (pCol t) (pCol_lt t) (k0_off136 t) (k0_off136_inb t) (k0_off137 t) (k0_off138 t) (k0_off137_inb t) (k0_off138_inb t) (k0_off137_wordsfp8e4m3 t) (k0_off138_wordsfp8e4m3 t) (k0_off140 t) (k0_off140_inb t) g
def startDC (t : Fin k0_t1_loop.trips) : Pg F PUnit :=
  if h2 : k0_cond2 t = 1#1 then
    startD (k0_off191 t) (k0_off191_inb t h2) (k0_off192 t) (k0_off193 t) (k0_off192_inb t h2) (k0_off193_inb t h2) (k0_off192_wordsfp8e4m3 t h2) (k0_off193_wordsfp8e4m3 t h2)
  else pure ⟨⟩

theorem bind_congr' {α β : Type} (p : Pg F α) {f g : α → Pg F β} (h : ∀ a, f a = g a) : (p >>= f) = (p >>= g) := congrArg _ (funext h)
theorem trip_cut (t : Fin k0_t1_loop.trips) : trip (F := F) t =
    (startC t >>= fun _ => kept >>= fun g => gateT t >>= fun g' => downT t g >>= fun _ => keep g' >>= fun _ => startDC t) := by
  have e2 : ∀ (x : Pg F PUnit), (x >>= fun _ => pure ⟨⟩) = x := fun x => bind_pure x
  unfold trip startC
  by_cases h1 : k0_cond1 t = 1#1
  · simp only [dif_pos h1]
    refine bind_congr' _ fun _ => bind_congr' _ fun g => bind_congr' _ fun g' => bind_congr' _ fun _ => bind_congr' _ fun _ => ?_
    unfold startDC
    by_cases h2 : k0_cond2 t = 1#1
    · simp only [dif_pos h2]; exact bind_pure _
    · simp only [dif_neg h2, bind_pure]
  · simp only [dif_neg h1, pure_bind]
    refine bind_congr' _ fun g => bind_congr' _ fun g' => bind_congr' _ fun _ => bind_congr' _ fun _ => ?_
    unfold startDC
    by_cases h2 : k0_cond2 t = 1#1
    · simp only [dif_pos h2]; exact bind_pure _
    · simp only [dif_neg h2, bind_pure]

theorem cond1_iff : ∀ t : Fin k0_t1_loop.trips, k0_cond1 t = 1#1 ↔ t.val < 32 := by decide
theorem cond2_iff : ∀ t : Fin k0_t1_loop.trips, k0_cond2 t = 1#1 ↔ t.val < 32 := by decide
theorem o51 : ∀ t : Fin k0_t1_loop.trips, k0_off51 t = ![0, (t.val + 8) % 8] := by decide
theorem o54 : ∀ t : Fin k0_t1_loop.trips, k0_off54 t = ![1, (t.val + 8) % 8] := by decide
theorem o52 : ∀ t : Fin k0_t1_loop.trips, k0_off52 t = ![(t.val + 8) % 8, 0, 0] := by decide
theorem o53 : ∀ t : Fin k0_t1_loop.trips, k0_off53 t = ![t.val + 8, 0, 0] := by decide
theorem o191 : ∀ t : Fin k0_t1_loop.trips, k0_off191 t = ![2, (t.val + 8) % 8] := by decide
theorem o192 : ∀ t : Fin k0_t1_loop.trips, k0_off192 t = ![(t.val + 8) % 8, 0, 0] := by decide
theorem o193 : ∀ t : Fin k0_t1_loop.trips, k0_off193 t = ![t.val + 8, 0, 0] := by decide
theorem o130 : ∀ t : Fin k0_t1_loop.trips, k0_off130 t = ![0, (t.val + 1) % 8] := by decide
theorem o133 : ∀ t : Fin k0_t1_loop.trips, k0_off133 t = ![1, (t.val + 1) % 8] := by decide
theorem o131 : ∀ t : Fin k0_t1_loop.trips, k0_off131 t = ![(t.val + 1) % 8, 0, 0] := by decide
theorem o132 : ∀ t : Fin k0_t1_loop.trips, k0_off132 t = ![t.val + 1, 0, 0] := by decide
theorem o135 : ∀ t : Fin k0_t1_loop.trips, k0_off135 t = ![t.val + 1, 0] := by decide
theorem o136 : ∀ t : Fin k0_t1_loop.trips, k0_off136 t = ![2, t.val % 8] := by decide
theorem o137 : ∀ t : Fin k0_t1_loop.trips, k0_off137 t = ![t.val % 8, 0, 0] := by decide
theorem o138 : ∀ t : Fin k0_t1_loop.trips, k0_off138 t = ![t.val, 0, 0] := by decide
theorem o140 : ∀ t : Fin k0_t1_loop.trips, k0_off140 t = ![t.val, 0] := by decide
theorem eB_eq : ∀ t : Fin k0_t1_loop.trips, eB t = BitVec.ofNat 32 (t.val + 1) := by decide

variable {I : Inp F} {W : (b : Ref sig .tc) → Buf (Elt F) ((c : Thread nD τ).loc b)}

theorem K78_le : ∀ k, K78 k → k = 7 ∨ k = 8 := fun _ h => h

theorem pwp_startC (t : Fin k0_t1_loop.trips) (S : KSt F c) (Q : PUnit → KSt F c → Prop) (hf : Fits I W) (J : LoopInv I W t.val S)
    (H : ∀ S', Sm [cc0_scratch7, cc0_scratch8] S S' → Contg I.wg (t.val + 1) (min (t.val + 9) 40) (S'.σ cc0_scratch7) → Contu I.wu (t.val + 1) (min (t.val + 9) 40) (S'.σ cc0_scratch8) →
      Ctl (Ph K78 (t.val + 1) (min (t.val + 9) 40) (t.val + 1) (min (t.val + 9) 40) t.val (min (t.val + 8) 40)) S'.lock S'.pend → Q ⟨⟩ S') :
    pwp (startC t) S Q := by
  have hC := J.ctl
  have hg := J.cg
  have hu := J.cu
  have ht : t.val < 39 := lt_of_lt_of_eq t.isLt trips_eq
  unfold startC
  by_cases h1 : k0_cond1 t = 1#1
  · rw [dif_pos h1]
    have h32 : t.val < 32 := (cond1_iff t).mp h1
    rw [show min (t.val + 8) 40 = t.val + 8 by omega] at hC hg hu
    rw [show min (t.val + 8) 40 = t.val + 8 by omega, show min (t.val + 9) 40 = t.val + 8 + 1 by omega] at H
    refine pwp_startGU ⟨t.val + 8, by omega⟩ _ _ _ _ _ _ _ _ _ _ (o51 t) (o54 t) (o52 t) (o53 t) S Q hC (by show t.val + 8 < _; omega) (by show t.val + 8 < _; omega) (by show _ ≤ t.val + 8; omega) (by show _ ≤ t.val + 8; omega)
      fun S' sm e7 e8 hC' => H S' sm ?_ ?_ hC'
    · rw [e7, J.base.hbm main_arg4 (by decide), hf.wg]
      exact hg.put _ (le_refl _) (by omega)
    · rw [e8, J.base.hbm main_arg5 (by decide), hf.wu]
      exact hu.put _ (le_refl _) (by omega)
  · rw [dif_neg h1]
    have h32 : ¬ t.val < 32 := fun h => h1 ((cond1_iff t).mpr h)
    rw [show min (t.val + 8) 40 = 40 by omega] at hC hg hu
    rw [show min (t.val + 8) 40 = 40 by omega, show min (t.val + 9) 40 = 40 by omega] at H
    exact H S (Sm.refl _ S) hg hu hC

theorem pwp_startDC (t : Fin k0_t1_loop.trips) (S : KSt F c) (Q : PUnit → KSt F c → Prop) (hf : Fits I W) (hb : Base I W S) {lg hg lu hu : ℕ}
    (hC : Ctl (Ph K78 lg hg lu hu (t.val + 1) (min (t.val + 8) 40)) S.lock S.pend) (hd : Contd I.wd t.val (min (t.val + 8) 40) (S.σ cc0_scratch9))
    (H : ∀ S', Sm [cc0_scratch9] S S' → Contd I.wd (t.val + 1) (min (t.val + 9) 40) (S'.σ cc0_scratch9) →
      Ctl (Ph K78 lg hg lu hu (t.val + 1) (min (t.val + 9) 40)) S'.lock S'.pend → Q ⟨⟩ S') :
    pwp (startDC t) S Q := by
  have ht : t.val < 39 := lt_of_lt_of_eq t.isLt trips_eq
  unfold startDC
  by_cases h1 : k0_cond2 t = 1#1
  · rw [dif_pos h1]
    have h32 : t.val < 32 := (cond2_iff t).mp h1
    rw [show min (t.val + 8) 40 = t.val + 8 by omega] at hC hd
    rw [show min (t.val + 9) 40 = t.val + 8 + 1 by omega] at H
    refine pwp_startD ⟨t.val + 8, by omega⟩ _ _ _ _ _ _ _ _ (o191 t) (o192 t) (o193 t) S Q hC (by show t.val + 8 < _; omega) (by show _ ≤ t.val + 8; omega)
      fun S' sm e9 hC' => H S' sm ?_ hC'
    rw [e9, hb.hbm main_arg8 (by decide), hf.wd]
    exact hd.put _ (by omega) (by omega)
  · rw [dif_neg h1]
    have h32 : ¬ t.val < 32 := fun h => h1 ((cond2_iff t).mpr h)
    rw [show min (t.val + 8) 40 = 40 by omega] at hC hd
    rw [show min (t.val + 9) 40 = 40 by omega] at H
    exact H S (Sm.refl _ S) (fun e h1 h2 => hd e (by omega) h2) hC

set_option maxHeartbeats 1000000 in
theorem pwp_trip (t : Fin k0_t1_loop.trips) (S : KSt F c) (hf : Fits I W) (J : LoopInv I W t.val S) : pwp (trip t) S fun _ S' => LoopInv I W (t.val + 1) S' := by
  have ht : t.val < 39 := lt_of_lt_of_eq t.isLt trips_eq
  rw [trip_cut, pwp_bind]
  refine pwp_startC t S _ hf J fun S1 sm1 hg1 hu1 hC1 => ?_
  have b1 := J.base.sm sm1 (by decide)
  rw [pwp_bind]
  refine pwp_kept S1 _ (hC1.free _ (by decide) (by decide)) (hC1.free _ (by decide) (by decide)) (hC1.free _ (by decide) (by decide)) ?_
  rw [pwp_bind]
  refine pwp_gateUp ⟨t.val + 1, by omega⟩ _ _ _ _ _ _ _ _ _ _ _ _ _ _ _ (eCol_eq t) (eB_eq t) (o130 t) (o133 t) (o131 t) (o132 t) (o135 t) S1 _ hC1 K78_le
    (by show t.val + 1 < _; omega) (by show t.val + 1 < _; omega) (by show _ ≤ t.val + 1 + 8; omega) (by show _ ≤ t.val + 1 + 8; omega)
    (fun i hi => by rw [show chAt S1 i (t.val + 1) = I.ch (i2 i (t.val + 1)) from congrFun b1.ch _]; exact hf.lt _ (by omega) i hi) I.wg I.wu hg1 hu1 fun S2 sm2 e15 e16 hC2 => ?_
  have b2 := b1.sm sm2 (by decide)
  have etb1 : (fun i => (chAt S1 i (t.val + 1)).toNat) = tb I (t.val + 1) := funext fun i => congrArg BitVec.toNat (congrFun b1.ch _)
  have k15 : S1.σ cc0_scratch15 = gbAt I (t.val + 1) := (sm1 _ (by decide)).trans J.gb
  have k16 : S1.σ cc0_scratch16 = abAt I (t.val + 1) := (sm1 _ (by decide)).trans J.ab
  have e15' : S2.σ cc0_scratch15 = gbAt I (t.val + 2) := by
    refine e15.trans ?_
    show gFold (fun i => (chAt S1 i (t.val + 1)).toNat) _ _ 25 = _
    rw [etb1, k15, b1.tok]; rfl
  have e16' : S2.σ cc0_scratch16 = abAt I (t.val + 2) := by
    refine e16.trans ?_
    show aFold (fun i => (chAt S1 i (t.val + 1)).toNat) _ _ 25 = _
    rw [etb1, k16, b1.aux]; rfl
  rw [pwp_bind]
  have k9 : S2.σ cc0_scratch9 = S.σ cc0_scratch9 := (sm2 _ (by decide)).trans (sm1 _ (by decide))
  refine pwp_down ⟨t.val, by omega⟩ _ _ _ _ _ _ _ _ _ _ _ _ (pCol_eq t) (o136 t) (o137 t) (o138 t) (o140 t) _ S2 _ hC2 K78_le (by show t.val < _; omega) (by show _ ≤ t.val + 8; omega)
    (fun i hi => by rw [show chAt S2 i t.val = I.ch (i2 i t.val) from congrFun b2.ch _]; exact hf.lt _ (by omega) i hi) I.wd (by rw [k9]; exact J.cd) fun S3 sm3 e21 hC3 => ?_
  have b3 := b2.sm sm3 (by decide)
  have etb2 : (fun i => (chAt S2 i t.val).toNat) = tb I t.val := funext fun i => congrArg BitVec.toNat (congrFun b2.ch _)
  have e21' : S3.σ cc0_scratch21 = accAt I (t.val + 1) := by
    refine e21.trans ?_
    show accFold (fun i => (chAt S2 i t.val).toNat) (ybOf (yV (S1.σ cc0_scratch17) (S1.σ cc0_scratch18) (S1.σ cc0_scratch19) (slabd I.wd t.val) (row1024 (S2.σ cc0_scratch6) t.val))) _ 25 = _
    rw [etb2, b2.sd, (sm2 cc0_scratch21 (by decide)).trans ((sm1 _ (by decide)).trans J.acc), (sm1 cc0_scratch17 (by decide)).trans J.hc, (sm1 cc0_scratch18 (by decide)).trans J.hs, (sm1 cc0_scratch19 (by decide)).trans J.r]
    rfl
  rw [pwp_bind]
  refine pwp_keep _ S3 _ (hC3.free _ (by decide) (by decide)) (hC3.free _ (by decide) (by decide)) (hC3.free _ (by decide) (by decide)) fun S4 u4 e17 e18 e19 => ?_
  have b4 := b3.sm u4.sm (by decide)
  have k9' : S4.σ cc0_scratch9 = S.σ cc0_scratch9 := (u4.sm _ (by decide)).trans ((sm3 _ (by decide)).trans k9)
  refine pwp_startDC t S4 _ hf b4 (u4.ctl hC3) (by rw [k9']; exact J.cd) fun S5 sm5 hd5 hC5 => ?_
  have b5 := b4.sm sm5 (by decide)
  have gu : guOf (F := F) (t.val + 1) (S2.σ cc0_scratch15) (S2.σ cc0_scratch16) I.wg I.wu (S1.σ cc0_scratch4) (S1.σ cc0_scratch5) = guAt I (t.val + 1) := by
    rw [e15', e16', b1.sg, b1.su]; rfl
  have s25 : Sm [cc0_scratch20, cc0_scratch21, cc0_scratch17, cc0_scratch18, cc0_scratch19, cc0_scratch9] S2 S5 := (sm3.trans u4.sm).trans sm5
  refine ⟨b5, ?_, ?_, ?_, hd5, ?_, ?_, ?_, ?_, ?_, ?_⟩
  · exact hC5
  · have e : S5.σ cc0_scratch7 = S1.σ cc0_scratch7 := (s25 _ (by decide)).trans (sm2 _ (by decide))
    rw [e]; exact fun e h1 h2 => hg1 e (by omega) h2
  · have e : S5.σ cc0_scratch8 = S1.σ cc0_scratch8 := (s25 _ (by decide)).trans (sm2 _ (by decide))
    rw [e]; exact fun e h1 h2 => hu1 e (by omega) h2
  · exact (s25 _ (by decide)).trans e15'
  · exact (s25 _ (by decide)).trans e16'
  · exact ((sm5 _ (by decide)).trans e17).trans (congrArg (fun g : GU F => g.1) gu)
  · exact ((sm5 _ (by decide)).trans e18).trans (congrArg (fun g : GU F => g.2.1) gu)
  · exact ((sm5 _ (by decide)).trans e19).trans (congrArg (fun g : GU F => g.2.2) gu)
  · exact ((sm5 _ (by decide)).trans (u4.sm _ (by decide))).trans e21'

end Cert.Kernel.Hand
-- ==== Proof.BodyRun.lean ====
/-
  The whole body: the prologue up to the loop, the loop, and the epilogue to the results.
-/
module

public import proofs.«01_k».proof.Proof.Prologue
public import proofs.«01_k».proof.Proof.LoopRun
public import proofs.«01_k».proof.Proof.Launch

@[expose] public section

noncomputable section

namespace Cert.Kernel.Hand

open Cert.Kernel Cert.Kernel.Gen
open Idealize.ShloMosaic Idealize.ShloMosaic.TcCoe Idealize.ShloMosaic.Tactic
open Idealize.SL.Sem
open Idealize.ShloMosaic.Pure (St Pend ends pwp pwp_bind pwp_mono pwp_for)

variable {F : FTy → Type} [FloatOps F] {c : Dev nD}

attribute [local irreducible] gateUp down keep kept startGU startD

variable {I : Inp F} {W : (b : Ref sig .tc) → Buf (Elt F) ((c : Thread nD τ).loc b)}

/-! ### The first eight experts' transfers -/

theorem pwp_startE (e : Fin 8) (S : KSt F c) (Q : PUnit → KSt F c → Prop) {K : Fin 11 → Prop} (hC : Ctl (Ph K 0 e.val 0 e.val 0 e.val) S.lock S.pend)
    (hw4 : S.σ main_arg4 = I.wg) (hw5 : S.σ main_arg5 = I.wu) (hw8 : S.σ main_arg8 = I.wd)
    (hg : Contg I.wg 0 e.val (S.σ cc0_scratch7)) (hu : Contu I.wu 0 e.val (S.σ cc0_scratch8)) (hd : Contd I.wd 0 e.val (S.σ cc0_scratch9))
    (H : ∀ S', Sm [cc0_scratch7, cc0_scratch8, cc0_scratch9] S S' → Contg I.wg 0 (e.val + 1) (S'.σ cc0_scratch7) → Contu I.wu 0 (e.val + 1) (S'.σ cc0_scratch8) →
      Contd I.wd 0 (e.val + 1) (S'.σ cc0_scratch9) → Ctl (Ph K 0 (e.val + 1) 0 (e.val + 1) 0 (e.val + 1)) S'.lock S'.pend → Q ⟨⟩ S') :
    pwp (startE (F := F) e) S Q := by
  have he := e.isLt
  have hs : e.val = (slot8 (e.castLE (by decide) : Fin 40)).val := (Nat.mod_eq_of_lt he).symm
  unfold startE
  rw [pwp_bind]
  refine pwp_startGU (e.castLE (by decide) : Fin 40) _ _ _ _ _ _ _ _ _ _ (by rw [← hs]) (by rw [← hs]) (by rw [← hs]) rfl S _ hC (by show e.val < _; omega) (by show e.val < _; omega) (Nat.zero_le _) (Nat.zero_le _)
    fun S1 sm1 e7 e8 hC1 => ?_
  refine pwp_startD (e.castLE (by decide) : Fin 40) _ _ _ _ _ _ _ _ (by rw [← hs]) (by rw [← hs]) rfl S1 _ hC1 (by show e.val < _; omega) (Nat.zero_le _) fun S2 sm2 e9 hC2 => ?_
  refine H S2 (fun b hb => (sm2 b fun h => hb (by simp only [List.mem_cons, List.not_mem_nil, or_false] at h ⊢; tauto)).trans (sm1 b fun h => hb (by simp only [List.mem_cons, List.not_mem_nil, or_false] at h ⊢; tauto))) ?_ ?_ ?_ hC2
  · rw [sm2 cc0_scratch7 (by decide), e7, hw4]
    exact hg.put _ (le_refl _) (by omega)
  · rw [sm2 cc0_scratch8 (by decide), e8, hw5]
    exact hu.put _ (le_refl _) (by omega)
  · rw [e9, sm1 main_arg8 (by decide), hw8, sm1 cc0_scratch9 (by decide)]
    exact hd.put _ (le_refl _) (by omega)

theorem pwp_startEs (S : KSt F c) (Q : PUnit → KSt F c → Prop) {K : Fin 11 → Prop} (hC : Ctl (Ph K 0 0 0 0 0 0) S.lock S.pend)
    (hw4 : S.σ main_arg4 = I.wg) (hw5 : S.σ main_arg5 = I.wu) (hw8 : S.σ main_arg8 = I.wd)
    (H : ∀ S', Sm [cc0_scratch7, cc0_scratch8, cc0_scratch9] S S' → Contg I.wg 0 8 (S'.σ cc0_scratch7) → Contu I.wu 0 8 (S'.σ cc0_scratch8) →
      Contd I.wd 0 8 (S'.σ cc0_scratch9) → Ctl (Ph K 0 8 0 8 0 8) S'.lock S'.pend → Q ⟨⟩ S') :
    pwp (seqFin 8 (startE (F := F))) S Q := by
  refine pwp_seqFin 8 _ (fun k S' => Sm [cc0_scratch7, cc0_scratch8, cc0_scratch9] S S' ∧ Contg I.wg 0 k (S'.σ cc0_scratch7) ∧ Contu I.wu 0 k (S'.σ cc0_scratch8) ∧
      Contd I.wd 0 k (S'.σ cc0_scratch9) ∧ Ctl (Ph K 0 k 0 k 0 k) S'.lock S'.pend) S Q
    ⟨Sm.refl _ _, fun e _ h => absurd h (Nat.not_lt_zero _), fun e _ h => absurd h (Nat.not_lt_zero _), fun e _ h => absurd h (Nat.not_lt_zero _), hC⟩ ?_
    (fun S' h => H S' h.1 h.2.1 h.2.2.1 h.2.2.2.1 h.2.2.2.2)
  rintro e S' ⟨sm, hg, hu, hd, hC'⟩
  refine pwp_startE e S' _ hC' ((sm _ (by decide)).trans hw4) ((sm _ (by decide)).trans hw5) ((sm _ (by decide)).trans hw8) hg hu hd fun S2 sm2 g2 u2 d2 C2 =>
    ⟨fun b hb => (sm2 b hb).trans (sm b hb), g2, u2, d2, C2⟩

/-! ### The zeroed buffers -/

theorem pwp_zero (S : KSt F c) (Q : PUnit → KSt F c → Prop) (l21 : S.lock cc0_scratch21 = ∅) (l15 : S.lock cc0_scratch15 = ∅) (l16 : S.lock cc0_scratch16 = ∅)
    (H : ∀ S', Upd [cc0_scratch21, cc0_scratch15, cc0_scratch16] S S' → S'.σ cc0_scratch21 = zeros (F := F) S2048x128 → S'.σ cc0_scratch15 = zeros (F := F) S256x128 → S'.σ cc0_scratch16 = zeros (F := F) S32x128 → Q ⟨⟩ S') :
    pwp (zero (F := F)) S Q := by
  refine ⟨lk l21, lk l21, lk l15, lk l15, lk l16, lk l16, H _ ((((Upd.refl _ S).set (b := cc0_scratch21) (by decide) _).set (b := cc0_scratch15) (by decide) _).set (b := cc0_scratch16) (by decide) _) ?_ ?_ ?_⟩
  · refine (set_σ_ne _ (by decide) _).trans ((set_σ_ne _ (by decide) _).trans ((set_σ _ _ _).trans ?_))
    simp only [shapeCast_self]
    exact write_eq vAcc (Rect.unit (s := S2048x128) ![0, 0] S2048x128.size inb_S2048x128_S2048x128_0_0) _ _ _ (fun j => rfl) (fun q hq => absurd (unit0 _ q) (hq q))
  · refine (set_σ_ne _ (by decide) _).trans ((set_σ _ _ _).trans ?_)
    simp only [shapeCast_self]
    exact write_eq vGb (Rect.unit (s := S256x128) ![0, 0] S256x128.size inb_S256x128_S256x128_0_0) _ _ _ (fun j => rfl) (fun q hq => absurd (unit0 _ q) (hq q))
  · refine (set_σ _ _ _).trans ?_
    simp only [shapeCast_self]
    exact write_eq vAb (Rect.unit (s := S32x128) ![0, 0] S32x128.size inb_S32x128_S32x128_0_0) _ _ _ (fun j => rfl) (fun q hq => absurd (unit0 _ q) (hq q))

/-! ### The scales as a row, and the router -/

theorem wr_diag (k : Fin 2) (f : Vec F S1x256 .f32) (w : Vec F S1x128 .f32) :
    (vScale.access (Rect.unit (s := S1x256) ![0, 128 * k.val] S1x128.size (inbDs k))).write (Elt F) f (shapeCast S1x128 w shapeCasts_S1x128_S1x128) Finset.univ
      = fun q => if (q 1).val / 128 = k.val then w (i2 0 ((q 1).val % 128)) else f q := by
  rw [shapeCast_self]
  refine write_eq vScale (Rect.unit (s := S1x256) ![0, 128 * k.val] S1x128.size (inbDs k)) f _ w (fun x => ?_) (fun q hq => ?_)
  · have h0 : (x 0).val < 1 := (x 0).isLt
    have h1 : (x 1).val < 128 := (x 1).isLt
    show (if (128 * k.val + 1 * (x 1).val) / 128 = k.val then _ else _) = w _
    rw [if_pos (by omega)]
    refine congrArg w (Eq.symm (eq_i2 _ _ _ ?_ ?_))
    · omega
    · show (x 1).val = (128 * k.val + 1 * (x 1).val) % 128; omega
  · have h0 : (q 0).val < 1 := (q 0).isLt
    have h1 : (q 1).val < 256 := (q 1).isLt
    refine if_neg fun h => ?_
    refine hq (i2 (a := 1) (b := 128) 0 ((q 1).val % 128)) (ext2 ?_ ?_)
    · show 0 + 1 * (0 % 1) = _; omega
    · show 128 * k.val + 1 * ((q 1).val % 128 % 128) = _; omega

theorem pwp_diags (S : KSt F c) (Q : PUnit → KSt F c → Prop) (ha : S.σ cc0_scratch14 = aux0 I) (l14 : S.lock cc0_scratch14 = ∅) (l12 : S.lock cc0_scratch12 = ∅)
    (H : ∀ S', Upd [cc0_scratch12] S S' → S'.σ cc0_scratch12 = scaleAll I → Q ⟨⟩ S') : pwp (seqFin 2 (diag (F := F))) S Q := by
  refine pwp_seqFin 2 _ (fun n S' => Upd [cc0_scratch12] S S' ∧ ∀ q : S1x256.Idx, (q 1).val / 128 < n → (S'.σ cc0_scratch12 : Vec F S1x256 .f32) q = scaleAll I q) S Q
    ⟨Upd.refl _ _, fun q h => absurd h (Nat.not_lt_zero _)⟩ ?_ (fun S' h => H S' h.1 (funext fun q => h.2 q (by have : (q 1).val < 256 := (q 1).isLt; omega)))
  rintro k S' ⟨hu, hy⟩
  have lA : S'.lock cc0_scratch14 = ∅ := by rw [hu.lock]; exact l14
  have lS : S'.lock cc0_scratch12 = ∅ := by rw [hu.lock]; exact l12
  refine ⟨lk lA, lk lS, lk lS, hu.set (b := cc0_scratch12) (by decide) _, fun q hq => ?_⟩
  have hb : (fun j => (S'.σ cc0_scratch14 : Vec F S256x128 .f32) ((Rect.unit (s := S256x128) ![128 * k.val, 0] S128x128.size (inbDg k)).emb j)) = fun j => aux0 I (i2 (128 * k.val + (j 0).val) (j 1).val) := by
    funext j
    refine (congrFun ((hu.sm cc0_scratch14 (by decide)).trans ha) _).trans (congrArg (aux0 I) (eq_i2 _ _ _ ?_ ?_))
    · show 128 * k.val + 1 * (j 0).val = _; omega
    · show 0 + 1 * (j 1).val = _; omega
  have hw := congrFun (wr_diag (F := F) k (S'.σ cc0_scratch12) (diagV (fun j => (S'.σ cc0_scratch14 : Vec F S256x128 .f32) ((Rect.unit (s := S256x128) ![128 * k.val, 0] S128x128.size (inbDg k)).emb j)))) q
  refine (congrFun (set_σ S' cc0_scratch12 _) q).trans (hw.trans ?_)
  by_cases e : (q 1).val / 128 = k.val
  · refine (if_pos e).trans ?_
    show _ = diagV (fun j => aux0 I (i2 (128 * ((q 1).val / 128) + (j 0).val) (j 1).val)) _
    rw [e]
    exact congrFun (congrArg (diagV (F := F)) hb) _
  · exact (if_neg e).trans (hy q (by omega))

theorem pwp_probs (S : KSt F c) (Q : PUnit → KSt F c → Prop) (hx : S.σ cc0_scratch10 = xnAll I) (hw : S.σ cc0_scratch2 = I.wr) (ha : S.σ cc0_scratch14 = aux0 I)
    (l10 : S.lock cc0_scratch10 = ∅) (l2 : S.lock cc0_scratch2 = ∅) (l14 : S.lock cc0_scratch14 = ∅)
    (H : ∀ S', Upd [cc0_scratch14] S S' → S'.σ cc0_scratch14 = auxAll I → Q ⟨⟩ S') : pwp (probs (F := F)) S Q := by
  refine ⟨lk l10, lk l2, lk l14, lk l14, H _ ((Upd.refl _ S).set (b := cc0_scratch14) (by decide) _) ?_⟩
  refine (set_σ _ _ _).trans ?_
  rw [shapeCast_self]
  have e10 : (fun j => (S.σ cc0_scratch10 : Vec F S256x1024 .f32) ((Rect.unit (s := S256x1024) ![0, 0] S256x1024.size inb_S256x1024_S256x1024_0_0).emb j)) = xnAll I := by
    rw [hx]; exact funext fun j => congrArg (xnAll I) (unit0 _ j)
  have e2 : (fun j => (S.σ cc0_scratch2 : Vec F S40x1024 .f32) ((Rect.unit (s := S40x1024) ![0, 0] S40x1024.size inb_S40x1024_S40x1024_0_0).emb j)) = I.wr := by
    rw [hw]; exact funext fun j => congrArg I.wr (unit0 _ j)
  have ep := congrArg₂ (probV (F := F)) e10 e2
  refine write_eq vAux (Rect.unit (s := S256x128) ![0, 0] S256x40.size inb_S256x128_S256x40_0_0) _ (auxAll I) _ (fun j => ?_) (fun q hq => ?_)
  · have h1 : (j 1).val < 40 := (j 1).isLt
    show (if 0 + 1 * (j 1).val < 40 then _ else _) = _
    rw [if_pos (by omega)]
    refine (congrArg (probV (xnAll I) I.wr) (Eq.symm (eq_i2 j _ _ ?_ ?_))).trans (congrFun ep j).symm
    · show (j 0).val = 0 + 1 * (j 0).val; omega
    · show (j 1).val = 0 + 1 * (j 1).val; omega
  · have h0 : (q 0).val < 256 := (q 0).isLt
    refine (if_neg fun h => ?_).trans (congrFun ha q).symm
    refine hq (i2 (a := 256) (b := 40) (q 0).val (q 1).val) (ext2 ?_ ?_)
    · show 0 + 1 * ((q 0).val % 256) = _; omega
    · show 0 + 1 * ((q 1).val % 40) = _; omega

/-- The copies out of the codes and the scales. -/
theorem pwp_outsA {lg hg lu hu ld hd : ℕ} (S : KSt F c) (Q : PUnit → KSt F c → Prop) (hC : Ctl (Ph K0 lg hg lu hu ld hd) S.lock S.pend)
    (H : ∀ S', Sm [main_v3_2, main_v3_3] S S' → S'.σ main_v3_2 = S.σ cc0_scratch11 → S'.σ main_v3_3 = S.σ cc0_scratch12 → Ctl (Ph K78 lg hg lu hu ld hd) S'.lock S'.pend → Q ⟨⟩ S') :
    pwp (outsA (F := F)) S Q := by
  refine pwp_enq vCodes aCodes _ _ _ _ (.w 7) _ S _ hC (cmp_ph _ (by simp)) rfl rfl rfl (show main_v3_2 ≠ cc0_scratch11 by decide) (by decide) fun S1 s1 hD1 => ?_
  have hC1 := ph_insert hD1
  refine pwp_enq vScale aScale _ _ _ _ (.w 8) _ S1 _ hC1 (cmp_ph _ (by simp)) rfl rfl rfl (show main_v3_3 ≠ cc0_scratch12 by decide) (by decide) fun S2 s2 hD2 => ?_
  have hC2 := ph_insert hD2
  replace s1 : S1.σ = Function.update S.σ main_v3_2 _ := s1
  replace s2 : S2.σ = Function.update S1.σ main_v3_3 _ := s2
  refine H S2 (((Sm.refl _ S).upd s1 (by decide)).upd s2 (by decide)) ?_ ?_ (ph_congr hC2 (by decide))
  · rw [s2]
    refine (Function.update_of_ne (by decide) ..).trans ?_
    rw [s1]
    exact (Function.update_self ..).trans (View.write_whole_univ main_v3_2 (S.σ main_v3_2) (S.σ cc0_scratch11))
  · rw [s2]
    refine (Function.update_self ..).trans ((View.write_whole_univ main_v3_3 (S1.σ main_v3_3) (S1.σ cc0_scratch12)).trans ?_)
    rw [s1]; exact Function.update_of_ne (by decide) ..

/-- The state the body starts from. -/
structure Start (I : Inp F) (W : (b : Ref sig .tc) → Buf (Elt F) ((c : Thread nD τ).loc b)) (S : KSt F c) : Prop where
  hbm : ∀ b, b ∈ [main_arg0, main_arg1, main_arg2, main_arg3, main_arg4, main_arg5, main_arg6, main_arg7, main_arg8, main_arg9, main_v0, main_v1, main_v2] → S.σ b = W b
  lock : ∀ b, S.lock b = ∅
  pend : ∀ s, S.pend s = none

theorem Start.ctl {S : KSt F c} (h : Start I W S) : Ctl (Ph K0 0 0 0 0 0 0) S.lock S.pend where
  cmp := fun a b ha => by
    match a with
    | .w k => exact ha.elim
    | .g e => exact absurd ha.2 (Nat.not_lt_zero _)
    | .u e => exact absurd ha.2 (Nat.not_lt_zero _)
    | .d e => exact absurd ha.2 (Nat.not_lt_zero _)
  some := fun a ha => by
    match a with
    | .w k => exact ha.elim
    | .g e => exact absurd ha.2 (Nat.not_lt_zero _)
    | .u e => exact absurd ha.2 (Nat.not_lt_zero _)
    | .d e => exact absurd ha.2 (Nat.not_lt_zero _)
  none := fun s _ => h.pend s
  lock := fun b x => by
    rw [h.lock b]
    constructor
    · intro hx; exact absurd hx (Finset.notMem_empty x)
    · rintro ⟨a, ha, -⟩
      match a with
      | .w k => exact ha.elim
      | .g e => exact absurd ha.2 (Nat.not_lt_zero _)
      | .u e => exact absurd ha.2 (Nat.not_lt_zero _)
      | .d e => exact absurd ha.2 (Nat.not_lt_zero _)

theorem pwp_chunks (S : KSt F c) (Q : PUnit → KSt F c → Prop) (hx : S.σ cc0_scratch0 = I.x) (hgn : S.σ cc0_scratch1 = I.gain)
    (l0 : S.lock cc0_scratch0 = ∅) (l1 : S.lock cc0_scratch1 = ∅) (l10 : S.lock cc0_scratch10 = ∅) (l11 : S.lock cc0_scratch11 = ∅) (l13 : S.lock cc0_scratch13 = ∅) (l14 : S.lock cc0_scratch14 = ∅)
    (H : ∀ S', Upd [cc0_scratch10, cc0_scratch11, cc0_scratch14, cc0_scratch13] S S' → Rows I 8 S' → Q ⟨⟩ S') : pwp (seqFin 8 (chunk (F := F))) S Q := by
  refine pwp_seqFin 8 _ (fun n S' => Upd [cc0_scratch10, cc0_scratch11, cc0_scratch14, cc0_scratch13] S S' ∧ Rows I n S') S Q
    ⟨Upd.refl _ _, ⟨fun q h => absurd h (Nat.not_lt_zero _), fun q h => absurd h (Nat.not_lt_zero _), fun q h => absurd h (Nat.not_lt_zero _), fun q h => absurd h (Nat.not_lt_zero _)⟩⟩ ?_ (fun S' h => H S' h.1 h.2)
  rintro k S' ⟨hu, hR⟩
  have l : ∀ b, S.lock b = ∅ → S'.lock b = ∅ := fun b h => by rw [hu.lock]; exact h
  refine pwp_chunk I k S' _ ((hu.sm _ (by decide)).trans hx) ((hu.sm _ (by decide)).trans hgn) hR (l _ l0) (l _ l1) (l _ l10) (l _ l11) (l _ l13) (l _ l14) fun S2 u2 R2 =>
    ⟨⟨fun b hb => (u2.sm b hb).trans (hu.sm b hb), u2.lock.trans hu.lock, u2.pend.trans hu.pend⟩, R2⟩

set_option maxHeartbeats 2000000 in
theorem pwp_pre (S : KSt F c) (Q : PUnit → KSt F c → Prop) (hf : Fits I W) (h : Start I W S) (H : ∀ S', LoopInv I W 0 S' → Q ⟨⟩ S') : pwp (pre (F := F)) S Q := by
  unfold pre
  rw [pwp_bind]
  refine pwp_smallStart S _ h.ctl fun S1 m1 e0 e1 e2 e3 e4 e5 e6 hC1 => ?_
  rw [pwp_bind]
  refine pwp_startEs (I := I) S1 _ hC1 ((m1 _ (by decide)).trans ((h.hbm _ (by decide)).trans hf.wg)) ((m1 _ (by decide)).trans ((h.hbm _ (by decide)).trans hf.wu)) ((m1 _ (by decide)).trans ((h.hbm _ (by decide)).trans hf.wd))
    fun S2 m2 g2 u2 d2 hC2 => ?_
  rw [pwp_bind]
  refine pwp_zero S2 _ (hC2.free _ (by decide) (by decide)) (hC2.free _ (by decide) (by decide)) (hC2.free _ (by decide) (by decide)) fun S3 m3 z21 z15 z16 => ?_
  have hC3 := m3.ctl hC2
  rw [pwp_bind]
  refine pwp_smallWait S3 _ hC3 fun S4 s4 hC4 => ?_
  have m13 : Sm [cc0_scratch7, cc0_scratch8, cc0_scratch9, cc0_scratch21, cc0_scratch15, cc0_scratch16] S1 S4 := (m2.trans m3.sm).of_σ s4
  have k0 : S4.σ cc0_scratch0 = I.x := (m13 _ (by decide)).trans (e0.trans ((h.hbm _ (by decide)).trans hf.x))
  have k1 : S4.σ cc0_scratch1 = I.gain := (m13 _ (by decide)).trans (e1.trans ((h.hbm _ (by decide)).trans hf.gain))
  have k2 : S4.σ cc0_scratch2 = I.wr := (m13 _ (by decide)).trans (e2.trans ((h.hbm _ (by decide)).trans hf.wr))
  have k3 : S4.σ cc0_scratch3 = I.ch := (m13 _ (by decide)).trans (e3.trans ((h.hbm _ (by decide)).trans hf.ch))
  have k4 : S4.σ cc0_scratch4 = I.sg := (m13 _ (by decide)).trans (e4.trans ((h.hbm _ (by decide)).trans hf.sg))
  have k5 : S4.σ cc0_scratch5 = I.su := (m13 _ (by decide)).trans (e5.trans ((h.hbm _ (by decide)).trans hf.su))
  have k6 : S4.σ cc0_scratch6 = I.sd := (m13 _ (by decide)).trans (e6.trans ((h.hbm _ (by decide)).trans hf.sd))
  rw [pwp_bind]
  refine pwp_chunks (I := I) S4 _ k0 k1 (hC4.free _ (by decide) (by decide)) (hC4.free _ (by decide) (by decide)) (hC4.free _ (by decide) (by decide)) (hC4.free _ (by decide) (by decide)) (hC4.free _ (by decide) (by decide)) (hC4.free _ (by decide) (by decide))
    fun S5 m5 R5 => ?_
  have hC5 := m5.ctl hC4
  have x10 : S5.σ cc0_scratch10 = xnAll I := funext fun q => R5.xn q (by have : (q 0).val < 256 := (q 0).isLt; omega)
  have x11 : S5.σ cc0_scratch11 = codesAll I := funext fun q => R5.codes q (by have : (q 0).val < 256 := (q 0).isLt; omega)
  have x14 : S5.σ cc0_scratch14 = aux0 I := funext fun q => R5.aux q (by have : (q 0).val < 256 := (q 0).isLt; omega)
  have x13 : S5.σ cc0_scratch13 = tokAll I := funext fun q => R5.tok q (by have : (q 0).val < 2048 := (q 0).isLt; omega)
  rw [pwp_bind]
  refine pwp_diags (I := I) S5 _ x14 (hC5.free _ (by decide) (by decide)) (hC5.free _ (by decide) (by decide)) fun S6 m6 x12 => ?_
  have hC6 := m6.ctl hC5
  rw [pwp_bind]
  refine pwp_probs (I := I) S6 _ ((m6.sm _ (by decide)).trans x10) ((m6.sm _ (by decide)).trans ((m5.sm _ (by decide)).trans k2)) ((m6.sm _ (by decide)).trans x14)
    (hC6.free _ (by decide) (by decide)) (hC6.free _ (by decide) (by decide)) (hC6.free _ (by decide) (by decide)) fun S7 m7 y14 => ?_
  have hC7 := m7.ctl hC6
  have m57 : Sm [cc0_scratch12, cc0_scratch14] S5 S7 := m6.sm.trans m7.sm
  rw [pwp_bind]
  refine pwp_outsA S7 _ hC7 fun S8 m8 o2 o3 hC8 => ?_
  have m48 : Sm [cc0_scratch10, cc0_scratch11, cc0_scratch14, cc0_scratch13, cc0_scratch12, cc0_scratch14, main_v3_2, main_v3_3] S4 S8 := (m5.sm.trans m57).trans m8
  have mS8 : Sm ([cc0_scratch0, cc0_scratch1, cc0_scratch2, cc0_scratch3, cc0_scratch4, cc0_scratch5, cc0_scratch6] ++ ([cc0_scratch7, cc0_scratch8, cc0_scratch9, cc0_scratch21, cc0_scratch15, cc0_scratch16] ++ [cc0_scratch10, cc0_scratch11, cc0_scratch14, cc0_scratch13, cc0_scratch12, cc0_scratch14, main_v3_2, main_v3_3])) S S8 :=
    m1.trans (m13.trans m48)
  have b8 : Base I W S8 := {
    hbm := fun b hb => (mS8 b ((by decide : ∀ b ∈ [main_arg0, main_arg1, main_arg2, main_arg3, main_arg4, main_arg5, main_arg6, main_arg7, main_arg8, main_arg9, main_v0, main_v1, main_v2], b ∉ ([cc0_scratch0, cc0_scratch1, cc0_scratch2, cc0_scratch3, cc0_scratch4, cc0_scratch5, cc0_scratch6] ++ ([cc0_scratch7, cc0_scratch8, cc0_scratch9, cc0_scratch21, cc0_scratch15, cc0_scratch16] ++ [cc0_scratch10, cc0_scratch11, cc0_scratch14, cc0_scratch13, cc0_scratch12, cc0_scratch14, main_v3_2, main_v3_3]))) b hb)).trans (h.hbm b hb)
    x := (m48 _ (by decide)).trans k0
    ch := (m48 _ (by decide)).trans k3
    sg := (m48 _ (by decide)).trans k4
    su := (m48 _ (by decide)).trans k5
    sd := (m48 _ (by decide)).trans k6
    tok := (m8 _ (by decide)).trans ((m57 _ (by decide)).trans x13)
    aux := (m8 _ (by decide)).trans y14
    oc := o2.trans ((m57 _ (by decide)).trans x11)
    os := o3.trans ((m7.sm _ (by decide)).trans x12) }
  have c7 : S8.σ cc0_scratch7 = S2.σ cc0_scratch7 := (m48 _ (by decide)).trans ((congrFun s4 _).trans (m3.sm _ (by decide)))
  have c8 : S8.σ cc0_scratch8 = S2.σ cc0_scratch8 := (m48 _ (by decide)).trans ((congrFun s4 _).trans (m3.sm _ (by decide)))
  have c9 : S8.σ cc0_scratch9 = S2.σ cc0_scratch9 := (m48 _ (by decide)).trans ((congrFun s4 _).trans (m3.sm _ (by decide)))
  have c15 : S8.σ cc0_scratch15 = gbAt I 0 := (m48 _ (by decide)).trans ((congrFun s4 _).trans z15)
  have c16 : S8.σ cc0_scratch16 = abAt I 0 := (m48 _ (by decide)).trans ((congrFun s4 _).trans z16)
  have c21 : S8.σ cc0_scratch21 = accAt I 0 := (m48 _ (by decide)).trans ((congrFun s4 _).trans z21)
  rw [pwp_bind]
  unfold gate0
  refine pwp_gateUp ⟨0, by decide⟩ _ _ _ _ _ _ _ _ _ _ _ _ _ _ _ rfl rfl rfl rfl rfl rfl rfl S8 _ hC8 K78_le (by decide) (by decide) (by decide) (by decide)
    (fun i hi => by rw [show chAt S8 i 0 = I.ch (i2 i 0) from congrFun b8.ch _]; exact hf.lt _ (by omega) i hi) I.wg I.wu (by rw [c7]; exact g2) (by rw [c8]; exact u2) fun S9 m9 e15 e16 hC9 => ?_
  have etb : (fun i => (chAt S8 i 0).toNat) = tb I 0 := funext fun i => congrArg BitVec.toNat (congrFun b8.ch _)
  have e15' : S9.σ cc0_scratch15 = gbAt I 1 := by
    refine e15.trans ?_
    show gFold (fun i => (chAt S8 i 0).toNat) _ _ 25 = _
    rw [etb, c15, b8.tok]; rfl
  have e16' : S9.σ cc0_scratch16 = abAt I 1 := by
    refine e16.trans ?_
    show aFold (fun i => (chAt S8 i 0).toNat) _ _ 25 = _
    rw [etb, c16, b8.aux]; rfl
  refine pwp_keep _ S9 _ (hC9.free _ (by decide) (by decide)) (hC9.free _ (by decide) (by decide)) (hC9.free _ (by decide) (by decide)) fun S10 m10 e17 e18 e19 => H S10 ?_
  have gu : guOf (F := F) 0 (S9.σ cc0_scratch15) (S9.σ cc0_scratch16) I.wg I.wu (S8.σ cc0_scratch4) (S8.σ cc0_scratch5) = guAt I 0 := by
    rw [e15', e16', b8.sg, b8.su]; rfl
  have mm : Sm [cc0_scratch15, cc0_scratch16, cc0_scratch17, cc0_scratch18, cc0_scratch19] S8 S10 := m9.trans m10.sm
  refine ⟨b8.sm mm (by decide), m10.ctl hC9, ?_, ?_, ?_, ?_, ?_, ?_, ?_, ?_, ?_⟩
  · rw [show S10.σ cc0_scratch7 = S2.σ cc0_scratch7 from (mm _ (by decide)).trans c7]; exact fun e h1 h2 => g2 e (by omega) h2
  · rw [show S10.σ cc0_scratch8 = S2.σ cc0_scratch8 from (mm _ (by decide)).trans c8]; exact fun e h1 h2 => u2 e (by omega) h2
  · rw [show S10.σ cc0_scratch9 = S2.σ cc0_scratch9 from (mm _ (by decide)).trans c9]; exact d2
  · exact (m10.sm _ (by decide)).trans e15'
  · exact (m10.sm _ (by decide)).trans e16'
  · exact e17.trans (congrArg (fun g : GU F => g.1) gu)
  · exact e18.trans (congrArg (fun g : GU F => g.2.1) gu)
  · exact e19.trans (congrArg (fun g : GU F => g.2.2) gu)
  · exact (mm _ (by decide)).trans c21

end Cert.Kernel.Hand
-- ==== Proof.Epilogue.lean ====
/-
  The epilogue: the last expert's down product, the two results' rows, the copies out; then the whole body.
-/
module

public import proofs.«01_k».proof.Proof.BodyRun

@[expose] public section

noncomputable section

namespace Cert.Kernel.Hand

open Cert.Kernel Cert.Kernel.Gen
open Idealize.ShloMosaic Idealize.ShloMosaic.TcCoe Idealize.ShloMosaic.Tactic
open Idealize.SL.Sem
open Idealize.ShloMosaic.Pure (St Pend ends pwp pwp_bind pwp_mono pwp_for)

variable {F : FTy → Type} [FloatOps F] {c : Dev nD}

attribute [local irreducible] gateUp down keep kept startGU startD

variable {I : Inp F} {W : (b : Ref sig .tc) → Buf (Elt F) ((c : Thread nD τ).loc b)}

/-- The two stores of a block of rows. -/
def epi2 (k : Fin 8) (moe : FVec F S32x1024 .f32) : Pg F PUnit := do
  let _ ← ld (F := F) vMoe (rowsX k).toLoadRect h_S32x1024
  Prog.lift (.store vMoe (rowsX k) (shapeCast S32x1024 (truncf .bf16 moe bitsLt_bf16_f32 : FVec F S32x1024 .bf16) shapeCasts_S32x1024_S32x1024 : FVec F S32x1024 .bf16) Finset.univ (View.stores_vmem h_S32x1024 ((wh cc0_scratch23).storeExact_slice rfl _ (pk16 k)) (fun _ => rfl)) (.inl rfl))
  let x ← ld (F := F) vX (rowsX k).toLoadRect h_S32x1024
  let _ ← ld (F := F) vOut (rowsX k).toLoadRect h_S32x1024
  Prog.lift (.store vOut (rowsX k) (shapeCast S32x1024 (truncf .bf16 (addf (extf .f32 (x : FVec F S32x1024 .bf16) bitsLt_bf16_f32) moe) bitsLt_bf16_f32 : FVec F S32x1024 .bf16) shapeCasts_S32x1024_S32x1024 : FVec F S32x1024 .bf16) Finset.univ (View.stores_vmem h_S32x1024 ((wh cc0_scratch22).storeExact_slice rfl _ (pk16 k)) (fun _ => rfl)) (.inl rfl))

theorem epi_eq (k : Fin 8) : epi (F := F) k = (do
    let g0 ← ld (F := F) vAcc (stripT k 0) h_S32x128
    let g1 ← ld (F := F) vAcc (stripT k 1) h_S32x128
    let g2 ← ld (F := F) vAcc (stripT k 2) h_S32x128
    let g3 ← ld (F := F) vAcc (stripT k 3) h_S32x128
    let g4 ← ld (F := F) vAcc (stripT k 4) h_S32x128
    let g5 ← ld (F := F) vAcc (stripT k 5) h_S32x128
    let g6 ← ld (F := F) vAcc (stripT k 6) h_S32x128
    let g7 ← ld (F := F) vAcc (stripT k 7) h_S32x128
    epi2 k (cat8 ![g0, g1, g2, g3, g4, g5, g6, g7])) := rfl

attribute [local irreducible] epi2

/-- The rows before block `n` of the two results. -/
structure Done (I : Inp F) (n : ℕ) (S : KSt F c) : Prop where
  moe : ∀ q : S256x1024.Idx, (q 0).val / 32 < n → (S.σ cc0_scratch23 : Vec F S256x1024 .bf16) q = moeAll I q
  out : ∀ q : S256x1024.Idx, (q 0).val / 32 < n → (S.σ cc0_scratch22 : Vec F S256x1024 .bf16) q = outAll I q

theorem two23 (S : KSt F c) (f : Vec F S256x1024 .bf16) (g : Vec F S256x1024 .bf16) : (((S.set cc0_scratch23 f).set cc0_scratch22 g).σ cc0_scratch23 : Vec F S256x1024 .bf16) = f :=
  (set_σ_ne _ (by decide) _).trans (set_σ _ _ _)
theorem two22 (S : KSt F c) (f : Vec F S256x1024 .bf16) (g : Vec F S256x1024 .bf16) : (((S.set cc0_scratch23 f).set cc0_scratch22 g).σ cc0_scratch22 : Vec F S256x1024 .bf16) = g :=
  set_σ _ _ _

unseal epi2 in
theorem pwp_epi2 (k : Fin 8) (moe : FVec F S32x1024 .f32) (hm : moe = moeB I k.val) (S : KSt F c) (Q : PUnit → KSt F c → Prop)
    (hx : S.σ cc0_scratch0 = I.x) (hD : Done I k.val S) (l0 : S.lock cc0_scratch0 = ∅) (l22 : S.lock cc0_scratch22 = ∅) (l23 : S.lock cc0_scratch23 = ∅)
    (H : ∀ S', Upd [cc0_scratch23, cc0_scratch22] S S' → Done I (k.val + 1) S' → Q ⟨⟩ S') : pwp (epi2 (F := F) k moe) S Q := by
  unfold epi2
  refine ⟨lk l23, lk l23, lk l0, lk l22, lk l22, H _ (((Upd.refl _ S).set (b := cc0_scratch23) (by decide) _).set (b := cc0_scratch22) (by decide) _) ⟨fun q hq => ?_, fun q hq => ?_⟩⟩
  · refine (congrFun (two23 S _ _) q).trans ((congrFun (wr_rows_vMoe (F := F) k _ _) q).trans ?_)
    by_cases e : (q 0).val / 32 = k.val
    · refine (if_pos e).trans ?_
      show _ = (truncf .bf16 (moeB I ((q 0).val / 32)) bitsLt_bf16_f32 : FVec F S32x1024 .bf16) _
      rw [e, hm]
    · exact (if_neg e).trans (hD.moe q (by omega))
  · refine (congrFun (two22 S _ _) q).trans ((congrFun (wr_rows_vOut (F := F) k _ _) q).trans ?_)
    by_cases e : (q 0).val / 32 = k.val
    · refine (if_pos e).trans ?_
      show _ = (truncf .bf16 (addf (extf .f32 (fun j => I.x (i2 (32 * ((q 0).val / 32) + (j 0).val) (j 1).val) : FVec F S32x1024 .bf16) bitsLt_bf16_f32) (moeB I ((q 0).val / 32))) bitsLt_bf16_f32 : FVec F S32x1024 .bf16) _
      rw [e, ← hm]
      refine congrFun (congrArg (fun z : FVec F S32x1024 .bf16 => (truncf .bf16 (addf (extf .f32 z bitsLt_bf16_f32) moe) bitsLt_bf16_f32 : FVec F S32x1024 .bf16)) (funext fun j => ?_)) _
      refine (congrFun ((set_σ_ne S (show cc0_scratch0 ≠ cc0_scratch23 by decide) _).trans hx) _).trans (congrArg I.x (eq_i2 _ _ _ ?_ ?_))
      · show 32 * k.val + 1 * (j 0).val = _; omega
      · show 0 + 1 * (j 1).val = _; omega
    · exact (if_neg e).trans ((congrFun (set_σ_ne S (show cc0_scratch22 ≠ cc0_scratch23 by decide) _) q).trans (hD.out q (by omega)))

theorem moe_of (k : Fin 8) (a : Vec F S2048x128 .f32) (ha : a = accAt I 40) :
    cat8 (F := F) ![fun x => a ((stripT k 0).idx x), fun x => a ((stripT k 1).idx x), fun x => a ((stripT k 2).idx x), fun x => a ((stripT k 3).idx x),
      fun x => a ((stripT k 4).idx x), fun x => a ((stripT k 5).idx x), fun x => a ((stripT k 6).idx x), fun x => a ((stripT k 7).idx x)] = moeB I k.val := by
  subst ha
  refine congrArg cat8 (funext fun j => ?_)
  have : (![fun x => accAt I 40 ((stripT k 0).idx x), fun x => accAt I 40 ((stripT k 1).idx x), fun x => accAt I 40 ((stripT k 2).idx x), fun x => accAt I 40 ((stripT k 3).idx x),
      fun x => accAt I 40 ((stripT k 4).idx x), fun x => accAt I 40 ((stripT k 5).idx x), fun x => accAt I 40 ((stripT k 6).idx x), fun x => accAt I 40 ((stripT k 7).idx x)] : Fin 8 → FVec F S32x128 .f32) j
      = fun x => accAt I 40 ((stripT k j).idx x) := by
    fin_cases j <;> rfl
  rw [this]
  funext x
  refine congrArg (accAt I 40) (eq_i2 _ _ _ ?_ ?_)
  · show 256 * k.val + j.val + 8 * (x 0).val = _; omega
  · show 0 + 1 * (x 1).val = _; omega

theorem pwp_epi (k : Fin 8) (S : KSt F c) (Q : PUnit → KSt F c → Prop) (ha : S.σ cc0_scratch21 = accAt I 40) (hx : S.σ cc0_scratch0 = I.x) (hD : Done I k.val S)
    (l21 : S.lock cc0_scratch21 = ∅) (l0 : S.lock cc0_scratch0 = ∅) (l22 : S.lock cc0_scratch22 = ∅) (l23 : S.lock cc0_scratch23 = ∅)
    (H : ∀ S', Upd [cc0_scratch23, cc0_scratch22] S S' → Done I (k.val + 1) S' → Q ⟨⟩ S') : pwp (epi (F := F) k) S Q := by
  rw [epi_eq]
  refine ⟨lk l21, lk l21, lk l21, lk l21, lk l21, lk l21, lk l21, lk l21, ?_⟩
  exact pwp_epi2 k _ (moe_of k _ ha) S Q hx hD l0 l22 l23 H

theorem pwp_epis (S : KSt F c) (Q : PUnit → KSt F c → Prop) (ha : S.σ cc0_scratch21 = accAt I 40) (hx : S.σ cc0_scratch0 = I.x)
    (l21 : S.lock cc0_scratch21 = ∅) (l0 : S.lock cc0_scratch0 = ∅) (l22 : S.lock cc0_scratch22 = ∅) (l23 : S.lock cc0_scratch23 = ∅)
    (H : ∀ S', Upd [cc0_scratch23, cc0_scratch22] S S' → S'.σ cc0_scratch23 = moeAll I → S'.σ cc0_scratch22 = outAll I → Q ⟨⟩ S') : pwp (seqFin 8 (epi (F := F))) S Q := by
  refine pwp_seqFin 8 _ (fun n S' => Upd [cc0_scratch23, cc0_scratch22] S S' ∧ Done I n S') S Q
    ⟨Upd.refl _ _, ⟨fun q h => absurd h (Nat.not_lt_zero _), fun q h => absurd h (Nat.not_lt_zero _)⟩⟩ ?_
    (fun S' h => H S' h.1 (funext fun q => h.2.moe q (by have : (q 0).val < 256 := (q 0).isLt; omega)) (funext fun q => h.2.out q (by have : (q 0).val < 256 := (q 0).isLt; omega)))
  rintro k S' ⟨hu, hD⟩
  have l : ∀ b, S.lock b = ∅ → S'.lock b = ∅ := fun b h => by rw [hu.lock]; exact h
  exact pwp_epi k S' _ ((hu.sm _ (by decide)).trans ha) ((hu.sm _ (by decide)).trans hx) hD (l _ l21) (l _ l0) (l _ l22) (l _ l23) fun S2 u2 D2 =>
    ⟨⟨fun b hb => (u2.sm b hb).trans (hu.sm b hb), u2.lock.trans hu.lock, u2.pend.trans hu.pend⟩, D2⟩

/-- The last two copies out, and the four waits. -/
theorem pwp_outs {lg hg lu hu ld hd : ℕ} (S : KSt F c) (Q : PUnit → KSt F c → Prop) (hC : Ctl (Ph K78 lg hg lu hu ld hd) S.lock S.pend)
    (H : ∀ S', Sm [main_v3_0, main_v3_1] S S' → S'.σ main_v3_0 = S.σ cc0_scratch22 → S'.σ main_v3_1 = S.σ cc0_scratch23 → Ctl (Ph K0 lg hg lu hu ld hd) S'.lock S'.pend → Q ⟨⟩ S') :
    pwp (do outB0 (F := F); fin) S Q := by
  refine pwp_enq vOut aOut _ _ _ _ (.w 9) _ S _ hC (cmp_ph _ (by decide)) rfl rfl rfl (show main_v3_0 ≠ cc0_scratch22 by decide) (by decide) fun S1 s1 hD1 => ?_
  have hC1 := ph_insert hD1
  refine pwp_enq vMoe aMoe _ _ _ _ (.w 10) _ S1 _ hC1 (cmp_ph _ (by decide)) rfl rfl rfl (show main_v3_1 ≠ cc0_scratch23 by decide) (by decide) fun S2 s2 hD2 => ?_
  have hC2 := ph_insert hD2
  replace s1 : S1.σ = Function.update S.σ main_v3_0 _ := s1
  replace s2 : S2.σ = Function.update S1.σ main_v3_1 _ := s2
  refine pwp_wait vCodes aCodes _ _ _ (.w 7) _ S2 _ hC2 (.inr (.inr (.inl rfl))) rfl rfl fun S3 s3 hD3 => ?_
  have hC3 := ph_erase hD3
  refine pwp_wait vScale aScale _ _ _ (.w 8) _ S3 _ hC3 (⟨by decide, .inr (.inr (.inr rfl))⟩) rfl rfl fun S4 s4 hD4 => ?_
  have hC4 := ph_erase hD4
  refine pwp_wait vOut aOut _ _ _ (.w 9) _ S4 _ hC4 (⟨by decide, by decide, .inr (.inl rfl)⟩) rfl rfl fun S5 s5 hD5 => ?_
  have hC5 := ph_erase hD5
  refine pwp_wait vMoe aMoe _ _ _ (.w 10) _ S5 _ hC5 (⟨by decide, by decide, by decide, .inl rfl⟩) rfl rfl fun S6 s6 hD6 => ?_
  have hC6 := ph_erase hD6
  have s62 : S6.σ = S2.σ := by rw [s6, s5, s4, s3]
  refine H S6 ((((Sm.refl _ S).upd s1 (by decide)).upd s2 (by decide)).of_σ s62) ?_ ?_ (ph_congr hC6 (by decide))
  · rw [s62, s2]
    refine (Function.update_of_ne (by decide) ..).trans ?_
    rw [s1]
    exact (Function.update_self ..).trans (View.write_whole_univ main_v3_0 (S.σ main_v3_0) (S.σ cc0_scratch22))
  · rw [s62, s2]
    refine (Function.update_self ..).trans ((View.write_whole_univ main_v3_1 (S1.σ main_v3_1) (S1.σ cc0_scratch23)).trans ?_)
    rw [s1]; exact Function.update_of_ne (by decide) ..

/-- What the body ends with. -/
structure End (I : Inp F) (W : (b : Ref sig .tc) → Buf (Elt F) ((c : Thread nD τ).loc b)) (S : KSt F c) : Prop where
  hbm : ∀ b, b ∈ [main_arg0, main_arg1, main_arg2, main_arg3, main_arg4, main_arg5, main_arg6, main_arg7, main_arg8, main_arg9, main_v0, main_v1, main_v2] → S.σ b = W b
  out : S.σ main_v3_0 = outAll I
  moe : S.σ main_v3_1 = moeAll I
  codes : S.σ main_v3_2 = codesAll I
  scale : S.σ main_v3_3 = scaleAll I
  lock : ∀ b, S.lock b = ∅
  pend : ∀ s, S.pend s = none

theorem ph_none {a : Tid} (h : Ph K0 40 40 40 40 40 40 a) : False := by
  match a with
  | .w k => exact h
  | .g e => exact absurd (lt_of_le_of_lt h.1 h.2) (lt_irrefl _)
  | .u e => exact absurd (lt_of_le_of_lt h.1 h.2) (lt_irrefl _)
  | .d e => exact absurd (lt_of_le_of_lt h.1 h.2) (lt_irrefl _)

theorem pwp_post (S : KSt F c) (hf : Fits I W) (J : LoopInv I W 39 S) : pwp (post (F := F)) S fun _ S' => End I W S' := by
  unfold post
  have hC := J.ctl
  rw [pwp_bind]
  refine pwp_kept S _ (hC.free _ (by decide) (by decide)) (hC.free _ (by decide) (by decide)) (hC.free _ (by decide) (by decide)) ?_
  rw [pwp_bind]
  unfold down39
  refine pwp_down ⟨39, by decide⟩ _ _ _ _ _ _ _ _ _ _ _ _ rfl rfl rfl rfl rfl _ S _ hC K78_le (by decide) (by decide)
    (fun i hi => by rw [show chAt S i 39 = I.ch (i2 i 39) from congrFun J.base.ch _]; exact hf.lt _ (by omega) i hi) I.wd J.cd fun S3 sm3 e21 hC3 => ?_
  have b3 := J.base.sm sm3 (by decide)
  have etb2 : (fun i => (chAt S i 39).toNat) = tb I 39 := funext fun i => congrArg BitVec.toNat (congrFun J.base.ch _)
  have e21' : S3.σ cc0_scratch21 = accAt I 40 := by
    refine e21.trans ?_
    show accFold (fun i => (chAt S i 39).toNat) (ybOf (yV (S.σ cc0_scratch17) (S.σ cc0_scratch18) (S.σ cc0_scratch19) (slabd I.wd 39) (row1024 (S.σ cc0_scratch6) 39))) _ 25 = _
    rw [etb2, J.base.sd, J.acc, J.hc, J.hs, J.r]
    rfl
  rw [pwp_bind]
  refine pwp_epis (I := I) S3 _ e21' b3.x (hC3.free _ (by decide) (by decide)) (hC3.free _ (by decide) (by decide)) (hC3.free _ (by decide) (by decide)) (hC3.free _ (by decide) (by decide)) fun S4 u4 e23 e22 => ?_
  have b4 := b3.sm u4.sm (by decide)
  refine pwp_outs S4 _ (u4.ctl hC3) fun S5 m5 o0 o1 hC5 => ?_
  exact {
    hbm := fun b hb => (m5 b ((by decide : ∀ b ∈ [main_arg0, main_arg1, main_arg2, main_arg3, main_arg4, main_arg5, main_arg6, main_arg7, main_arg8, main_arg9, main_v0, main_v1, main_v2], b ∉ [main_v3_0, main_v3_1]) b hb)).trans (b4.hbm b hb)
    out := o0.trans e22
    moe := o1.trans e23
    codes := (m5 _ (by decide)).trans b4.oc
    scale := (m5 _ (by decide)).trans b4.os
    lock := fun b => Finset.eq_empty_of_forall_notMem fun x hx => by
      obtain ⟨a, ha, -⟩ := (hC5.lock b x).mp hx
      exact ph_none ha
    pend := fun s => hC5.none s fun a ha => (ph_none ha).elim }

/-- The whole body, from its start to its end. -/
theorem pwp_body (t : Fin cfg0.N) (S : KSt F c) (hf : Fits I W) (h : Start I W S) : pwp (bodyAt0 (F := F) t) S fun _ S' => End I W S' := by
  have e : bodyAt0 (F := F) t = (do pre; loop; post) := by
    rw [body_cut t, ← post_cut]
    simp only [bind_assoc]
  rw [e, pwp_bind]
  refine pwp_pre S _ hf h fun S1 J1 => ?_
  rw [pwp_bind]
  unfold loop
  refine pwp_for _ _ _ (fun t S' => LoopInv I W t S') S1 _ J1 (fun k S' J' => ?_) (fun S' J' => ?_)
  · show pwp (tripP k) S' _
    rw [trip_eq]
    exact pwp_trip k S' hf J'
  · rw [trips_eq] at J'
    exact pwp_post S' hf J'

end Cert.Kernel.Hand
-- ==== Proof.KernelRun.lean ====
/-
  The run of the whole program: where every row index lies in range, it ends with its arguments unchanged, its semaphores at
  zero, and the four results at the values of Whole.lean.
-/
module

public import proofs.«01_k».proof.Proof.Epilogue
public import Idealize.ShloMosaic.Lib.StableHlo.RunRead
public import Idealize.ShloMosaic.Lib.StableHlo.RunHlo

@[expose] public section

noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The gain as one row, the router's weights and the row indices transposed: what the host hands the kernel. -/
theorem V_main_v0 (c : Dev nD) : V m c main_v0 = shapeCast S1x1024 (m ((c : Thread nD τ).loc main_arg1) : Vec F S1024 .f32) shapeCasts_S1024_S1x1024 := by
  show StableHlo.after hostOps0 (fun b => m (c, b)) (Proc.devRef .tc main_v0) = _
  after_reads_simp
  rfl
theorem V_main_v1 (c : Dev nD) : V m c main_v1 = transpose S40x1024 [1, 0] (m ((c : Thread nD τ).loc main_arg2) : Vec F S1024x40 .f32) transposes_S1024x40_S40x1024_1_0 := by
  show StableHlo.after hostOps0 (fun b => m (c, b)) (Proc.devRef .tc main_v1) = _
  after_reads_simp
theorem V_main_v2 (c : Dev nD) : V m c main_v2 = transpose S25x40 [1, 0] (m ((c : Thread nD τ).loc main_arg3) : Vec F S40x25 .i32) transposes_S40x25_S25x40_1_0 := by
  show StableHlo.after hostOps0 (fun b => m (c, b)) (Proc.devRef .tc main_v2) = _
  after_reads_simp

/-- The region's inputs, from the program's arguments. -/
def inpOf (a0 : Vec F S256x1024 .bf16) (a1 : Vec F S1024 .f32) (a2 : Vec F S1024x40 .f32) (a3 : Vec F S40x25 .i32) (a4 : Vec F S40x1024x768 .fp8e4m3) (a5 : Vec F S40x1024x768 .fp8e4m3)
    (a6 : Vec F S40x768 .f32) (a7 : Vec F S40x768 .f32) (a8 : Vec F S40x768x1024 .fp8e4m3) (a9 : Vec F S40x1024 .f32) : Inp F where
  x := a0
  gain := shapeCast S1x1024 a1 shapeCasts_S1024_S1x1024
  wr := transpose S40x1024 [1, 0] a2 transposes_S1024x40_S40x1024_1_0
  ch := transpose S25x40 [1, 0] a3 transposes_S40x25_S25x40_1_0
  wg := a4
  wu := a5
  sg := a6
  su := a7
  wd := a8
  sd := a9

/-- What the region reads. -/
def inp (c : Dev nD) : Inp F where
  x := V m c main_arg0
  gain := V m c main_v0
  wr := V m c main_v1
  ch := V m c main_v2
  wg := V m c main_arg4
  wu := V m c main_arg5
  sg := V m c main_arg6
  su := V m c main_arg7
  wd := V m c main_arg8
  sd := V m c main_arg9

/-- Every row index names a row. -/
def InRange : Prop := ∀ (c : Dev nD) (q : S40x25.Idx), ((m ((c : Thread nD τ).loc main_arg3) : Vec F S40x25 .i32) q).toNat < 256

theorem fits (h : InRange m) (c : Dev nD) : Fits (inp m c) (V m c) where
  x := rfl
  gain := rfl
  wr := rfl
  ch := rfl
  wg := rfl
  wu := rfl
  sg := rfl
  su := rfl
  wd := rfl
  sd := rfl
  lt e he i hi := by
    show ((V m c main_v2 : Vec F S25x40 .i32) (i2 i e)).toNat < 256
    rw [V_main_v2]
    exact h c _

theorem run (h : InRange m) :
    θ_run defs (onTc (τ := τ) (main (F := F))) ⟨m, fun _ => 0, ρ⟩ (fun r => (∀ c : Dev nD,
      (r.2.mem ((c.tc : Thread nD τ).loc main_v3_0) = outAll (inp m c)
        ∧ r.2.mem ((c.tc : Thread nD τ).loc main_v3_1) = moeAll (inp m c)
        ∧ r.2.mem ((c.tc : Thread nD τ).loc main_v3_2) = codesAll (inp m c)
        ∧ r.2.mem ((c.tc : Thread nD τ).loc main_v3_3) = scaleAll (inp m c))
      ∧ ∀ b ∈ H0, r.2.mem ((c.tc : Thread nD τ).loc b) = V m c b) ∧ r.2.sem = fun _ => 0) := by
  refine θ_run_mono (run_of_body m ρ (fun c W => W main_v3_0 = outAll (inp m c) ∧ W main_v3_1 = moeAll (inp m c) ∧ W main_v3_2 = codesAll (inp m c) ∧ W main_v3_3 = scaleAll (inp m c)) ?_) ?_
  rotate_left
  · rintro r ⟨⟨h1, h2⟩, h3⟩
    refine ⟨fun c => ⟨?_, h1 c⟩, h3⟩
    obtain ⟨W, ⟨w0, w1, w2, w3⟩, hW⟩ := h2 c
    exact ⟨(hW _ (by decide)).trans w0, (hW _ (by decide)).trans w1, (hW _ (by decide)).trans w2, (hW _ (by decide)).trans w3⟩
  · intro c s hi
    refine Pure.pwp_mono _ s (fun _ s' e => ?_) (pwp_body (I := inp m c) (W := V m c) t0_0 s (fits m h c) ⟨fun b hb => hi.vals b ((by decide : ∀ b ∈ [main_arg0, main_arg1, main_arg2, main_arg3, main_arg4, main_arg5, main_arg6, main_arg7, main_arg8, main_arg9, main_v0, main_v1, main_v2], b ∉ S0) b hb), hi.lock, hi.pend⟩)
    exact ⟨fun b hb => e.hbm b ((by decide : ∀ b ∈ H0, b ∈ [main_arg0, main_arg1, main_arg2, main_arg3, main_arg4, main_arg5, main_arg6, main_arg7, main_arg8, main_arg9, main_v0, main_v1, main_v2]) b hb), ⟨e.out, e.moe, e.codes, e.scale⟩, e.lock, e.pend⟩

theorem inp_eq (c : Dev nD) : inp m c = inpOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold inp inpOf
  rw [V_main_arg0, V_main_arg4, V_main_arg5, V_main_arg6, V_main_arg7, V_main_arg8, V_main_arg9, V_main_v0, V_main_v1, V_main_v2]

/-- The run of the whole program, its arguments one by one. -/
theorem run_args (h : InRange m) :
    θ_run defs (onTc (τ := τ) (main (F := F))) ⟨m, fun _ => 0, ρ⟩ (fun r => (∀ c : Dev nD,
      (r.2.mem ((c.tc : Thread nD τ).loc main_v3_0) = outAll (inpOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
        ∧ r.2.mem ((c.tc : Thread nD τ).loc main_v3_1) = moeAll (inpOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
        ∧ r.2.mem ((c.tc : Thread nD τ).loc main_v3_2) = codesAll (inpOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
        ∧ r.2.mem ((c.tc : Thread nD τ).loc main_v3_3) = scaleAll (inpOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) := by
  refine θ_run_mono (run m ρ h) ?_
  rintro r ⟨h1, h2⟩
  refine ⟨fun c => ⟨by have := (h1 c).1; rw [inp_eq] at this; exact this, ?_⟩, h2⟩
  have a := (h1 c).2
  exact ⟨(a _ (by decide)).trans (V_main_arg0 m c), (a _ (by decide)).trans (V_main_arg1 m c), (a _ (by decide)).trans (V_main_arg2 m c), (a _ (by decide)).trans (V_main_arg3 m c), (a _ (by decide)).trans (V_main_arg4 m c),
    (a _ (by decide)).trans (V_main_arg5 m c), (a _ (by decide)).trans (V_main_arg6 m c), (a _ (by decide)).trans (V_main_arg7 m c), (a _ (by decide)).trans (V_main_arg8 m c), (a _ (by decide)).trans (V_main_arg9 m c)⟩

end Cert.Kernel.Hand
-- ==== Proof.IdealRun.lean ====
/-
  The run of the ideal program: the two printed programs are one program at the ideal carrier, so the run of the one is the run of the other.
-/
module

public import proofs.«01_k».proof.Proof.KernelRun
public import proofs.«01_k».proof.Proof.Gen.KernelIdeal
public import proofs.«01_k».proof.Proof.Gen.Pre_rows_in_range
public import proofs.«01_k».proof.Defs
public import Idealize.ShloMosaic.Lib.Pipeline.Regions
public import Idealize.ShloMosaic.PureOps.Ideal
public import Idealize.ShloMosaic.Lib.ReduceAll

@[expose] public section

noncomputable section

namespace Cert.Kernel.Hand

open Idealize.ShloMosaic Idealize.ShloMosaic.TcCoe Idealize.ShloMosaic.Tactic
open Idealize.SL.Sem
open Cert.Kernel (S40x25)

set_option maxRecDepth 100000 in
set_option maxHeartbeats 4000000 in
theorem run_transfer : (
    ∀ (m : (ℓ : Loc Cert.Kernel.nD Cert.Kernel.τ Cert.Kernel.sig) → Buf (Elt Ideal) ℓ) (ρ : Dev Cert.Kernel.nD → PrngReg), (∀ (c : Dev Cert.Kernel.nD) (q : S40x25.Idx), ((m ((c.tc : Thread Cert.Kernel.nD Cert.Kernel.τ).loc Cert.Kernel.main_arg3) : Vec Ideal S40x25 .i32) q).toNat < 256) →
    θ_run (Cert.Kernel.defs (F := Ideal)) (onTc (τ := Cert.Kernel.τ) (Cert.Kernel.main (F := Ideal))) ⟨m, fun _ => 0, ρ⟩ (fun r => (∀ c : Dev Cert.Kernel.nD,
      (r.2.mem ((c.tc : Thread Cert.Kernel.nD Cert.Kernel.τ).loc Cert.Kernel.main_v3_0) = outAll (inpOf (F := Ideal) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)))
        ∧ r.2.mem ((c.tc : Thread Cert.Kernel.nD Cert.Kernel.τ).loc Cert.Kernel.main_v3_1) = moeAll (inpOf (F := Ideal) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)))
        ∧ r.2.mem ((c.tc : Thread Cert.Kernel.nD Cert.Kernel.τ).loc Cert.Kernel.main_v3_2) = codesAll (inpOf (F := Ideal) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)))
        ∧ r.2.mem ((c.tc : Thread Cert.Kernel.nD Cert.Kernel.τ).loc Cert.Kernel.main_v3_3) = scaleAll (inpOf (F := Ideal) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))))
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)) ∧ r.2.sem = fun _ => 0))
  = (
    ∀ (m : (ℓ : Loc Cert.KernelIdeal.nD Cert.KernelIdeal.τ Cert.KernelIdeal.sig) → Buf (Elt Ideal) ℓ) (ρ : Dev Cert.KernelIdeal.nD → PrngReg), (∀ (c : Dev Cert.KernelIdeal.nD) (q : S40x25.Idx), ((m ((c.tc : Thread Cert.KernelIdeal.nD Cert.KernelIdeal.τ).loc Cert.KernelIdeal.main_arg3) : Vec Ideal S40x25 .i32) q).toNat < 256) →
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      (r.2.mem ((c.tc : Thread Cert.KernelIdeal.nD Cert.KernelIdeal.τ).loc Cert.KernelIdeal.main_v3_0) = outAll (inpOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
        ∧ r.2.mem ((c.tc : Thread Cert.KernelIdeal.nD Cert.KernelIdeal.τ).loc Cert.KernelIdeal.main_v3_1) = moeAll (inpOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
        ∧ r.2.mem ((c.tc : Thread Cert.KernelIdeal.nD Cert.KernelIdeal.τ).loc Cert.KernelIdeal.main_v3_2) = codesAll (inpOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
        ∧ r.2.mem ((c.tc : Thread Cert.KernelIdeal.nD Cert.KernelIdeal.τ).loc Cert.KernelIdeal.main_v3_3) = scaleAll (inpOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) ∧ r.2.sem = fun _ => 0)) := by
  chain_rfl

theorem run_ideal :
    ∀ (m : (ℓ : Loc Cert.KernelIdeal.nD Cert.KernelIdeal.τ Cert.KernelIdeal.sig) → Buf (Elt Ideal) ℓ) (ρ : Dev Cert.KernelIdeal.nD → PrngReg), (∀ (c : Dev Cert.KernelIdeal.nD) (q : S40x25.Idx), ((m ((c.tc : Thread Cert.KernelIdeal.nD Cert.KernelIdeal.τ).loc Cert.KernelIdeal.main_arg3) : Vec Ideal S40x25 .i32) q).toNat < 256) →
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      (r.2.mem ((c.tc : Thread Cert.KernelIdeal.nD Cert.KernelIdeal.τ).loc Cert.KernelIdeal.main_v3_0) = outAll (inpOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
        ∧ r.2.mem ((c.tc : Thread Cert.KernelIdeal.nD Cert.KernelIdeal.τ).loc Cert.KernelIdeal.main_v3_1) = moeAll (inpOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
        ∧ r.2.mem ((c.tc : Thread Cert.KernelIdeal.nD Cert.KernelIdeal.τ).loc Cert.KernelIdeal.main_v3_2) = codesAll (inpOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
        ∧ r.2.mem ((c.tc : Thread Cert.KernelIdeal.nD Cert.KernelIdeal.τ).loc Cert.KernelIdeal.main_v3_3) = scaleAll (inpOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) ∧ r.2.sem = fun _ => 0) :=
  run_transfer ▸ fun m ρ h => run_args m ρ h

/-! ### The precondition -/

theorem sub_idx : Subsingleton Cert.Pre_rows_in_range.S_.Idx := ⟨fun a b => funext fun i => i.elim0⟩

theorem range_of_pre {F : FTy → Type} [FloatOps F] (a0 : FVec F Cert.Pre_rows_in_range.S256x1024 .bf16) (a1 a2) (a3 : IVec Cert.Pre_rows_in_range.S40x25 32) (a4 a5 a6 a7 a8 a9)
    (h : Cert.Pre_rows_in_range.fn (F := F) a0 a1 a2 a3 a4 a5 a6 a7 a8 a9 = fun _ => 1#1) (q : Cert.Pre_rows_in_range.S40x25.Idx) : (a3 q).toNat < 256 := by
  haveI := sub_idx
  have e := Host.reduce_andi_all _ _ _ _ (fun i => i.elim0) (congrFun h fun i => i.elim0) q
  have e' : BitVec.ofBool (decide ((0#32 : BitVec 32).toInt ≤ (a3 q).toInt)) &&& BitVec.ofBool (decide ((a3 q).toInt < (256#32 : BitVec 32).toInt)) = 1#1 := e
  have key : (0#32 : BitVec 32).toInt ≤ (a3 q).toInt ∧ (a3 q).toInt < (256#32 : BitVec 32).toInt := by
    by_cases h1 : (0#32 : BitVec 32).toInt ≤ (a3 q).toInt <;> by_cases h2 : (a3 q).toInt < (256#32 : BitVec 32).toInt <;> simp only [h1, h2, decide_true, decide_false] at e' ⊢
    all_goals first | exact ⟨trivial, trivial⟩ | exact absurd e' (by decide)
  have h0 : (0#32 : BitVec 32).toInt = 0 := by decide
  have h6 : (256#32 : BitVec 32).toInt = 256 := by decide
  rw [h0, h6, BitVec.toInt_eq_toNat_cond] at key
  have := (a3 q).isLt
  split at key <;> omega

end Cert.Kernel.Hand
-- ==== Proof.RefFn.lean ====
/-
  What the reference computes, step by step, as functions of arrays.
-/
module

public import proofs.«01_k».proof.Proof.Gen.ReferenceIdeal

@[expose] public section

noncomputable section

namespace Cert.ReferenceIdeal.Hand

open Cert.ReferenceIdeal Cert.ReferenceIdeal.Gen
open Idealize.ShloMosaic Idealize.ShloMosaic.TcCoe

variable {F : FTy → Type} [FloatOps F]

/-- The normalised rows. -/
def xnR (a0 : FVec F S256x1024 .bf16) (a1 : FVec F S1024 .f32) : FVec F S256x1024 .f32 :=
  have v0 : FVec F S256x1024 .f32 := extf .f32 a0 bitsLt_bf16_f32
  have v2 : FVec F S256 .f32 := Host.reduceAdd (mulf v0 v0) (constant S_ .f32 0x00000000#32) reducesTo_S256x1024_S256_d1 h_S_
  have v5 : FVec F S256x1 .f32 := Host.divf (broadcastInDim S256x1 ![0] bcast_S256_S256x1_0 v2) (broadcastInDim S256x1 ![] bcast_S_S256x1 (constant S_ .f32 0x44800000#32 : FVec F S_ .f32))
  have v8 : FVec F S256x1 .f32 := Host.rsqrt (addf v5 (broadcastInDim S256x1 ![] bcast_S_S256x1 (constant S_ .f32 0x358637BD#32 : FVec F S_ .f32)))
  mulf (mulf v0 (broadcastInDim S256x1024 ![0, 1] bcast_S256x1_S256x1024_0_1 v8))
    (broadcastInDim S256x1024 ![0, 1] bcast_S1x1024_S256x1024_0_1 (broadcastInDim S1x1024 ![1] bcast_S1024_S1x1024_1 a1))

/-- The router's logits. -/
def lgR (xn : FVec F S256x1024 .f32) (a2 : FVec F S1024x40 .f32) : FVec F S256x40 .f32 :=
  Host.dotGeneral dot_S256x1024_S1024x40_S256x40_1_0_0_1_n_n (some .fp32) xn a2
/-- A row's weights before they are normalised. -/
def exR (lg : FVec F S256x40 .f32) : FVec F S256x40 .f32 :=
  have v17 : FVec F S256 .f32 := maximumf (broadcastInDim S256 ![] bcast_S_S256 (constant S_ .f32 0xFF800000#32 : FVec F S_ .f32)) (Host.reduce FloatOps.maximumf lg (constant S_ .f32 0xFF800000#32) reducesTo_S256x40_S256_d1 h_S_)
  Host.exp (subf lg (broadcastInDim S256x40 ![0, 1] bcast_S256x1_S256x40_0_1 (broadcastInDim S256x1 ![0] bcast_S256_S256x1_0 v17)))
/-- The router's probabilities. -/
def probR (xn : FVec F S256x1024 .f32) (a2 : FVec F S1024x40 .f32) : FVec F S256x40 .f32 :=
  have v21 : FVec F S256x40 .f32 := exR (lgR xn a2)
  Host.divf v21 (broadcastInDim S256x40 ![0, 1] bcast_S256x1_S256x40_0_1 (broadcastInDim S256x1 ![0] bcast_S256_S256x1_0
    (Host.reduceAdd v21 (constant S_ .f32 0x00000000#32) reducesTo_S256x40_S256_d1 h_S_ : FVec F S256 .f32)))

/-- The row indices, a negative one counted from the end. -/
def idxR (a3 : IVec S40x25 32) : IVec S40x25 32 :=
  select (cmpi .slt a3 (broadcastInDim S40x25 ![] bcast_S_S40x25 (constantI S_ 32 0#32))) (addi a3 (broadcastInDim S40x25 ![] bcast_S_S40x25 (constantI S_ 32 256#32))) a3
/-- The experts' numbers, as a column. -/
def expR : IVec S40x1 32 :=
  have v27 : IVec S40x1 32 := broadcastInDim S40x1 ![0] bcast_S40_S40x1_0 (iotaInDim S40 32 0)
  select (cmpi .slt v27 (broadcastInDim S40x1 ![] bcast_S_S40x1 (constantI S_ 32 0#32))) (addi v27 (broadcastInDim S40x1 ![] bcast_S_S40x1 (constantI S_ 32 40#32))) v27
/-- Pairs of row and expert. -/
def pairR (a3 : IVec S40x25 32) : IVec S40x25x2 32 :=
  concatenate S40x25x2 2 [⟨S40x25x1, broadcastInDim S40x25x1 ![0, 1] bcast_S40x25_S40x25x1_0_1 (idxR a3)⟩,
    ⟨S40x25x1, broadcastInDim S40x25x1 ![0, 1] bcast_S40x25_S40x25x1_0_1 (broadcastInDim S40x25 ![0, 1] bcast_S40x1_S40x25_0_1 expR)⟩] concatenates_S40x25x1_S40x25x1_S40x25x2_d2
/-- The chosen rows' probabilities. -/
def wR (p : FVec F S256x40 .f32) (a3 : IVec S40x25 32) : FVec F S40x25 .f32 :=
  Host.gather gather_S256x40_S40x25x2_S40x25_n_01_n_n_01_2_11 p (pairR a3)
/-- The row indices with a trailing axis. -/
def idx1R (a3 : IVec S40x25 32) : IVec S40x25x1 32 := broadcastInDim S40x25x1 ![0, 1] bcast_S40x25_S40x25x1_0_1 (idxR a3)

/-- The powers of two that a scale may be. -/
def powR : FVec F S246 .f32 :=
  Host.powf (broadcastInDim S246 ![] bcast_S_S246 (constant S_ .f32 0x40000000#32 : FVec F S_ .f32)) (sitofp .f32 (addi (broadcastInDim S246 ![] bcast_S_S246 (constantI S_ 32 4294967171#32)) (iotaInDim S246 32 0)))

/-- A row's largest magnitude over 448. -/
def needR (v : FVec F S256x1024 .f32) : FVec F S256x1 .f32 :=
  mulf (broadcastInDim S256x1 ![0] bcast_S256_S256x1_0 (Host.reduce FloatOps.maximumf (Host.absf v) (constant S_ .f32 0xFF800000#32) reducesTo_S256x1024_S256_d1 h_S_ : FVec F S256 .f32))
    (broadcastInDim S256x1 ![] bcast_S_S256x1 (constant S_ .f32 0x3B124925#32 : FVec F S_ .f32))
/-- The least power above it, and 1 for a row of the smallest magnitudes. -/
def ofNeedR (need : FVec F S256x1 .f32) : FVec F S256x1 .f32 :=
  have v57 : IVec S256x246 1 := cmpf .olt (broadcastInDim S256x246 ![0, 1] bcast_S256x1_S256x246_0_1 need) (broadcastInDim S256x246 ![0, 1] bcast_S1x246_S256x246_0_1 (broadcastInDim S1x246 ![1] bcast_S246_S1x246_1 (powR (F := F))))
  have v58 : FVec F S256x246 .f32 := select v57 (broadcastInDim S256x246 ![1] bcast_S246_S256x246_1 (powR (F := F))) (broadcastInDim S256x246 ![] bcast_S_S256x246 (constant S_ .f32 0x7B800000#32 : FVec F S_ .f32))
  have v60 : FVec F S256x1 .f32 := broadcastInDim S256x1 ![0] bcast_S256_S256x1_0 (Host.reduce FloatOps.minimumf v58 (constant S_ .f32 0x7F800000#32) reducesTo_S256x246_S256_d1 h_S_ : FVec F S256 .f32)
  select (cmpf .olt need (broadcastInDim S256x1 ![] bcast_S_S256x1 (constant S_ .f32 0x00800000#32 : FVec F S_ .f32))) (broadcastInDim S256x1 ![] bcast_S_S256x1 (constant S_ .f32 0x3F800000#32 : FVec F S_ .f32)) v60
/-- The rows' scales. -/
def scaleR (v : FVec F S256x1024 .f32) : FVec F S256x1 .f32 := ofNeedR (needR v)
/-- The rows over their scales, clipped. -/
def clipR (v : FVec F S256x1024 .f32) (s : FVec F S256x1 .f32) : FVec F S256x1024 .f32 :=
  minimumf (broadcastInDim S256x1024 ![] bcast_S_S256x1024 (constant S_ .f32 0x43E00000#32 : FVec F S_ .f32)) (maximumf (broadcastInDim S256x1024 ![] bcast_S_S256x1024 (constant S_ .f32 0xC3E00000#32 : FVec F S_ .f32))
    (Host.divf v (broadcastInDim S256x1024 ![0, 1] bcast_S256x1_S256x1024_0_1 s)))

/-- The chosen rows' codes. -/
def takeR (h : FVec F S256x1024 .f32) (a3 : IVec S40x25 32) : FVec F S40x25x1024 .f32 := Host.gather gather_S256x1024_S40x25x1_S40x25x1024_2_0_n_n_0_2_11024 h (idx1R a3)
/-- The chosen rows' scales. -/
def takeSR (s : FVec F S256x1 .f32) (a3 : IVec S40x25 32) : FVec F S40x25x1 .f32 := Host.gather gather_S256x1_S40x25x1_S40x25x1_2_0_n_n_0_2_11 s (idx1R a3)

/-- The experts' gate products, scaled by rows and columns; the up products likewise. -/
def gateR (h : FVec F S40x25x1024 .f32) (s : FVec F S40x25x1 .f32) (w : FVec F S40x1024x768 .f32) (sg : FVec F S40x768 .f32) : FVec F S40x25x768 .f32 :=
  mulf (mulf (Host.dotGeneral dot_S40x25x1024_S40x1024x768_S40x25x768_2_1_1_2_0_0 none h w) (broadcastInDim S40x25x768 ![0, 1, 2] bcast_S40x25x1_S40x25x768_0_1_2 s))
    (broadcastInDim S40x25x768 ![0, 1, 2] bcast_S40x1x768_S40x25x768_0_1_2 (broadcastInDim S40x1x768 ![0, 2] bcast_S40x768_S40x1x768_0_2 sg))
/-- `g` times its logistic. -/
def siluR (g : FVec F S40x25x768 .f32) : FVec F S40x25x768 .f32 :=
  mulf g (Host.divf (broadcastInDim S40x25x768 ![] bcast_S_S40x25x768 (constant S_ .f32 0x3F800000#32 : FVec F S_ .f32)) (addf (broadcastInDim S40x25x768 ![] bcast_S_S40x25x768 (constant S_ .f32 0x3F800000#32 : FVec F S_ .f32)) (Host.exp (Host.negf g))))
/-- The hidden rows. -/
def hidR (g u : FVec F S40x25x768 .f32) : FVec F S40x25x768 .f32 := mulf (siluR g) u

/-- A hidden row's largest magnitude over 448. -/
def need2R (v : FVec F S40x25x768 .f32) : FVec F S40x25x1 .f32 :=
  mulf (broadcastInDim S40x25x1 ![0, 1] bcast_S40x25_S40x25x1_0_1 (Host.reduce FloatOps.maximumf (Host.absf v) (constant S_ .f32 0xFF800000#32) reducesTo_S40x25x768_S40x25_d2 h_S_ : FVec F S40x25 .f32))
    (broadcastInDim S40x25x1 ![] bcast_S_S40x25x1 (constant S_ .f32 0x3B124925#32 : FVec F S_ .f32))
/-- The least power above it, and 1 for a row of the smallest magnitudes. -/
def ofNeed2R (need : FVec F S40x25x1 .f32) : FVec F S40x25x1 .f32 :=
  have v57 : IVec S40x25x246 1 := cmpf .olt (broadcastInDim S40x25x246 ![0, 1, 2] bcast_S40x25x1_S40x25x246_0_1_2 need) (broadcastInDim S40x25x246 ![0, 1, 2] bcast_S1x1x246_S40x25x246_0_1_2 (broadcastInDim S1x1x246 ![2] bcast_S246_S1x1x246_2 (powR (F := F))))
  have v58 : FVec F S40x25x246 .f32 := select v57 (broadcastInDim S40x25x246 ![2] bcast_S246_S40x25x246_2 (powR (F := F))) (broadcastInDim S40x25x246 ![] bcast_S_S40x25x246 (constant S_ .f32 0x7B800000#32 : FVec F S_ .f32))
  have v60 : FVec F S40x25x1 .f32 := broadcastInDim S40x25x1 ![0, 1] bcast_S40x25_S40x25x1_0_1 (Host.reduce FloatOps.minimumf v58 (constant S_ .f32 0x7F800000#32) reducesTo_S40x25x246_S40x25_d2 h_S_ : FVec F S40x25 .f32)
  select (cmpf .olt need (broadcastInDim S40x25x1 ![] bcast_S_S40x25x1 (constant S_ .f32 0x00800000#32 : FVec F S_ .f32))) (broadcastInDim S40x25x1 ![] bcast_S_S40x25x1 (constant S_ .f32 0x3F800000#32 : FVec F S_ .f32)) v60
/-- The hidden rows' scales. -/
def scale2R (v : FVec F S40x25x768 .f32) : FVec F S40x25x1 .f32 := ofNeed2R (need2R v)
/-- The hidden rows over their scales, clipped. -/
def clip2R (v : FVec F S40x25x768 .f32) (s : FVec F S40x25x1 .f32) : FVec F S40x25x768 .f32 :=
  minimumf (broadcastInDim S40x25x768 ![] bcast_S_S40x25x768 (constant S_ .f32 0x43E00000#32 : FVec F S_ .f32)) (maximumf (broadcastInDim S40x25x768 ![] bcast_S_S40x25x768 (constant S_ .f32 0xC3E00000#32 : FVec F S_ .f32))
    (Host.divf v (broadcastInDim S40x25x768 ![0, 1, 2] bcast_S40x25x1_S40x25x768_0_1_2 s)))

/-- The experts' result rows, weighted by the router. -/
def yR (hc : FVec F S40x25x768 .f32) (hs : FVec F S40x25x1 .f32) (wd : FVec F S40x768x1024 .f32) (sd : FVec F S40x1024 .f32) (w : FVec F S40x25 .f32) : FVec F S40x25x1024 .f32 :=
  mulf (mulf (mulf (Host.dotGeneral dot_S40x25x768_S40x768x1024_S40x25x1024_2_1_1_2_0_0 none hc wd) (broadcastInDim S40x25x1024 ![0, 1, 2] bcast_S40x25x1_S40x25x1024_0_1_2 hs))
    (broadcastInDim S40x25x1024 ![0, 1, 2] bcast_S40x1x1024_S40x25x1024_0_1_2 (broadcastInDim S40x1x1024 ![0, 2] bcast_S40x1024_S40x1x1024_0_2 sd)))
    (broadcastInDim S40x25x1024 ![0, 1, 2] bcast_S40x25x1_S40x25x1024_0_1_2 (broadcastInDim S40x25x1 ![0, 1] bcast_S40x25_S40x25x1_0_1 w))

/-- The row indices as one column. -/
def flatR (a3 : IVec S40x25 32) : IVec S1000x1 32 :=
  have v130 : IVec S1000 32 := shapeCast S1000 a3 shapeCasts_S40x25_S1000
  broadcastInDim S1000x1 ![0] bcast_S1000_S1000x1_0 (select (cmpi .slt v130 (broadcastInDim S1000 ![] bcast_S_S1000 (constantI S_ 32 0#32))) (addi v130 (broadcastInDim S1000 ![] bcast_S_S1000 (constantI S_ 32 256#32))) v130)
/-- The result rows added up by the rows they belong to. -/
def moeR (y : FVec F S40x25x1024 .f32) (a3 : IVec S40x25 32) : FVec F S256x1024 .f32 :=
  Host.scatterAdd scatter_S256x1024_S1000x1_S1000x1024_1_0_0_1 (broadcastInDim S256x1024 ![] bcast_S_S256x1024 (constant S_ .f32 0x00000000#32 : FVec F S_ .f32)) (flatR a3)
    (shapeCast S1000x1024 y shapeCasts_S40x25x1024_S1000x1024)

/-- The whole, from the codes and scales on. -/
def restR (h : FVec F S256x1024 .f32) (s : FVec F S256x1 .f32) (w : FVec F S40x25 .f32) (a3 : IVec S40x25 32) (wg wu : FVec F S40x1024x768 .f32) (sg su : FVec F S40x768 .f32)
    (wd : FVec F S40x768x1024 .f32) (sd : FVec F S40x1024 .f32) : FVec F S256x1024 .f32 :=
  have hid : FVec F S40x25x768 .f32 := hidR (gateR (takeR h a3) (takeSR s a3) wg sg) (gateR (takeR h a3) (takeSR s a3) wu su)
  have hs : FVec F S40x25x1 .f32 := scale2R hid
  moeR (yR (clip2R hid hs) hs wd sd w) a3

end Cert.ReferenceIdeal.Hand
-- ==== Proof.RefRun.lean ====
/-
  The reference's run: its four results as the functions of RefFn.lean.
-/
module

public import proofs.«01_k».proof.Proof.RefFn
public import proofs.«01_k».proof.Proof.Gen.ReferenceIdeal.Frame
public import Idealize.ShloMosaic.Lib.StableHlo.RunRead
public import Idealize.ShloMosaic.Lib.StableHlo.RunHlo
public import Idealize.ShloMosaic.PureOps.Ideal
public import Idealize.ShloMosaic.Lib.Pipeline.Value
public import Idealize.ShloMosaic.Lib.Pipeline.ValueKit

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg) (c : Dev nD)

/-- The arguments. -/
abbrev x0 : FVec F S256x1024 .bf16 := m ((c : Thread nD τ).loc main_arg0)
abbrev x1 : FVec F S1024 .f32 := m ((c : Thread nD τ).loc main_arg1)
abbrev x2 : FVec F S1024x40 .f32 := m ((c : Thread nD τ).loc main_arg2)
abbrev x3 : IVec S40x25 32 := m ((c : Thread nD τ).loc main_arg3)

theorem V_v0 : V m c main_v0 = (extf .f32 (x0 m c) bitsLt_bf16_f32 : FVec F S256x1024 .f32) := by
  show StableHlo.after _ _ _ = _
  after_reads_simp
theorem V_v42 : V m c main_v42 = wR (probR (xnR (x0 m c) (x1 m c)) (x2 m c)) (x3 m c) := by
  show StableHlo.after _ _ _ = _
  after_reads_simp
  rfl
set_option maxRecDepth 400000 in
theorem V_v63 : V m c main_v63 = scaleR (xnR (x0 m c) (x1 m c)) := by
  show StableHlo.after _ _ _ = _
  after_reads_simp
  rfl
set_option maxRecDepth 400000 in
theorem V_v66 : V m c main_v66 = clipR (xnR (x0 m c) (x1 m c)) (scaleR (xnR (x0 m c) (x1 m c))) := by
  show StableHlo.after _ _ _ = _
  after_reads_simp
  rfl

/-- What the region leaves, read by the operations after it. -/
abbrev W0 : Valuation τ sig (Elt F) := Pipeline.withArrays (cfgs 0).spec c (V0 m c) fun w => (dats m 0 c).arrAt w (cfgs 0).N

/-- The operations after the region. -/
abbrev tailOps : List (HloOp τ sig (Elt F)) := List.flatten [hostOps1, hostOps1_1, hostOps1_2, hostOps1_3, hostOps1_4, hostOps1_5, hostOps1_6, hostOps1_7, hostOps1_8]

variable (W : Valuation τ sig (Elt F))

/-- The sum over the experts, of what the region leaves. -/
def moeT : FVec F S256x1024 .f32 :=
  restR (W (Proc.devRef .tc main_v67_1)) (W (Proc.devRef .tc main_v63)) (W (Proc.devRef .tc main_v42)) (W (Proc.devRef .tc main_arg3)) (W (Proc.devRef .tc main_v67_2)) (W (Proc.devRef .tc main_v67_3))
    (W (Proc.devRef .tc main_arg6)) (W (Proc.devRef .tc main_arg7)) (W (Proc.devRef .tc main_v67_4)) (W (Proc.devRef .tc main_arg9))

set_option maxRecDepth 400000 in
theorem tail_v142 : StableHlo.after tailOps W (Proc.devRef .tc main_v142) = (shapeCast S1x256 (W (Proc.devRef .tc main_v63) : FVec F S256x1 .f32) shapeCasts_S256x1_S1x256 : FVec F S1x256 .f32) := by
  after_reads_simp
  rfl
set_option maxRecDepth 400000 in
theorem tail_v141 : StableHlo.after tailOps W (Proc.devRef .tc main_v141) = (truncf .bf16 (moeT W) bitsLt_bf16_f32 : FVec F S256x1024 .bf16) := by
  after_reads_simp
  rfl
set_option maxRecDepth 400000 in
theorem tail_v140 : StableHlo.after tailOps W (Proc.devRef .tc main_v140) = (truncf .bf16 (addf (W (Proc.devRef .tc main_v0) : FVec F S256x1024 .f32) (moeT W)) bitsLt_bf16_f32 : FVec F S256x1024 .bf16) := by
  after_reads_simp
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- What the region writes: the codes, and everything else as it was. -/
theorem arr4 : (dats m 0 c).arrAt 4 (cfgs 0).N = k0_pay1 (V m c main_v66) :=
  (dats m 0 c).arrAt_eq_of_covers 4 _ (by decide +kernel) fun t _ y => by
    rw [after0_4]; unfold out0_4
    rw [View.canon_unit_zero hz2, View.ld_unit_zero hz2]
    unfold k0_pay1
    rcases fin_N0 t with rfl
    simp only [shapeCast_self]
    rfl
theorem arr5 : (dats m 0 c).arrAt 5 (cfgs 0).N = k0_pay2 (V m c main_v66) :=
  (dats m 0 c).arrAt_eq_of_covers 5 _ (by decide +kernel) fun t _ y => by
    rw [after0_5]; unfold out0_5
    rw [View.canon_unit_zero hz2, View.ld_unit_zero hz2]
    unfold k0_pay2
    rcases fin_N0 t with rfl
    simp only [shapeCast_self]
    rfl
theorem arr6 : (dats m 0 c).arrAt 6 (cfgs 0).N = k0_pay3 (V m c main_arg4) :=
  (dats m 0 c).arrAt_eq_of_covers 6 _ (by decide +kernel) fun t _ y => by
    rw [after0_6]; unfold out0_6
    rw [View.canon_unit_zero hz3, View.ld_unit_zero hz3]
    rcases fin_N0 t with rfl
    rfl
theorem arr7 : (dats m 0 c).arrAt 7 (cfgs 0).N = k0_pay4 (V m c main_arg5) :=
  (dats m 0 c).arrAt_eq_of_covers 7 _ (by decide +kernel) fun t _ y => by
    rw [after0_7]; unfold out0_7
    rw [View.canon_unit_zero hz3, View.ld_unit_zero hz3]
    rcases fin_N0 t with rfl
    rfl
theorem arr8 : (dats m 0 c).arrAt 8 (cfgs 0).N = k0_pay5 (V m c main_arg8) :=
  (dats m 0 c).arrAt_eq_of_covers 8 _ (by decide +kernel) fun t _ y => by
    rw [after0_8]; unfold out0_8
    rw [View.canon_unit_zero hz3, View.ld_unit_zero hz3]
    rcases fin_N0 t with rfl
    rfl

end Cert.ReferenceIdeal.Hand
-- ==== Proof.RefPost.lean ====
/-
  The reference's run over the ideal values: its four results, as functions of the arguments.
-/
module

public import proofs.«01_k».proof.Proof.RefRun

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL.Sem

/-- The sum over the experts, of the arguments. -/
def moeOf (a0 : FVec Ideal S256x1024 .bf16) (a1 : FVec Ideal S1024 .f32) (a2 : FVec Ideal S1024x40 .f32) (a3 : IVec S40x25 32) (a4 a5 : FVec Ideal S40x1024x768 .fp8e4m3)
    (a6 a7 : FVec Ideal S40x768 .f32) (a8 : FVec Ideal S40x768x1024 .fp8e4m3) (a9 : FVec Ideal S40x1024 .f32) : FVec Ideal S256x1024 .f32 :=
  restR (clipR (xnR a0 a1) (scaleR (xnR a0 a1))) (scaleR (xnR a0 a1)) (wR (probR (xnR a0 a1) a2) a3) a3 a4 a5 a6 a7 a8 a9
/-- The codes, of the arguments. -/
def codesOf (a0 : FVec Ideal S256x1024 .bf16) (a1 : FVec Ideal S1024 .f32) : FVec Ideal S256x1024 .fp8e4m3 := clipR (xnR a0 a1) (scaleR (xnR a0 a1))
/-- The scales as one row, of the arguments. -/
def scaleOf (a0 : FVec Ideal S256x1024 .bf16) (a1 : FVec Ideal S1024 .f32) : FVec Ideal S1x256 .f32 := shapeCast S1x256 (scaleR (xnR a0 a1)) shapeCasts_S256x1_S1x256

variable (m : (ℓ : Loc nD τ sig) → Buf (Elt Ideal) ℓ) (ρ : Dev nD → PrngReg) (c : Dev nD)

abbrev x4 : FVec Ideal S40x1024x768 .fp8e4m3 := m ((c : Thread nD τ).loc main_arg4)
abbrev x5 : FVec Ideal S40x1024x768 .fp8e4m3 := m ((c : Thread nD τ).loc main_arg5)
abbrev x6 : FVec Ideal S40x768 .f32 := m ((c : Thread nD τ).loc main_arg6)
abbrev x7 : FVec Ideal S40x768 .f32 := m ((c : Thread nD τ).loc main_arg7)
abbrev x8 : FVec Ideal S40x768x1024 .fp8e4m3 := m ((c : Thread nD τ).loc main_arg8)
abbrev x9 : FVec Ideal S40x1024 .f32 := m ((c : Thread nD τ).loc main_arg9)

theorem W0_of (b : Ref sig .tc) (h : ∀ w, Pipeline.arrRef spec0 w ≠ b) : W0 m c (Proc.devRef .tc b) = V m c b :=
  Pipeline.withArrays_of_ne spec0 c (V0 m c) _ b h

theorem W0_v67_1 : W0 m c (Proc.devRef .tc main_v67_1) = clipR (xnR (x0 m c) (x1 m c)) (scaleR (xnR (x0 m c) (x1 m c))) := by
  refine (Pipeline.withArrays_arr spec0 winFacts0.arr_inj c (V0 m c) (fun w => (dats m 0 c).arrAt w (cfgs 0).N) 5).trans ?_
  rw [arr5]; unfold k0_pay2; rw [V_v66]; simp only [shapeCast_self]; rfl
theorem W0_v67_2 : W0 m c (Proc.devRef .tc main_v67_2) = x4 m c := by
  refine (Pipeline.withArrays_arr spec0 winFacts0.arr_inj c (V0 m c) (fun w => (dats m 0 c).arrAt w (cfgs 0).N) 6).trans ?_
  rw [arr6]; unfold k0_pay3; rw [V_main_arg4]; rfl
theorem W0_v67_3 : W0 m c (Proc.devRef .tc main_v67_3) = x5 m c := by
  refine (Pipeline.withArrays_arr spec0 winFacts0.arr_inj c (V0 m c) (fun w => (dats m 0 c).arrAt w (cfgs 0).N) 7).trans ?_
  rw [arr7]; unfold k0_pay4; rw [V_main_arg5]; rfl
theorem W0_v67_4 : W0 m c (Proc.devRef .tc main_v67_4) = x8 m c := by
  refine (Pipeline.withArrays_arr spec0 winFacts0.arr_inj c (V0 m c) (fun w => (dats m 0 c).arrAt w (cfgs 0).N) 8).trans ?_
  rw [arr8]; unfold k0_pay5; rw [V_main_arg8]; rfl

theorem moeT_eq : moeT (W0 m c) = moeOf (x0 m c) (x1 m c) (x2 m c) (x3 m c) (x4 m c) (x5 m c) (x6 m c) (x7 m c) (x8 m c) (x9 m c) := by
  unfold moeT moeOf
  rw [W0_v67_1, W0_v67_2, W0_v67_3, W0_v67_4, W0_of m c main_v63 (by decide), W0_of m c main_v42 (by decide), W0_of m c main_arg3 (by decide), W0_of m c main_arg6 (by decide),
    W0_of m c main_arg7 (by decide), W0_of m c main_arg9 (by decide), V_v63, V_v42, V_main_arg3, V_main_arg6, V_main_arg7, V_main_arg9]

/-- The reference's run. -/
theorem run_values : θ_run defs (onTc (τ := τ) (main (F := Ideal))) ⟨m, fun _ => 0, ρ⟩ (fun r => ∀ c : Dev nD,
      r.2.mem ((c.tc : Thread nD τ).loc main_v140) = (truncf .bf16 (addf (extf .f32 (x0 m c) bitsLt_bf16_f32 : FVec Ideal S256x1024 .f32) (moeOf (x0 m c) (x1 m c) (x2 m c) (x3 m c) (x4 m c) (x5 m c) (x6 m c) (x7 m c) (x8 m c) (x9 m c))) bitsLt_bf16_f32 : FVec Ideal S256x1024 .bf16)
      ∧ r.2.mem ((c.tc : Thread nD τ).loc main_v141) = (truncf .bf16 (moeOf (x0 m c) (x1 m c) (x2 m c) (x3 m c) (x4 m c) (x5 m c) (x6 m c) (x7 m c) (x8 m c) (x9 m c)) bitsLt_bf16_f32 : FVec Ideal S256x1024 .bf16)
      ∧ r.2.mem ((c.tc : Thread nD τ).loc main_v67_0) = codesOf (x0 m c) (x1 m c)
      ∧ r.2.mem ((c.tc : Thread nD τ).loc main_v142) = scaleOf (x0 m c) (x1 m c)) :=
  (θ_run defs _ _).mono (fun _ h c => ⟨
    (((h c).2 main_v140 (Pipeline.mem_restRefs_of main_v140 (by decide) (by decide))).trans (tail_v140 (W0 m c))).trans (by
      rw [moeT_eq, W0_of m c main_v0 (by decide), V_v0]),
    (((h c).2 main_v141 (Pipeline.mem_restRefs_of main_v141 (by decide) (by decide))).trans (tail_v141 (W0 m c))).trans (by
      rw [moeT_eq]),
    ((h c).1 4).trans ((arr4 m c).trans (by unfold k0_pay1; rw [V_v66]; simp only [shapeCast_self]; rfl)),
    (((h c).2 main_v142 (Pipeline.mem_restRefs_of main_v142 (by decide) (by decide))).trans (tail_v142 (W0 m c))).trans (by
      rw [W0_of m c main_v63 (by decide), V_v63]; rfl)⟩) (run_main m ρ)

end Cert.ReferenceIdeal.Hand
-- ==== Proof.Quant.lean ====
/-
  The row quantiser's power of two: the exponent the kernel counts, and the least power the reference takes, are one.
-/
module

public import Idealize.ShloMosaic.PureOps.Ideal
public import Idealize.ShloMosaic.PureOps.Ideal.Laws
public import Mathlib.Order.Interval.Finset.Fin
public import Mathlib.Analysis.SpecialFunctions.Pow.Real

@[expose] public section

noncomputable section

namespace Cert.Quant

open Idealize.ShloMosaic

/-- Two to an integer power, as an extended real. -/
def p2 (z : ℤ) : EReal := (((2 : ℝ) ^ z : ℝ) : EReal)

theorem p2_mono {a b : ℤ} (h : a ≤ b) : p2 a ≤ p2 b := EReal.coe_le_coe_iff.2 (zpow_le_zpow_right₀ (by norm_num) h)
theorem p2_pos (a : ℤ) : 0 < p2 a := EReal.coe_pos.2 (zpow_pos (by norm_num) a)

/-- The float whose exponent field is `f`, its other bits zero, is two to the power `f - 127`. -/
theorem ofBits_field (f : ℕ) (h1 : 1 ≤ f) (h2 : f ≤ 254) : Ideal.ofBits .f32 (BitVec.ofNat 32 f <<< 23) = p2 ((f : ℤ) - 127) := by
  have hn : (BitVec.ofNat 32 f <<< 23).toNat = f * 2 ^ 23 := by
    rw [BitVec.toNat_shiftLeft, BitVec.toNat_ofNat, Nat.shiftLeft_eq]; omega
  have e1 : ((BitVec.ofNat 32 f <<< 23).extractLsb' (8 + 23) 1 == 1#1) = false := by
    rw [beq_eq_false_iff_ne]
    intro h
    have := congrArg BitVec.toNat h
    rw [BitVec.extractLsb'_toNat, hn, Nat.shiftRight_eq_div_pow] at this
    simp at this; omega
  have e2 : ((BitVec.ofNat 32 f <<< 23).extractLsb' 23 8).toNat = f := by
    rw [BitVec.extractLsb'_toNat, hn, Nat.shiftRight_eq_div_pow]; omega
  have e3 : ((BitVec.ofNat 32 f <<< 23).extractLsb' 0 23).toNat = 0 := by
    rw [BitVec.extractLsb'_toNat, hn, Nat.shiftRight_eq_div_pow]; omega
  show Ideal.ieee 8 23 _ = _
  unfold Ideal.ieee
  simp only [e1, e2, e3]
  rw [if_neg (by omega), if_neg (by omega)]
  refine congrArg ((↑) : ℝ → EReal) ?_
  have : ((f : ℤ) - (2 ^ (8 - 1) - 1) - (23 : ℕ)) = (f : ℤ) - 127 - 23 := by norm_num
  rw [this, zpow_sub₀ (by norm_num : (2 : ℝ) ≠ 0) ((f : ℤ) - 127) 23]
  norm_num
  ring

/-- How many of `2^-126, …, 2^119` are at most `n`. -/
def cnt (n : EReal) : ℕ := (Finset.univ.filter fun j : Fin 246 => p2 ((j.val : ℤ) - 126) ≤ n).card

theorem cnt_le (n : EReal) : cnt n ≤ 246 := (Finset.card_le_univ _).trans (by simp)

/-- The powers at most `n` are the first `cnt n`. -/
theorem lt_cnt (n : EReal) (j : Fin 246) : j.val < cnt n ↔ p2 ((j.val : ℤ) - 126) ≤ n := by
  constructor
  · intro h
    by_contra hc
    have : (Finset.univ.filter fun i : Fin 246 => p2 ((i.val : ℤ) - 126) ≤ n) ⊆ Finset.univ.filter fun i : Fin 246 => i < j := by
      intro i hi
      simp only [Finset.mem_filter, Finset.mem_univ, true_and] at hi ⊢
      by_contra hij
      have : j.val ≤ i.val := Fin.le_def.1 (not_lt.1 hij)
      exact hc ((p2_mono (by omega)).trans hi)
    have h2 := Finset.card_le_card this
    have : (Finset.univ.filter fun i : Fin 246 => i < j) = Finset.Iio j := by ext i; simp
    rw [this, Fin.card_Iio] at h2
    exact absurd h (not_lt.2 h2)
  · intro h
    have : (Finset.Iic j) ⊆ (Finset.univ.filter fun i : Fin 246 => p2 ((i.val : ℤ) - 126) ≤ n) := by
      intro i hi
      have hi' : i.val ≤ j.val := Fin.le_def.1 (Finset.mem_Iic.1 hi)
      simp only [Finset.mem_filter, Finset.mem_univ, true_and]
      exact (p2_mono (by omega)).trans h
    have h2 := Finset.card_le_card this
    rw [Fin.card_Iic] at h2
    exact h2

/-- The exponent of the scale: the count less 126, and 0 when nothing was counted. -/
def ex (n : EReal) : ℤ := if cnt n = 0 then 0 else (cnt n : ℤ) - 126

/-- The reference's scale: the least of the powers `2^-125, …, 2^120` above `n` (`2^120` if none is), and 1 for an `n`
under `2^-126`. -/
theorem least_eq (n : EReal) : (if n < p2 (-126) then (1 : EReal) else
    (Finset.univ : Finset (Fin 246)).fold min ⊤ fun j => if n < p2 ((j.val : ℤ) - 125) then p2 ((j.val : ℤ) - 125) else p2 120) = p2 (ex n) := by
  have h0 := lt_cnt n 0
  have hle := cnt_le n
  unfold ex
  by_cases hc : cnt n = 0
  · rw [if_pos hc, if_pos]
    · simp [p2]
    · by_contra h
      have := h0.2 (by simpa using not_lt.1 h)
      omega
  · rw [if_neg hc, if_neg (not_lt.2 (by have := h0.1 (Nat.pos_of_ne_zero hc); simpa using this))]
    apply le_antisymm
    · rw [Finset.fold_min_le]
      refine Or.inr ⟨⟨cnt n - 1, by omega⟩, Finset.mem_univ _, ?_⟩
      have hcast : (((cnt n - 1 : ℕ) : ℤ) - 125) = (cnt n : ℤ) - 126 := by omega
      simp only [hcast]
      by_cases hk : cnt n = 246
      · split_ifs
        · exact le_rfl
        · exact p2_mono (by omega)
      · rw [if_pos]
        have := (lt_cnt n ⟨cnt n, by omega⟩).not.1 (lt_irrefl _)
        exact not_le.1 this
    · rw [Finset.le_fold_min]
      refine ⟨le_top, fun j _ => ?_⟩
      have hj := j.isLt
      split_ifs with h
      · by_contra hlt
        have hlt' : (j.val : ℤ) - 125 < (cnt n : ℤ) - 126 := by
          by_contra h3; exact hlt (p2_mono (by omega))
        have := (lt_cnt n ⟨j.val + 1, by omega⟩).1 (by show j.val + 1 < cnt n; omega)
        have e : (((j.val + 1 : ℕ) : ℤ) - 126) = (j.val : ℤ) - 125 := by omega
        simp only [e] at this
        exact absurd h (not_lt.2 this)
      · exact p2_mono (by omega)

/-- Multiplying by two to the power `-z` is dividing by two to the power `z`. -/
theorem mul_p2_neg (v : EReal) (z : ℤ) : v * p2 (-z) = Ideal.div v (p2 z) := by
  unfold Ideal.div
  rw [if_neg (p2_pos z).ne']
  congr 1
  unfold p2
  rw [← EReal.coe_inv, zpow_neg]

theorem ex_bounds (n : EReal) : -125 ≤ ex n ∧ ex n ≤ 120 := by
  have := cnt_le n
  unfold ex
  split_ifs <;> omega

/-- The count, as the kernel takes it: a sum of 32-bit ones and zeros. -/
theorem fold_cnt (n : EReal) : (Finset.univ : Finset (Fin 246)).fold IntOp.addi 0#32 (fun j => if p2 ((j.val : ℤ) - 126) ≤ n then 1#32 else 0#32) = BitVec.ofNat 32 (cnt n) := by
  have : ∀ s : Finset (Fin 246), s.fold IntOp.addi 0#32 (fun j => if p2 ((j.val : ℤ) - 126) ≤ n then 1#32 else 0#32)
      = BitVec.ofNat 32 (s.filter fun j : Fin 246 => p2 ((j.val : ℤ) - 126) ≤ n).card := by
    intro s
    induction s using Finset.induction_on with
    | empty => rfl
    | insert a s ha ih =>
      rw [Finset.fold_insert ha, ih, Finset.filter_insert]
      split_ifs
      · rw [Finset.card_insert_of_notMem (by simp [ha]), BitVec.ofNat_add, BitVec.add_comm]; rfl
      · exact BitVec.zero_add _
  exact this _

/-- The exponent word the kernel has from the count. -/
def exW (n : EReal) : BitVec 32 := if BitVec.ofNat 32 (cnt n) = 0#32 then 0#32 else BitVec.ofNat 32 (cnt n) - 126#32

theorem exW_eq (n : EReal) : exW n + 127#32 = BitVec.ofNat 32 ((ex n + 127).toNat) ∧ (0#32 - exW n) + 127#32 = BitVec.ofNat 32 ((127 - ex n).toNat) := by
  have hle := cnt_le n
  have hz : BitVec.ofNat 32 (cnt n) = 0#32 ↔ cnt n = 0 := by
    constructor
    · intro h; have := congrArg BitVec.toNat h; simp at this; omega
    · intro h; rw [h]
  unfold exW ex
  by_cases h : cnt n = 0
  · rw [if_pos (hz.2 h), if_pos h]; exact ⟨rfl, rfl⟩
  · rw [if_neg (fun q => h (hz.1 q)), if_neg h]
    constructor <;> apply BitVec.eq_of_toNat_eq <;> simp only [BitVec.toNat_add, BitVec.toNat_sub, BitVec.toNat_ofNat] <;> omega

/-- Two to the exponent, built from its bits, and two to its negative. -/
theorem pow_exW (n : EReal) : Ideal.ofBits .f32 ((exW n + 127#32) <<< 23) = p2 (ex n) := by
  have := ex_bounds n
  rw [(exW_eq n).1, ofBits_field _ (by omega) (by omega)]
  congr 1; omega
theorem pow_neg_exW (n : EReal) : Ideal.ofBits .f32 ((0#32 - exW n + 127#32) <<< 23) = p2 (-ex n) := by
  have := ex_bounds n
  rw [(exW_eq n).2, ofBits_field _ (by omega) (by omega)]
  congr 1; omega

/-- The reference's powers: two to the power `j - 125`. -/
theorem powf_eq (j : ℕ) (h : j < 246) : Ideal.pow (Ideal.ofBits .f32 0x40000000#32) ((((4294967171#32 + BitVec.ofNat 32 j : BitVec 32).toInt : ℝ)) : EReal) = p2 ((j : ℤ) - 125) := by
  have h2 : Ideal.ofBits .f32 0x40000000#32 = ((2 : ℝ) : EReal) := by
    simp [Ideal.ofBits, Ideal.ieee, -EReal.coe_mul]; norm_num
  have h3 : (4294967171#32 + BitVec.ofNat 32 j : BitVec 32).toInt = (j : ℤ) - 125 := by
    rw [BitVec.toInt_eq_toNat_bmod, BitVec.toNat_add, BitVec.toNat_ofNat, BitVec.toNat_ofNat]
    rw [Int.bmod_def]; split_ifs <;> omega
  rw [h2, h3]
  show ((Real.rpow 2 _ : ℝ) : EReal) = _
  unfold p2
  congr 1
  exact Real.rpow_intCast 2 _

theorem ofBits_min : Ideal.ofBits .f32 0x00800000#32 = p2 (-126) := ofBits_field 1 (by omega) (by omega)
theorem ofBits_max : Ideal.ofBits .f32 0x7B800000#32 = p2 120 := ofBits_field 247 (by omega) (by omega)
theorem ofBits_one : Ideal.ofBits .f32 0x3F800000#32 = 1 := by
  rw [show (0x3F800000#32 : BitVec 32) = BitVec.ofNat 32 127 <<< 23 from rfl, ofBits_field 127 (by omega) (by omega)]; simp [p2]
theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

end Cert.Quant
-- ==== Proof.Rows.lean ====
/-
  The kernel's and the reference's row computations read at an index, on the extended reals: the normalised rows, the
  router's probabilities and the quantiser are the same functions of a row.
-/
module

public import proofs.«01_k».proof.Proof.KernelRun
public import proofs.«01_k».proof.Proof.RefFn
public import proofs.«01_k».proof.Proof.Quant
public import Idealize.ShloMosaic.Lib.Pointwise

@[expose] public section

noncomputable section

namespace Cert.Equation

open Idealize.ShloMosaic Idealize.ShloMosaic.TcCoe
open Cert.Kernel (S32x1024 S32x1 S1x1024 S32x768 S256x40 S40x1024 S32x128 S1x1024x768 S256x1024 S128x128 S256x1 S1x768 S1x768x1024 S40x1024x768 S40x768x1024 S40x768)
open Cert.ReferenceIdeal (S1024 S40x25 S40x25x1024 S40x25x768 S40x25x1 S1024x40)
open Cert.Kernel.Hand Cert.ReferenceIdeal.Hand Cert.Quant

theorem i2_eq {a b : ℕ} [NeZero a] [NeZero b] (i : Fin a) (j : Fin b) : (i2 i.val j.val : Shape.Idx ⟨2, ![a, b]⟩) = ix2 i j :=
  (eq_i2 (ix2 i j) _ _ rfl rfl).symm
theorem i2_mk {a b : ℕ} [NeZero a] [NeZero b] (i j : ℕ) (hi : i < a) (hj : j < b) : (i2 i j : Shape.Idx ⟨2, ![a, b]⟩) = ix2 ⟨i, hi⟩ ⟨j, hj⟩ :=
  i2_eq ⟨i, hi⟩ ⟨j, hj⟩
theorem i3_eq {a b d : ℕ} [NeZero a] [NeZero b] [NeZero d] (i : Fin a) (j : Fin b) (k : Fin d) : (i3 i.val j.val k.val : Shape.Idx ⟨3, ![a, b, d]⟩) = ix3 i j k :=
  (eq_i3 (ix3 i j k) _ _ _ rfl rfl rfl).symm

/-! ### The quantiser -/

/-- A row's largest magnitude over 448. -/
def needRow {n : ℕ} (f : Fin n → EReal) : EReal :=
  (Finset.univ : Finset (Fin n)).fold max (Ideal.ofBits .f32 0xFF800000#32) (fun k => max (f k) (-f k)) * Ideal.ofBits .f32 0x3B124925#32
/-- A row's scale. -/
def scaleRow {n : ℕ} (f : Fin n → EReal) : EReal := p2 (ex (needRow f))
/-- A row's codes. -/
def codeRow {n : ℕ} (f : Fin n → EReal) (j : Fin n) : EReal :=
  min (Ideal.ofBits .f32 0x43E00000#32) (max (Ideal.ofBits .f32 0xC3E00000#32) (Ideal.div (f j) (scaleRow f)))

theorem shli_eq (x : BitVec 32) : IntOp.shli ArithUnit.vector x 23#32 = x <<< 23 := rfl

/-- The kernel's exponent word of a row maximum. -/
theorem expoV_at (m : FVec Ideal S32x1 .f32) (i : Fin 32) (z : Fin 1) : expoV m (ix2 i z) = exW (m (ix2 i z) * Ideal.ofBits .f32 0x3B124925#32) := by
  unfold expoV
  pointwise
  have h : ∀ x : Fin 246, Ideal.ofBits .f32 (IntOp.shli ArithUnit.vector (IntOp.addi (BitVec.ofNat 32 x.val) 1#32) 23#32) = p2 ((x.val : ℤ) - 126) := by
    intro x
    rw [shli_eq, show IntOp.addi (BitVec.ofNat 32 x.val) 1#32 = BitVec.ofNat 32 (x.val + 1) from by rw [BitVec.ofNat_add]; rfl,
      ofBits_field _ (by omega) (by have := x.isLt; omega)]
    congr 1; push_cast; ring
  simp only [h, fold_cnt]
  obtain rfl : z = 0 := Subsingleton.elim _ _
  unfold exW
  show Scalar.select (BitVec.ofBool (_ == _)) _ _ = _
  by_cases hc : BitVec.ofNat 32 (cnt (m (ix2 i 0) * Ideal.ofBits .f32 0x3B124925#32)) = 0#32
  · rw [if_pos hc, hc]; rfl
  · rw [if_neg hc, beq_eq_false_iff_ne.2 hc]; rfl
/-- Two to the power of an exponent word. -/
theorem powV_at (e : IVec S32x1 32) (q : S32x1.Idx) : powV (F := Ideal) e q = Ideal.ofBits .f32 ((e q + 127#32) <<< 23) := rfl

theorem expo1024_at (v : FVec Ideal S32x1024 .f32) (i : Fin 32) (z : Fin 1) : expo1024 v (ix2 i z) = exW (needRow fun k => v (ix2 i k)) := by
  unfold expo1024
  rw [expoV_at]
  unfold needRow
  pointwise
  rfl
theorem expo768_at (v : FVec Ideal S32x768 .f32) (i : Fin 32) (z : Fin 1) : expo768 v (ix2 i z) = exW (needRow fun k => v (ix2 i k)) := by
  unfold expo768
  rw [expoV_at]
  unfold needRow
  pointwise
  rfl
theorem scale1024_at (v : FVec Ideal S32x1024 .f32) (i : Fin 32) (z : Fin 1) : scale1024 v (ix2 i z) = scaleRow fun k => v (ix2 i k) := by
  unfold scale1024 scaleRow
  rw [powV_at, expo1024_at, pow_exW]
theorem scale768_at (v : FVec Ideal S32x768 .f32) (i : Fin 32) (z : Fin 1) : scale768 v (ix2 i z) = scaleRow fun k => v (ix2 i k) := by
  unfold scale768 scaleRow
  rw [powV_at, expo768_at, pow_exW]
theorem codes1024_at (v : FVec Ideal S32x1024 .f32) (i : Fin 32) (j : Fin 1024) : codes1024 v (ix2 i j) = codeRow (fun k => v (ix2 i k)) j := by
  unfold codes1024
  pointwise
  rw [powV_at]
  show min _ (max _ (_ * Ideal.ofBits .f32 ((0#32 - expo1024 v (ix2 i 0) + 127#32) <<< 23))) = _
  rw [expo1024_at, pow_neg_exW, mul_p2_neg]
  rfl
theorem codes768_at (v : FVec Ideal S32x768 .f32) (i : Fin 32) (j : Fin 768) : codes768 v (ix2 i j) = codeRow (fun k => v (ix2 i k)) j := by
  unfold codes768
  pointwise
  rw [powV_at]
  show min _ (max _ (_ * Ideal.ofBits .f32 ((0#32 - expo768 v (ix2 i 0) + 127#32) <<< 23))) = _
  rw [expo768_at, pow_neg_exW, mul_p2_neg]
  rfl

theorem powR_at (x : Fin 246) : Ideal.pow (Ideal.ofBits FTy.f32 1073741824#32) (FloatOps.sitofp (F := Ideal) FTy.f32 (IntOp.addi (4294967171#32) (BitVec.ofNat 32 x.val))) = p2 ((x.val : ℤ) - 125) :=
  powf_eq x.val x.isLt

/-- The reference's scale of a row. -/
theorem scaleR_at (v : FVec Ideal S256x1024 .f32) (i : Fin 256) (z : Fin 1) : scaleR v (ix2 i z) = scaleRow fun k => v (ix2 i k) := by
  unfold scaleR ofNeedR needR powR
  pointwise
  simp only [powR_at, ofBits_min, ofBits_max, ofBits_top]
  exact least_eq _
theorem clipR_at (v : FVec Ideal S256x1024 .f32) (i : Fin 256) (j : Fin 1024) : clipR v (scaleR v) (ix2 i j) = codeRow (fun k => v (ix2 i k)) j := by
  unfold clipR
  pointwise
  rw [scaleR_at]
  rfl
theorem scale2R_at (v : FVec Ideal S40x25x768 .f32) (e : Fin 40) (i : Fin 25) (z : Fin 1) : scale2R v (ix3 e i z) = scaleRow fun k => v (ix3 e i k) := by
  unfold scale2R ofNeed2R need2R powR
  pointwise
  simp only [powR_at, ofBits_min, ofBits_max, ofBits_top]
  exact least_eq _
theorem clip2R_at (v : FVec Ideal S40x25x768 .f32) (e : Fin 40) (i : Fin 25) (j : Fin 768) : clip2R v (scale2R v) (ix3 e i j) = codeRow (fun k => v (ix3 e i k)) j := by
  unfold clip2R
  pointwise
  rw [scale2R_at]
  rfl

/-! ### The normalised rows and the router -/

/-- A block's row is normalised as the reference normalises it. -/
theorem xn_at (a0 : FVec Ideal S256x1024 .bf16) (a1 : FVec Ideal S1024 .f32) (x : FVec Ideal S32x1024 .bf16) (i : Fin 32) (q : Fin 256) (h : ∀ k, x (ix2 i k) = a0 (ix2 q k)) (j : Fin 1024) (hg) :
    xnV x (shapeCast S1x1024 a1 hg) (ix2 i j) = xnR a0 a1 (ix2 q j) := by
  unfold xnV xnR
  pointwise
  simp only [h]

/-- The router's probabilities. -/
theorem prob_at (xn : FVec Ideal S256x1024 .f32) (a2 : FVec Ideal S1024x40 .f32) (ht) (i : Fin 256) (j : Fin 40) : probV xn (transpose S40x1024 [1, 0] a2 ht) (ix2 i j) = probR xn a2 (ix2 i j) := by
  unfold probV probR exR lgR
  pointwise
  have hb : Ideal.ofBits FTy.f32 4286578688#32 = (⊥ : EReal) := ofBits_bot
  simp only [hb, max_bot_left, bot_sup_eq]

end Cert.Equation
-- ==== Proof.Expert.lean ====
/-
  One expert's hidden rows and result rows, read at an index on the extended reals: the kernel's and the reference's are
  the same functions of the gathered rows.  And the kernel's small selections: the diagonal, a lane.
-/
module

public import proofs.«01_k».proof.Proof.Rows

@[expose] public section

noncomputable section

namespace Cert.Equation

open Idealize.ShloMosaic Idealize.ShloMosaic.TcCoe
open Cert.Kernel (S32x1024 S32x1 S1x1024 S32x768 S256x40 S40x1024 S32x128 S1x1024x768 S256x1024 S128x128 S256x1 S1x768 S1x768x1024 S40x1024x768 S40x768x1024 S40x768)
open Cert.ReferenceIdeal (S1024 S40x25 S40x25x1024 S40x25x768 S40x25x1 S1024x40)
open Cert.Kernel.Hand Cert.ReferenceIdeal.Hand Cert.Quant

/-! ### One expert -/

/-- An expert's hidden rows. -/
theorem hid_at (xc : FVec Ideal S32x1024 .fp8e4m3) (xs : FVec Ideal S32x1 .f32) (h : FVec Ideal S40x25x1024 .f32) (s : FVec Ideal S40x25x1 .f32) (wg wu : FVec Ideal S40x1024x768 .fp8e4m3) (sg su : FVec Ideal S40x768 .f32)
    (e : Fin 40) (i : Fin 25) (i' : Fin 32) (hx : ∀ k, xc (ix2 i' k) = h (ix3 e i k)) (hs : xs (ix2 i' 0) = s (ix3 e i 0)) (j : Fin 768) :
    hidV xc xs (slabg (F := Ideal) wg e.val) (slabu (F := Ideal) wu e.val) (row768 (F := Ideal) sg e.val) (row768 (F := Ideal) su e.val) (ix2 i' j) = hidR (gateR h s wg sg) (gateR h s wu su) (ix3 e i j) := by
  unfold hidV gateV hidR siluR gateR
  pointwise
  simp only [slabg, slabu, row768]
  pointwise
  simp only [hx, hs, i3_eq, i2_eq]
  rfl

/-- An expert's result rows. -/
theorem y_at (hc : FVec Ideal S32x768 .fp8e4m3) (hs r : FVec Ideal S32x1 .f32) (h : FVec Ideal S40x25x768 .f32) (s : FVec Ideal S40x25x1 .f32) (wd : FVec Ideal S40x768x1024 .fp8e4m3) (sd : FVec Ideal S40x1024 .f32) (w : FVec Ideal S40x25 .f32)
    (e : Fin 40) (i : Fin 25) (i' : Fin 32) (hx : ∀ k, hc (ix2 i' k) = h (ix3 e i k)) (hs' : hs (ix2 i' 0) = s (ix3 e i 0)) (hr : r (ix2 i' 0) = w (ix2 e i)) (j : Fin 1024) :
    yV hc hs r (slabd (F := Ideal) wd e.val) (row1024 (F := Ideal) sd e.val) (ix2 i' j) = yR h s wd sd w (ix3 e i j) := by
  unfold yV yR
  pointwise
  simp only [slabd, row1024]
  pointwise
  simp only [hx, hs', hr, i3_eq, i2_eq]

theorem sel_true {a b : BitVec 32} (h : a = b) (x y : EReal) : Scalar.select (IntOp.cmpi CmpIPredicate.eq a b) x y = x := by
  subst h
  simp [Scalar.select, IntOp.cmpi]
theorem sel_false {a b : BitVec 32} (h : a ≠ b) (x y : EReal) : Scalar.select (IntOp.cmpi CmpIPredicate.eq a b) x y = y := by
  simp [Scalar.select, IntOp.cmpi, beq_eq_false_iff_ne.2 h]

/-- The diagonal of a square block. -/
theorem diagV_at (b : FVec Ideal S128x128 .f32) (z : Fin 1) (j : Fin 128) : diagV b (ix2 z j) = b (ix2 j j) := by
  unfold diagV
  pointwise
  rw [Finset.sum_eq_single j]
  · exact sel_true rfl _ _
  · intro k _ hk
    refine sel_false (fun h => ?_) _ _
    have := congrArg BitVec.toNat h
    rw [BitVec.toNat_ofNat, BitVec.toNat_ofNat, Nat.mod_eq_of_lt (by have := k.isLt; omega), Nat.mod_eq_of_lt (by have := j.isLt; omega)] at this
    exact hk (Fin.ext this)
  · intro h; exact absurd (Finset.mem_univ _) h

/-- The lane that holds the scale, and the lane of an expert's probability. -/
theorem xsV_at (a : FVec Ideal S32x128 .f32) (i : Fin 32) (z : Fin 1) : xsV a (ix2 i z) = a (ix2 i 127) := by
  unfold xsV
  pointwise
theorem rV_at (a : FVec Ideal S32x128 .f32) (e : Fin 40) (i : Fin 32) (z : Fin 1) : rV (BitVec.ofNat 32 e.val) a (ix2 i z) = a (ix2 i ⟨e.val, by have := e.isLt; omega⟩) := by
  unfold rV
  pointwise
  rw [Finset.sum_eq_single (⟨e.val, by have := e.isLt; omega⟩ : Fin 128)]
  · exact sel_true rfl _ _
  · intro k _ hk
    refine sel_false (fun h => ?_) _ _
    have := congrArg BitVec.toNat h
    rw [BitVec.toNat_ofNat, BitVec.toNat_ofNat, Nat.mod_eq_of_lt (by have := k.isLt; omega), Nat.mod_eq_of_lt (by have := e.isLt; omega)] at this
    exact hk (Fin.ext this)
  · intro h; exact absurd (Finset.mem_univ _) h

end Cert.Equation
-- ==== Proof.Moves.lean ====
/-
  The reference's gathers and its scatter, read at an index: the table's rows, and the sum of the result rows that belong
  to a row.
-/
module

public import proofs.«01_k».proof.Proof.RefFn
public import Idealize.ShloMosaic.Lib.Pointwise
public import Idealize.ShloMosaic.Lib.DynamicIndex
public import Idealize.ShloMosaic.Lib.Routing.OpsPair
public import Idealize.ShloMosaic.Lib.ValueIdxCore

@[expose] public section

noncomputable section

namespace Cert.Equation

open Idealize.ShloMosaic Idealize.ShloMosaic.TcCoe
open Cert.ReferenceIdeal Cert.ReferenceIdeal.Gen
open Cert.ReferenceIdeal.Hand

/-- Adding the length to a negative index leaves an index in range alone. -/
theorem wrap_at (x y : BitVec 32) (h : x.toNat < 256) : Scalar.select (IntOp.cmpi .slt x 0#32) y x = x :=
  Routing.wrap_of_lt x y (by omega)
theorem toInt_of_lt (x : BitVec 32) (h : x.toNat < 256) : x.toInt = x.toNat := by
  rw [BitVec.toInt_eq_toNat_cond]; split_ifs <;> omega

variable (a3 : IVec S40x25 32) (hr : ∀ q, (a3 q).toNat < 256)
include hr

theorem idxR_at (e : Fin 40) (i : Fin 25) : idxR a3 (ix2 e i) = a3 (ix2 e i) := by
  unfold idxR
  pointwise
  exact wrap_at _ _ (hr _)
theorem idx1R_at (e : Fin 40) (i : Fin 25) (z : Fin 1) : idx1R a3 (ix3 e i z) = a3 (ix2 e i) := by
  rw [← idxR_at a3 hr]
  unfold idx1R
  pointwise

/-- The table's row for slot `i` of expert `e`. -/
def rowOf (e : Fin 40) (i : Fin 25) : Fin 256 := ⟨(a3 (ix2 e i)).toNat, hr _⟩

theorem takeR_at (h : FVec Ideal S256x1024 .f32) (e : Fin 40) (i : Fin 25) (k : Fin 1024) : takeR h a3 (ix3 e i k) = h (ix2 (rowOf a3 hr e i) k) := by
  unfold takeR Host.gather
  refine congrArg h (funext fun a => Fin.ext ?_)
  match a with
  | ⟨0, _⟩ =>
    have hsi : gather_S256x1024_S40x25x1_S40x25x1024_2_0_n_n_0_2_11024.siIdx (ix3 e i k) ⟨0, by decide⟩ = ix3 e i (0 : Fin 1) := by
      funext b; refine Fin.ext ?_
      match b with
      | ⟨0, _⟩ => rfl
      | ⟨1, _⟩ => rfl
      | ⟨2, _⟩ => rfl
    show min (idx1R a3 (gather_S256x1024_S40x25x1_S40x25x1024_2_0_n_n_0_2_11024.siIdx (ix3 e i k) ⟨0, by decide⟩)).toInt.toNat 255 + 0 + 0 = _
    rw [hsi, idx1R_at a3 hr, toInt_of_lt _ (hr _)]
    have := hr (ix2 e i)
    show _ = (a3 (ix2 e i)).toNat
    omega
  | ⟨1, _⟩ => show 0 + 0 + k.val = k.val; omega
theorem takeSR_at (h : FVec Ideal S256x1 .f32) (e : Fin 40) (i : Fin 25) (k : Fin 1) : takeSR h a3 (ix3 e i k) = h (ix2 (rowOf a3 hr e i) k) := by
  unfold takeSR Host.gather
  refine congrArg h (funext fun a => Fin.ext ?_)
  match a with
  | ⟨0, _⟩ =>
    have hsi : gather_S256x1_S40x25x1_S40x25x1_2_0_n_n_0_2_11.siIdx (ix3 e i k) ⟨0, by decide⟩ = ix3 e i (0 : Fin 1) := by
      funext b; refine Fin.ext ?_
      match b with
      | ⟨0, _⟩ => rfl
      | ⟨1, _⟩ => rfl
      | ⟨2, _⟩ => rfl
    show min (idx1R a3 (gather_S256x1_S40x25x1_S40x25x1_2_0_n_n_0_2_11.siIdx (ix3 e i k) ⟨0, by decide⟩)).toInt.toNat 255 + 0 + 0 = _
    rw [hsi, idx1R_at a3 hr, toInt_of_lt _ (hr _)]
    have := hr (ix2 e i)
    show _ = (a3 (ix2 e i)).toNat
    omega
  | ⟨1, _⟩ => show 0 + 0 + k.val = k.val; omega

omit hr in
theorem expR_at (e : Fin 40) (z : Fin 1) : expR (ix2 e z) = BitVec.ofNat 32 e.val := by
  unfold expR
  pointwise
  exact wrap_at _ _ (by rw [BitVec.toNat_ofNat]; have := e.isLt; omega)
theorem pairR_zero (e : Fin 40) (i : Fin 25) : pairR a3 (ix3 e i (0 : Fin 2)) = a3 (ix2 e i) := by
  rw [← idxR_at a3 hr]
  unfold pairR
  pointwise
omit hr in
theorem pairR_one (e : Fin 40) (i : Fin 25) : pairR a3 (ix3 e i (1 : Fin 2)) = BitVec.ofNat 32 e.val := by
  rw [← expR_at e 0]
  unfold pairR
  pointwise

theorem wR_at (p : FVec Ideal S256x40 .f32) (e : Fin 40) (i : Fin 25) : wR p a3 (ix2 e i) = p (ix2 (rowOf a3 hr e i) e) := by
  unfold wR Host.gather
  have hsi : ∀ c : Fin 2, gather_S256x40_S40x25x2_S40x25_n_01_n_n_01_2_11.siIdx (ix2 e i) c = ix3 e i c := by
    intro c
    funext b; refine Fin.ext ?_
    match b with
    | ⟨0, _⟩ => rfl
    | ⟨1, _⟩ => rfl
    | ⟨2, _⟩ => rfl
  refine congrArg p (funext fun a => Fin.ext ?_)
  match a with
  | ⟨0, _⟩ =>
    show min (pairR a3 (gather_S256x40_S40x25x2_S40x25_n_01_n_n_01_2_11.siIdx (ix2 e i) (0 : Fin 2))).toInt.toNat 255 + 0 + 0 = _
    rw [hsi, pairR_zero a3 hr, toInt_of_lt _ (hr _)]
    have := hr (ix2 e i)
    show _ = (a3 (ix2 e i)).toNat
    omega
  | ⟨1, _⟩ =>
    show min (pairR a3 (gather_S256x40_S40x25x2_S40x25_n_01_n_n_01_2_11.siIdx (ix2 e i) (1 : Fin 2))).toInt.toNat 39 + 0 + 0 = e.val
    have := e.isLt
    have hn : (BitVec.ofNat 32 e.val).toNat = e.val := by rw [BitVec.toNat_ofNat]; omega
    rw [hsi, pairR_one, toInt_of_lt _ (by omega), hn]
    omega

/-! ### The scatter -/

theorem flatR_at (e : Fin 40) (i : Fin 25) (u : Fin 1000) (hu : u.val = i.val + 25 * e.val) (z : Fin 1) : flatR a3 (ix2 u z) = a3 (ix2 e i) := by
  have h1 : (shapeCast S1000 a3 shapeCasts_S40x25_S1000 : IVec S1000 32) (ix1 u) = a3 (ix2 e i) := by
    pointwise
    refine congrArg a3 ?_
    have := i.isLt
    have h0 : u.val / 25 = e.val := by omega
    have h2 : u.val % 25 = i.val := by omega
    refine congrArg₂ ix2 (Fin.ext ?_) (Fin.ext ?_)
    · exact h0
    · exact h2
  unfold flatR
  set v : IVec S1000 32 := shapeCast S1000 a3 shapeCasts_S40x25_S1000
  pointwise
  rw [h1]
  exact wrap_at _ _ (hr _)

omit hr in
theorem flatY_at (y : FVec Ideal S40x25x1024 .f32) (e : Fin 40) (i : Fin 25) (u : Fin 1000) (hu : u.val = i.val + 25 * e.val) (c : Fin 1024) :
    (shapeCast S1000x1024 y shapeCasts_S40x25x1024_S1000x1024 : FVec Ideal S1000x1024 .f32) (ix2 u c) = y (ix3 e i c) := by
  pointwise
  refine congrArg y ?_
  have := i.isLt
  have h0 : u.val / 25 = e.val := by omega
  have h2 : u.val % 25 = i.val := by omega
  have e1 : ∀ (x : Fin 40) (y : Fin 25), x = e → y = i → (ix3 x y c : S40x25x1024.Idx) = ix3 e i c := by rintro _ _ rfl rfl; rfl
  exact e1 _ _ (Fin.ext h0) (Fin.ext h2)

omit hr in
/-- Update `(u, c')` lands at `(r, c)` when its row word is `r` and its column `c`. -/
theorem lands (idx : IVec S1000x1 32) (u : Fin 1000) (c' c : Fin 1024) (r : Fin 256) :
    scatter_S256x1024_S1000x1_S1000x1024_1_0_0_1.resultIdx? (ix2 u c') idx = some (ix2 r c) ↔ (idx (ix2 u (0 : Fin 1))).toInt = r.val ∧ c' = c := by
  rw [Routing.resultIdx?_eq_some]
  have hsi : scatter_S256x1024_S1000x1_S1000x1024_1_0_0_1.siIdx (ix2 u c') ⟨0, by decide⟩ = ix2 u (0 : Fin 1) := by
    funext b; refine Fin.ext ?_
    match b with
    | ⟨0, _⟩ => rfl
    | ⟨1, _⟩ => rfl
  have h0 : scatter_S256x1024_S1000x1_S1000x1024_1_0_0_1.start (ix2 u c') idx 0 + (scatter_S256x1024_S1000x1_S1000x1024_1_0_0_1.window (ix2 u c') 0 : Int) = (idx (ix2 u (0 : Fin 1))).toInt := by
    rw [← hsi]; exact Int.add_zero _
  have h1 : scatter_S256x1024_S1000x1_S1000x1024_1_0_0_1.start (ix2 u c') idx 1 + (scatter_S256x1024_S1000x1_S1000x1024_1_0_0_1.window (ix2 u c') 1 : Int) = (c'.val : Int) := by
    exact Int.zero_add _
  constructor
  · intro h
    refine ⟨h0.symm.trans (h 0), Fin.ext ?_⟩
    have := h1.symm.trans (h 1)
    exact Int.ofNat.inj this
  · rintro ⟨ha, rfl⟩ a
    match a with
    | ⟨0, _⟩ => exact h0.trans ha
    | ⟨1, _⟩ => exact h1

/-- The scatter: at a row, the sum of the result rows that belong to it. -/
theorem moeR_at (y : FVec Ideal S40x25x1024 .f32) (r : Fin 256) (c : Fin 1024) :
    moeR y a3 (ix2 r c) = ∑ e : Fin 40, ∑ i : Fin 25, if (a3 (ix2 e i)).toNat = r.val then y (ix3 e i c) else 0 := by
  unfold moeR
  show (broadcastInDim S256x1024 ![] bcast_S_S256x1024 (constant S_ .f32 0x00000000#32 : FVec Ideal S_ .f32)) (ix2 r c)
    + ∑ j ∈ Finset.univ.filter (fun j => scatter_S256x1024_S1000x1_S1000x1024_1_0_0_1.resultIdx? j (flatR a3) = some (ix2 r c)), (shapeCast S1000x1024 y shapeCasts_S40x25x1024_S1000x1024 : FVec Ideal S1000x1024 .f32) j = _
  have hz : (broadcastInDim S256x1024 ![] bcast_S_S256x1024 (constant S_ .f32 0x00000000#32 : FVec Ideal S_ .f32)) (ix2 r c) = (0 : EReal) := by
    pointwise
  rw [hz, zero_add, Finset.sum_filter]
  have step : ∀ (f : S1000x1024.Idx → EReal), ∑ j, f j = ∑ u : Fin 1000, ∑ c' : Fin 1024, f (ix2 u c') := by
    intro f
    rw [ValueIdx.sum_idx2]
    rfl
  rw [step]
  have inner : ∀ u : Fin 1000, (∑ c' : Fin 1024, if scatter_S256x1024_S1000x1_S1000x1024_1_0_0_1.resultIdx? (ix2 u c') (flatR a3) = some (ix2 r c) then (shapeCast S1000x1024 y shapeCasts_S40x25x1024_S1000x1024 : FVec Ideal S1000x1024 .f32) (ix2 u c') else 0)
      = if (flatR a3 (ix2 u (0 : Fin 1))).toInt = r.val then (shapeCast S1000x1024 y shapeCasts_S40x25x1024_S1000x1024 : FVec Ideal S1000x1024 .f32) (ix2 u c) else 0 := by
    intro u
    rw [Finset.sum_eq_single c]
    · simp only [lands, and_true]
    · intro c' _ hc
      rw [if_neg]
      intro h
      exact hc ((lands _ _ _ _ _).1 h).2
    · intro h; exact absurd (Finset.mem_univ _) h
  rw [Finset.sum_congr rfl fun u _ => inner u]
  rw [← Equiv.sum_comp (finProdFinEquiv : Fin 40 × Fin 25 ≃ Fin (40 * 25)) (fun u : Fin 1000 => if (flatR a3 (ix2 u (0 : Fin 1))).toInt = r.val then (shapeCast S1000x1024 y shapeCasts_S40x25x1024_S1000x1024 : FVec Ideal S1000x1024 .f32) (ix2 u c) else 0),
    Fintype.sum_prod_type]
  refine Finset.sum_congr rfl fun e _ => Finset.sum_congr rfl fun i _ => ?_
  have hu : (finProdFinEquiv (e, i) : Fin (40 * 25)).val = i.val + 25 * e.val := rfl
  rw [flatR_at a3 hr e i _ hu, flatY_at y e i _ hu, toInt_of_lt _ (hr _)]
  simp only [Nat.cast_inj]

end Cert.Equation
-- ==== Proof.Layout.lean ====
/-
  What the kernel's buffers hold, read at an index: the gathered rows, the eight strips side by side, and the accumulator
  as a sum over the experts and their slots.
-/
module

public import proofs.«01_k».proof.Proof.Whole
public import Idealize.ShloMosaic.Lib.Pointwise
public import Idealize.ShloMosaic.Lib.Pipeline.Value

@[expose] public section

noncomputable section

namespace Cert.Equation

open Idealize.ShloMosaic Idealize.ShloMosaic.TcCoe
open Cert.Kernel
open Cert.Kernel.Hand

/-- Eight strips side by side: column `128 j + l` is strip `j`'s column `l`. -/
theorem cat8_at (v : Fin 8 → FVec Ideal S32x128 .f32) (i : Fin 32) (j : Fin 8) (l : Fin 128) (c : Fin 1024) (hc : c.val = 128 * j.val + l.val) : cat8 v (ix2 i c) = v j (ix2 i l) := by
  have hl := l.isLt
  unfold cat8
  refine concatenate_ofFn_apply (t := S32x1024) (s₁ := S32x128) 1 v Gen.concatenates_S32x128_S32x128_S32x128_S32x128_S32x128_S32x128_S32x128_S32x128_S32x1024_d1 rfl 128 rfl (ix2 i c) j ?_ (ix2 i l) ?_ ?_
  · show c.val / 128 = j.val; omega
  · show l.val = c.val % 128; omega
  · intro b hb
    match b with
    | ⟨0, _⟩ => rfl
    | ⟨1, _⟩ => exact absurd rfl hb

/-- A filled slot of the gathered codes. -/
theorem gFold_at (tb : ℕ → ℕ) (tok : Vec Ideal S2048x128 .f32) (g : Vec Ideal S256x128 .f32) (q : S256x128.Idx) :
    ∀ n, (q 0).val / 8 < n → gFold tb tok g n q = tok (i2 (8 * tb ((q 0).val / 8) + (q 0).val % 8) (q 1).val)
  | 0, h => absurd h (Nat.not_lt_zero _)
  | n + 1, h => by
    show (if (q 0).val / 8 = n then _ else _) = _
    by_cases he : (q 0).val / 8 = n
    · rw [if_pos he, he]
    · rw [if_neg he]
      exact gFold_at tb tok g q n (by omega)
/-- A filled slot of the gathered auxiliary rows. -/
theorem aFold_at (tb : ℕ → ℕ) (aux : Vec Ideal S256x128 .f32) (g : Vec Ideal S32x128 .f32) (q : S32x128.Idx) :
    ∀ n, (q 0).val < n → aFold tb aux g n q = aux (i2 (tb (q 0).val) (q 1).val)
  | 0, h => absurd h (Nat.not_lt_zero _)
  | n + 1, h => by
    show (if (q 0).val = n then _ else _) = _
    by_cases he : (q 0).val = n
    · rw [if_pos he, he]
    · rw [if_neg he]
      exact aFold_at tb aux g q n (by omega)
/-- The accumulator after `n` slots. -/
theorem accFold_at (tb : ℕ → ℕ) (y : Vec Ideal S256x128 .f32) (g : Vec Ideal S2048x128 .f32) (q : S2048x128.Idx) :
    ∀ n, accFold tb y g n q = (g q + ∑ i ∈ Finset.range n, if tb i = (q 0).val / 8 then (y (i2 (8 * i + (q 0).val % 8) (q 1).val) : EReal) else 0 : EReal)
  | 0 => by rw [Finset.sum_range_zero]; exact (add_zero (g q : EReal)).symm
  | n + 1 => by
    rw [Finset.sum_range_succ, ← add_assoc, ← accFold_at tb y g q n]
    show (if (q 0).val / 8 = tb n then ((accFold tb y g n q : EReal) + _ : EReal) else accFold tb y g n q) = _
    by_cases he : (q 0).val / 8 = tb n
    · rw [if_pos he, if_pos he.symm]
    · rw [if_neg he, if_neg (Ne.symm he)]; exact (add_zero (accFold tb y g n q : EReal)).symm

variable (I : Inp Ideal)

/-- The accumulator before expert `n`. -/
theorem accAt_at (q : S2048x128.Idx) : ∀ n, accAt I n q = (∑ e ∈ Finset.range n, ∑ i ∈ Finset.range 25,
    if tb I e i = (q 0).val / 8 then (ybOf (yAt I e) (i2 (8 * i + (q 0).val % 8) (q 1).val) : EReal) else 0 : EReal)
  | 0 => by rw [Finset.sum_range_zero]; exact Ideal.ofBits_zero_f32
  | n + 1 => by
    rw [Finset.sum_range_succ, ← accAt_at q n]
    exact accFold_at _ _ _ q 25

/-- The gathered codes of expert `e`'s slot `i`, side by side: the token's codes. -/
theorem gathered_at (e : ℕ) (i : Fin 32) (hi : i.val < 25) (ht : tb I e i.val < 256) (c : Fin 1024) :
    cat8 (stripOf (gbAt I (e + 1))) (ix2 i c) = codes1024 (xnB I (tb I e i.val / 32)) (ix2 ⟨tb I e i.val % 32, Nat.mod_lt _ (by omega)⟩ c) := by
  have hc := c.isLt
  rw [cat8_at _ i ⟨c.val / 128, by omega⟩ ⟨c.val % 128, Nat.mod_lt _ (by omega)⟩ c (by show c.val = 128 * (c.val / 128) + c.val % 128; omega)]
  show gbAt I (e + 1) _ = _
  have h0 : (((strip (⟨c.val / 128, by omega⟩ : Fin 8)).idx (ix2 i ⟨c.val % 128, Nat.mod_lt _ (by omega)⟩ : S32x128.Idx) : S256x128.Idx) 0).val = c.val / 128 + 8 * i.val := rfl
  have h1 : (((strip (⟨c.val / 128, by omega⟩ : Fin 8)).idx (ix2 i ⟨c.val % 128, Nat.mod_lt _ (by omega)⟩ : S32x128.Idx) : S256x128.Idx) 1).val = 0 + 1 * (c.val % 128) := rfl
  refine (gFold_at (tb I e) (tokAll I) (gbAt I e) _ 25 (by rw [h0]; omega)).trans ?_
  rw [h0, h1, show (c.val / 128 + 8 * i.val) / 8 = i.val by omega, show (c.val / 128 + 8 * i.val) % 8 = c.val / 128 by omega, Nat.zero_add, Nat.one_mul]
  have ha : ((i2 (8 * tb I e i.val + c.val / 128) (c.val % 128) : S2048x128.Idx) 0).val = 8 * tb I e i.val + c.val / 128 := i2_zero (by omega)
  have hb : ((i2 (8 * tb I e i.val + c.val / 128) (c.val % 128) : S2048x128.Idx) 1).val = c.val % 128 := i2_one (by omega)
  unfold tokAll
  rw [ha, hb]
  have e1 : (8 * tb I e i.val + c.val / 128) / 256 = tb I e i.val / 32 := by omega
  rw [e1]
  refine congrArg (codes1024 (xnB I (tb I e i.val / 32))) (ext2 ?_ ?_)
  · show ((8 * tb I e i.val + c.val / 128) % 256 / 8) % 32 = tb I e i.val % 32; omega
  · show (128 * ((8 * tb I e i.val + c.val / 128) % 8) + c.val % 128) % 1024 = c.val; omega

/-- The gathered auxiliary row of expert `e`'s slot `i`: the token's. -/
theorem aux_at (e : ℕ) (i : Fin 32) (hi : i.val < 25) (ht : tb I e i.val < 256) (l : Fin 128) :
    abAt I (e + 1) (ix2 i l) = auxAll I (ix2 ⟨tb I e i.val, ht⟩ l) := by
  refine (aFold_at (tb I e) (auxAll I) (abAt I e) _ 25 hi).trans ?_
  exact congrArg (auxAll I) (eq_i2 (ix2 (⟨tb I e i.val, ht⟩ : Fin 256) l) _ _ rfl rfl).symm

/-- The sum over the experts, at a row and a column. -/
theorem moeB_at (k : ℕ) (hk : k < 8) (r : Fin 32) (c : Fin 1024) :
    moeB I k (ix2 r c) = (∑ e : Fin 40, ∑ i : Fin 25, if tb I e.val i.val = 32 * k + r.val then (yAt I e.val (ix2 ⟨i.val, by have := i.isLt; omega⟩ c) : EReal) else 0 : EReal) := by
  have hc := c.isLt
  have hr := r.isLt
  unfold moeB
  rw [cat8_at _ r ⟨c.val / 128, by omega⟩ ⟨c.val % 128, Nat.mod_lt _ (by omega)⟩ c (by show c.val = 128 * (c.val / 128) + c.val % 128; omega)]
  show accAt I 40 (i2 (256 * k + c.val / 128 + 8 * r.val) (c.val % 128)) = _
  have ha : ((i2 (256 * k + c.val / 128 + 8 * r.val) (c.val % 128) : S2048x128.Idx) 0).val = 256 * k + c.val / 128 + 8 * r.val := i2_zero (by omega)
  have hb : ((i2 (256 * k + c.val / 128 + 8 * r.val) (c.val % 128) : S2048x128.Idx) 1).val = c.val % 128 := i2_one (by omega)
  rw [accAt_at I _ 40, ha, hb, Finset.sum_range]
  refine Finset.sum_congr rfl fun e _ => ?_
  rw [Finset.sum_range]
  refine Finset.sum_congr rfl fun i _ => ?_
  have hi := i.isLt
  rw [show (256 * k + c.val / 128 + 8 * r.val) / 8 = 32 * k + r.val by omega, show (256 * k + c.val / 128 + 8 * r.val) % 8 = c.val / 128 by omega]
  have hy : ybOf (yAt I e.val) (i2 (8 * i.val + c.val / 128) (c.val % 128)) = yAt I e.val (ix2 ⟨i.val, by omega⟩ c) := by
    have ha : ((i2 (8 * i.val + c.val / 128) (c.val % 128) : S256x128.Idx) 0).val = 8 * i.val + c.val / 128 := i2_zero (by omega)
    have hb : ((i2 (8 * i.val + c.val / 128) (c.val % 128) : S256x128.Idx) 1).val = c.val % 128 := i2_one (by omega)
    unfold ybOf
    rw [ha, hb]
    refine congrArg (yAt I e.val) (ext2 ?_ ?_)
    · show (8 * i.val + c.val / 128) / 8 % 32 = i.val; omega
    · show (128 * ((8 * i.val + c.val / 128) % 8) + c.val % 128) % 1024 = c.val; omega
  rw [hy]

end Cert.Equation
-- ==== Proof.Equation.lean ====
/-
  The four results of the kernel are the reference's, on the extended reals, for a table of rows below 256.
-/
module

public import proofs.«01_k».proof.Proof.Expert
public import proofs.«01_k».proof.Proof.Moves
public import proofs.«01_k».proof.Proof.Layout

@[expose] public section

noncomputable section

namespace Cert.Equation

open Idealize.ShloMosaic Idealize.ShloMosaic.TcCoe
open Cert.Kernel (S32x1024 S32x1 S1x1024 S32x768 S256x40 S40x1024 S32x128 S1x1024x768 S256x1024 S128x128 S256x1 S1x768 S1x768x1024 S40x1024x768 S40x768x1024 S40x768 S256x128 S1x256)
open Cert.ReferenceIdeal (S1024 S40x25 S40x25x1024 S40x25x768 S40x25x1 S1024x40)
open Cert.Kernel.Hand Cert.ReferenceIdeal.Hand

variable (a0 : FVec Ideal S256x1024 .bf16) (a1 : FVec Ideal S1024 .f32) (a2 : FVec Ideal S1024x40 .f32) (a3 : IVec S40x25 32)
  (a4 a5 : FVec Ideal S40x1024x768 .fp8e4m3) (a6 a7 : FVec Ideal S40x768 .f32) (a8 : FVec Ideal S40x768x1024 .fp8e4m3) (a9 : FVec Ideal S40x1024 .f32)

/-- What the kernel's region is given. -/
abbrev inpI : Inp Ideal := inpOf (F := Ideal) a0 a1 a2 a3 a4 a5 a6 a7 a8 a9

/-- A row of a block of normalised rows. -/
theorem xnB_at (k : ℕ) (r : Fin 32) (q : Fin 256) (hq : q.val = 32 * k + r.val) (j : Fin 1024) :
    xnB (inpI a0 a1 a2 a3 a4 a5 a6 a7 a8 a9) k (ix2 r j) = xnR a0 a1 (ix2 q j) := by
  refine xn_at a0 a1 _ r q (fun l => ?_) j _
  refine congrArg a0 (ext2 ?_ ?_)
  · show (32 * k + r.val) % 256 = q.val
    have := q.isLt; omega
  · show l.val % 1024 = l.val
    have := l.isLt; omega

/-- The normalised rows, all of them. -/
theorem xnAll_eq : xnAll (inpI a0 a1 a2 a3 a4 a5 a6 a7 a8 a9) = xnR a0 a1 := by
  funext q
  obtain ⟨x, y, rfl⟩ : ∃ x y, q = ix2 (n0 := 256) (n1 := 1024) x y := ⟨q 0, q 1, (eq_ix2 q)⟩
  have hx := x.isLt
  have hy := y.isLt
  show xnB _ (x.val / 32) (i2 (x.val % 32) y.val) = _
  rw [i2_mk (x.val % 32) y.val (by omega) hy]
  exact xnB_at a0 a1 a2 a3 a4 a5 a6 a7 a8 a9 _ _ x (by show x.val = 32 * (x.val / 32) + x.val % 32; omega) y

/-- The codes of a token, from its block of rows. -/
theorem codesB_at (k : ℕ) (r : Fin 32) (q : Fin 256) (hq : q.val = 32 * k + r.val) (j : Fin 1024) :
    codes1024 (xnB (inpI a0 a1 a2 a3 a4 a5 a6 a7 a8 a9) k) (ix2 r j) = clipR (xnR a0 a1) (scaleR (xnR a0 a1)) (ix2 q j) := by
  rw [codes1024_at, clipR_at]
  exact congrArg (fun f => codeRow f j) (funext fun l => xnB_at a0 a1 a2 a3 a4 a5 a6 a7 a8 a9 k r q hq l)
/-- The scale of a token. -/
theorem aux0_at (q : Fin 256) (l : Fin 128) (z : Fin 1) : aux0 (inpI a0 a1 a2 a3 a4 a5 a6 a7 a8 a9) (ix2 q l) = scaleR (xnR a0 a1) (ix2 q z) := by
  have hq := q.isLt
  show scale1024 (xnB _ (q.val / 32)) (i2 (q.val % 32) 0) = _
  rw [i2_mk (q.val % 32) 0 (by omega) (by omega), scale1024_at, scaleR_at]
  exact congrArg scaleRow (funext fun j => xnB_at a0 a1 a2 a3 a4 a5 a6 a7 a8 a9 _ _ q (by show q.val = 32 * (q.val / 32) + q.val % 32; omega) j)

/-- The third result. -/
theorem codesAll_eq : codesAll (inpI a0 a1 a2 a3 a4 a5 a6 a7 a8 a9) = clipR (xnR a0 a1) (scaleR (xnR a0 a1)) := by
  funext q
  obtain ⟨x, y, rfl⟩ : ∃ x y, q = ix2 (n0 := 256) (n1 := 1024) x y := ⟨q 0, q 1, (eq_ix2 q)⟩
  have hx := x.isLt
  have hy := y.isLt
  show codes1024 (xnB _ (x.val / 32)) (i2 (x.val % 32) y.val) = _
  rw [i2_mk (x.val % 32) y.val (by omega) hy]
  exact codesB_at a0 a1 a2 a3 a4 a5 a6 a7 a8 a9 _ _ x (by show x.val = 32 * (x.val / 32) + x.val % 32; omega) y

/-- The fourth result. -/
theorem scaleAll_eq (h) : scaleAll (inpI a0 a1 a2 a3 a4 a5 a6 a7 a8 a9) = (shapeCast S1x256 (scaleR (xnR a0 a1)) h : FVec Ideal S1x256 .f32) := by
  funext q
  obtain ⟨x, y, rfl⟩ : ∃ x y, q = ix2 (n0 := 1) (n1 := 256) x y := ⟨q 0, q 1, (eq_ix2 q)⟩
  have hy := y.isLt
  have hR : (shapeCast S1x256 (scaleR (xnR a0 a1)) h : FVec Ideal S1x256 .f32) (ix2 x y) = scaleR (xnR a0 a1) (ix2 y 0) := by
    pointwise
  rw [hR]
  show diagV (fun j => aux0 _ (i2 (128 * (y.val / 128) + (j 0).val) (j 1).val)) (i2 0 (y.val % 128)) = _
  rw [i2_mk 0 (y.val % 128) (by omega) (by omega), diagV_at]
  show aux0 _ (i2 (128 * (y.val / 128) + y.val % 128) (y.val % 128)) = _
  rw [i2_mk (128 * (y.val / 128) + y.val % 128) (y.val % 128) (by omega) (by omega)]
  have e : (⟨128 * (y.val / 128) + y.val % 128, by omega⟩ : Fin 256) = y := Fin.ext (by show 128 * (y.val / 128) + y.val % 128 = y.val; omega)
  rw [e]
  exact aux0_at a0 a1 a2 a3 a4 a5 a6 a7 a8 a9 y _ 0

/-- The table that the kernel reads is the transposed one. -/
theorem tb_eq (e : Fin 40) (i : Fin 25) : tb (inpI a0 a1 a2 a3 a4 a5 a6 a7 a8 a9) e.val i.val = (a3 (ix2 e i)).toNat := by
  have h : (transpose Cert.Kernel.S25x40 [1, 0] a3 Cert.Kernel.Gen.transposes_S40x25_S25x40_1_0 : IVec Cert.Kernel.S25x40 32) (ix2 i e) = a3 (ix2 e i) := by
    pointwise
  rw [← h]
  exact congrArg (fun q => ((transpose Cert.Kernel.S25x40 [1, 0] a3 Cert.Kernel.Gen.transposes_S40x25_S25x40_1_0 : IVec Cert.Kernel.S25x40 32) q).toNat) (i2_eq i e)

/-- The reference's sum over the experts. -/
abbrev moeI : FVec Ideal S256x1024 .f32 :=
  restR (clipR (xnR a0 a1) (scaleR (xnR a0 a1))) (scaleR (xnR a0 a1)) (wR (probR (xnR a0 a1) a2) a3) a3 a4 a5 a6 a7 a8 a9

section
variable (hr : ∀ q, (a3 q).toNat < 256)
include hr

/-- The gathered scale of a slot. -/
theorem aux_scale (e : Fin 40) (i : Fin 25) :
    abAt (inpI a0 a1 a2 a3 a4 a5 a6 a7 a8 a9) (e.val + 1) (ix2 (⟨i.val, by have := i.isLt; omega⟩ : Fin 32) (127 : Fin 128)) = takeSR (scaleR (xnR a0 a1)) a3 (ix3 e i 0) := by
  have hi := i.isLt
  have ht := tb_eq a0 a1 a2 a3 a4 a5 a6 a7 a8 a9 e i
  have hlt : tb (inpI a0 a1 a2 a3 a4 a5 a6 a7 a8 a9) e.val i.val < 256 := by rw [ht]; exact hr _
  rw [takeSR_at a3 hr, aux_at (inpI a0 a1 a2 a3 a4 a5 a6 a7 a8 a9) e.val ⟨i.val, by omega⟩ hi hlt 127]
  have hrow : (⟨tb (inpI a0 a1 a2 a3 a4 a5 a6 a7 a8 a9) e.val i.val, hlt⟩ : Fin 256) = rowOf a3 hr e i := Fin.ext ht
  rw [hrow]
  show (if (127 : Fin 128).val < 40 then _ else _) = _
  rw [if_neg (by decide)]
  exact aux0_at a0 a1 a2 a3 a4 a5 a6 a7 a8 a9 _ _ 0
/-- The gathered probability of a slot. -/
theorem aux_prob (e : Fin 40) (i : Fin 25) :
    abAt (inpI a0 a1 a2 a3 a4 a5 a6 a7 a8 a9) (e.val + 1) (ix2 (⟨i.val, by have := i.isLt; omega⟩ : Fin 32) (⟨e.val, by have := e.isLt; omega⟩ : Fin 128)) = wR (probR (xnR a0 a1) a2) a3 (ix2 e i) := by
  have hi := i.isLt
  have he := e.isLt
  have ht := tb_eq a0 a1 a2 a3 a4 a5 a6 a7 a8 a9 e i
  have hlt : tb (inpI a0 a1 a2 a3 a4 a5 a6 a7 a8 a9) e.val i.val < 256 := by rw [ht]; exact hr _
  rw [wR_at a3 hr, aux_at (inpI a0 a1 a2 a3 a4 a5 a6 a7 a8 a9) e.val ⟨i.val, by omega⟩ hi hlt _]
  have hrow : (⟨tb (inpI a0 a1 a2 a3 a4 a5 a6 a7 a8 a9) e.val i.val, hlt⟩ : Fin 256) = rowOf a3 hr e i := Fin.ext ht
  rw [hrow]
  show (if e.val < 40 then probV (xnAll _) _ (i2 (rowOf a3 hr e i).val e.val) else _) = _
  rw [if_pos he, xnAll_eq, i2_eq (rowOf a3 hr e i) e]
  exact prob_at _ a2 _ _ _

/-- One expert's result rows. -/
theorem yAt_at (e : Fin 40) (i : Fin 25) (c : Fin 1024) :
    yAt (inpI a0 a1 a2 a3 a4 a5 a6 a7 a8 a9) e.val (ix2 (⟨i.val, by have := i.isLt; omega⟩ : Fin 32) c)
      = yR (clip2R (hidR (gateR (takeR (clipR (xnR a0 a1) (scaleR (xnR a0 a1))) a3) (takeSR (scaleR (xnR a0 a1)) a3) a4 a6) (gateR (takeR (clipR (xnR a0 a1) (scaleR (xnR a0 a1))) a3) (takeSR (scaleR (xnR a0 a1)) a3) a5 a7))
          (scale2R (hidR (gateR (takeR (clipR (xnR a0 a1) (scaleR (xnR a0 a1))) a3) (takeSR (scaleR (xnR a0 a1)) a3) a4 a6) (gateR (takeR (clipR (xnR a0 a1) (scaleR (xnR a0 a1))) a3) (takeSR (scaleR (xnR a0 a1)) a3) a5 a7))))
        (scale2R (hidR (gateR (takeR (clipR (xnR a0 a1) (scaleR (xnR a0 a1))) a3) (takeSR (scaleR (xnR a0 a1)) a3) a4 a6) (gateR (takeR (clipR (xnR a0 a1) (scaleR (xnR a0 a1))) a3) (takeSR (scaleR (xnR a0 a1)) a3) a5 a7)))
        a8 a9 (wR (probR (xnR a0 a1) a2) a3) (ix3 e i c) := by
  have hi := i.isLt
  have ht := tb_eq a0 a1 a2 a3 a4 a5 a6 a7 a8 a9 e i
  have hlt : tb (inpI a0 a1 a2 a3 a4 a5 a6 a7 a8 a9) e.val i.val < 256 := by rw [ht]; exact hr _
  set i' : Fin 32 := ⟨i.val, by omega⟩ with hi'
  -- the hidden rows
  have hh : ∀ j : Fin 768, hidV (truncf .fp8e4m3 (cat8 (stripOf (gbAt (inpI a0 a1 a2 a3 a4 a5 a6 a7 a8 a9) (e.val + 1)))) Cert.Kernel.Gen.bitsLt_fp8e4m3_f32) (xsV (abAt (inpI a0 a1 a2 a3 a4 a5 a6 a7 a8 a9) (e.val + 1)))
      (slabg (F := Ideal) a4 e.val) (slabu (F := Ideal) a5 e.val) (row768 (F := Ideal) a6 e.val) (row768 (F := Ideal) a7 e.val) (ix2 i' j)
      = hidR (gateR (takeR (clipR (xnR a0 a1) (scaleR (xnR a0 a1))) a3) (takeSR (scaleR (xnR a0 a1)) a3) a4 a6) (gateR (takeR (clipR (xnR a0 a1) (scaleR (xnR a0 a1))) a3) (takeSR (scaleR (xnR a0 a1)) a3) a5 a7) (ix3 e i j) := by
    intro j
    refine hid_at _ _ _ _ a4 a5 a6 a7 e i i' (fun k => ?_) ?_ j
    · rw [takeR_at a3 hr]
      refine (gathered_at (inpI a0 a1 a2 a3 a4 a5 a6 a7 a8 a9) e.val i' hi hlt k).trans ?_
      refine codesB_at a0 a1 a2 a3 a4 a5 a6 a7 a8 a9 _ _ (rowOf a3 hr e i) ?_ k
      show (a3 (ix2 e i)).toNat = 32 * (tb (inpI a0 a1 a2 a3 a4 a5 a6 a7 a8 a9) e.val i.val / 32) + tb (inpI a0 a1 a2 a3 a4 a5 a6 a7 a8 a9) e.val i.val % 32
      rw [ht]; omega
    · rw [xsV_at]
      exact aux_scale a0 a1 a2 a3 a4 a5 a6 a7 a8 a9 hr e i
  refine y_at _ _ _ _ _ a8 a9 _ e i i' (fun k => ?_) ?_ ?_ c
  · rw [clip2R_at]
    exact (codes768_at _ i' k).trans (congrArg (fun f => codeRow f k) (funext hh))
  · rw [scale2R_at]
    exact (scale768_at _ i' 0).trans (congrArg scaleRow (funext hh))
  · exact (rV_at _ e i' 0).trans (aux_prob a0 a1 a2 a3 a4 a5 a6 a7 a8 a9 hr e i)

/-- The sum over the experts, block by block. -/
theorem moeB_eq (k : ℕ) (hk : k < 8) (r : Fin 32) (q : Fin 256) (hq : q.val = 32 * k + r.val) (c : Fin 1024) :
    moeB (inpI a0 a1 a2 a3 a4 a5 a6 a7 a8 a9) k (ix2 r c) = moeI a0 a1 a2 a3 a4 a5 a6 a7 a8 a9 (ix2 q c) := by
  rw [moeB_at _ k hk r c]
  refine Eq.trans ?_ (moeR_at a3 hr _ q c).symm
  refine Finset.sum_congr rfl fun e _ => Finset.sum_congr rfl fun i _ => ?_
  rw [tb_eq a0 a1 a2 a3 a4 a5 a6 a7 a8 a9 e i, ← hq, yAt_at a0 a1 a2 a3 a4 a5 a6 a7 a8 a9 hr e i c]

/-- The second result. -/
theorem moeAll_eq (h) : moeAll (inpI a0 a1 a2 a3 a4 a5 a6 a7 a8 a9) = (truncf .bf16 (moeI a0 a1 a2 a3 a4 a5 a6 a7 a8 a9) h : FVec Ideal S256x1024 .bf16) := by
  funext q
  obtain ⟨x, y, rfl⟩ : ∃ x y, q = ix2 (n0 := 256) (n1 := 1024) x y := ⟨q 0, q 1, (eq_ix2 q)⟩
  have hx := x.isLt
  have hy := y.isLt
  show moeB _ (x.val / 32) (i2 (x.val % 32) y.val) = moeI a0 a1 a2 a3 a4 a5 a6 a7 a8 a9 (ix2 x y)
  rw [i2_mk (x.val % 32) y.val (by omega) hy]
  exact moeB_eq a0 a1 a2 a3 a4 a5 a6 a7 a8 a9 hr _ (by omega) _ x (by show x.val = 32 * (x.val / 32) + x.val % 32; omega) y

/-- The first result. -/
theorem outAll_eq (h h') : outAll (inpI a0 a1 a2 a3 a4 a5 a6 a7 a8 a9) = (truncf .bf16 (addf (extf .f32 a0 h' : FVec Ideal S256x1024 .f32) (moeI a0 a1 a2 a3 a4 a5 a6 a7 a8 a9)) h : FVec Ideal S256x1024 .bf16) := by
  funext q
  obtain ⟨x, y, rfl⟩ : ∃ x y, q = ix2 (n0 := 256) (n1 := 1024) x y := ⟨q 0, q 1, (eq_ix2 q)⟩
  have hx := x.isLt
  have hy := y.isLt
  show (a0 (i2 (32 * (x.val / 32) + (i2 (a := 32) (b := 1024) (x.val % 32) y.val 0).val) (i2 (a := 32) (b := 1024) (x.val % 32) y.val 1).val) + moeB (inpI a0 a1 a2 a3 a4 a5 a6 a7 a8 a9) (x.val / 32) (i2 (x.val % 32) y.val) : EReal)
    = (a0 (ix2 x y) + moeI a0 a1 a2 a3 a4 a5 a6 a7 a8 a9 (ix2 x y) : EReal)
  rw [i2_mk (x.val % 32) y.val (by omega) hy]
  refine congrArg₂ (fun u v : EReal => u + v) (congrArg a0 ?_) (moeB_eq a0 a1 a2 a3 a4 a5 a6 a7 a8 a9 hr _ (by omega) _ x (by show x.val = 32 * (x.val / 32) + x.val % 32; omega) y)
  refine ext2 ?_ ?_
  · show (32 * (x.val / 32) + x.val % 32) % 256 = x.val; omega
  · show y.val % 1024 = y.val; omega
end

end Cert.Equation
-- ==== Proof.lean ====
/- The certificate: the frames of the three programs, and the claims about them. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_rows_in_range
public import proofs.«01_k».proof.Proof.IdealRun
public import proofs.«01_k».proof.Proof.RefPost
public import proofs.«01_k».proof.Proof.Equation
public import Idealize.ShloMosaic.Adequacy
public import Idealize.ShloMosaic.Init

@[expose] public section

noncomputable section

namespace Cert.Proof

open Idealize.ShloMosaic Idealize.SL.Sem

/-- The kernel leaves its arguments and its semaphores as it found them. -/
theorem quiet_kernel : Cert.quiescent_Kernel := fun m g hp =>
  θ_run_mono (Cert.Kernel.Hand.run_args m g fun c q => Cert.Kernel.Hand.range_of_pre _ _ _ _ _ _ _ _ _ _ (hp c) q) fun _ h => ⟨fun c => (h.1 c).2, h.2⟩

/-- So does the ideal kernel. -/
theorem quiet_ideal : Cert.quiescent_KernelIdeal := fun m g hp =>
  θ_run_mono (Cert.Kernel.Hand.run_ideal m g fun c q => Cert.Kernel.Hand.range_of_pre _ _ _ _ _ _ _ _ _ _ (hp c) q) fun _ h => ⟨fun c => (h.1 c).2, h.2⟩

/-- The reference leaves its arguments and its semaphores as it found them, with no precondition. -/
theorem quiet_reference : Cert.quiescent_ReferenceIdeal := fun m ρ _ => Cert.ReferenceIdeal.Gen.frame m ρ

/-- What the kernel is given on a device. -/
abbrev inp (m : (ℓ : Loc Cert.KernelIdeal.nD Cert.KernelIdeal.τ Cert.KernelIdeal.sig) → Buf (Elt Ideal) ℓ) (c : Dev Cert.KernelIdeal.nD) : Cert.Kernel.Hand.Inp Ideal :=
  Cert.Equation.inpI (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

/-- From arguments that agree, with every chosen row a row of `x`, the ideal kernel and the ideal reference end with the same four results:
the layer's output, the sum over the experts, the codes of the tokens and their scales. -/
theorem same_results : Cert.algebraic_KernelIdeal_ReferenceIdeal := by
  intro m g m' g' hp hagree
  have hr : ∀ (c : Dev Cert.KernelIdeal.nD) (q : Cert.Kernel.S40x25.Idx), ((m ((c.tc : Thread Cert.KernelIdeal.nD Cert.KernelIdeal.τ).loc Cert.KernelIdeal.main_arg3) : Vec Ideal Cert.Kernel.S40x25 .i32) q).toNat < 256 :=
    fun (c : Dev Cert.KernelIdeal.nD) q => Cert.Kernel.Hand.range_of_pre _ _ _ _ _ _ _ _ _ _ (hp c) q
  refine ⟨fun c => Cert.Kernel.Hand.outAll (inp m c), fun c => Cert.Kernel.Hand.moeAll (inp m c), fun c => Cert.Kernel.Hand.codesAll (inp m c),
    fun c => Cert.Kernel.Hand.scaleAll (inp m c), ?_, ?_⟩
  · exact θ_run_mono (Cert.Kernel.Hand.run_ideal m g hr) fun _ h c => ⟨(h.1 c).1.1, (h.1 c).1.2.1, (h.1 c).1.2.2.1, (h.1 c).1.2.2.2, (h.1 c).2⟩
  · refine θ_run_mono (θ_run_and (Cert.ReferenceIdeal.Hand.run_values m' g') (Cert.ReferenceIdeal.Gen.unchanged m' g')) fun r h c => ?_
    obtain ⟨v0, v1, v2, v3⟩ := h.1 c
    obtain ⟨e0, e1, e2, e3, e4, e5, e6, e7, e8, e9⟩ := hagree c
    refine ⟨v0.trans ?_, v1.trans ?_, v2.trans ?_, v3.trans ?_, h.2 c⟩
    · unfold Cert.ReferenceIdeal.Hand.moeOf
      simp only [Cert.ReferenceIdeal.Hand.x0, Cert.ReferenceIdeal.Hand.x1, Cert.ReferenceIdeal.Hand.x2, Cert.ReferenceIdeal.Hand.x3, Cert.ReferenceIdeal.Hand.x4,
        Cert.ReferenceIdeal.Hand.x5, Cert.ReferenceIdeal.Hand.x6, Cert.ReferenceIdeal.Hand.x7, Cert.ReferenceIdeal.Hand.x8, Cert.ReferenceIdeal.Hand.x9]
      rw [e0, e1, e2, e3, e4, e5, e6, e7, e8, e9]
      exact (Cert.Equation.outAll_eq _ _ _ _ _ _ _ _ _ _ (hr c) _ _).symm
    · unfold Cert.ReferenceIdeal.Hand.moeOf
      simp only [Cert.ReferenceIdeal.Hand.x0, Cert.ReferenceIdeal.Hand.x1, Cert.ReferenceIdeal.Hand.x2, Cert.ReferenceIdeal.Hand.x3, Cert.ReferenceIdeal.Hand.x4,
        Cert.ReferenceIdeal.Hand.x5, Cert.ReferenceIdeal.Hand.x6, Cert.ReferenceIdeal.Hand.x7, Cert.ReferenceIdeal.Hand.x8, Cert.ReferenceIdeal.Hand.x9]
      rw [e0, e1, e2, e3, e4, e5, e6, e7, e8, e9]
      exact (Cert.Equation.moeAll_eq _ _ _ _ _ _ _ _ _ _ (hr c) _).symm
    · unfold Cert.ReferenceIdeal.Hand.codesOf
      simp only [Cert.ReferenceIdeal.Hand.x0, Cert.ReferenceIdeal.Hand.x1]
      rw [e0, e1]
      exact (Cert.Equation.codesAll_eq _ _ _ _ _ _ _ _ _ _).symm
    · unfold Cert.ReferenceIdeal.Hand.scaleOf
      simp only [Cert.ReferenceIdeal.Hand.x0, Cert.ReferenceIdeal.Hand.x1]
      rw [e0, e1]
      exact (Cert.Equation.scaleAll_eq _ _ _ _ _ _ _ _ _ _ _).symm

/-- The whole certificate. -/
theorem claim : Cert.Claim := ⟨Cert.Kernel.Gen.facts, Cert.KernelIdeal.Gen.facts, Cert.ReferenceIdeal.Gen.facts, Cert.Pre_rows_in_range.Gen.facts,
  quiet_kernel, quiet_ideal, quiet_reference, fun m ρ _ => Cert.ReferenceIdeal.Gen.frame m ρ, trivial, same_results⟩

end Cert.Proof

end
